-- ==== Defs.lean ====
def Pre_GdnStep (m : (ℓ : Loc Cert.GdnStep.nD Cert.GdnStep.τ Cert.GdnStep.sig) → Buf (Elt Bits) ℓ) : Prop :=
  True

def Pre_GdnStepIdeal (m : (ℓ : Loc Cert.GdnStepIdeal.nD Cert.GdnStepIdeal.τ Cert.GdnStepIdeal.sig) → Buf (Elt Ideal) ℓ) : Prop :=
  True

def Pre_GdnStepRefIdeal (m : (ℓ : Loc Cert.GdnStepRefIdeal.nD Cert.GdnStepRefIdeal.τ Cert.GdnStepRefIdeal.sig) → Buf (Elt Ideal) ℓ) : Prop :=
  True

def Pre_FfnFirst (m : (ℓ : Loc Cert.FfnFirst.nD Cert.FfnFirst.τ Cert.FfnFirst.sig) → Buf (Elt Bits) ℓ) : Prop :=
  True

def Pre_FfnFirstIdeal (m : (ℓ : Loc Cert.FfnFirstIdeal.nD Cert.FfnFirstIdeal.τ Cert.FfnFirstIdeal.sig) → Buf (Elt Ideal) ℓ) : Prop :=
  True

def Pre_FfnFirstRefIdeal (m : (ℓ : Loc Cert.FfnFirstRefIdeal.nD Cert.FfnFirstRefIdeal.τ Cert.FfnFirstRefIdeal.sig) → Buf (Elt Ideal) ℓ) : Prop :=
  True

def Pre_FfnLast (m : (ℓ : Loc Cert.FfnLast.nD Cert.FfnLast.τ Cert.FfnLast.sig) → Buf (Elt Bits) ℓ) : Prop :=
  True

def Pre_FfnLastIdeal (m : (ℓ : Loc Cert.FfnLastIdeal.nD Cert.FfnLastIdeal.τ Cert.FfnLastIdeal.sig) → Buf (Elt Ideal) ℓ) : Prop :=
  True

def Pre_FfnLastRefIdeal (m : (ℓ : Loc Cert.FfnLastRefIdeal.nD Cert.FfnLastRefIdeal.τ Cert.FfnLastRefIdeal.sig) → Buf (Elt Ideal) ℓ) : Prop :=
  True

def Pre_AttnProj (m : (ℓ : Loc Cert.AttnProj.nD Cert.AttnProj.τ Cert.AttnProj.sig) → Buf (Elt Bits) ℓ) : Prop :=
  True

def Pre_AttnProjIdeal (m : (ℓ : Loc Cert.AttnProjIdeal.nD Cert.AttnProjIdeal.τ Cert.AttnProjIdeal.sig) → Buf (Elt Ideal) ℓ) : Prop :=
  True

def Pre_AttnProjRefIdeal (m : (ℓ : Loc Cert.AttnProjRefIdeal.nD Cert.AttnProjRefIdeal.τ Cert.AttnProjRefIdeal.sig) → Buf (Elt Ideal) ℓ) : Prop :=
  True

def Pre_ProjAz (m : (ℓ : Loc Cert.ProjAz.nD Cert.ProjAz.τ Cert.ProjAz.sig) → Buf (Elt Bits) ℓ) : Prop :=
  True

def Pre_ProjAzIdeal (m : (ℓ : Loc Cert.ProjAzIdeal.nD Cert.ProjAzIdeal.τ Cert.ProjAzIdeal.sig) → Buf (Elt Ideal) ℓ) : Prop :=
  True

def Pre_ProjAzRefIdeal (m : (ℓ : Loc Cert.ProjAzRefIdeal.nD Cert.ProjAzRefIdeal.τ Cert.ProjAzRefIdeal.sig) → Buf (Elt Ideal) ℓ) : Prop :=
  True

def Pre_ProjGates (m : (ℓ : Loc Cert.ProjGates.nD Cert.ProjGates.τ Cert.ProjGates.sig) → Buf (Elt Bits) ℓ) : Prop :=
  True

def Pre_ProjGatesIdeal (m : (ℓ : Loc Cert.ProjGatesIdeal.nD Cert.ProjGatesIdeal.τ Cert.ProjGatesIdeal.sig) → Buf (Elt Ideal) ℓ) : Prop :=
  True

def Pre_ProjGatesRefIdeal (m : (ℓ : Loc Cert.ProjGatesRefIdeal.nD Cert.ProjGatesRefIdeal.τ Cert.ProjGatesRefIdeal.sig) → Buf (Elt Ideal) ℓ) : Prop :=
  True

def Pre_FfnLastSample (m : (ℓ : Loc Cert.FfnLastSample.nD Cert.FfnLastSample.τ Cert.FfnLastSample.sig) → Buf (Elt Bits) ℓ) : Prop :=
  True

def Pre_FfnLastSampleIdeal (m : (ℓ : Loc Cert.FfnLastSampleIdeal.nD Cert.FfnLastSampleIdeal.τ Cert.FfnLastSampleIdeal.sig) → Buf (Elt Ideal) ℓ) : Prop :=
  True

def Pre_FfnLastSampleRefIdeal (m : (ℓ : Loc Cert.FfnLastSampleRefIdeal.nD Cert.FfnLastSampleRefIdeal.τ Cert.FfnLastSampleRefIdeal.sig) → Buf (Elt Ideal) ℓ) : Prop :=
  True

def Pre_ProjAzSample (m : (ℓ : Loc Cert.ProjAzSample.nD Cert.ProjAzSample.τ Cert.ProjAzSample.sig) → Buf (Elt Bits) ℓ) : Prop :=
  True

def Pre_ProjAzSampleIdeal (m : (ℓ : Loc Cert.ProjAzSampleIdeal.nD Cert.ProjAzSampleIdeal.τ Cert.ProjAzSampleIdeal.sig) → Buf (Elt Ideal) ℓ) : Prop :=
  True

def Pre_ProjAzSampleRefIdeal (m : (ℓ : Loc Cert.ProjAzSampleRefIdeal.nD Cert.ProjAzSampleRefIdeal.τ Cert.ProjAzSampleRefIdeal.sig) → Buf (Elt Ideal) ℓ) : Prop :=
  True

def Pre_AttnProjSample (m : (ℓ : Loc Cert.AttnProjSample.nD Cert.AttnProjSample.τ Cert.AttnProjSample.sig) → Buf (Elt Bits) ℓ) : Prop :=
  True

def Pre_AttnProjSampleIdeal (m : (ℓ : Loc Cert.AttnProjSampleIdeal.nD Cert.AttnProjSampleIdeal.τ Cert.AttnProjSampleIdeal.sig) → Buf (Elt Ideal) ℓ) : Prop :=
  True

def Pre_AttnProjSampleRefIdeal (m : (ℓ : Loc Cert.AttnProjSampleRefIdeal.nD Cert.AttnProjSampleRefIdeal.τ Cert.AttnProjSampleRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def quiescent_GdnStep [hGdnStep : Cert.GdnStep.Facts] : Prop :=
  ∀ (m : (ℓ : Loc Cert.GdnStep.nD Cert.GdnStep.τ Cert.GdnStep.sig) → Buf (Elt Bits) ℓ) (g : Dev Cert.GdnStep.nD → PrngReg), Pre_GdnStep m →
    θ_run (Cert.GdnStep.defs (F := Bits)) (onTc (τ := Cert.GdnStep.τ) (Cert.GdnStep.main (F := Bits))) ⟨m, fun _ => 0, g⟩ (fun r => (∀ c : Dev Cert.GdnStep.nD,
      r.2.mem ((c.tc : Thread Cert.GdnStep.nD Cert.GdnStep.τ).loc Cert.GdnStep.main_arg0) = m ((c.tc : Thread Cert.GdnStep.nD Cert.GdnStep.τ).loc Cert.GdnStep.main_arg0)
      ∧ r.2.mem ((c.tc : Thread Cert.GdnStep.nD Cert.GdnStep.τ).loc Cert.GdnStep.main_arg1) = m ((c.tc : Thread Cert.GdnStep.nD Cert.GdnStep.τ).loc Cert.GdnStep.main_arg1)
      ∧ r.2.mem ((c.tc : Thread Cert.GdnStep.nD Cert.GdnStep.τ).loc Cert.GdnStep.main_arg2) = m ((c.tc : Thread Cert.GdnStep.nD Cert.GdnStep.τ).loc Cert.GdnStep.main_arg2)
      ∧ r.2.mem ((c.tc : Thread Cert.GdnStep.nD Cert.GdnStep.τ).loc Cert.GdnStep.main_arg3) = m ((c.tc : Thread Cert.GdnStep.nD Cert.GdnStep.τ).loc Cert.GdnStep.main_arg3)
      ∧ r.2.mem ((c.tc : Thread Cert.GdnStep.nD Cert.GdnStep.τ).loc Cert.GdnStep.main_arg4) = m ((c.tc : Thread Cert.GdnStep.nD Cert.GdnStep.τ).loc Cert.GdnStep.main_arg4)
      ∧ r.2.mem ((c.tc : Thread Cert.GdnStep.nD Cert.GdnStep.τ).loc Cert.GdnStep.main_arg5) = m ((c.tc : Thread Cert.GdnStep.nD Cert.GdnStep.τ).loc Cert.GdnStep.main_arg5)
      ∧ r.2.mem ((c.tc : Thread Cert.GdnStep.nD Cert.GdnStep.τ).loc Cert.GdnStep.main_arg6) = m ((c.tc : Thread Cert.GdnStep.nD Cert.GdnStep.τ).loc Cert.GdnStep.main_arg6))
      ∧ r.2.sem = fun _ => 0)

def quiescent_GdnStepIdeal [hGdnStepIdeal : Cert.GdnStepIdeal.Facts] : Prop :=
  ∀ (m : (ℓ : Loc Cert.GdnStepIdeal.nD Cert.GdnStepIdeal.τ Cert.GdnStepIdeal.sig) → Buf (Elt Ideal) ℓ) (g : Dev Cert.GdnStepIdeal.nD → PrngReg), Pre_GdnStepIdeal m →
    θ_run (Cert.GdnStepIdeal.defs (F := Ideal)) (onTc (τ := Cert.GdnStepIdeal.τ) (Cert.GdnStepIdeal.main (F := Ideal))) ⟨m, fun _ => 0, g⟩ (fun r => (∀ c : Dev Cert.GdnStepIdeal.nD,
      r.2.mem ((c.tc : Thread Cert.GdnStepIdeal.nD Cert.GdnStepIdeal.τ).loc Cert.GdnStepIdeal.main_arg0) = m ((c.tc : Thread Cert.GdnStepIdeal.nD Cert.GdnStepIdeal.τ).loc Cert.GdnStepIdeal.main_arg0)
      ∧ r.2.mem ((c.tc : Thread Cert.GdnStepIdeal.nD Cert.GdnStepIdeal.τ).loc Cert.GdnStepIdeal.main_arg1) = m ((c.tc : Thread Cert.GdnStepIdeal.nD Cert.GdnStepIdeal.τ).loc Cert.GdnStepIdeal.main_arg1)
      ∧ r.2.mem ((c.tc : Thread Cert.GdnStepIdeal.nD Cert.GdnStepIdeal.τ).loc Cert.GdnStepIdeal.main_arg2) = m ((c.tc : Thread Cert.GdnStepIdeal.nD Cert.GdnStepIdeal.τ).loc Cert.GdnStepIdeal.main_arg2)
      ∧ r.2.mem ((c.tc : Thread Cert.GdnStepIdeal.nD Cert.GdnStepIdeal.τ).loc Cert.GdnStepIdeal.main_arg3) = m ((c.tc : Thread Cert.GdnStepIdeal.nD Cert.GdnStepIdeal.τ).loc Cert.GdnStepIdeal.main_arg3)
      ∧ r.2.mem ((c.tc : Thread Cert.GdnStepIdeal.nD Cert.GdnStepIdeal.τ).loc Cert.GdnStepIdeal.main_arg4) = m ((c.tc : Thread Cert.GdnStepIdeal.nD Cert.GdnStepIdeal.τ).loc Cert.GdnStepIdeal.main_arg4)
      ∧ r.2.mem ((c.tc : Thread Cert.GdnStepIdeal.nD Cert.GdnStepIdeal.τ).loc Cert.GdnStepIdeal.main_arg5) = m ((c.tc : Thread Cert.GdnStepIdeal.nD Cert.GdnStepIdeal.τ).loc Cert.GdnStepIdeal.main_arg5)
      ∧ r.2.mem ((c.tc : Thread Cert.GdnStepIdeal.nD Cert.GdnStepIdeal.τ).loc Cert.GdnStepIdeal.main_arg6) = m ((c.tc : Thread Cert.GdnStepIdeal.nD Cert.GdnStepIdeal.τ).loc Cert.GdnStepIdeal.main_arg6))
      ∧ r.2.sem = fun _ => 0)

def quiescent_GdnStepRefIdeal [hGdnStepRefIdeal : Cert.GdnStepRefIdeal.Facts] : Prop :=
  ∀ (m : (ℓ : Loc Cert.GdnStepRefIdeal.nD Cert.GdnStepRefIdeal.τ Cert.GdnStepRefIdeal.sig) → Buf (Elt Ideal) ℓ) (g : Dev Cert.GdnStepRefIdeal.nD → PrngReg), Pre_GdnStepRefIdeal m →
    θ_run (Cert.GdnStepRefIdeal.defs (F := Ideal)) (onTc (τ := Cert.GdnStepRefIdeal.τ) (Cert.GdnStepRefIdeal.main (F := Ideal))) ⟨m, fun _ => 0, g⟩ (fun r => (∀ c : Dev Cert.GdnStepRefIdeal.nD,
      r.2.mem ((c.tc : Thread Cert.GdnStepRefIdeal.nD Cert.GdnStepRefIdeal.τ).loc Cert.GdnStepRefIdeal.main_arg0) = m ((c.tc : Thread Cert.GdnStepRefIdeal.nD Cert.GdnStepRefIdeal.τ).loc Cert.GdnStepRefIdeal.main_arg0)
      ∧ r.2.mem ((c.tc : Thread Cert.GdnStepRefIdeal.nD Cert.GdnStepRefIdeal.τ).loc Cert.GdnStepRefIdeal.main_arg1) = m ((c.tc : Thread Cert.GdnStepRefIdeal.nD Cert.GdnStepRefIdeal.τ).loc Cert.GdnStepRefIdeal.main_arg1)
      ∧ r.2.mem ((c.tc : Thread Cert.GdnStepRefIdeal.nD Cert.GdnStepRefIdeal.τ).loc Cert.GdnStepRefIdeal.main_arg2) = m ((c.tc : Thread Cert.GdnStepRefIdeal.nD Cert.GdnStepRefIdeal.τ).loc Cert.GdnStepRefIdeal.main_arg2)
      ∧ r.2.mem ((c.tc : Thread Cert.GdnStepRefIdeal.nD Cert.GdnStepRefIdeal.τ).loc Cert.GdnStepRefIdeal.main_arg3) = m ((c.tc : Thread Cert.GdnStepRefIdeal.nD Cert.GdnStepRefIdeal.τ).loc Cert.GdnStepRefIdeal.main_arg3)
      ∧ r.2.mem ((c.tc : Thread Cert.GdnStepRefIdeal.nD Cert.GdnStepRefIdeal.τ).loc Cert.GdnStepRefIdeal.main_arg4) = m ((c.tc : Thread Cert.GdnStepRefIdeal.nD Cert.GdnStepRefIdeal.τ).loc Cert.GdnStepRefIdeal.main_arg4)
      ∧ r.2.mem ((c.tc : Thread Cert.GdnStepRefIdeal.nD Cert.GdnStepRefIdeal.τ).loc Cert.GdnStepRefIdeal.main_arg5) = m ((c.tc : Thread Cert.GdnStepRefIdeal.nD Cert.GdnStepRefIdeal.τ).loc Cert.GdnStepRefIdeal.main_arg5)
      ∧ r.2.mem ((c.tc : Thread Cert.GdnStepRefIdeal.nD Cert.GdnStepRefIdeal.τ).loc Cert.GdnStepRefIdeal.main_arg6) = m ((c.tc : Thread Cert.GdnStepRefIdeal.nD Cert.GdnStepRefIdeal.τ).loc Cert.GdnStepRefIdeal.main_arg6))
      ∧ r.2.sem = fun _ => 0)

def quiescent_FfnFirst [hFfnFirst : Cert.FfnFirst.Facts] : Prop :=
  ∀ (m : (ℓ : Loc Cert.FfnFirst.nD Cert.FfnFirst.τ Cert.FfnFirst.sig) → Buf (Elt Bits) ℓ) (g : Dev Cert.FfnFirst.nD → PrngReg), Pre_FfnFirst m →
    θ_run (Cert.FfnFirst.defs (F := Bits)) (onTc (τ := Cert.FfnFirst.τ) (Cert.FfnFirst.main (F := Bits))) ⟨m, fun _ => 0, g⟩ (fun r => (∀ c : Dev Cert.FfnFirst.nD,
      r.2.mem ((c.tc : Thread Cert.FfnFirst.nD Cert.FfnFirst.τ).loc Cert.FfnFirst.main_arg0) = m ((c.tc : Thread Cert.FfnFirst.nD Cert.FfnFirst.τ).loc Cert.FfnFirst.main_arg0)
      ∧ r.2.mem ((c.tc : Thread Cert.FfnFirst.nD Cert.FfnFirst.τ).loc Cert.FfnFirst.main_arg1) = m ((c.tc : Thread Cert.FfnFirst.nD Cert.FfnFirst.τ).loc Cert.FfnFirst.main_arg1)
      ∧ r.2.mem ((c.tc : Thread Cert.FfnFirst.nD Cert.FfnFirst.τ).loc Cert.FfnFirst.main_arg2) = m ((c.tc : Thread Cert.FfnFirst.nD Cert.FfnFirst.τ).loc Cert.FfnFirst.main_arg2)
      ∧ r.2.mem ((c.tc : Thread Cert.FfnFirst.nD Cert.FfnFirst.τ).loc Cert.FfnFirst.main_arg3) = m ((c.tc : Thread Cert.FfnFirst.nD Cert.FfnFirst.τ).loc Cert.FfnFirst.main_arg3)
      ∧ r.2.mem ((c.tc : Thread Cert.FfnFirst.nD Cert.FfnFirst.τ).loc Cert.FfnFirst.main_arg4) = m ((c.tc : Thread Cert.FfnFirst.nD Cert.FfnFirst.τ).loc Cert.FfnFirst.main_arg4)
      ∧ r.2.mem ((c.tc : Thread Cert.FfnFirst.nD Cert.FfnFirst.τ).loc Cert.FfnFirst.main_arg5) = m ((c.tc : Thread Cert.FfnFirst.nD Cert.FfnFirst.τ).loc Cert.FfnFirst.main_arg5)
      ∧ r.2.mem ((c.tc : Thread Cert.FfnFirst.nD Cert.FfnFirst.τ).loc Cert.FfnFirst.main_arg6) = m ((c.tc : Thread Cert.FfnFirst.nD Cert.FfnFirst.τ).loc Cert.FfnFirst.main_arg6))
      ∧ r.2.sem = fun _ => 0)

def quiescent_FfnFirstIdeal [hFfnFirstIdeal : Cert.FfnFirstIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg), Pre_FfnFirstIdeal m →
    θ_run (Cert.FfnFirstIdeal.defs (F := Ideal)) (onTc (τ := Cert.FfnFirstIdeal.τ) (Cert.FfnFirstIdeal.main (F := Ideal))) ⟨m, fun _ => 0, g⟩ (fun r => (∀ c : Dev Cert.FfnFirstIdeal.nD,
      r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
      ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
      ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
      ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
      ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
      ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5)
      ∧ r.2.mem ((c.tc : Thread Cert.FfnFirstIdeal.nD Cert.FfnFirstIdeal.τ).loc Cert.FfnFirstIdeal.main_arg6) = m ((c.tc : Thread Cert.FfnFirstIdeal.nD Cert.FfnFirstIdeal.τ).loc Cert.FfnFirstIdeal.main_arg6))
      ∧ r.2.sem = fun _ => 0)

def quiescent_FfnFirstRefIdeal [hFfnFirstRefIdeal : Cert.FfnFirstRefIdeal.Facts] : Prop :=
  ∀ (m : (ℓ : Loc Cert.FfnFirstRefIdeal.nD Cert.FfnFirstRefIdeal.τ Cert.FfnFirstRefIdeal.sig) → Buf (Elt Ideal) ℓ) (g : Dev Cert.FfnFirstRefIdeal.nD → PrngReg), Pre_FfnFirstRefIdeal m →
    θ_run (Cert.FfnFirstRefIdeal.defs (F := Ideal)) (onTc (τ := Cert.FfnFirstRefIdeal.τ) (Cert.FfnFirstRefIdeal.main (F := Ideal))) ⟨m, fun _ => 0, g⟩ (fun r => (∀ c : Dev Cert.FfnFirstRefIdeal.nD,
      r.2.mem ((c.tc : Thread Cert.FfnFirstRefIdeal.nD Cert.FfnFirstRefIdeal.τ).loc Cert.FfnFirstRefIdeal.main_arg0) = m ((c.tc : Thread Cert.FfnFirstRefIdeal.nD Cert.FfnFirstRefIdeal.τ).loc Cert.FfnFirstRefIdeal.main_arg0)
      ∧ r.2.mem ((c.tc : Thread Cert.FfnFirstRefIdeal.nD Cert.FfnFirstRefIdeal.τ).loc Cert.FfnFirstRefIdeal.main_arg1) = m ((c.tc : Thread Cert.FfnFirstRefIdeal.nD Cert.FfnFirstRefIdeal.τ).loc Cert.FfnFirstRefIdeal.main_arg1)
      ∧ r.2.mem ((c.tc : Thread Cert.FfnFirstRefIdeal.nD Cert.FfnFirstRefIdeal.τ).loc Cert.FfnFirstRefIdeal.main_arg2) = m ((c.tc : Thread Cert.FfnFirstRefIdeal.nD Cert.FfnFirstRefIdeal.τ).loc Cert.FfnFirstRefIdeal.main_arg2)
      ∧ r.2.mem ((c.tc : Thread Cert.FfnFirstRefIdeal.nD Cert.FfnFirstRefIdeal.τ).loc Cert.FfnFirstRefIdeal.main_arg3) = m ((c.tc : Thread Cert.FfnFirstRefIdeal.nD Cert.FfnFirstRefIdeal.τ).loc Cert.FfnFirstRefIdeal.main_arg3)
      ∧ r.2.mem ((c.tc : Thread Cert.FfnFirstRefIdeal.nD Cert.FfnFirstRefIdeal.τ).loc Cert.FfnFirstRefIdeal.main_arg4) = m ((c.tc : Thread Cert.FfnFirstRefIdeal.nD Cert.FfnFirstRefIdeal.τ).loc Cert.FfnFirstRefIdeal.main_arg4)
      ∧ r.2.mem ((c.tc : Thread Cert.FfnFirstRefIdeal.nD Cert.FfnFirstRefIdeal.τ).loc Cert.FfnFirstRefIdeal.main_arg5) = m ((c.tc : Thread Cert.FfnFirstRefIdeal.nD Cert.FfnFirstRefIdeal.τ).loc Cert.FfnFirstRefIdeal.main_arg5)
      ∧ r.2.mem ((c.tc : Thread Cert.FfnFirstRefIdeal.nD Cert.FfnFirstRefIdeal.τ).loc Cert.FfnFirstRefIdeal.main_arg6) = m ((c.tc : Thread Cert.FfnFirstRefIdeal.nD Cert.FfnFirstRefIdeal.τ).loc Cert.FfnFirstRefIdeal.main_arg6))
      ∧ r.2.sem = fun _ => 0)

def quiescent_FfnLast [hFfnLast : Cert.FfnLast.Facts] : Prop :=
  ∀ (m : (ℓ : Loc Cert.FfnLast.nD Cert.FfnLast.τ Cert.FfnLast.sig) → Buf (Elt Bits) ℓ) (g : Dev Cert.FfnLast.nD → PrngReg), Pre_FfnLast m →
    θ_run (Cert.FfnLast.defs (F := Bits)) (onTc (τ := Cert.FfnLast.τ) (Cert.FfnLast.main (F := Bits))) ⟨m, fun _ => 0, g⟩ (fun r => (∀ c : Dev Cert.FfnLast.nD,
      r.2.mem ((c.tc : Thread Cert.FfnLast.nD Cert.FfnLast.τ).loc Cert.FfnLast.main_arg0) = m ((c.tc : Thread Cert.FfnLast.nD Cert.FfnLast.τ).loc Cert.FfnLast.main_arg0)
      ∧ r.2.mem ((c.tc : Thread Cert.FfnLast.nD Cert.FfnLast.τ).loc Cert.FfnLast.main_arg1) = m ((c.tc : Thread Cert.FfnLast.nD Cert.FfnLast.τ).loc Cert.FfnLast.main_arg1)
      ∧ r.2.mem ((c.tc : Thread Cert.FfnLast.nD Cert.FfnLast.τ).loc Cert.FfnLast.main_arg2) = m ((c.tc : Thread Cert.FfnLast.nD Cert.FfnLast.τ).loc Cert.FfnLast.main_arg2)
      ∧ r.2.mem ((c.tc : Thread Cert.FfnLast.nD Cert.FfnLast.τ).loc Cert.FfnLast.main_arg3) = m ((c.tc : Thread Cert.FfnLast.nD Cert.FfnLast.τ).loc Cert.FfnLast.main_arg3)
      ∧ r.2.mem ((c.tc : Thread Cert.FfnLast.nD Cert.FfnLast.τ).loc Cert.FfnLast.main_arg4) = m ((c.tc : Thread Cert.FfnLast.nD Cert.FfnLast.τ).loc Cert.FfnLast.main_arg4)
      ∧ r.2.mem ((c.tc : Thread Cert.FfnLast.nD Cert.FfnLast.τ).loc Cert.FfnLast.main_arg5) = m ((c.tc : Thread Cert.FfnLast.nD Cert.FfnLast.τ).loc Cert.FfnLast.main_arg5))
      ∧ r.2.sem = fun _ => 0)

def quiescent_FfnLastIdeal [hFfnLastIdeal : Cert.FfnLastIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg), Pre_FfnLastIdeal m →
    θ_run (Cert.FfnLastIdeal.defs (F := Ideal)) (onTc (τ := Cert.FfnLastIdeal.τ) (Cert.FfnLastIdeal.main (F := Ideal))) ⟨m, fun _ => 0, g⟩ (fun r => (∀ c : Dev Cert.FfnLastIdeal.nD,
      r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
      ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
      ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
      ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
      ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
      ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5))
      ∧ r.2.sem = fun _ => 0)

def quiescent_FfnLastRefIdeal [hFfnLastRefIdeal : Cert.FfnLastRefIdeal.Facts] : Prop :=
  ∀ (m : (ℓ : Loc Cert.FfnLastRefIdeal.nD Cert.FfnLastRefIdeal.τ Cert.FfnLastRefIdeal.sig) → Buf (Elt Ideal) ℓ) (g : Dev Cert.FfnLastRefIdeal.nD → PrngReg), Pre_FfnLastRefIdeal m →
    θ_run (Cert.FfnLastRefIdeal.defs (F := Ideal)) (onTc (τ := Cert.FfnLastRefIdeal.τ) (Cert.FfnLastRefIdeal.main (F := Ideal))) ⟨m, fun _ => 0, g⟩ (fun r => (∀ c : Dev Cert.FfnLastRefIdeal.nD,
      r.2.mem ((c.tc : Thread Cert.FfnLastRefIdeal.nD Cert.FfnLastRefIdeal.τ).loc Cert.FfnLastRefIdeal.main_arg0) = m ((c.tc : Thread Cert.FfnLastRefIdeal.nD Cert.FfnLastRefIdeal.τ).loc Cert.FfnLastRefIdeal.main_arg0)
      ∧ r.2.mem ((c.tc : Thread Cert.FfnLastRefIdeal.nD Cert.FfnLastRefIdeal.τ).loc Cert.FfnLastRefIdeal.main_arg1) = m ((c.tc : Thread Cert.FfnLastRefIdeal.nD Cert.FfnLastRefIdeal.τ).loc Cert.FfnLastRefIdeal.main_arg1)
      ∧ r.2.mem ((c.tc : Thread Cert.FfnLastRefIdeal.nD Cert.FfnLastRefIdeal.τ).loc Cert.FfnLastRefIdeal.main_arg2) = m ((c.tc : Thread Cert.FfnLastRefIdeal.nD Cert.FfnLastRefIdeal.τ).loc Cert.FfnLastRefIdeal.main_arg2)
      ∧ r.2.mem ((c.tc : Thread Cert.FfnLastRefIdeal.nD Cert.FfnLastRefIdeal.τ).loc Cert.FfnLastRefIdeal.main_arg3) = m ((c.tc : Thread Cert.FfnLastRefIdeal.nD Cert.FfnLastRefIdeal.τ).loc Cert.FfnLastRefIdeal.main_arg3)
      ∧ r.2.mem ((c.tc : Thread Cert.FfnLastRefIdeal.nD Cert.FfnLastRefIdeal.τ).loc Cert.FfnLastRefIdeal.main_arg4) = m ((c.tc : Thread Cert.FfnLastRefIdeal.nD Cert.FfnLastRefIdeal.τ).loc Cert.FfnLastRefIdeal.main_arg4)
      ∧ r.2.mem ((c.tc : Thread Cert.FfnLastRefIdeal.nD Cert.FfnLastRefIdeal.τ).loc Cert.FfnLastRefIdeal.main_arg5) = m ((c.tc : Thread Cert.FfnLastRefIdeal.nD Cert.FfnLastRefIdeal.τ).loc Cert.FfnLastRefIdeal.main_arg5))
      ∧ r.2.sem = fun _ => 0)

def quiescent_AttnProj [hAttnProj : Cert.AttnProj.Facts] : Prop :=
  ∀ (m : (ℓ : Loc Cert.AttnProj.nD Cert.AttnProj.τ Cert.AttnProj.sig) → Buf (Elt Bits) ℓ) (g : Dev Cert.AttnProj.nD → PrngReg), Pre_AttnProj m →
    θ_run (Cert.AttnProj.defs (F := Bits)) (onTc (τ := Cert.AttnProj.τ) (Cert.AttnProj.main (F := Bits))) ⟨m, fun _ => 0, g⟩ (fun r => (∀ c : Dev Cert.AttnProj.nD,
      r.2.mem ((c.tc : Thread Cert.AttnProj.nD Cert.AttnProj.τ).loc Cert.AttnProj.main_arg0) = m ((c.tc : Thread Cert.AttnProj.nD Cert.AttnProj.τ).loc Cert.AttnProj.main_arg0)
      ∧ r.2.mem ((c.tc : Thread Cert.AttnProj.nD Cert.AttnProj.τ).loc Cert.AttnProj.main_arg1) = m ((c.tc : Thread Cert.AttnProj.nD Cert.AttnProj.τ).loc Cert.AttnProj.main_arg1))
      ∧ r.2.sem = fun _ => 0)

def quiescent_AttnProjIdeal [hAttnProjIdeal : Cert.AttnProjIdeal.Facts] : Prop :=
  ∀ (m : (ℓ : Loc Cert.AttnProjIdeal.nD Cert.AttnProjIdeal.τ Cert.AttnProjIdeal.sig) → Buf (Elt Ideal) ℓ) (g : Dev Cert.AttnProjIdeal.nD → PrngReg), Pre_AttnProjIdeal m →
    θ_run (Cert.AttnProjIdeal.defs (F := Ideal)) (onTc (τ := Cert.AttnProjIdeal.τ) (Cert.AttnProjIdeal.main (F := Ideal))) ⟨m, fun _ => 0, g⟩ (fun r => (∀ c : Dev Cert.AttnProjIdeal.nD,
      r.2.mem ((c.tc : Thread Cert.AttnProjIdeal.nD Cert.AttnProjIdeal.τ).loc Cert.AttnProjIdeal.main_arg0) = m ((c.tc : Thread Cert.AttnProjIdeal.nD Cert.AttnProjIdeal.τ).loc Cert.AttnProjIdeal.main_arg0)
      ∧ r.2.mem ((c.tc : Thread Cert.AttnProjIdeal.nD Cert.AttnProjIdeal.τ).loc Cert.AttnProjIdeal.main_arg1) = m ((c.tc : Thread Cert.AttnProjIdeal.nD Cert.AttnProjIdeal.τ).loc Cert.AttnProjIdeal.main_arg1))
      ∧ r.2.sem = fun _ => 0)

def quiescent_AttnProjRefIdeal [hAttnProjRefIdeal : Cert.AttnProjRefIdeal.Facts] : Prop :=
  ∀ (m : (ℓ : Loc Cert.AttnProjRefIdeal.nD Cert.AttnProjRefIdeal.τ Cert.AttnProjRefIdeal.sig) → Buf (Elt Ideal) ℓ) (g : Dev Cert.AttnProjRefIdeal.nD → PrngReg), Pre_AttnProjRefIdeal m →
    θ_run (Cert.AttnProjRefIdeal.defs (F := Ideal)) (onTc (τ := Cert.AttnProjRefIdeal.τ) (Cert.AttnProjRefIdeal.main (F := Ideal))) ⟨m, fun _ => 0, g⟩ (fun r => (∀ c : Dev Cert.AttnProjRefIdeal.nD,
      r.2.mem ((c.tc : Thread Cert.AttnProjRefIdeal.nD Cert.AttnProjRefIdeal.τ).loc Cert.AttnProjRefIdeal.main_arg0) = m ((c.tc : Thread Cert.AttnProjRefIdeal.nD Cert.AttnProjRefIdeal.τ).loc Cert.AttnProjRefIdeal.main_arg0)
      ∧ r.2.mem ((c.tc : Thread Cert.AttnProjRefIdeal.nD Cert.AttnProjRefIdeal.τ).loc Cert.AttnProjRefIdeal.main_arg1) = m ((c.tc : Thread Cert.AttnProjRefIdeal.nD Cert.AttnProjRefIdeal.τ).loc Cert.AttnProjRefIdeal.main_arg1))
      ∧ r.2.sem = fun _ => 0)

def quiescent_ProjAz [hProjAz : Cert.ProjAz.Facts] : Prop :=
  ∀ (m : (ℓ : Loc Cert.ProjAz.nD Cert.ProjAz.τ Cert.ProjAz.sig) → Buf (Elt Bits) ℓ) (g : Dev Cert.ProjAz.nD → PrngReg), Pre_ProjAz m →
    θ_run (Cert.ProjAz.defs (F := Bits)) (onTc (τ := Cert.ProjAz.τ) (Cert.ProjAz.main (F := Bits))) ⟨m, fun _ => 0, g⟩ (fun r => (∀ c : Dev Cert.ProjAz.nD,
      r.2.mem ((c.tc : Thread Cert.ProjAz.nD Cert.ProjAz.τ).loc Cert.ProjAz.main_arg0) = m ((c.tc : Thread Cert.ProjAz.nD Cert.ProjAz.τ).loc Cert.ProjAz.main_arg0)
      ∧ r.2.mem ((c.tc : Thread Cert.ProjAz.nD Cert.ProjAz.τ).loc Cert.ProjAz.main_arg1) = m ((c.tc : Thread Cert.ProjAz.nD Cert.ProjAz.τ).loc Cert.ProjAz.main_arg1))
      ∧ r.2.sem = fun _ => 0)

def quiescent_ProjAzIdeal [hProjAzIdeal : Cert.ProjAzIdeal.Facts] : Prop :=
  ∀ (m : (ℓ : Loc Cert.ProjAzIdeal.nD Cert.ProjAzIdeal.τ Cert.ProjAzIdeal.sig) → Buf (Elt Ideal) ℓ) (g : Dev Cert.ProjAzIdeal.nD → PrngReg), Pre_ProjAzIdeal m →
    θ_run (Cert.ProjAzIdeal.defs (F := Ideal)) (onTc (τ := Cert.ProjAzIdeal.τ) (Cert.ProjAzIdeal.main (F := Ideal))) ⟨m, fun _ => 0, g⟩ (fun r => (∀ c : Dev Cert.ProjAzIdeal.nD,
      r.2.mem ((c.tc : Thread Cert.ProjAzIdeal.nD Cert.ProjAzIdeal.τ).loc Cert.ProjAzIdeal.main_arg0) = m ((c.tc : Thread Cert.ProjAzIdeal.nD Cert.ProjAzIdeal.τ).loc Cert.ProjAzIdeal.main_arg0)
      ∧ r.2.mem ((c.tc : Thread Cert.ProjAzIdeal.nD Cert.ProjAzIdeal.τ).loc Cert.ProjAzIdeal.main_arg1) = m ((c.tc : Thread Cert.ProjAzIdeal.nD Cert.ProjAzIdeal.τ).loc Cert.ProjAzIdeal.main_arg1))
      ∧ r.2.sem = fun _ => 0)

def quiescent_ProjAzRefIdeal [hProjAzRefIdeal : Cert.ProjAzRefIdeal.Facts] : Prop :=
  ∀ (m : (ℓ : Loc Cert.ProjAzRefIdeal.nD Cert.ProjAzRefIdeal.τ Cert.ProjAzRefIdeal.sig) → Buf (Elt Ideal) ℓ) (g : Dev Cert.ProjAzRefIdeal.nD → PrngReg), Pre_ProjAzRefIdeal m →
    θ_run (Cert.ProjAzRefIdeal.defs (F := Ideal)) (onTc (τ := Cert.ProjAzRefIdeal.τ) (Cert.ProjAzRefIdeal.main (F := Ideal))) ⟨m, fun _ => 0, g⟩ (fun r => (∀ c : Dev Cert.ProjAzRefIdeal.nD,
      r.2.mem ((c.tc : Thread Cert.ProjAzRefIdeal.nD Cert.ProjAzRefIdeal.τ).loc Cert.ProjAzRefIdeal.main_arg0) = m ((c.tc : Thread Cert.ProjAzRefIdeal.nD Cert.ProjAzRefIdeal.τ).loc Cert.ProjAzRefIdeal.main_arg0)
      ∧ r.2.mem ((c.tc : Thread Cert.ProjAzRefIdeal.nD Cert.ProjAzRefIdeal.τ).loc Cert.ProjAzRefIdeal.main_arg1) = m ((c.tc : Thread Cert.ProjAzRefIdeal.nD Cert.ProjAzRefIdeal.τ).loc Cert.ProjAzRefIdeal.main_arg1))
      ∧ r.2.sem = fun _ => 0)

def quiescent_ProjGates [hProjGates : Cert.ProjGates.Facts] : Prop :=
  ∀ (m : (ℓ : Loc Cert.ProjGates.nD Cert.ProjGates.τ Cert.ProjGates.sig) → Buf (Elt Bits) ℓ) (g : Dev Cert.ProjGates.nD → PrngReg), Pre_ProjGates m →
    θ_run (Cert.ProjGates.defs (F := Bits)) (onTc (τ := Cert.ProjGates.τ) (Cert.ProjGates.main (F := Bits))) ⟨m, fun _ => 0, g⟩ (fun r => (∀ c : Dev Cert.ProjGates.nD,
      r.2.mem ((c.tc : Thread Cert.ProjGates.nD Cert.ProjGates.τ).loc Cert.ProjGates.main_arg0) = m ((c.tc : Thread Cert.ProjGates.nD Cert.ProjGates.τ).loc Cert.ProjGates.main_arg0)
      ∧ r.2.mem ((c.tc : Thread Cert.ProjGates.nD Cert.ProjGates.τ).loc Cert.ProjGates.main_arg1) = m ((c.tc : Thread Cert.ProjGates.nD Cert.ProjGates.τ).loc Cert.ProjGates.main_arg1))
      ∧ r.2.sem = fun _ => 0)

def quiescent_ProjGatesIdeal [hProjGatesIdeal : Cert.ProjGatesIdeal.Facts] : Prop :=
  ∀ (m : (ℓ : Loc Cert.ProjGatesIdeal.nD Cert.ProjGatesIdeal.τ Cert.ProjGatesIdeal.sig) → Buf (Elt Ideal) ℓ) (g : Dev Cert.ProjGatesIdeal.nD → PrngReg), Pre_ProjGatesIdeal m →
    θ_run (Cert.ProjGatesIdeal.defs (F := Ideal)) (onTc (τ := Cert.ProjGatesIdeal.τ) (Cert.ProjGatesIdeal.main (F := Ideal))) ⟨m, fun _ => 0, g⟩ (fun r => (∀ c : Dev Cert.ProjGatesIdeal.nD,
      r.2.mem ((c.tc : Thread Cert.ProjGatesIdeal.nD Cert.ProjGatesIdeal.τ).loc Cert.ProjGatesIdeal.main_arg0) = m ((c.tc : Thread Cert.ProjGatesIdeal.nD Cert.ProjGatesIdeal.τ).loc Cert.ProjGatesIdeal.main_arg0)
      ∧ r.2.mem ((c.tc : Thread Cert.ProjGatesIdeal.nD Cert.ProjGatesIdeal.τ).loc Cert.ProjGatesIdeal.main_arg1) = m ((c.tc : Thread Cert.ProjGatesIdeal.nD Cert.ProjGatesIdeal.τ).loc Cert.ProjGatesIdeal.main_arg1))
      ∧ r.2.sem = fun _ => 0)

def quiescent_ProjGatesRefIdeal [hProjGatesRefIdeal : Cert.ProjGatesRefIdeal.Facts] : Prop :=
  ∀ (m : (ℓ : Loc Cert.ProjGatesRefIdeal.nD Cert.ProjGatesRefIdeal.τ Cert.ProjGatesRefIdeal.sig) → Buf (Elt Ideal) ℓ) (g : Dev Cert.ProjGatesRefIdeal.nD → PrngReg), Pre_ProjGatesRefIdeal m →
    θ_run (Cert.ProjGatesRefIdeal.defs (F := Ideal)) (onTc (τ := Cert.ProjGatesRefIdeal.τ) (Cert.ProjGatesRefIdeal.main (F := Ideal))) ⟨m, fun _ => 0, g⟩ (fun r => (∀ c : Dev Cert.ProjGatesRefIdeal.nD,
      r.2.mem ((c.tc : Thread Cert.ProjGatesRefIdeal.nD Cert.ProjGatesRefIdeal.τ).loc Cert.ProjGatesRefIdeal.main_arg0) = m ((c.tc : Thread Cert.ProjGatesRefIdeal.nD Cert.ProjGatesRefIdeal.τ).loc Cert.ProjGatesRefIdeal.main_arg0)
      ∧ r.2.mem ((c.tc : Thread Cert.ProjGatesRefIdeal.nD Cert.ProjGatesRefIdeal.τ).loc Cert.ProjGatesRefIdeal.main_arg1) = m ((c.tc : Thread Cert.ProjGatesRefIdeal.nD Cert.ProjGatesRefIdeal.τ).loc Cert.ProjGatesRefIdeal.main_arg1))
      ∧ r.2.sem = fun _ => 0)

def quiescent_FfnLastSample [hFfnLastSample : Cert.FfnLastSample.Facts] : Prop :=
  ∀ (m : (ℓ : Loc Cert.FfnLastSample.nD Cert.FfnLastSample.τ Cert.FfnLastSample.sig) → Buf (Elt Bits) ℓ) (g : Dev Cert.FfnLastSample.nD → PrngReg), Pre_FfnLastSample m →
    θ_run (Cert.FfnLastSample.defs (F := Bits)) (onTc (τ := Cert.FfnLastSample.τ) (Cert.FfnLastSample.main (F := Bits))) ⟨m, fun _ => 0, g⟩ (fun r => (∀ c : Dev Cert.FfnLastSample.nD,
      r.2.mem ((c.tc : Thread Cert.FfnLastSample.nD Cert.FfnLastSample.τ).loc Cert.FfnLastSample.main_arg0) = m ((c.tc : Thread Cert.FfnLastSample.nD Cert.FfnLastSample.τ).loc Cert.FfnLastSample.main_arg0)
      ∧ r.2.mem ((c.tc : Thread Cert.FfnLastSample.nD Cert.FfnLastSample.τ).loc Cert.FfnLastSample.main_arg1) = m ((c.tc : Thread Cert.FfnLastSample.nD Cert.FfnLastSample.τ).loc Cert.FfnLastSample.main_arg1)
      ∧ r.2.mem ((c.tc : Thread Cert.FfnLastSample.nD Cert.FfnLastSample.τ).loc Cert.FfnLastSample.main_arg2) = m ((c.tc : Thread Cert.FfnLastSample.nD Cert.FfnLastSample.τ).loc Cert.FfnLastSample.main_arg2)
      ∧ r.2.mem ((c.tc : Thread Cert.FfnLastSample.nD Cert.FfnLastSample.τ).loc Cert.FfnLastSample.main_arg3) = m ((c.tc : Thread Cert.FfnLastSample.nD Cert.FfnLastSample.τ).loc Cert.FfnLastSample.main_arg3)
      ∧ r.2.mem ((c.tc : Thread Cert.FfnLastSample.nD Cert.FfnLastSample.τ).loc Cert.FfnLastSample.main_arg4) = m ((c.tc : Thread Cert.FfnLastSample.nD Cert.FfnLastSample.τ).loc Cert.FfnLastSample.main_arg4)
      ∧ r.2.mem ((c.tc : Thread Cert.FfnLastSample.nD Cert.FfnLastSample.τ).loc Cert.FfnLastSample.main_arg5) = m ((c.tc : Thread Cert.FfnLastSample.nD Cert.FfnLastSample.τ).loc Cert.FfnLastSample.main_arg5))
      ∧ r.2.sem = fun _ => 0)

def quiescent_FfnLastSampleIdeal [hFfnLastSampleIdeal : Cert.FfnLastSampleIdeal.Facts] : Prop :=
  ∀ (m : (ℓ : Loc Cert.FfnLastSampleIdeal.nD Cert.FfnLastSampleIdeal.τ Cert.FfnLastSampleIdeal.sig) → Buf (Elt Ideal) ℓ) (g : Dev Cert.FfnLastSampleIdeal.nD → PrngReg), Pre_FfnLastSampleIdeal m →
    θ_run (Cert.FfnLastSampleIdeal.defs (F := Ideal)) (onTc (τ := Cert.FfnLastSampleIdeal.τ) (Cert.FfnLastSampleIdeal.main (F := Ideal))) ⟨m, fun _ => 0, g⟩ (fun r => (∀ c : Dev Cert.FfnLastSampleIdeal.nD,
      r.2.mem ((c.tc : Thread Cert.FfnLastSampleIdeal.nD Cert.FfnLastSampleIdeal.τ).loc Cert.FfnLastSampleIdeal.main_arg0) = m ((c.tc : Thread Cert.FfnLastSampleIdeal.nD Cert.FfnLastSampleIdeal.τ).loc Cert.FfnLastSampleIdeal.main_arg0)
      ∧ r.2.mem ((c.tc : Thread Cert.FfnLastSampleIdeal.nD Cert.FfnLastSampleIdeal.τ).loc Cert.FfnLastSampleIdeal.main_arg1) = m ((c.tc : Thread Cert.FfnLastSampleIdeal.nD Cert.FfnLastSampleIdeal.τ).loc Cert.FfnLastSampleIdeal.main_arg1)
      ∧ r.2.mem ((c.tc : Thread Cert.FfnLastSampleIdeal.nD Cert.FfnLastSampleIdeal.τ).loc Cert.FfnLastSampleIdeal.main_arg2) = m ((c.tc : Thread Cert.FfnLastSampleIdeal.nD Cert.FfnLastSampleIdeal.τ).loc Cert.FfnLastSampleIdeal.main_arg2)
      ∧ r.2.mem ((c.tc : Thread Cert.FfnLastSampleIdeal.nD Cert.FfnLastSampleIdeal.τ).loc Cert.FfnLastSampleIdeal.main_arg3) = m ((c.tc : Thread Cert.FfnLastSampleIdeal.nD Cert.FfnLastSampleIdeal.τ).loc Cert.FfnLastSampleIdeal.main_arg3)
      ∧ r.2.mem ((c.tc : Thread Cert.FfnLastSampleIdeal.nD Cert.FfnLastSampleIdeal.τ).loc Cert.FfnLastSampleIdeal.main_arg4) = m ((c.tc : Thread Cert.FfnLastSampleIdeal.nD Cert.FfnLastSampleIdeal.τ).loc Cert.FfnLastSampleIdeal.main_arg4)
      ∧ r.2.mem ((c.tc : Thread Cert.FfnLastSampleIdeal.nD Cert.FfnLastSampleIdeal.τ).loc Cert.FfnLastSampleIdeal.main_arg5) = m ((c.tc : Thread Cert.FfnLastSampleIdeal.nD Cert.FfnLastSampleIdeal.τ).loc Cert.FfnLastSampleIdeal.main_arg5))
      ∧ r.2.sem = fun _ => 0)

def quiescent_FfnLastSampleRefIdeal [hFfnLastSampleRefIdeal : Cert.FfnLastSampleRefIdeal.Facts] : Prop :=
  ∀ (m : (ℓ : Loc Cert.FfnLastSampleRefIdeal.nD Cert.FfnLastSampleRefIdeal.τ Cert.FfnLastSampleRefIdeal.sig) → Buf (Elt Ideal) ℓ) (g : Dev Cert.FfnLastSampleRefIdeal.nD → PrngReg), Pre_FfnLastSampleRefIdeal m →
    θ_run (Cert.FfnLastSampleRefIdeal.defs (F := Ideal)) (onTc (τ := Cert.FfnLastSampleRefIdeal.τ) (Cert.FfnLastSampleRefIdeal.main (F := Ideal))) ⟨m, fun _ => 0, g⟩ (fun r => (∀ c : Dev Cert.FfnLastSampleRefIdeal.nD,
      r.2.mem ((c.tc : Thread Cert.FfnLastSampleRefIdeal.nD Cert.FfnLastSampleRefIdeal.τ).loc Cert.FfnLastSampleRefIdeal.main_arg0) = m ((c.tc : Thread Cert.FfnLastSampleRefIdeal.nD Cert.FfnLastSampleRefIdeal.τ).loc Cert.FfnLastSampleRefIdeal.main_arg0)
      ∧ r.2.mem ((c.tc : Thread Cert.FfnLastSampleRefIdeal.nD Cert.FfnLastSampleRefIdeal.τ).loc Cert.FfnLastSampleRefIdeal.main_arg1) = m ((c.tc : Thread Cert.FfnLastSampleRefIdeal.nD Cert.FfnLastSampleRefIdeal.τ).loc Cert.FfnLastSampleRefIdeal.main_arg1)
      ∧ r.2.mem ((c.tc : Thread Cert.FfnLastSampleRefIdeal.nD Cert.FfnLastSampleRefIdeal.τ).loc Cert.FfnLastSampleRefIdeal.main_arg2) = m ((c.tc : Thread Cert.FfnLastSampleRefIdeal.nD Cert.FfnLastSampleRefIdeal.τ).loc Cert.FfnLastSampleRefIdeal.main_arg2)
      ∧ r.2.mem ((c.tc : Thread Cert.FfnLastSampleRefIdeal.nD Cert.FfnLastSampleRefIdeal.τ).loc Cert.FfnLastSampleRefIdeal.main_arg3) = m ((c.tc : Thread Cert.FfnLastSampleRefIdeal.nD Cert.FfnLastSampleRefIdeal.τ).loc Cert.FfnLastSampleRefIdeal.main_arg3)
      ∧ r.2.mem ((c.tc : Thread Cert.FfnLastSampleRefIdeal.nD Cert.FfnLastSampleRefIdeal.τ).loc Cert.FfnLastSampleRefIdeal.main_arg4) = m ((c.tc : Thread Cert.FfnLastSampleRefIdeal.nD Cert.FfnLastSampleRefIdeal.τ).loc Cert.FfnLastSampleRefIdeal.main_arg4)
      ∧ r.2.mem ((c.tc : Thread Cert.FfnLastSampleRefIdeal.nD Cert.FfnLastSampleRefIdeal.τ).loc Cert.FfnLastSampleRefIdeal.main_arg5) = m ((c.tc : Thread Cert.FfnLastSampleRefIdeal.nD Cert.FfnLastSampleRefIdeal.τ).loc Cert.FfnLastSampleRefIdeal.main_arg5))
      ∧ r.2.sem = fun _ => 0)

def quiescent_ProjAzSample [hProjAzSample : Cert.ProjAzSample.Facts] : Prop :=
  ∀ (m : (ℓ : Loc Cert.ProjAzSample.nD Cert.ProjAzSample.τ Cert.ProjAzSample.sig) → Buf (Elt Bits) ℓ) (g : Dev Cert.ProjAzSample.nD → PrngReg), Pre_ProjAzSample m →
    θ_run (Cert.ProjAzSample.defs (F := Bits)) (onTc (τ := Cert.ProjAzSample.τ) (Cert.ProjAzSample.main (F := Bits))) ⟨m, fun _ => 0, g⟩ (fun r => (∀ c : Dev Cert.ProjAzSample.nD,
      r.2.mem ((c.tc : Thread Cert.ProjAzSample.nD Cert.ProjAzSample.τ).loc Cert.ProjAzSample.main_arg0) = m ((c.tc : Thread Cert.ProjAzSample.nD Cert.ProjAzSample.τ).loc Cert.ProjAzSample.main_arg0)
      ∧ r.2.mem ((c.tc : Thread Cert.ProjAzSample.nD Cert.ProjAzSample.τ).loc Cert.ProjAzSample.main_arg1) = m ((c.tc : Thread Cert.ProjAzSample.nD Cert.ProjAzSample.τ).loc Cert.ProjAzSample.main_arg1)
      ∧ r.2.mem ((c.tc : Thread Cert.ProjAzSample.nD Cert.ProjAzSample.τ).loc Cert.ProjAzSample.main_arg2) = m ((c.tc : Thread Cert.ProjAzSample.nD Cert.ProjAzSample.τ).loc Cert.ProjAzSample.main_arg2))
      ∧ r.2.sem = fun _ => 0)

def quiescent_ProjAzSampleIdeal [hProjAzSampleIdeal : Cert.ProjAzSampleIdeal.Facts] : Prop :=
  ∀ (m : (ℓ : Loc Cert.ProjAzSampleIdeal.nD Cert.ProjAzSampleIdeal.τ Cert.ProjAzSampleIdeal.sig) → Buf (Elt Ideal) ℓ) (g : Dev Cert.ProjAzSampleIdeal.nD → PrngReg), Pre_ProjAzSampleIdeal m →
    θ_run (Cert.ProjAzSampleIdeal.defs (F := Ideal)) (onTc (τ := Cert.ProjAzSampleIdeal.τ) (Cert.ProjAzSampleIdeal.main (F := Ideal))) ⟨m, fun _ => 0, g⟩ (fun r => (∀ c : Dev Cert.ProjAzSampleIdeal.nD,
      r.2.mem ((c.tc : Thread Cert.ProjAzSampleIdeal.nD Cert.ProjAzSampleIdeal.τ).loc Cert.ProjAzSampleIdeal.main_arg0) = m ((c.tc : Thread Cert.ProjAzSampleIdeal.nD Cert.ProjAzSampleIdeal.τ).loc Cert.ProjAzSampleIdeal.main_arg0)
      ∧ r.2.mem ((c.tc : Thread Cert.ProjAzSampleIdeal.nD Cert.ProjAzSampleIdeal.τ).loc Cert.ProjAzSampleIdeal.main_arg1) = m ((c.tc : Thread Cert.ProjAzSampleIdeal.nD Cert.ProjAzSampleIdeal.τ).loc Cert.ProjAzSampleIdeal.main_arg1)
      ∧ r.2.mem ((c.tc : Thread Cert.ProjAzSampleIdeal.nD Cert.ProjAzSampleIdeal.τ).loc Cert.ProjAzSampleIdeal.main_arg2) = m ((c.tc : Thread Cert.ProjAzSampleIdeal.nD Cert.ProjAzSampleIdeal.τ).loc Cert.ProjAzSampleIdeal.main_arg2))
      ∧ r.2.sem = fun _ => 0)

def quiescent_ProjAzSampleRefIdeal [hProjAzSampleRefIdeal : Cert.ProjAzSampleRefIdeal.Facts] : Prop :=
  ∀ (m : (ℓ : Loc Cert.ProjAzSampleRefIdeal.nD Cert.ProjAzSampleRefIdeal.τ Cert.ProjAzSampleRefIdeal.sig) → Buf (Elt Ideal) ℓ) (g : Dev Cert.ProjAzSampleRefIdeal.nD → PrngReg), Pre_ProjAzSampleRefIdeal m →
    θ_run (Cert.ProjAzSampleRefIdeal.defs (F := Ideal)) (onTc (τ := Cert.ProjAzSampleRefIdeal.τ) (Cert.ProjAzSampleRefIdeal.main (F := Ideal))) ⟨m, fun _ => 0, g⟩ (fun r => (∀ c : Dev Cert.ProjAzSampleRefIdeal.nD,
      r.2.mem ((c.tc : Thread Cert.ProjAzSampleRefIdeal.nD Cert.ProjAzSampleRefIdeal.τ).loc Cert.ProjAzSampleRefIdeal.main_arg0) = m ((c.tc : Thread Cert.ProjAzSampleRefIdeal.nD Cert.ProjAzSampleRefIdeal.τ).loc Cert.ProjAzSampleRefIdeal.main_arg0)
      ∧ r.2.mem ((c.tc : Thread Cert.ProjAzSampleRefIdeal.nD Cert.ProjAzSampleRefIdeal.τ).loc Cert.ProjAzSampleRefIdeal.main_arg1) = m ((c.tc : Thread Cert.ProjAzSampleRefIdeal.nD Cert.ProjAzSampleRefIdeal.τ).loc Cert.ProjAzSampleRefIdeal.main_arg1)
      ∧ r.2.mem ((c.tc : Thread Cert.ProjAzSampleRefIdeal.nD Cert.ProjAzSampleRefIdeal.τ).loc Cert.ProjAzSampleRefIdeal.main_arg2) = m ((c.tc : Thread Cert.ProjAzSampleRefIdeal.nD Cert.ProjAzSampleRefIdeal.τ).loc Cert.ProjAzSampleRefIdeal.main_arg2))
      ∧ r.2.sem = fun _ => 0)

def quiescent_AttnProjSample [hAttnProjSample : Cert.AttnProjSample.Facts] : Prop :=
  ∀ (m : (ℓ : Loc Cert.AttnProjSample.nD Cert.AttnProjSample.τ Cert.AttnProjSample.sig) → Buf (Elt Bits) ℓ) (g : Dev Cert.AttnProjSample.nD → PrngReg), Pre_AttnProjSample m →
    θ_run (Cert.AttnProjSample.defs (F := Bits)) (onTc (τ := Cert.AttnProjSample.τ) (Cert.AttnProjSample.main (F := Bits))) ⟨m, fun _ => 0, g⟩ (fun r => (∀ c : Dev Cert.AttnProjSample.nD,
      r.2.mem ((c.tc : Thread Cert.AttnProjSample.nD Cert.AttnProjSample.τ).loc Cert.AttnProjSample.main_arg0) = m ((c.tc : Thread Cert.AttnProjSample.nD Cert.AttnProjSample.τ).loc Cert.AttnProjSample.main_arg0)
      ∧ r.2.mem ((c.tc : Thread Cert.AttnProjSample.nD Cert.AttnProjSample.τ).loc Cert.AttnProjSample.main_arg1) = m ((c.tc : Thread Cert.AttnProjSample.nD Cert.AttnProjSample.τ).loc Cert.AttnProjSample.main_arg1))
      ∧ r.2.sem = fun _ => 0)

def quiescent_AttnProjSampleIdeal [hAttnProjSampleIdeal : Cert.AttnProjSampleIdeal.Facts] : Prop :=
  ∀ (m : (ℓ : Loc Cert.AttnProjSampleIdeal.nD Cert.AttnProjSampleIdeal.τ Cert.AttnProjSampleIdeal.sig) → Buf (Elt Ideal) ℓ) (g : Dev Cert.AttnProjSampleIdeal.nD → PrngReg), Pre_AttnProjSampleIdeal m →
    θ_run (Cert.AttnProjSampleIdeal.defs (F := Ideal)) (onTc (τ := Cert.AttnProjSampleIdeal.τ) (Cert.AttnProjSampleIdeal.main (F := Ideal))) ⟨m, fun _ => 0, g⟩ (fun r => (∀ c : Dev Cert.AttnProjSampleIdeal.nD,
      r.2.mem ((c.tc : Thread Cert.AttnProjSampleIdeal.nD Cert.AttnProjSampleIdeal.τ).loc Cert.AttnProjSampleIdeal.main_arg0) = m ((c.tc : Thread Cert.AttnProjSampleIdeal.nD Cert.AttnProjSampleIdeal.τ).loc Cert.AttnProjSampleIdeal.main_arg0)
      ∧ r.2.mem ((c.tc : Thread Cert.AttnProjSampleIdeal.nD Cert.AttnProjSampleIdeal.τ).loc Cert.AttnProjSampleIdeal.main_arg1) = m ((c.tc : Thread Cert.AttnProjSampleIdeal.nD Cert.AttnProjSampleIdeal.τ).loc Cert.AttnProjSampleIdeal.main_arg1))
      ∧ r.2.sem = fun _ => 0)

def quiescent_AttnProjSampleRefIdeal [hAttnProjSampleRefIdeal : Cert.AttnProjSampleRefIdeal.Facts] : Prop :=
  ∀ (m : (ℓ : Loc Cert.AttnProjSampleRefIdeal.nD Cert.AttnProjSampleRefIdeal.τ Cert.AttnProjSampleRefIdeal.sig) → Buf (Elt Ideal) ℓ) (g : Dev Cert.AttnProjSampleRefIdeal.nD → PrngReg), Pre_AttnProjSampleRefIdeal m →
    θ_run (Cert.AttnProjSampleRefIdeal.defs (F := Ideal)) (onTc (τ := Cert.AttnProjSampleRefIdeal.τ) (Cert.AttnProjSampleRefIdeal.main (F := Ideal))) ⟨m, fun _ => 0, g⟩ (fun r => (∀ c : Dev Cert.AttnProjSampleRefIdeal.nD,
      r.2.mem ((c.tc : Thread Cert.AttnProjSampleRefIdeal.nD Cert.AttnProjSampleRefIdeal.τ).loc Cert.AttnProjSampleRefIdeal.main_arg0) = m ((c.tc : Thread Cert.AttnProjSampleRefIdeal.nD Cert.AttnProjSampleRefIdeal.τ).loc Cert.AttnProjSampleRefIdeal.main_arg0)
      ∧ r.2.mem ((c.tc : Thread Cert.AttnProjSampleRefIdeal.nD Cert.AttnProjSampleRefIdeal.τ).loc Cert.AttnProjSampleRefIdeal.main_arg1) = m ((c.tc : Thread Cert.AttnProjSampleRefIdeal.nD Cert.AttnProjSampleRefIdeal.τ).loc Cert.AttnProjSampleRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7)
      ∧ r.2.mem ((c.tc : Thread Cert.MixOut.nD Cert.MixOut.τ).loc Cert.MixOut.main_arg8) = m ((c.tc : Thread Cert.MixOut.nD Cert.MixOut.τ).loc Cert.MixOut.main_arg8)
      ∧ r.2.mem ((c.tc : Thread Cert.MixOut.nD Cert.MixOut.τ).loc Cert.MixOut.main_arg9) = m ((c.tc : Thread Cert.MixOut.nD Cert.MixOut.τ).loc Cert.MixOut.main_arg9))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
      ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
      ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6)
      ∧ r.2.mem ((c.tc : Thread Cert.MixOutRefIdeal.nD Cert.MixOutRefIdeal.τ).loc Cert.MixOutRefIdeal.main_arg7) = m ((c.tc : Thread Cert.MixOutRefIdeal.nD Cert.MixOutRefIdeal.τ).loc Cert.MixOutRefIdeal.main_arg7)
      ∧ r.2.mem ((c.tc : Thread Cert.MixOutRefIdeal.nD Cert.MixOutRefIdeal.τ).loc Cert.MixOutRefIdeal.main_arg8) = m ((c.tc : Thread Cert.MixOutRefIdeal.nD Cert.MixOutRefIdeal.τ).loc Cert.MixOutRefIdeal.main_arg8)
      ∧ r.2.mem ((c.tc : Thread Cert.MixOutRefIdeal.nD Cert.MixOutRefIdeal.τ).loc Cert.MixOutRefIdeal.main_arg9) = m ((c.tc : Thread Cert.MixOutRefIdeal.nD Cert.MixOutRefIdeal.τ).loc Cert.MixOutRefIdeal.main_arg9))
      ∧ r.2.sem = fun _ => 0)

def preserves_GdnStep_GdnStepIdeal : Prop :=
  True

def algebraic_GdnStepIdeal_GdnStepRefIdeal [hGdnStepIdeal : Cert.GdnStepIdeal.Facts] [hGdnStepRefIdeal : Cert.GdnStepRefIdeal.Facts] : Prop :=
  ∀ (m : (ℓ : Loc Cert.GdnStepIdeal.nD Cert.GdnStepIdeal.τ Cert.GdnStepIdeal.sig) → Buf (Elt Ideal) ℓ) (g : Dev Cert.GdnStepIdeal.nD → PrngReg)
    (m' : (ℓ : Loc Cert.GdnStepRefIdeal.nD Cert.GdnStepRefIdeal.τ Cert.GdnStepRefIdeal.sig) → Buf (Elt Ideal) ℓ) (g' : Dev Cert.GdnStepRefIdeal.nD → PrngReg), Pre_GdnStepIdeal m →
    (∀ c : Dev Cert.GdnStepIdeal.nD,
      m' ((c.tc : Thread Cert.GdnStepRefIdeal.nD Cert.GdnStepRefIdeal.τ).loc Cert.GdnStepRefIdeal.main_arg0) = m ((c.tc : Thread Cert.GdnStepIdeal.nD Cert.GdnStepIdeal.τ).loc Cert.GdnStepIdeal.main_arg0)
      ∧ m' ((c.tc : Thread Cert.GdnStepRefIdeal.nD Cert.GdnStepRefIdeal.τ).loc Cert.GdnStepRefIdeal.main_arg1) = m ((c.tc : Thread Cert.GdnStepIdeal.nD Cert.GdnStepIdeal.τ).loc Cert.GdnStepIdeal.main_arg1)
      ∧ m' ((c.tc : Thread Cert.GdnStepRefIdeal.nD Cert.GdnStepRefIdeal.τ).loc Cert.GdnStepRefIdeal.main_arg2) = m ((c.tc : Thread Cert.GdnStepIdeal.nD Cert.GdnStepIdeal.τ).loc Cert.GdnStepIdeal.main_arg2)
      ∧ m' ((c.tc : Thread Cert.GdnStepRefIdeal.nD Cert.GdnStepRefIdeal.τ).loc Cert.GdnStepRefIdeal.main_arg3) = m ((c.tc : Thread Cert.GdnStepIdeal.nD Cert.GdnStepIdeal.τ).loc Cert.GdnStepIdeal.main_arg3)
      ∧ m' ((c.tc : Thread Cert.GdnStepRefIdeal.nD Cert.GdnStepRefIdeal.τ).loc Cert.GdnStepRefIdeal.main_arg4) = m ((c.tc : Thread Cert.GdnStepIdeal.nD Cert.GdnStepIdeal.τ).loc Cert.GdnStepIdeal.main_arg4)
      ∧ m' ((c.tc : Thread Cert.GdnStepRefIdeal.nD Cert.GdnStepRefIdeal.τ).loc Cert.GdnStepRefIdeal.main_arg5) = m ((c.tc : Thread Cert.GdnStepIdeal.nD Cert.GdnStepIdeal.τ).loc Cert.GdnStepIdeal.main_arg5)
      ∧ m' ((c.tc : Thread Cert.GdnStepRefIdeal.nD Cert.GdnStepRefIdeal.τ).loc Cert.GdnStepRefIdeal.main_arg6) = m ((c.tc : Thread Cert.GdnStepIdeal.nD Cert.GdnStepIdeal.τ).loc Cert.GdnStepIdeal.main_arg6)) →
    ∃ (v0 : (c : Dev Cert.GdnStepIdeal.nD) → Buf (Elt Ideal) ((c.tc : Thread Cert.GdnStepIdeal.nD Cert.GdnStepIdeal.τ).loc Cert.GdnStepIdeal.main_v0_0)) (v1 : (c : Dev Cert.GdnStepIdeal.nD) → Buf (Elt Ideal) ((c.tc : Thread Cert.GdnStepIdeal.nD Cert.GdnStepIdeal.τ).loc Cert.GdnStepIdeal.main_v0_1)),
      θ_run (Cert.GdnStepIdeal.defs (F := Ideal)) (onTc (τ := Cert.GdnStepIdeal.τ) (Cert.GdnStepIdeal.main (F := Ideal))) ⟨m, fun _ => 0, g⟩ (fun r => ∀ c : Dev Cert.GdnStepIdeal.nD,
          r.2.mem ((c.tc : Thread Cert.GdnStepIdeal.nD Cert.GdnStepIdeal.τ).loc Cert.GdnStepIdeal.main_v0_0) = v0 c
          ∧ r.2.mem ((c.tc : Thread Cert.GdnStepIdeal.nD Cert.GdnStepIdeal.τ).loc Cert.GdnStepIdeal.main_v0_1) = v1 c
          ∧ r.2.mem ((c.tc : Thread Cert.GdnStepIdeal.nD Cert.GdnStepIdeal.τ).loc Cert.GdnStepIdeal.main_arg0) = m ((c.tc : Thread Cert.GdnStepIdeal.nD Cert.GdnStepIdeal.τ).loc Cert.GdnStepIdeal.main_arg0)
          ∧ r.2.mem ((c.tc : Thread Cert.GdnStepIdeal.nD Cert.GdnStepIdeal.τ).loc Cert.GdnStepIdeal.main_arg1) = m ((c.tc : Thread Cert.GdnStepIdeal.nD Cert.GdnStepIdeal.τ).loc Cert.GdnStepIdeal.main_arg1)
          ∧ r.2.mem ((c.tc : Thread Cert.GdnStepIdeal.nD Cert.GdnStepIdeal.τ).loc Cert.GdnStepIdeal.main_arg2) = m ((c.tc : Thread Cert.GdnStepIdeal.nD Cert.GdnStepIdeal.τ).loc Cert.GdnStepIdeal.main_arg2)
          ∧ r.2.mem ((c.tc : Thread Cert.GdnStepIdeal.nD Cert.GdnStepIdeal.τ).loc Cert.GdnStepIdeal.main_arg3) = m ((c.tc : Thread Cert.GdnStepIdeal.nD Cert.GdnStepIdeal.τ).loc Cert.GdnStepIdeal.main_arg3)
          ∧ r.2.mem ((c.tc : Thread Cert.GdnStepIdeal.nD Cert.GdnStepIdeal.τ).loc Cert.GdnStepIdeal.main_arg4) = m ((c.tc : Thread Cert.GdnStepIdeal.nD Cert.GdnStepIdeal.τ).loc Cert.GdnStepIdeal.main_arg4)
          ∧ r.2.mem ((c.tc : Thread Cert.GdnStepIdeal.nD Cert.GdnStepIdeal.τ).loc Cert.GdnStepIdeal.main_arg5) = m ((c.tc : Thread Cert.GdnStepIdeal.nD Cert.GdnStepIdeal.τ).loc Cert.GdnStepIdeal.main_arg5)
          ∧ r.2.mem ((c.tc : Thread Cert.GdnStepIdeal.nD Cert.GdnStepIdeal.τ).loc Cert.GdnStepIdeal.main_arg6) = m ((c.tc : Thread Cert.GdnStepIdeal.nD Cert.GdnStepIdeal.τ).loc Cert.GdnStepIdeal.main_arg6))
      ∧ θ_run (Cert.GdnStepRefIdeal.defs (F := Ideal)) (onTc (τ := Cert.GdnStepRefIdeal.τ) (Cert.GdnStepRefIdeal.main (F := Ideal))) ⟨m', fun _ => 0, g'⟩ (fun r => ∀ c : Dev Cert.GdnStepRefIdeal.nD,
          r.2.mem ((c.tc : Thread Cert.GdnStepRefIdeal.nD Cert.GdnStepRefIdeal.τ).loc Cert.GdnStepRefIdeal.main_v127) = v0 c
          ∧ r.2.mem ((c.tc : Thread Cert.GdnStepRefIdeal.nD Cert.GdnStepRefIdeal.τ).loc Cert.GdnStepRefIdeal.main_v107) = v1 c
          ∧ r.2.mem ((c.tc : Thread Cert.GdnStepRefIdeal.nD Cert.GdnStepRefIdeal.τ).loc Cert.GdnStepRefIdeal.main_arg0) = m' ((c.tc : Thread Cert.GdnStepRefIdeal.nD Cert.GdnStepRefIdeal.τ).loc Cert.GdnStepRefIdeal.main_arg0)
          ∧ r.2.mem ((c.tc : Thread Cert.GdnStepRefIdeal.nD Cert.GdnStepRefIdeal.τ).loc Cert.GdnStepRefIdeal.main_arg1) = m' ((c.tc : Thread Cert.GdnStepRefIdeal.nD Cert.GdnStepRefIdeal.τ).loc Cert.GdnStepRefIdeal.main_arg1)
          ∧ r.2.mem ((c.tc : Thread Cert.GdnStepRefIdeal.nD Cert.GdnStepRefIdeal.τ).loc Cert.GdnStepRefIdeal.main_arg2) = m' ((c.tc : Thread Cert.GdnStepRefIdeal.nD Cert.GdnStepRefIdeal.τ).loc Cert.GdnStepRefIdeal.main_arg2)
          ∧ r.2.mem ((c.tc : Thread Cert.GdnStepRefIdeal.nD Cert.GdnStepRefIdeal.τ).loc Cert.GdnStepRefIdeal.main_arg3) = m' ((c.tc : Thread Cert.GdnStepRefIdeal.nD Cert.GdnStepRefIdeal.τ).loc Cert.GdnStepRefIdeal.main_arg3)
          ∧ r.2.mem ((c.tc : Thread Cert.GdnStepRefIdeal.nD Cert.GdnStepRefIdeal.τ).loc Cert.GdnStepRefIdeal.main_arg4) = m' ((c.tc : Thread Cert.GdnStepRefIdeal.nD Cert.GdnStepRefIdeal.τ).loc Cert.GdnStepRefIdeal.main_arg4)
          ∧ r.2.mem ((c.tc : Thread Cert.GdnStepRefIdeal.nD Cert.GdnStepRefIdeal.τ).loc Cert.GdnStepRefIdeal.main_arg5) = m' ((c.tc : Thread Cert.GdnStepRefIdeal.nD Cert.GdnStepRefIdeal.τ).loc Cert.GdnStepRefIdeal.main_arg5)
          ∧ r.2.mem ((c.tc : Thread Cert.GdnStepRefIdeal.nD Cert.GdnStepRefIdeal.τ).loc Cert.GdnStepRefIdeal.main_arg6) = m' ((c.tc : Thread Cert.GdnStepRefIdeal.nD Cert.GdnStepRefIdeal.τ).loc Cert.GdnStepRefIdeal.main_arg6))

def preserves_FfnFirst_FfnFirstIdeal : Prop :=
  True

def algebraic_FfnFirstIdeal_FfnFirstRefIdeal [hFfnFirstIdeal : Cert.FfnFirstIdeal.Facts] [hFfnFirstRefIdeal : Cert.FfnFirstRefIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg)
    (m' : (ℓ : Loc Cert.FfnFirstRefIdeal.nD Cert.FfnFirstRefIdeal.τ Cert.FfnFirstRefIdeal.sig) → Buf (Elt Ideal) ℓ) (g' : Dev Cert.FfnFirstRefIdeal.nD → PrngReg), Pre_FfnFirstIdeal m →
    (∀ c : Dev Cert.FfnFirstIdeal.nD,
      m' ((c.tc : Thread Cert.FfnFirstRefIdeal.nD Cert.FfnFirstRefIdeal.τ).loc Cert.FfnFirstRefIdeal.main_arg0) = m ((c.tc : Thread Cert.FfnFirstIdeal.nD Cert.FfnFirstIdeal.τ).loc Cert.FfnFirstIdeal.main_arg0)
      ∧ m' ((c.tc : Thread Cert.FfnFirstRefIdeal.nD Cert.FfnFirstRefIdeal.τ).loc Cert.FfnFirstRefIdeal.main_arg1) = m ((c.tc : Thread Cert.FfnFirstIdeal.nD Cert.FfnFirstIdeal.τ).loc Cert.FfnFirstIdeal.main_arg1)
      ∧ m' ((c.tc : Thread Cert.FfnFirstRefIdeal.nD Cert.FfnFirstRefIdeal.τ).loc Cert.FfnFirstRefIdeal.main_arg2) = m ((c.tc : Thread Cert.FfnFirstIdeal.nD Cert.FfnFirstIdeal.τ).loc Cert.FfnFirstIdeal.main_arg2)
      ∧ m' ((c.tc : Thread Cert.FfnFirstRefIdeal.nD Cert.FfnFirstRefIdeal.τ).loc Cert.FfnFirstRefIdeal.main_arg3) = m ((c.tc : Thread Cert.FfnFirstIdeal.nD Cert.FfnFirstIdeal.τ).loc Cert.FfnFirstIdeal.main_arg3)
      ∧ m' ((c.tc : Thread Cert.FfnFirstRefIdeal.nD Cert.FfnFirstRefIdeal.τ).loc Cert.FfnFirstRefIdeal.main_arg4) = m ((c.tc : Thread Cert.FfnFirstIdeal.nD Cert.FfnFirstIdeal.τ).loc Cert.FfnFirstIdeal.main_arg4)
      ∧ m' ((c.tc : Thread Cert.FfnFirstRefIdeal.nD Cert.FfnFirstRefIdeal.τ).loc Cert.FfnFirstRefIdeal.main_arg5) = m ((c.tc : Thread Cert.FfnFirstIdeal.nD Cert.FfnFirstIdeal.τ).loc Cert.FfnFirstIdeal.main_arg5)
      ∧ m' ((c.tc : Thread Cert.FfnFirstRefIdeal.nD Cert.FfnFirstRefIdeal.τ).loc Cert.FfnFirstRefIdeal.main_arg6) = m ((c.tc : Thread Cert.FfnFirstIdeal.nD Cert.FfnFirstIdeal.τ).loc Cert.FfnFirstIdeal.main_arg6)) →
    ∃ (v0 : (c : Dev Cert.FfnFirstIdeal.nD) → Buf (Elt Ideal) ((c.tc : Thread Cert.FfnFirstIdeal.nD Cert.FfnFirstIdeal.τ).loc Cert.FfnFirstIdeal.main_v2_0)) (v1 : (c : Dev Cert.FfnFirstIdeal.nD) → Buf (Elt Ideal) ((c.tc : Thread Cert.FfnFirstIdeal.nD Cert.FfnFirstIdeal.τ).loc Cert.FfnFirstIdeal.main_v2_1)) (v2 : (c : Dev Cert.FfnFirstIdeal.nD) → Buf (Elt Ideal) ((c.tc : Thread Cert.FfnFirstIdeal.nD Cert.FfnFirstIdeal.τ).loc Cert.FfnFirstIdeal.main_v2_2)),
      θ_run (Cert.FfnFirstIdeal.defs (F := Ideal)) (onTc (τ := Cert.FfnFirstIdeal.τ) (Cert.FfnFirstIdeal.main (F := Ideal))) ⟨m, fun _ => 0, g⟩ (fun r => ∀ c : Dev Cert.FfnFirstIdeal.nD,
          r.2.mem ((c.tc : Thread Cert.FfnFirstIdeal.nD Cert.FfnFirstIdeal.τ).loc Cert.FfnFirstIdeal.main_v2_0) = v0 c
          ∧ r.2.mem ((c.tc : Thread Cert.FfnFirstIdeal.nD Cert.FfnFirstIdeal.τ).loc Cert.FfnFirstIdeal.main_v2_1) = v1 c
          ∧ r.2.mem ((c.tc : Thread Cert.FfnFirstIdeal.nD Cert.FfnFirstIdeal.τ).loc Cert.FfnFirstIdeal.main_v2_2) = v2 c
          ∧ r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
          ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
          ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
          ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
          ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
          ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5)
          ∧ r.2.mem ((c.tc : Thread Cert.FfnFirstIdeal.nD Cert.FfnFirstIdeal.τ).loc Cert.FfnFirstIdeal.main_arg6) = m ((c.tc : Thread Cert.FfnFirstIdeal.nD Cert.FfnFirstIdeal.τ).loc Cert.FfnFirstIdeal.main_arg6))
      ∧ θ_run (Cert.FfnFirstRefIdeal.defs (F := Ideal)) (onTc (τ := Cert.FfnFirstRefIdeal.τ) (Cert.FfnFirstRefIdeal.main (F := Ideal))) ⟨m', fun _ => 0, g'⟩ (fun r => ∀ c : Dev Cert.FfnFirstRefIdeal.nD,
          r.2.mem ((c.tc : Thread Cert.FfnFirstRefIdeal.nD Cert.FfnFirstRefIdeal.τ).loc Cert.FfnFirstRefIdeal.main_v37) = v0 c
          ∧ r.2.mem ((c.tc : Thread Cert.FfnFirstRefIdeal.nD Cert.FfnFirstRefIdeal.τ).loc Cert.FfnFirstRefIdeal.main_v57) = v1 c
          ∧ r.2.mem ((c.tc : Thread Cert.FfnFirstRefIdeal.nD Cert.FfnFirstRefIdeal.τ).loc Cert.FfnFirstRefIdeal.main_v59) = v2 c
          ∧ r.2.mem ((c.tc : Thread Cert.FfnFirstRefIdeal.nD Cert.FfnFirstRefIdeal.τ).loc Cert.FfnFirstRefIdeal.main_arg0) = m' ((c.tc : Thread Cert.FfnFirstRefIdeal.nD Cert.FfnFirstRefIdeal.τ).loc Cert.FfnFirstRefIdeal.main_arg0)
          ∧ r.2.mem ((c.tc : Thread Cert.FfnFirstRefIdeal.nD Cert.FfnFirstRefIdeal.τ).loc Cert.FfnFirstRefIdeal.main_arg1) = m' ((c.tc : Thread Cert.FfnFirstRefIdeal.nD Cert.FfnFirstRefIdeal.τ).loc Cert.FfnFirstRefIdeal.main_arg1)
          ∧ r.2.mem ((c.tc : Thread Cert.FfnFirstRefIdeal.nD Cert.FfnFirstRefIdeal.τ).loc Cert.FfnFirstRefIdeal.main_arg2) = m' ((c.tc : Thread Cert.FfnFirstRefIdeal.nD Cert.FfnFirstRefIdeal.τ).loc Cert.FfnFirstRefIdeal.main_arg2)
          ∧ r.2.mem ((c.tc : Thread Cert.FfnFirstRefIdeal.nD Cert.FfnFirstRefIdeal.τ).loc Cert.FfnFirstRefIdeal.main_arg3) = m' ((c.tc : Thread Cert.FfnFirstRefIdeal.nD Cert.FfnFirstRefIdeal.τ).loc Cert.FfnFirstRefIdeal.main_arg3)
          ∧ r.2.mem ((c.tc : Thread Cert.FfnFirstRefIdeal.nD Cert.FfnFirstRefIdeal.τ).loc Cert.FfnFirstRefIdeal.main_arg4) = m' ((c.tc : Thread Cert.FfnFirstRefIdeal.nD Cert.FfnFirstRefIdeal.τ).loc Cert.FfnFirstRefIdeal.main_arg4)
          ∧ r.2.mem ((c.tc : Thread Cert.FfnFirstRefIdeal.nD Cert.FfnFirstRefIdeal.τ).loc Cert.FfnFirstRefIdeal.main_arg5) = m' ((c.tc : Thread Cert.FfnFirstRefIdeal.nD Cert.FfnFirstRefIdeal.τ).loc Cert.FfnFirstRefIdeal.main_arg5)
          ∧ r.2.mem ((c.tc : Thread Cert.FfnFirstRefIdeal.nD Cert.FfnFirstRefIdeal.τ).loc Cert.FfnFirstRefIdeal.main_arg6) = m' ((c.tc : Thread Cert.FfnFirstRefIdeal.nD Cert.FfnFirstRefIdeal.τ).loc Cert.FfnFirstRefIdeal.main_arg6))

def preserves_FfnLast_FfnLastIdeal : Prop :=
  True

def algebraic_FfnLastIdeal_FfnLastRefIdeal [hFfnLastIdeal : Cert.FfnLastIdeal.Facts] [hFfnLastRefIdeal : Cert.FfnLastRefIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg)
    (m' : (ℓ : Loc Cert.FfnLastRefIdeal.nD Cert.FfnLastRefIdeal.τ Cert.FfnLastRefIdeal.sig) → Buf (Elt Ideal) ℓ) (g' : Dev Cert.FfnLastRefIdeal.nD → PrngReg), Pre_FfnLastIdeal m →
    (∀ c : Dev Cert.FfnLastIdeal.nD,
      m' ((c.tc : Thread Cert.FfnLastRefIdeal.nD Cert.FfnLastRefIdeal.τ).loc Cert.FfnLastRefIdeal.main_arg0) = m ((c.tc : Thread Cert.FfnLastIdeal.nD Cert.FfnLastIdeal.τ).loc Cert.FfnLastIdeal.main_arg0)
      ∧ m' ((c.tc : Thread Cert.FfnLastRefIdeal.nD Cert.FfnLastRefIdeal.τ).loc Cert.FfnLastRefIdeal.main_arg1) = m ((c.tc : Thread Cert.FfnLastIdeal.nD Cert.FfnLastIdeal.τ).loc Cert.FfnLastIdeal.main_arg1)
      ∧ m' ((c.tc : Thread Cert.FfnLastRefIdeal.nD Cert.FfnLastRefIdeal.τ).loc Cert.FfnLastRefIdeal.main_arg2) = m ((c.tc : Thread Cert.FfnLastIdeal.nD Cert.FfnLastIdeal.τ).loc Cert.FfnLastIdeal.main_arg2)
      ∧ m' ((c.tc : Thread Cert.FfnLastRefIdeal.nD Cert.FfnLastRefIdeal.τ).loc Cert.FfnLastRefIdeal.main_arg3) = m ((c.tc : Thread Cert.FfnLastIdeal.nD Cert.FfnLastIdeal.τ).loc Cert.FfnLastIdeal.main_arg3)
      ∧ m' ((c.tc : Thread Cert.FfnLastRefIdeal.nD Cert.FfnLastRefIdeal.τ).loc Cert.FfnLastRefIdeal.main_arg4) = m ((c.tc : Thread Cert.FfnLastIdeal.nD Cert.FfnLastIdeal.τ).loc Cert.FfnLastIdeal.main_arg4)
      ∧ m' ((c.tc : Thread Cert.FfnLastRefIdeal.nD Cert.FfnLastRefIdeal.τ).loc Cert.FfnLastRefIdeal.main_arg5) = m ((c.tc : Thread Cert.FfnLastIdeal.nD Cert.FfnLastIdeal.τ).loc Cert.FfnLastIdeal.main_arg5)) →
    ∃ (v0 : (c : Dev Cert.FfnLastIdeal.nD) → Buf (Elt Ideal) ((c.tc : Thread Cert.FfnLastIdeal.nD Cert.FfnLastIdeal.τ).loc Cert.FfnLastIdeal.main_v1)),
      θ_run (Cert.FfnLastIdeal.defs (F := Ideal)) (onTc (τ := Cert.FfnLastIdeal.τ) (Cert.FfnLastIdeal.main (F := Ideal))) ⟨m, fun _ => 0, g⟩ (fun r => ∀ c : Dev Cert.FfnLastIdeal.nD,
          r.2.mem ((c.tc : Thread Cert.FfnLastIdeal.nD Cert.FfnLastIdeal.τ).loc Cert.FfnLastIdeal.main_v1) = v0 c
          ∧ r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
          ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
          ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
          ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
          ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
          ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5))
      ∧ θ_run (Cert.FfnLastRefIdeal.defs (F := Ideal)) (onTc (τ := Cert.FfnLastRefIdeal.τ) (Cert.FfnLastRefIdeal.main (F := Ideal))) ⟨m', fun _ => 0, g'⟩ (fun r => ∀ c : Dev Cert.FfnLastRefIdeal.nD,
          r.2.mem ((c.tc : Thread Cert.FfnLastRefIdeal.nD Cert.FfnLastRefIdeal.τ).loc Cert.FfnLastRefIdeal.main_v27) = v0 c
          ∧ r.2.mem ((c.tc : Thread Cert.FfnLastRefIdeal.nD Cert.FfnLastRefIdeal.τ).loc Cert.FfnLastRefIdeal.main_arg0) = m' ((c.tc : Thread Cert.FfnLastRefIdeal.nD Cert.FfnLastRefIdeal.τ).loc Cert.FfnLastRefIdeal.main_arg0)
          ∧ r.2.mem ((c.tc : Thread Cert.FfnLastRefIdeal.nD Cert.FfnLastRefIdeal.τ).loc Cert.FfnLastRefIdeal.main_arg1) = m' ((c.tc : Thread Cert.FfnLastRefIdeal.nD Cert.FfnLastRefIdeal.τ).loc Cert.FfnLastRefIdeal.main_arg1)
          ∧ r.2.mem ((c.tc : Thread Cert.FfnLastRefIdeal.nD Cert.FfnLastRefIdeal.τ).loc Cert.FfnLastRefIdeal.main_arg2) = m' ((c.tc : Thread Cert.FfnLastRefIdeal.nD Cert.FfnLastRefIdeal.τ).loc Cert.FfnLastRefIdeal.main_arg2)
          ∧ r.2.mem ((c.tc : Thread Cert.FfnLastRefIdeal.nD Cert.FfnLastRefIdeal.τ).loc Cert.FfnLastRefIdeal.main_arg3) = m' ((c.tc : Thread Cert.FfnLastRefIdeal.nD Cert.FfnLastRefIdeal.τ).loc Cert.FfnLastRefIdeal.main_arg3)
          ∧ r.2.mem ((c.tc : Thread Cert.FfnLastRefIdeal.nD Cert.FfnLastRefIdeal.τ).loc Cert.FfnLastRefIdeal.main_arg4) = m' ((c.tc : Thread Cert.FfnLastRefIdeal.nD Cert.FfnLastRefIdeal.τ).loc Cert.FfnLastRefIdeal.main_arg4)
          ∧ r.2.mem ((c.tc : Thread Cert.FfnLastRefIdeal.nD Cert.FfnLastRefIdeal.τ).loc Cert.FfnLastRefIdeal.main_arg5) = m' ((c.tc : Thread Cert.FfnLastRefIdeal.nD Cert.FfnLastRefIdeal.τ).loc Cert.FfnLastRefIdeal.main_arg5))

def preserves_AttnProj_AttnProjIdeal : Prop :=
  True

def algebraic_AttnProjIdeal_AttnProjRefIdeal [hAttnProjIdeal : Cert.AttnProjIdeal.Facts] [hAttnProjRefIdeal : Cert.AttnProjRefIdeal.Facts] : Prop :=
  ∀ (m : (ℓ : Loc Cert.AttnProjIdeal.nD Cert.AttnProjIdeal.τ Cert.AttnProjIdeal.sig) → Buf (Elt Ideal) ℓ) (g : Dev Cert.AttnProjIdeal.nD → PrngReg)
    (m' : (ℓ : Loc Cert.AttnProjRefIdeal.nD Cert.AttnProjRefIdeal.τ Cert.AttnProjRefIdeal.sig) → Buf (Elt Ideal) ℓ) (g' : Dev Cert.AttnProjRefIdeal.nD → PrngReg), Pre_AttnProjIdeal m →
    (∀ c : Dev Cert.AttnProjIdeal.nD,
      m' ((c.tc : Thread Cert.AttnProjRefIdeal.nD Cert.AttnProjRefIdeal.τ).loc Cert.AttnProjRefIdeal.main_arg0) = m ((c.tc : Thread Cert.AttnProjIdeal.nD Cert.AttnProjIdeal.τ).loc Cert.AttnProjIdeal.main_arg0)
      ∧ m' ((c.tc : Thread Cert.AttnProjRefIdeal.nD Cert.AttnProjRefIdeal.τ).loc Cert.AttnProjRefIdeal.main_arg1) = m ((c.tc : Thread Cert.AttnProjIdeal.nD Cert.AttnProjIdeal.τ).loc Cert.AttnProjIdeal.main_arg1)) →
    ∃ (v0 : (c : Dev Cert.AttnProjIdeal.nD) → Buf (Elt Ideal) ((c.tc : Thread Cert.AttnProjIdeal.nD Cert.AttnProjIdeal.τ).loc Cert.AttnProjIdeal.main_v18_0)) (v1 : (c : Dev Cert.AttnProjIdeal.nD) → Buf (Elt Ideal) ((c.tc : Thread Cert.AttnProjIdeal.nD Cert.AttnProjIdeal.τ).loc Cert.AttnProjIdeal.main_v18_1)) (v2 : (c : Dev Cert.AttnProjIdeal.nD) → Buf (Elt Ideal) ((c.tc : Thread Cert.AttnProjIdeal.nD Cert.AttnProjIdeal.τ).loc Cert.AttnProjIdeal.main_v18_2)) (v3 : (c : Dev Cert.AttnProjIdeal.nD) → Buf (Elt Ideal) ((c.tc : Thread Cert.AttnProjIdeal.nD Cert.AttnProjIdeal.τ).loc Cert.AttnProjIdeal.main_v18_3)) (v4 : (c : Dev Cert.AttnProjIdeal.nD) → Buf (Elt Ideal) ((c.tc : Thread Cert.AttnProjIdeal.nD Cert.AttnProjIdeal.τ).loc Cert.AttnProjIdeal.main_v20)) (v5 : (c : Dev Cert.AttnProjIdeal.nD) → Buf (Elt Ideal) ((c.tc : Thread Cert.AttnProjIdeal.nD Cert.AttnProjIdeal.τ).loc Cert.AttnProjIdeal.main_v22)) (v6 : (c : Dev Cert.AttnProjIdeal.nD) → Buf (Elt Ideal) ((c.tc : Thread Cert.AttnProjIdeal.nD Cert.AttnProjIdeal.τ).loc Cert.AttnProjIdeal.main_v23)),
      θ_run (Cert.AttnProjIdeal.defs (F := Ideal)) (onTc (τ := Cert.AttnProjIdeal.τ) (Cert.AttnProjIdeal.main (F := Ideal))) ⟨m, fun _ => 0, g⟩ (fun r => ∀ c : Dev Cert.AttnProjIdeal.nD,
          r.2.mem ((c.tc : Thread Cert.AttnProjIdeal.nD Cert.AttnProjIdeal.τ).loc Cert.AttnProjIdeal.main_v18_0) = v0 c
          ∧ r.2.mem ((c.tc : Thread Cert.AttnProjIdeal.nD Cert.AttnProjIdeal.τ).loc Cert.AttnProjIdeal.main_v18_1) = v1 c
          ∧ r.2.mem ((c.tc : Thread Cert.AttnProjIdeal.nD Cert.AttnProjIdeal.τ).loc Cert.AttnProjIdeal.main_v18_2) = v2 c
          ∧ r.2.mem ((c.tc : Thread Cert.AttnProjIdeal.nD Cert.AttnProjIdeal.τ).loc Cert.AttnProjIdeal.main_v18_3) = v3 c
          ∧ r.2.mem ((c.tc : Thread Cert.AttnProjIdeal.nD Cert.AttnProjIdeal.τ).loc Cert.AttnProjIdeal.main_v20) = v4 c
          ∧ r.2.mem ((c.tc : Thread Cert.AttnProjIdeal.nD Cert.AttnProjIdeal.τ).loc Cert.AttnProjIdeal.main_v22) = v5 c
          ∧ r.2.mem ((c.tc : Thread Cert.AttnProjIdeal.nD Cert.AttnProjIdeal.τ).loc Cert.AttnProjIdeal.main_v23) = v6 c
          ∧ r.2.mem ((c.tc : Thread Cert.AttnProjIdeal.nD Cert.AttnProjIdeal.τ).loc Cert.AttnProjIdeal.main_arg0) = m ((c.tc : Thread Cert.AttnProjIdeal.nD Cert.AttnProjIdeal.τ).loc Cert.AttnProjIdeal.main_arg0)
          ∧ r.2.mem ((c.tc : Thread Cert.AttnProjIdeal.nD Cert.AttnProjIdeal.τ).loc Cert.AttnProjIdeal.main_arg1) = m ((c.tc : Thread Cert.AttnProjIdeal.nD Cert.AttnProjIdeal.τ).loc Cert.AttnProjIdeal.main_arg1))
      ∧ θ_run (Cert.AttnProjRefIdeal.defs (F := Ideal)) (onTc (τ := Cert.AttnProjRefIdeal.τ) (Cert.AttnProjRefIdeal.main (F := Ideal))) ⟨m', fun _ => 0, g'⟩ (fun r => ∀ c : Dev Cert.AttnProjRefIdeal.nD,
          r.2.mem ((c.tc : Thread Cert.AttnProjRefIdeal.nD Cert.AttnProjRefIdeal.τ).loc Cert.AttnProjRefIdeal.main_v153) = v0 c
          ∧ r.2.mem ((c.tc : Thread Cert.AttnProjRefIdeal.nD Cert.AttnProjRefIdeal.τ).loc Cert.AttnProjRefIdeal.main_v154) = v1 c
          ∧ r.2.mem ((c.tc : Thread Cert.AttnProjRefIdeal.nD Cert.AttnProjRefIdeal.τ).loc Cert.AttnProjRefIdeal.main_v155) = v2 c
          ∧ r.2.mem ((c.tc : Thread Cert.AttnProjRefIdeal.nD Cert.AttnProjRefIdeal.τ).loc Cert.AttnProjRefIdeal.main_v147) = v3 c
          ∧ r.2.mem ((c.tc : Thread Cert.AttnProjRefIdeal.nD Cert.AttnProjRefIdeal.τ).loc Cert.AttnProjRefIdeal.main_v149) = v4 c
          ∧ r.2.mem ((c.tc : Thread Cert.AttnProjRefIdeal.nD Cert.AttnProjRefIdeal.τ).loc Cert.AttnProjRefIdeal.main_v151) = v5 c
          ∧ r.2.mem ((c.tc : Thread Cert.AttnProjRefIdeal.nD Cert.AttnProjRefIdeal.τ).loc Cert.AttnProjRefIdeal.main_v152) = v6 c
          ∧ r.2.mem ((c.tc : Thread Cert.AttnProjRefIdeal.nD Cert.AttnProjRefIdeal.τ).loc Cert.AttnProjRefIdeal.main_arg0) = m' ((c.tc : Thread Cert.AttnProjRefIdeal.nD Cert.AttnProjRefIdeal.τ).loc Cert.AttnProjRefIdeal.main_arg0)
          ∧ r.2.mem ((c.tc : Thread Cert.AttnProjRefIdeal.nD Cert.AttnProjRefIdeal.τ).loc Cert.AttnProjRefIdeal.main_arg1) = m' ((c.tc : Thread Cert.AttnProjRefIdeal.nD Cert.AttnProjRefIdeal.τ).loc Cert.AttnProjRefIdeal.main_arg1))

def preserves_ProjAz_ProjAzIdeal : Prop :=
  True

def algebraic_ProjAzIdeal_ProjAzRefIdeal [hProjAzIdeal : Cert.ProjAzIdeal.Facts] [hProjAzRefIdeal : Cert.ProjAzRefIdeal.Facts] : Prop :=
  ∀ (m : (ℓ : Loc Cert.ProjAzIdeal.nD Cert.ProjAzIdeal.τ Cert.ProjAzIdeal.sig) → Buf (Elt Ideal) ℓ) (g : Dev Cert.ProjAzIdeal.nD → PrngReg)
    (m' : (ℓ : Loc Cert.ProjAzRefIdeal.nD Cert.ProjAzRefIdeal.τ Cert.ProjAzRefIdeal.sig) → Buf (Elt Ideal) ℓ) (g' : Dev Cert.ProjAzRefIdeal.nD → PrngReg), Pre_ProjAzIdeal m →
    (∀ c : Dev Cert.ProjAzIdeal.nD,
      m' ((c.tc : Thread Cert.ProjAzRefIdeal.nD Cert.ProjAzRefIdeal.τ).loc Cert.ProjAzRefIdeal.main_arg0) = m ((c.tc : Thread Cert.ProjAzIdeal.nD Cert.ProjAzIdeal.τ).loc Cert.ProjAzIdeal.main_arg0)
      ∧ m' ((c.tc : Thread Cert.ProjAzRefIdeal.nD Cert.ProjAzRefIdeal.τ).loc Cert.ProjAzRefIdeal.main_arg1) = m ((c.tc : Thread Cert.ProjAzIdeal.nD Cert.ProjAzIdeal.τ).loc Cert.ProjAzIdeal.main_arg1)) →
    ∃ (v0 : (c : Dev Cert.ProjAzIdeal.nD) → Buf (Elt Ideal) ((c.tc : Thread Cert.ProjAzIdeal.nD Cert.ProjAzIdeal.τ).loc Cert.ProjAzIdeal.main_v0_0)) (v1 : (c : Dev Cert.ProjAzIdeal.nD) → Buf (Elt Ideal) ((c.tc : Thread Cert.ProjAzIdeal.nD Cert.ProjAzIdeal.τ).loc Cert.ProjAzIdeal.main_v4)),
      θ_run (Cert.ProjAzIdeal.defs (F := Ideal)) (onTc (τ := Cert.ProjAzIdeal.τ) (Cert.ProjAzIdeal.main (F := Ideal))) ⟨m, fun _ => 0, g⟩ (fun r => ∀ c : Dev Cert.ProjAzIdeal.nD,
          r.2.mem ((c.tc : Thread Cert.ProjAzIdeal.nD Cert.ProjAzIdeal.τ).loc Cert.ProjAzIdeal.main_v0_0) = v0 c
          ∧ r.2.mem ((c.tc : Thread Cert.ProjAzIdeal.nD Cert.ProjAzIdeal.τ).loc Cert.ProjAzIdeal.main_v4) = v1 c
          ∧ r.2.mem ((c.tc : Thread Cert.ProjAzIdeal.nD Cert.ProjAzIdeal.τ).loc Cert.ProjAzIdeal.main_arg0) = m ((c.tc : Thread Cert.ProjAzIdeal.nD Cert.ProjAzIdeal.τ).loc Cert.ProjAzIdeal.main_arg0)
          ∧ r.2.mem ((c.tc : Thread Cert.ProjAzIdeal.nD Cert.ProjAzIdeal.τ).loc Cert.ProjAzIdeal.main_arg1) = m ((c.tc : Thread Cert.ProjAzIdeal.nD Cert.ProjAzIdeal.τ).loc Cert.ProjAzIdeal.main_arg1))
      ∧ θ_run (Cert.ProjAzRefIdeal.defs (F := Ideal)) (onTc (τ := Cert.ProjAzRefIdeal.τ) (Cert.ProjAzRefIdeal.main (F := Ideal))) ⟨m', fun _ => 0, g'⟩ (fun r => ∀ c : Dev Cert.ProjAzRefIdeal.nD,
          r.2.mem ((c.tc : Thread Cert.ProjAzRefIdeal.nD Cert.ProjAzRefIdeal.τ).loc Cert.ProjAzRefIdeal.main_v5) = v0 c
          ∧ r.2.mem ((c.tc : Thread Cert.ProjAzRefIdeal.nD Cert.ProjAzRefIdeal.τ).loc Cert.ProjAzRefIdeal.main_v7) = v1 c
          ∧ r.2.mem ((c.tc : Thread Cert.ProjAzRefIdeal.nD Cert.ProjAzRefIdeal.τ).loc Cert.ProjAzRefIdeal.main_arg0) = m' ((c.tc : Thread Cert.ProjAzRefIdeal.nD Cert.ProjAzRefIdeal.τ).loc Cert.ProjAzRefIdeal.main_arg0)
          ∧ r.2.mem ((c.tc : Thread Cert.ProjAzRefIdeal.nD Cert.ProjAzRefIdeal.τ).loc Cert.ProjAzRefIdeal.main_arg1) = m' ((c.tc : Thread Cert.ProjAzRefIdeal.nD Cert.ProjAzRefIdeal.τ).loc Cert.ProjAzRefIdeal.main_arg1))

def preserves_ProjGates_ProjGatesIdeal : Prop :=
  True

def algebraic_ProjGatesIdeal_ProjGatesRefIdeal [hProjGatesIdeal : Cert.ProjGatesIdeal.Facts] [hProjGatesRefIdeal : Cert.ProjGatesRefIdeal.Facts] : Prop :=
  ∀ (m : (ℓ : Loc Cert.ProjGatesIdeal.nD Cert.ProjGatesIdeal.τ Cert.ProjGatesIdeal.sig) → Buf (Elt Ideal) ℓ) (g : Dev Cert.ProjGatesIdeal.nD → PrngReg)
    (m' : (ℓ : Loc Cert.ProjGatesRefIdeal.nD Cert.ProjGatesRefIdeal.τ Cert.ProjGatesRefIdeal.sig) → Buf (Elt Ideal) ℓ) (g' : Dev Cert.ProjGatesRefIdeal.nD → PrngReg), Pre_ProjGatesIdeal m →
    (∀ c : Dev Cert.ProjGatesIdeal.nD,
      m' ((c.tc : Thread Cert.ProjGatesRefIdeal.nD Cert.ProjGatesRefIdeal.τ).loc Cert.ProjGatesRefIdeal.main_arg0) = m ((c.tc : Thread Cert.ProjGatesIdeal.nD Cert.ProjGatesIdeal.τ).loc Cert.ProjGatesIdeal.main_arg0)
      ∧ m' ((c.tc : Thread Cert.ProjGatesRefIdeal.nD Cert.ProjGatesRefIdeal.τ).loc Cert.ProjGatesRefIdeal.main_arg1) = m ((c.tc : Thread Cert.ProjGatesIdeal.nD Cert.ProjGatesIdeal.τ).loc Cert.ProjGatesIdeal.main_arg1)) →
    ∃ (v0 : (c : Dev Cert.ProjGatesIdeal.nD) → Buf (Elt Ideal) ((c.tc : Thread Cert.ProjGatesIdeal.nD Cert.ProjGatesIdeal.τ).loc Cert.ProjGatesIdeal.main_v0)),
      θ_run (Cert.ProjGatesIdeal.defs (F := Ideal)) (onTc (τ := Cert.ProjGatesIdeal.τ) (Cert.ProjGatesIdeal.main (F := Ideal))) ⟨m, fun _ => 0, g⟩ (fun r => ∀ c : Dev Cert.ProjGatesIdeal.nD,
          r.2.mem ((c.tc : Thread Cert.ProjGatesIdeal.nD Cert.ProjGatesIdeal.τ).loc Cert.ProjGatesIdeal.main_v0) = v0 c
          ∧ r.2.mem ((c.tc : Thread Cert.ProjGatesIdeal.nD Cert.ProjGatesIdeal.τ).loc Cert.ProjGatesIdeal.main_arg0) = m ((c.tc : Thread Cert.ProjGatesIdeal.nD Cert.ProjGatesIdeal.τ).loc Cert.ProjGatesIdeal.main_arg0)
          ∧ r.2.mem ((c.tc : Thread Cert.ProjGatesIdeal.nD Cert.ProjGatesIdeal.τ).loc Cert.ProjGatesIdeal.main_arg1) = m ((c.tc : Thread Cert.ProjGatesIdeal.nD Cert.ProjGatesIdeal.τ).loc Cert.ProjGatesIdeal.main_arg1))
      ∧ θ_run (Cert.ProjGatesRefIdeal.defs (F := Ideal)) (onTc (τ := Cert.ProjGatesRefIdeal.τ) (Cert.ProjGatesRefIdeal.main (F := Ideal))) ⟨m', fun _ => 0, g'⟩ (fun r => ∀ c : Dev Cert.ProjGatesRefIdeal.nD,
          r.2.mem ((c.tc : Thread Cert.ProjGatesRefIdeal.nD Cert.ProjGatesRefIdeal.τ).loc Cert.ProjGatesRefIdeal.main_v4) = v0 c
          ∧ r.2.mem ((c.tc : Thread Cert.ProjGatesRefIdeal.nD Cert.ProjGatesRefIdeal.τ).loc Cert.ProjGatesRefIdeal.main_arg0) = m' ((c.tc : Thread Cert.ProjGatesRefIdeal.nD Cert.ProjGatesRefIdeal.τ).loc Cert.ProjGatesRefIdeal.main_arg0)
          ∧ r.2.mem ((c.tc : Thread Cert.ProjGatesRefIdeal.nD Cert.ProjGatesRefIdeal.τ).loc Cert.ProjGatesRefIdeal.main_arg1) = m' ((c.tc : Thread Cert.ProjGatesRefIdeal.nD Cert.ProjGatesRefIdeal.τ).loc Cert.ProjGatesRefIdeal.main_arg1))

def preserves_FfnLastSample_FfnLastSampleIdeal : Prop :=
  True

def algebraic_FfnLastSampleIdeal_FfnLastSampleRefIdeal [hFfnLastSampleIdeal : Cert.FfnLastSampleIdeal.Facts] [hFfnLastSampleRefIdeal : Cert.FfnLastSampleRefIdeal.Facts] : Prop :=
  ∀ (m : (ℓ : Loc Cert.FfnLastSampleIdeal.nD Cert.FfnLastSampleIdeal.τ Cert.FfnLastSampleIdeal.sig) → Buf (Elt Ideal) ℓ) (g : Dev Cert.FfnLastSampleIdeal.nD → PrngReg)
    (m' : (ℓ : Loc Cert.FfnLastSampleRefIdeal.nD Cert.FfnLastSampleRefIdeal.τ Cert.FfnLastSampleRefIdeal.sig) → Buf (Elt Ideal) ℓ) (g' : Dev Cert.FfnLastSampleRefIdeal.nD → PrngReg), Pre_FfnLastSampleIdeal m →
    (∀ c : Dev Cert.FfnLastSampleIdeal.nD,
      m' ((c.tc : Thread Cert.FfnLastSampleRefIdeal.nD Cert.FfnLastSampleRefIdeal.τ).loc Cert.FfnLastSampleRefIdeal.main_arg0) = m ((c.tc : Thread Cert.FfnLastSampleIdeal.nD Cert.FfnLastSampleIdeal.τ).loc Cert.FfnLastSampleIdeal.main_arg0)
      ∧ m' ((c.tc : Thread Cert.FfnLastSampleRefIdeal.nD Cert.FfnLastSampleRefIdeal.τ).loc Cert.FfnLastSampleRefIdeal.main_arg1) = m ((c.tc : Thread Cert.FfnLastSampleIdeal.nD Cert.FfnLastSampleIdeal.τ).loc Cert.FfnLastSampleIdeal.main_arg1)
      ∧ m' ((c.tc : Thread Cert.FfnLastSampleRefIdeal.nD Cert.FfnLastSampleRefIdeal.τ).loc Cert.FfnLastSampleRefIdeal.main_arg2) = m ((c.tc : Thread Cert.FfnLastSampleIdeal.nD Cert.FfnLastSampleIdeal.τ).loc Cert.FfnLastSampleIdeal.main_arg2)
      ∧ m' ((c.tc : Thread Cert.FfnLastSampleRefIdeal.nD Cert.FfnLastSampleRefIdeal.τ).loc Cert.FfnLastSampleRefIdeal.main_arg3) = m ((c.tc : Thread Cert.FfnLastSampleIdeal.nD Cert.FfnLastSampleIdeal.τ).loc Cert.FfnLastSampleIdeal.main_arg3)
      ∧ m' ((c.tc : Thread Cert.FfnLastSampleRefIdeal.nD Cert.FfnLastSampleRefIdeal.τ).loc Cert.FfnLastSampleRefIdeal.main_arg4) = m ((c.tc : Thread Cert.FfnLastSampleIdeal.nD Cert.FfnLastSampleIdeal.τ).loc Cert.FfnLastSampleIdeal.main_arg4)
      ∧ m' ((c.tc : Thread Cert.FfnLastSampleRefIdeal.nD Cert.FfnLastSampleRefIdeal.τ).loc Cert.FfnLastSampleRefIdeal.main_arg5) = m ((c.tc : Thread Cert.FfnLastSampleIdeal.nD Cert.FfnLastSampleIdeal.τ).loc Cert.FfnLastSampleIdeal.main_arg5)) →
    ∃ (v0 : (c : Dev Cert.FfnLastSampleIdeal.nD) → Buf (Elt Ideal) ((c.tc : Thread Cert.FfnLastSampleIdeal.nD Cert.FfnLastSampleIdeal.τ).loc Cert.FfnLastSampleIdeal.main_v2)),
      θ_run (Cert.FfnLastSampleIdeal.defs (F := Ideal)) (onTc (τ := Cert.FfnLastSampleIdeal.τ) (Cert.FfnLastSampleIdeal.main (F := Ideal))) ⟨m, fun _ => 0, g⟩ (fun r => ∀ c : Dev Cert.FfnLastSampleIdeal.nD,
          r.2.mem ((c.tc : Thread Cert.FfnLastSampleIdeal.nD Cert.FfnLastSampleIdeal.τ).loc Cert.FfnLastSampleIdeal.main_v2) = v0 c
          ∧ r.2.mem ((c.tc : Thread Cert.FfnLastSampleIdeal.nD Cert.FfnLastSampleIdeal.τ).loc Cert.FfnLastSampleIdeal.main_arg0) = m ((c.tc : Thread Cert.FfnLastSampleIdeal.nD Cert.FfnLastSampleIdeal.τ).loc Cert.FfnLastSampleIdeal.main_arg0)
          ∧ r.2.mem ((c.tc : Thread Cert.FfnLastSampleIdeal.nD Cert.FfnLastSampleIdeal.τ).loc Cert.FfnLastSampleIdeal.main_arg1) = m ((c.tc : Thread Cert.FfnLastSampleIdeal.nD Cert.FfnLastSampleIdeal.τ).loc Cert.FfnLastSampleIdeal.main_arg1)
          ∧ r.2.mem ((c.tc : Thread Cert.FfnLastSampleIdeal.nD Cert.FfnLastSampleIdeal.τ).loc Cert.FfnLastSampleIdeal.main_arg2) = m ((c.tc : Thread Cert.FfnLastSampleIdeal.nD Cert.FfnLastSampleIdeal.τ).loc Cert.FfnLastSampleIdeal.main_arg2)
          ∧ r.2.mem ((c.tc : Thread Cert.FfnLastSampleIdeal.nD Cert.FfnLastSampleIdeal.τ).loc Cert.FfnLastSampleIdeal.main_arg3) = m ((c.tc : Thread Cert.FfnLastSampleIdeal.nD Cert.FfnLastSampleIdeal.τ).loc Cert.FfnLastSampleIdeal.main_arg3)
          ∧ r.2.mem ((c.tc : Thread Cert.FfnLastSampleIdeal.nD Cert.FfnLastSampleIdeal.τ).loc Cert.FfnLastSampleIdeal.main_arg4) = m ((c.tc : Thread Cert.FfnLastSampleIdeal.nD Cert.FfnLastSampleIdeal.τ).loc Cert.FfnLastSampleIdeal.main_arg4)
          ∧ r.2.mem ((c.tc : Thread Cert.FfnLastSampleIdeal.nD Cert.FfnLastSampleIdeal.τ).loc Cert.FfnLastSampleIdeal.main_arg5) = m ((c.tc : Thread Cert.FfnLastSampleIdeal.nD Cert.FfnLastSampleIdeal.τ).loc Cert.FfnLastSampleIdeal.main_arg5))
      ∧ θ_run (Cert.FfnLastSampleRefIdeal.defs (F := Ideal)) (onTc (τ := Cert.FfnLastSampleRefIdeal.τ) (Cert.FfnLastSampleRefIdeal.main (F := Ideal))) ⟨m', fun _ => 0, g'⟩ (fun r => ∀ c : Dev Cert.FfnLastSampleRefIdeal.nD,
          r.2.mem ((c.tc : Thread Cert.FfnLastSampleRefIdeal.nD Cert.FfnLastSampleRefIdeal.τ).loc Cert.FfnLastSampleRefIdeal.main_v27) = v0 c
          ∧ r.2.mem ((c.tc : Thread Cert.FfnLastSampleRefIdeal.nD Cert.FfnLastSampleRefIdeal.τ).loc Cert.FfnLastSampleRefIdeal.main_arg0) = m' ((c.tc : Thread Cert.FfnLastSampleRefIdeal.nD Cert.FfnLastSampleRefIdeal.τ).loc Cert.FfnLastSampleRefIdeal.main_arg0)
          ∧ r.2.mem ((c.tc : Thread Cert.FfnLastSampleRefIdeal.nD Cert.FfnLastSampleRefIdeal.τ).loc Cert.FfnLastSampleRefIdeal.main_arg1) = m' ((c.tc : Thread Cert.FfnLastSampleRefIdeal.nD Cert.FfnLastSampleRefIdeal.τ).loc Cert.FfnLastSampleRefIdeal.main_arg1)
          ∧ r.2.mem ((c.tc : Thread Cert.FfnLastSampleRefIdeal.nD Cert.FfnLastSampleRefIdeal.τ).loc Cert.FfnLastSampleRefIdeal.main_arg2) = m' ((c.tc : Thread Cert.FfnLastSampleRefIdeal.nD Cert.FfnLastSampleRefIdeal.τ).loc Cert.FfnLastSampleRefIdeal.main_arg2)
          ∧ r.2.mem ((c.tc : Thread Cert.FfnLastSampleRefIdeal.nD Cert.FfnLastSampleRefIdeal.τ).loc Cert.FfnLastSampleRefIdeal.main_arg3) = m' ((c.tc : Thread Cert.FfnLastSampleRefIdeal.nD Cert.FfnLastSampleRefIdeal.τ).loc Cert.FfnLastSampleRefIdeal.main_arg3)
          ∧ r.2.mem ((c.tc : Thread Cert.FfnLastSampleRefIdeal.nD Cert.FfnLastSampleRefIdeal.τ).loc Cert.FfnLastSampleRefIdeal.main_arg4) = m' ((c.tc : Thread Cert.FfnLastSampleRefIdeal.nD Cert.FfnLastSampleRefIdeal.τ).loc Cert.FfnLastSampleRefIdeal.main_arg4)
          ∧ r.2.mem ((c.tc : Thread Cert.FfnLastSampleRefIdeal.nD Cert.FfnLastSampleRefIdeal.τ).loc Cert.FfnLastSampleRefIdeal.main_arg5) = m' ((c.tc : Thread Cert.FfnLastSampleRefIdeal.nD Cert.FfnLastSampleRefIdeal.τ).loc Cert.FfnLastSampleRefIdeal.main_arg5))

def preserves_ProjAzSample_ProjAzSampleIdeal : Prop :=
  True

def algebraic_ProjAzSampleIdeal_ProjAzSampleRefIdeal [hProjAzSampleIdeal : Cert.ProjAzSampleIdeal.Facts] [hProjAzSampleRefIdeal : Cert.ProjAzSampleRefIdeal.Facts] : Prop :=
  ∀ (m : (ℓ : Loc Cert.ProjAzSampleIdeal.nD Cert.ProjAzSampleIdeal.τ Cert.ProjAzSampleIdeal.sig) → Buf (Elt Ideal) ℓ) (g : Dev Cert.ProjAzSampleIdeal.nD → PrngReg)
    (m' : (ℓ : Loc Cert.ProjAzSampleRefIdeal.nD Cert.ProjAzSampleRefIdeal.τ Cert.ProjAzSampleRefIdeal.sig) → Buf (Elt Ideal) ℓ) (g' : Dev Cert.ProjAzSampleRefIdeal.nD → PrngReg), Pre_ProjAzSampleIdeal m →
    (∀ c : Dev Cert.ProjAzSampleIdeal.nD,
      m' ((c.tc : Thread Cert.ProjAzSampleRefIdeal.nD Cert.ProjAzSampleRefIdeal.τ).loc Cert.ProjAzSampleRefIdeal.main_arg0) = m ((c.tc : Thread Cert.ProjAzSampleIdeal.nD Cert.ProjAzSampleIdeal.τ).loc Cert.ProjAzSampleIdeal.main_arg0)
      ∧ m' ((c.tc : Thread Cert.ProjAzSampleRefIdeal.nD Cert.ProjAzSampleRefIdeal.τ).loc Cert.ProjAzSampleRefIdeal.main_arg1) = m ((c.tc : Thread Cert.ProjAzSampleIdeal.nD Cert.ProjAzSampleIdeal.τ).loc Cert.ProjAzSampleIdeal.main_arg1)
      ∧ m' ((c.tc : Thread Cert.ProjAzSampleRefIdeal.nD Cert.ProjAzSampleRefIdeal.τ).loc Cert.ProjAzSampleRefIdeal.main_arg2) = m ((c.tc : Thread Cert.ProjAzSampleIdeal.nD Cert.ProjAzSampleIdeal.τ).loc Cert.ProjAzSampleIdeal.main_arg2)) →
    ∃ (v0 : (c : Dev Cert.ProjAzSampleIdeal.nD) → Buf (Elt Ideal) ((c.tc : Thread Cert.ProjAzSampleIdeal.nD Cert.ProjAzSampleIdeal.τ).loc Cert.ProjAzSampleIdeal.main_v1)) (v1 : (c : Dev Cert.ProjAzSampleIdeal.nD) → Buf (Elt Ideal) ((c.tc : Thread Cert.ProjAzSampleIdeal.nD Cert.ProjAzSampleIdeal.τ).loc Cert.ProjAzSampleIdeal.main_v5)),
      θ_run (Cert.ProjAzSampleIdeal.defs (F := Ideal)) (onTc (τ := Cert.ProjAzSampleIdeal.τ) (Cert.ProjAzSampleIdeal.main (F := Ideal))) ⟨m, fun _ => 0, g⟩ (fun r => ∀ c : Dev Cert.ProjAzSampleIdeal.nD,
          r.2.mem ((c.tc : Thread Cert.ProjAzSampleIdeal.nD Cert.ProjAzSampleIdeal.τ).loc Cert.ProjAzSampleIdeal.main_v1) = v0 c
          ∧ r.2.mem ((c.tc : Thread Cert.ProjAzSampleIdeal.nD Cert.ProjAzSampleIdeal.τ).loc Cert.ProjAzSampleIdeal.main_v5) = v1 c
          ∧ r.2.mem ((c.tc : Thread Cert.ProjAzSampleIdeal.nD Cert.ProjAzSampleIdeal.τ).loc Cert.ProjAzSampleIdeal.main_arg0) = m ((c.tc : Thread Cert.ProjAzSampleIdeal.nD Cert.ProjAzSampleIdeal.τ).loc Cert.ProjAzSampleIdeal.main_arg0)
          ∧ r.2.mem ((c.tc : Thread Cert.ProjAzSampleIdeal.nD Cert.ProjAzSampleIdeal.τ).loc Cert.ProjAzSampleIdeal.main_arg1) = m ((c.tc : Thread Cert.ProjAzSampleIdeal.nD Cert.ProjAzSampleIdeal.τ).loc Cert.ProjAzSampleIdeal.main_arg1)
          ∧ r.2.mem ((c.tc : Thread Cert.ProjAzSampleIdeal.nD Cert.ProjAzSampleIdeal.τ).loc Cert.ProjAzSampleIdeal.main_arg2) = m ((c.tc : Thread Cert.ProjAzSampleIdeal.nD Cert.ProjAzSampleIdeal.τ).loc Cert.ProjAzSampleIdeal.main_arg2))
      ∧ θ_run (Cert.ProjAzSampleRefIdeal.defs (F := Ideal)) (onTc (τ := Cert.ProjAzSampleRefIdeal.τ) (Cert.ProjAzSampleRefIdeal.main (F := Ideal))) ⟨m', fun _ => 0, g'⟩ (fun r => ∀ c : Dev Cert.ProjAzSampleRefIdeal.nD,
          r.2.mem ((c.tc : Thread Cert.ProjAzSampleRefIdeal.nD Cert.ProjAzSampleRefIdeal.τ).loc Cert.ProjAzSampleRefIdeal.main_v5) = v0 c
          ∧ r.2.mem ((c.tc : Thread Cert.ProjAzSampleRefIdeal.nD Cert.ProjAzSampleRefIdeal.τ).loc Cert.ProjAzSampleRefIdeal.main_v9) = v1 c
          ∧ r.2.mem ((c.tc : Thread Cert.ProjAzSampleRefIdeal.nD Cert.ProjAzSampleRefIdeal.τ).loc Cert.ProjAzSampleRefIdeal.main_arg0) = m' ((c.tc : Thread Cert.ProjAzSampleRefIdeal.nD Cert.ProjAzSampleRefIdeal.τ).loc Cert.ProjAzSampleRefIdeal.main_arg0)
          ∧ r.2.mem ((c.tc : Thread Cert.ProjAzSampleRefIdeal.nD Cert.ProjAzSampleRefIdeal.τ).loc Cert.ProjAzSampleRefIdeal.main_arg1) = m' ((c.tc : Thread Cert.ProjAzSampleRefIdeal.nD Cert.ProjAzSampleRefIdeal.τ).loc Cert.ProjAzSampleRefIdeal.main_arg1)
          ∧ r.2.mem ((c.tc : Thread Cert.ProjAzSampleRefIdeal.nD Cert.ProjAzSampleRefIdeal.τ).loc Cert.ProjAzSampleRefIdeal.main_arg2) = m' ((c.tc : Thread Cert.ProjAzSampleRefIdeal.nD Cert.ProjAzSampleRefIdeal.τ).loc Cert.ProjAzSampleRefIdeal.main_arg2))

def preserves_AttnProjSample_AttnProjSampleIdeal : Prop :=
  True

def algebraic_AttnProjSampleIdeal_AttnProjSampleRefIdeal [hAttnProjSampleIdeal : Cert.AttnProjSampleIdeal.Facts] [hAttnProjSampleRefIdeal : Cert.AttnProjSampleRefIdeal.Facts] : Prop :=
  ∀ (m : (ℓ : Loc Cert.AttnProjSampleIdeal.nD Cert.AttnProjSampleIdeal.τ Cert.AttnProjSampleIdeal.sig) → Buf (Elt Ideal) ℓ) (g : Dev Cert.AttnProjSampleIdeal.nD → PrngReg)
    (m' : (ℓ : Loc Cert.AttnProjSampleRefIdeal.nD Cert.AttnProjSampleRefIdeal.τ Cert.AttnProjSampleRefIdeal.sig) → Buf (Elt Ideal) ℓ) (g' : Dev Cert.AttnProjSampleRefIdeal.nD → PrngReg), Pre_AttnProjSampleIdeal m →
    (∀ c : Dev Cert.AttnProjSampleIdeal.nD,
      m' ((c.tc : Thread Cert.AttnProjSampleRefIdeal.nD Cert.AttnProjSampleRefIdeal.τ).loc Cert.AttnProjSampleRefIdeal.main_arg0) = m ((c.tc : Thread Cert.AttnProjSampleIdeal.nD Cert.AttnProjSampleIdeal.τ).loc Cert.AttnProjSampleIdeal.main_arg0)
      ∧ m' ((c.tc : Thread Cert.AttnProjSampleRefIdeal.nD Cert.AttnProjSampleRefIdeal.τ).loc Cert.AttnProjSampleRefIdeal.main_arg1) = m ((c.tc : Thread Cert.AttnProjSampleIdeal.nD Cert.AttnProjSampleIdeal.τ).loc Cert.AttnProjSampleIdeal.main_arg1)) →
    ∃ (v0 : (c : Dev Cert.AttnProjSampleIdeal.nD) → Buf (Elt Ideal) ((c.tc : Thread Cert.AttnProjSampleIdeal.nD Cert.AttnProjSampleIdeal.τ).loc Cert.AttnProjSampleIdeal.main_v18_3)) (v1 : (c : Dev Cert.AttnProjSampleIdeal.nD) → Buf (Elt Ideal) ((c.tc : Thread Cert.AttnProjSampleIdeal.nD Cert.AttnProjSampleIdeal.τ).loc Cert.AttnProjSampleIdeal.main_v19)) (v2 : (c : Dev Cert.AttnProjSampleIdeal.nD) → Buf (Elt Ideal) ((c.tc : Thread Cert.AttnProjSampleIdeal.nD Cert.AttnProjSampleIdeal.τ).loc Cert.AttnProjSampleIdeal.main_v20)) (v3 : (c : Dev Cert.AttnProjSampleIdeal.nD) → Buf (Elt Ideal) ((c.tc : Thread Cert.AttnProjSampleIdeal.nD Cert.AttnProjSampleIdeal.τ).loc Cert.AttnProjSampleIdeal.main_v21)),
      θ_run (Cert.AttnProjSampleIdeal.defs (F := Ideal)) (onTc (τ := Cert.AttnProjSampleIdeal.τ) (Cert.AttnProjSampleIdeal.main (F := Ideal))) ⟨m, fun _ => 0, g⟩ (fun r => ∀ c : Dev Cert.AttnProjSampleIdeal.nD,
          r.2.mem ((c.tc : Thread Cert.AttnProjSampleIdeal.nD Cert.AttnProjSampleIdeal.τ).loc Cert.AttnProjSampleIdeal.main_v18_3) = v0 c
          ∧ r.2.mem ((c.tc : Thread Cert.AttnProjSampleIdeal.nD Cert.AttnProjSampleIdeal.τ).loc Cert.AttnProjSampleIdeal.main_v19) = v1 c
          ∧ r.2.mem ((c.tc : Thread Cert.AttnProjSampleIdeal.nD Cert.AttnProjSampleIdeal.τ).loc Cert.AttnProjSampleIdeal.main_v20) = v2 c
          ∧ r.2.mem ((c.tc : Thread Cert.AttnProjSampleIdeal.nD Cert.AttnProjSampleIdeal.τ).loc Cert.AttnProjSampleIdeal.main_v21) = v3 c
          ∧ r.2.mem ((c.tc : Thread Cert.AttnProjSampleIdeal.nD Cert.AttnProjSampleIdeal.τ).loc Cert.AttnProjSampleIdeal.main_arg0) = m ((c.tc : Thread Cert.AttnProjSampleIdeal.nD Cert.AttnProjSampleIdeal.τ).loc Cert.AttnProjSampleIdeal.main_arg0)
          ∧ r.2.mem ((c.tc : Thread Cert.AttnProjSampleIdeal.nD Cert.AttnProjSampleIdeal.τ).loc Cert.AttnProjSampleIdeal.main_arg1) = m ((c.tc : Thread Cert.AttnProjSampleIdeal.nD Cert.AttnProjSampleIdeal.τ).loc Cert.AttnProjSampleIdeal.main_arg1))
      ∧ θ_run (Cert.AttnProjSampleRefIdeal.defs (F := Ideal)) (onTc (τ := Cert.AttnProjSampleRefIdeal.τ) (Cert.AttnProjSampleRefIdeal.main (F := Ideal))) ⟨m', fun _ => 0, g'⟩ (fun r => ∀ c : Dev Cert.AttnProjSampleRefIdeal.nD,
          r.2.mem ((c.tc : Thread Cert.AttnProjSampleRefIdeal.nD Cert.AttnProjSampleRefIdeal.τ).loc Cert.AttnProjSampleRefIdeal.main_v147) = v0 c
          ∧ r.2.mem ((c.tc : Thread Cert.AttnProjSampleRefIdeal.nD Cert.AttnProjSampleRefIdeal.τ).loc Cert.AttnProjSampleRefIdeal.main_v148) = v1 c
          ∧ r.2.mem ((c.tc : Thread Cert.AttnProjSampleRefIdeal.nD Cert.AttnProjSampleRefIdeal.τ).loc Cert.AttnProjSampleRefIdeal.main_v149) = v2 c
          ∧ r.2.mem ((c.tc : Thread Cert.AttnProjSampleRefIdeal.nD Cert.AttnProjSampleRefIdeal.τ).loc Cert.AttnProjSampleRefIdeal.main_v150) = v3 c
          ∧ r.2.mem ((c.tc : Thread Cert.AttnProjSampleRefIdeal.nD Cert.AttnProjSampleRefIdeal.τ).loc Cert.AttnProjSampleRefIdeal.main_arg0) = m' ((c.tc : Thread Cert.AttnProjSampleRefIdeal.nD Cert.AttnProjSampleRefIdeal.τ).loc Cert.AttnProjSampleRefIdeal.main_arg0)
          ∧ r.2.mem ((c.tc : Thread Cert.AttnProjSampleRefIdeal.nD Cert.AttnProjSampleRefIdeal.τ).loc Cert.AttnProjSampleRefIdeal.main_arg1) = m' ((c.tc : Thread Cert.AttnProjSampleRefIdeal.nD Cert.AttnProjSampleRefIdeal.τ).loc Cert.AttnProjSampleRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)
      ∧ m' ((c.tc : Thread Cert.MixOutRefIdeal.nD Cert.MixOutRefIdeal.τ).loc Cert.MixOutRefIdeal.main_arg7) = m ((c.tc : Thread Cert.MixOutIdeal.nD Cert.MixOutIdeal.τ).loc Cert.MixOutIdeal.main_arg7)
      ∧ m' ((c.tc : Thread Cert.MixOutRefIdeal.nD Cert.MixOutRefIdeal.τ).loc Cert.MixOutRefIdeal.main_arg8) = m ((c.tc : Thread Cert.MixOutIdeal.nD Cert.MixOutIdeal.τ).loc Cert.MixOutIdeal.main_arg8)
      ∧ m' ((c.tc : Thread Cert.MixOutRefIdeal.nD Cert.MixOutRefIdeal.τ).loc Cert.MixOutRefIdeal.main_arg9) = m ((c.tc : Thread Cert.MixOutIdeal.nD Cert.MixOutIdeal.τ).loc Cert.MixOutIdeal.main_arg9)) →
    ∃ (v0 : (c : Dev Cert.MixOutIdeal.nD) → Buf (Elt Ideal) ((c.tc : Thread Cert.MixOutIdeal.nD Cert.MixOutIdeal.τ).loc Cert.MixOutIdeal.main_v1_0)) (v1 : (c : Dev Cert.MixOutIdeal.nD) → Buf (Elt Ideal) ((c.tc : Thread Cert.MixOutIdeal.nD Cert.MixOutIdeal.τ).loc Cert.MixOutIdeal.main_v1_1)) (v2 : (c : Dev Cert.MixOutIdeal.nD) → Buf (Elt Ideal) ((c.tc : Thread Cert.MixOutIdeal.nD Cert.MixOutIdeal.τ).loc Cert.MixOutIdeal.main_v1_2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v1_0) = v0 c
          ∧ r.2.mem ((c.tc : Thread Cert.MixOutIdeal.nD Cert.MixOutIdeal.τ).loc Cert.MixOutIdeal.main_v1_1) = v1 c
          ∧ r.2.mem ((c.tc : Thread Cert.MixOutIdeal.nD Cert.MixOutIdeal.τ).loc Cert.MixOutIdeal.main_v1_2) = v2 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
          ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
          ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v33) = v0 c
          ∧ r.2.mem ((c.tc : Thread Cert.MixOutRefIdeal.nD Cert.MixOutRefIdeal.τ).loc Cert.MixOutRefIdeal.main_v53) = v1 c
          ∧ r.2.mem ((c.tc : Thread Cert.MixOutRefIdeal.nD Cert.MixOutRefIdeal.τ).loc Cert.MixOutRefIdeal.main_v54) = v2 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6)
          ∧ r.2.mem ((c.tc : Thread Cert.MixOutRefIdeal.nD Cert.MixOutRefIdeal.τ).loc Cert.MixOutRefIdeal.main_arg7) = m' ((c.tc : Thread Cert.MixOutRefIdeal.nD Cert.MixOutRefIdeal.τ).loc Cert.MixOutRefIdeal.main_arg7)
          ∧ r.2.mem ((c.tc : Thread Cert.MixOutRefIdeal.nD Cert.MixOutRefIdeal.τ).loc Cert.MixOutRefIdeal.main_arg8) = m' ((c.tc : Thread Cert.MixOutRefIdeal.nD Cert.MixOutRefIdeal.τ).loc Cert.MixOutRefIdeal.main_arg8)
          ∧ r.2.mem ((c.tc : Thread Cert.MixOutRefIdeal.nD Cert.MixOutRefIdeal.τ).loc Cert.MixOutRefIdeal.main_arg9) = m' ((c.tc : Thread Cert.MixOutRefIdeal.nD Cert.MixOutRefIdeal.τ).loc Cert.MixOutRefIdeal.main_arg9))

def Claim : Prop :=
  ∃ (hGdnStep : Cert.GdnStep.Facts) (hGdnStepIdeal : Cert.GdnStepIdeal.Facts) (hGdnStepRefIdeal : Cert.GdnStepRefIdeal.Facts) (hFfnFirst : Cert.FfnFirst.Facts) (hFfnFirstIdeal : Cert.FfnFirstIdeal.Facts) (hFfnFirstRefIdeal : Cert.FfnFirstRefIdeal.Facts) (hFfnLast : Cert.FfnLast.Facts) (hFfnLastIdeal : Cert.FfnLastIdeal.Facts) (hFfnLastRefIdeal : Cert.FfnLastRefIdeal.Facts) (hAttnProj : Cert.AttnProj.Facts) (hAttnProjIdeal : Cert.AttnProjIdeal.Facts) (hAttnProjRefIdeal : Cert.AttnProjRefIdeal.Facts) (hProjAz : Cert.ProjAz.Facts) (hProjAzIdeal : Cert.ProjAzIdeal.Facts) (hProjAzRefIdeal : Cert.ProjAzRefIdeal.Facts) (hProjGates : Cert.ProjGates.Facts) (hProjGatesIdeal : Cert.ProjGatesIdeal.Facts) (hProjGatesRefIdeal : Cert.ProjGatesRefIdeal.Facts) (hFfnLastSample : Cert.FfnLastSample.Facts) (hFfnLastSampleIdeal : Cert.FfnLastSampleIdeal.Facts) (hFfnLastSampleRefIdeal : Cert.FfnLastSampleRefIdeal.Facts) (hProjAzSample : Cert.ProjAzSample.Facts) (hProjAzSampleIdeal : Cert.ProjAzSampleIdeal.Facts) (hProjAzSampleRefIdeal : Cert.ProjAzSampleRefIdeal.Facts) (hAttnProjSample : Cert.AttnProjSample.Facts) (hAttnProjSampleIdeal : Cert.AttnProjSampleIdeal.Facts) (hAttnProjSampleRefIdeal : Cert.AttnProjSampleRefIdeal.Facts) (hMixOut : Cert.MixOut.Facts) (hMixOutIdeal : Cert.MixOutIdeal.Facts) (hMixOutRefIdeal : Cert.MixOutRefIdeal.Facts),
    quiescent_GdnStep (hGdnStep := hGdnStep)
    ∧ quiescent_GdnStepIdeal (hGdnStepIdeal := hGdnStepIdeal)
    ∧ quiescent_GdnStepRefIdeal (hGdnStepRefIdeal := hGdnStepRefIdeal)
    ∧ quiescent_FfnFirst (hFfnFirst := hFfnFirst)
    ∧ quiescent_FfnFirstIdeal (hFfnFirstIdeal := hFfnFirstIdeal)
    ∧ quiescent_FfnFirstRefIdeal (hFfnFirstRefIdeal := hFfnFirstRefIdeal)
    ∧ quiescent_FfnLast (hFfnLast := hFfnLast)
    ∧ quiescent_FfnLastIdeal (hFfnLastIdeal := hFfnLastIdeal)
    ∧ quiescent_FfnLastRefIdeal (hFfnLastRefIdeal := hFfnLastRefIdeal)
    ∧ quiescent_AttnProj (hAttnProj := hAttnProj)
    ∧ quiescent_AttnProjIdeal (hAttnProjIdeal := hAttnProjIdeal)
    ∧ quiescent_AttnProjRefIdeal (hAttnProjRefIdeal := hAttnProjRefIdeal)
    ∧ quiescent_ProjAz (hProjAz := hProjAz)
    ∧ quiescent_ProjAzIdeal (hProjAzIdeal := hProjAzIdeal)
    ∧ quiescent_ProjAzRefIdeal (hProjAzRefIdeal := hProjAzRefIdeal)
    ∧ quiescent_ProjGates (hProjGates := hProjGates)
    ∧ quiescent_ProjGatesIdeal (hProjGatesIdeal := hProjGatesIdeal)
    ∧ quiescent_ProjGatesRefIdeal (hProjGatesRefIdeal := hProjGatesRefIdeal)
    ∧ quiescent_FfnLastSample (hFfnLastSample := hFfnLastSample)
    ∧ quiescent_FfnLastSampleIdeal (hFfnLastSampleIdeal := hFfnLastSampleIdeal)
    ∧ quiescent_FfnLastSampleRefIdeal (hFfnLastSampleRefIdeal := hFfnLastSampleRefIdeal)
    ∧ quiescent_ProjAzSample (hProjAzSample := hProjAzSample)
    ∧ quiescent_ProjAzSampleIdeal (hProjAzSampleIdeal := hProjAzSampleIdeal)
    ∧ quiescent_ProjAzSampleRefIdeal (hProjAzSampleRefIdeal := hProjAzSampleRefIdeal)
    ∧ quiescent_AttnProjSample (hAttnProjSample := hAttnProjSample)
    ∧ quiescent_AttnProjSampleIdeal (hAttnProjSampleIdeal := hAttnProjSampleIdeal)
    ∧ quiescent_AttnProjSampleRefIdeal (hAttnProjSampleRefIdeal := hAttnProjSampleRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ preserves_GdnStep_GdnStepIdeal
    ∧ algebraic_GdnStepIdeal_GdnStepRefIdeal (hGdnStepIdeal := hGdnStepIdeal) (hGdnStepRefIdeal := hGdnStepRefIdeal)
    ∧ preserves_FfnFirst_FfnFirstIdeal
    ∧ algebraic_FfnFirstIdeal_FfnFirstRefIdeal (hFfnFirstIdeal := hFfnFirstIdeal) (hFfnFirstRefIdeal := hFfnFirstRefIdeal)
    ∧ preserves_FfnLast_FfnLastIdeal
    ∧ algebraic_FfnLastIdeal_FfnLastRefIdeal (hFfnLastIdeal := hFfnLastIdeal) (hFfnLastRefIdeal := hFfnLastRefIdeal)
    ∧ preserves_AttnProj_AttnProjIdeal
    ∧ algebraic_AttnProjIdeal_AttnProjRefIdeal (hAttnProjIdeal := hAttnProjIdeal) (hAttnProjRefIdeal := hAttnProjRefIdeal)
    ∧ preserves_ProjAz_ProjAzIdeal
    ∧ algebraic_ProjAzIdeal_ProjAzRefIdeal (hProjAzIdeal := hProjAzIdeal) (hProjAzRefIdeal := hProjAzRefIdeal)
    ∧ preserves_ProjGates_ProjGatesIdeal
    ∧ algebraic_ProjGatesIdeal_ProjGatesRefIdeal (hProjGatesIdeal := hProjGatesIdeal) (hProjGatesRefIdeal := hProjGatesRefIdeal)
    ∧ preserves_FfnLastSample_FfnLastSampleIdeal
    ∧ algebraic_FfnLastSampleIdeal_FfnLastSampleRefIdeal (hFfnLastSampleIdeal := hFfnLastSampleIdeal) (hFfnLastSampleRefIdeal := hFfnLastSampleRefIdeal)
    ∧ preserves_ProjAzSample_ProjAzSampleIdeal
    ∧ algebraic_ProjAzSampleIdeal_ProjAzSampleRefIdeal (hProjAzSampleIdeal := hProjAzSampleIdeal) (hProjAzSampleRefIdeal := hProjAzSampleRefIdeal)
    ∧ preserves_AttnProjSample_AttnProjSampleIdeal
    ∧ algebraic_AttnProjSampleIdeal_AttnProjSampleRefIdeal (hAttnProjSampleIdeal := hAttnProjSampleIdeal) (hAttnProjSampleRefIdeal := hAttnProjSampleRefIdeal)
    ∧ preserves_MixOut_MixOutIdeal
    ∧ algebraic_MixOutIdeal_MixOutRefIdeal (hMixOutIdeal := hMixOutIdeal) (hMixOutRefIdeal := hMixOutRefIdeal)
-- ==== GdnStep.lean ====
abbrev S32x1x4096 : Shape := ⟨3, ![32, 1, 4096]⟩
abbrev S32x1x128 : Shape := ⟨3, ![32, 1, 128]⟩
abbrev S32x3x3072 : Shape := ⟨3, ![32, 3, 3072]⟩
abbrev S32x8x128x128 : Shape := ⟨4, ![32, 8, 128, 128]⟩
abbrev S4x3072 : Shape := ⟨2, ![4, 3072]⟩
abbrev S8x128 : Shape := ⟨2, ![8, 128]⟩
abbrev S1x128 : Shape := ⟨2, ![1, 128]⟩
abbrev S32x1x1024 : Shape := ⟨3, ![32, 1, 1024]⟩
abbrev S1x1x3072 : Shape := ⟨3, ![1, 1, 3072]⟩
abbrev S1x3x3072 : Shape := ⟨3, ![1, 3, 3072]⟩
abbrev S1x1x1024 : Shape := ⟨3, ![1, 1, 1024]⟩
abbrev S1x1x128 : Shape := ⟨3, ![1, 1, 128]⟩
abbrev S1x8x128x128 : Shape := ⟨4, ![1, 8, 128, 128]⟩
abbrev S1x3072 : Shape := ⟨2, ![1, 3072]⟩
abbrev S1 : Shape := ⟨1, ![1]⟩
abbrev S1x1 : Shape := ⟨2, ![1, 1]⟩
abbrev S128x128 : Shape := ⟨2, ![128, 128]⟩
abbrev S128x1 : Shape := ⟨2, ![128, 1]⟩
abbrev S1x1x128x128 : Shape := ⟨4, ![1, 1, 128, 128]⟩
abbrev S128 : Shape := ⟨1, ![128]⟩

abbrev nBuf : Space → Nat
  | .hbm => 9
  | .vmem => 17
  | .smem => 0
  | _ => 0

abbrev bufTy : (tb : Table) → Fin (tcTables nBuf tb) → BufTy
  | .hbm, ⟨0, _⟩ => ⟨S32x1x4096, .f32⟩
  | .hbm, ⟨1, _⟩ => ⟨S32x1x128, .f32⟩
  | .hbm, ⟨2, _⟩ => ⟨S32x3x3072, .f32⟩
  | .hbm, ⟨3, _⟩ => ⟨S32x8x128x128, .f32⟩
  | .hbm, ⟨4, _⟩ => ⟨S4x3072, .f32⟩
  | .hbm, ⟨5, _⟩ => ⟨S8x128, .f32⟩
  | .hbm, ⟨6, _⟩ => ⟨S1x128, .f32⟩
  | .hbm, ⟨7, _⟩ => ⟨S32x1x1024, .bf16⟩
  | .hbm, ⟨8, _⟩ => ⟨S32x8x128x128, .f32⟩
  | .local _ .vmem, ⟨0, _⟩ => ⟨S1x1x3072, .f32⟩
  | .local _ .vmem, ⟨1, _⟩ => ⟨S1x1x3072, .f32⟩
  | .local _ .vmem, ⟨2, _⟩ => ⟨S1x3x3072, .f32⟩
  | .local _ .vmem, ⟨3, _⟩ => ⟨S1x3x3072, .f32⟩
  | .local _ .vmem, ⟨4, _⟩ => ⟨S1x1x1024, .f32⟩
  | .local _ .vmem, ⟨5, _⟩ => ⟨S1x1x1024, .f32⟩
  | .local _ .vmem, ⟨6, _⟩ => ⟨S1x1x128, .f32⟩
  | .local _ .vmem, ⟨7, _⟩ => ⟨S1x1x128, .f32⟩
  | .local _ .vmem, ⟨8, _⟩ => ⟨S1x8x128x128, .f32⟩
  | .local _ .vmem, ⟨9, _⟩ => ⟨S1x8x128x128, .f32⟩
  | .local _ .vmem, ⟨10, _⟩ => ⟨S4x3072, .f32⟩
  | .local _ .vmem, ⟨11, _⟩ => ⟨S8x128, .f32⟩
  | .local _ .vmem, ⟨12, _⟩ => ⟨S1x128, .f32⟩
  | .local _ .vmem, ⟨13, _⟩ => ⟨S1x1x1024, .bf16⟩
  | .local _ .vmem, ⟨14, _⟩ => ⟨S1x1x1024, .bf16⟩
  | .local _ .vmem, ⟨15, _⟩ => ⟨S1x8x128x128, .f32⟩
  | .local _ .vmem, ⟨16, _⟩ => ⟨S1x8x128x128, .f32⟩
  | _, _ => ⟨S32x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  ![arg0.toNat, c0_i32.toNat, c3_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== GdnStepRefIdeal.lean ====
abbrev S32x1x4096 : Shape := ⟨3, ![32, 1, 4096]⟩
abbrev S32x1x128 : Shape := ⟨3, ![32, 1, 128]⟩
abbrev S32x3x3072 : Shape := ⟨3, ![32, 3, 3072]⟩
abbrev S32x8x128x128 : Shape := ⟨4, ![32, 8, 128, 128]⟩
abbrev S4x3072 : Shape := ⟨2, ![4, 3072]⟩
abbrev S8x128 : Shape := ⟨2, ![8, 128]⟩
abbrev S1x128 : Shape := ⟨2, ![1, 128]⟩
abbrev S32x1x8 : Shape := ⟨3, ![32, 1, 8]⟩
abbrev S32x1x2x4 : Shape := ⟨4, ![32, 1, 2, 4]⟩
abbrev S32x1x4x2 : Shape := ⟨4, ![32, 1, 4, 2]⟩
abbrev S1x8 : Shape := ⟨2, ![1, 8]⟩
abbrev S8 : Shape := ⟨1, ![8]⟩
abbrev S2x4 : Shape := ⟨2, ![2, 4]⟩
abbrev S4x2 : Shape := ⟨2, ![4, 2]⟩
abbrev S32x1x3072 : Shape := ⟨3, ![32, 1, 3072]⟩
abbrev S32x1x1024 : Shape := ⟨3, ![32, 1, 1024]⟩
abbrev S32x4x3072 : Shape := ⟨3, ![32, 4, 3072]⟩
abbrev S1x3072 : Shape := ⟨2, ![1, 3072]⟩
abbrev S3072 : Shape := ⟨1, ![3072]⟩
abbrev S1x1x3072 : Shape := ⟨3, ![1, 1, 3072]⟩
abbrev S_ : Shape := ⟨0, ![]⟩
abbrev S32x1x8x128 : Shape := ⟨4, ![32, 1, 8, 128]⟩
abbrev S32x1x8x1 : Shape := ⟨4, ![32, 1, 8, 1]⟩
abbrev S1x1x8 : Shape := ⟨3, ![1, 1, 8]⟩
abbrev S32x8x128 : Shape := ⟨3, ![32, 8, 128]⟩
abbrev S32x8 : Shape := ⟨2, ![32, 8]⟩
abbrev S32x8x1x1 : Shape := ⟨4, ![32, 8, 1, 1]⟩
abbrev S32x8x1 : Shape := ⟨3, ![32, 8, 1]⟩
abbrev S32x8x128x1 : Shape := ⟨4, ![32, 8, 128, 1]⟩
abbrev S32x8x1x128 : Shape := ⟨4, ![32, 8, 1, 128]⟩
abbrev S1x1x1x128 : Shape := ⟨4, ![1, 1, 1, 128]⟩

abbrev nBuf : Space → Nat
  | .hbm => 174
  | .vmem => 0
  | .smem => 0
  | _ => 0

abbrev hbmTy0_0 (i : Nat) : BufTy := match i % 128 with
  | 0 => ⟨S32x1x4096, .f32⟩
  | 1 => ⟨S32x1x128, .f32⟩
  | 2 => ⟨S32x3x3072, .f32⟩
  | 3 => ⟨S32x8x128x128, .f32⟩
  | 4 => ⟨S4x3072, .f32⟩
  | 5 => ⟨S8x128, .f32⟩
  | 6 => ⟨S1x128, .f32⟩
  | 7 => ⟨S32x1x8, .f32⟩
  | 8 => ⟨S32x1x2x4, .f32⟩
  | 9 => ⟨S32x1x4x2, .f32⟩
  | 10 => ⟨S32x1x8, .f32⟩
  | 11 => ⟨S32x1x8, .f32⟩
  | 12 => ⟨S32x1x2x4, .f32⟩
  | 13 => ⟨S32x1x4x2, .f32⟩
  | 14 => ⟨S32x1x8, .f32⟩
  | 15 => ⟨S1x8, .f32⟩
  | 16 => ⟨S8, .f32⟩
  | 17 => ⟨S2x4, .f32⟩
  | 18 => ⟨S4x2, .f32⟩
  | 19 => ⟨S8, .f32⟩
  | 20 => ⟨S1x8, .f32⟩
  | 21 => ⟨S8, .f32⟩
  | 22 => ⟨S2x4, .f32⟩
  | 23 => ⟨S4x2, .f32⟩
  | 24 => ⟨S8, .f32⟩
  | 25 => ⟨S32x1x3072, .f32⟩
  | 26 => ⟨S32x1x1024, .f32⟩
  | 27 => ⟨S32x4x3072, .f32⟩
  | 28 => ⟨S32x1x3072, .f32⟩
  | 29 => ⟨S1x3072, .f32⟩
  | 30 => ⟨S3072, .f32⟩
  | 31 => ⟨S1x1x3072, .f32⟩
  | 32 => ⟨S32x1x3072, .f32⟩
  | 33 => ⟨S32x1x3072, .f32⟩
  | 34 => ⟨S32x1x3072, .f32⟩
  | 35 => ⟨S1x3072, .f32⟩
  | 36 => ⟨S3072, .f32⟩
  | 37 => ⟨S1x1x3072, .f32⟩
  | 38 => ⟨S32x1x3072, .f32⟩
  | 39 => ⟨S32x1x3072, .f32⟩
  | 40 => ⟨S32x1x3072, .f32⟩
  | 41 => ⟨S32x1x3072, .f32⟩
  | 42 => ⟨S1x3072, .f32⟩
  | 43 => ⟨S3072, .f32⟩
  | 44 => ⟨S1x1x3072, .f32⟩
  | 45 => ⟨S32x1x3072, .f32⟩
  | 46 => ⟨S32x1x3072, .f32⟩
  | 47 => ⟨S32x1x3072, .f32⟩
  | 48 => ⟨S32x1x3072, .f32⟩
  | 49 => ⟨S1x3072, .f32⟩
  | 50 => ⟨S3072, .f32⟩
  | 51 => ⟨S1x1x3072, .f32⟩
  | 52 => ⟨S32x1x3072, .f32⟩
  | 53 => ⟨S32x1x3072, .f32⟩
  | 54 => ⟨S32x1x3072, .f32⟩
  | 55 => ⟨S32x1x3072, .f32⟩
  | 56 => ⟨S32x1x3072, .f32⟩
  | 57 => ⟨S_, .f32⟩
  | 58 => ⟨S32x1x3072, .f32⟩
  | 59 => ⟨S32x1x3072, .f32⟩
  | 60 => ⟨S_, .f32⟩
  | 61 => ⟨S32x1x3072, .f32⟩
  | 62 => ⟨S32x1x3072, .f32⟩
  | 63 => ⟨S32x1x3072, .f32⟩
  | 64 => ⟨S32x1x1024, .f32⟩
  | 65 => ⟨S32x1x1024, .f32⟩
  | 66 => ⟨S32x1x1024, .f32⟩
  | 67 => ⟨S32x1x8x128, .f32⟩
  | 68 => ⟨S32x1x8x128, .f32⟩
  | 69 => ⟨S_, .f32⟩
  | 70 => ⟨S32x1x8, .f32⟩
  | 71 => ⟨S32x1x8x1, .f32⟩
  | 72 => ⟨S_, .f32⟩
  | 73 => ⟨S32x1x8x1, .f32⟩
  | 74 => ⟨S32x1x8x1, .f32⟩
  | 75 => ⟨S32x1x8x1, .f32⟩
  | 76 => ⟨S32x1x8x128, .f32⟩
  | 77 => ⟨S32x1x8x128, .f32⟩
  | 78 => ⟨S_, .f32⟩
  | 79 => ⟨S32x1x8x128, .f32⟩
  | 80 => ⟨S32x1x8x128, .f32⟩
  | 81 => ⟨S32x1x8x128, .f32⟩
  | 82 => ⟨S32x1x8x128, .f32⟩
  | 83 => ⟨S_, .f32⟩
  | 84 => ⟨S32x1x8, .f32⟩
  | 85 => ⟨S32x1x8x1, .f32⟩
  | 86 => ⟨S_, .f32⟩
  | 87 => ⟨S32x1x8x1, .f32⟩
  | 88 => ⟨S32x1x8x1, .f32⟩
  | 89 => ⟨S32x1x8x1, .f32⟩
  | 90 => ⟨S32x1x8x128, .f32⟩
  | 91 => ⟨S32x1x8x128, .f32⟩
  | 92 => ⟨S32x1x8x128, .f32⟩
  | 93 => ⟨S32x1x8, .f32⟩
  | 94 => ⟨S32x1x8, .f32⟩
  | 95 => ⟨S_, .f32⟩
  | 96 => ⟨S32x1x8, .f32⟩
  | 97 => ⟨S32x1x8, .f32⟩
  | 98 => ⟨S_, .f32⟩
  | 99 => ⟨S32x1x8, .f32⟩
  | 100 => ⟨S32x1x8, .f32⟩
  | 101 => ⟨S8, .f32⟩
  | 102 => ⟨S8, .f32⟩
  | 103 => ⟨S1x1x8, .f32⟩
  | 104 => ⟨S32x1x8, .f32⟩
  | 105 => ⟨S32x1x8, .f32⟩
  | 106 => ⟨S_, .f32⟩
  | 107 => ⟨S32x1x8, .f32⟩
  | 108 => ⟨S32x1x8, .f32⟩
  | 109 => ⟨S32x1x8, .f32⟩
  | 110 => ⟨S32x1x8, .f32⟩
  | 111 => ⟨S32x1x8, .i1⟩
  | 112 => ⟨S32x1x8, .f32⟩
  | 113 => ⟨S32x1x8, .f32⟩
  | 114 => ⟨S32x1x8, .f32⟩
  | 115 => ⟨S32x1x8, .f32⟩
  | 116 => ⟨S32x1x8, .f32⟩
  | 117 => ⟨S32x1x8, .f32⟩
  | 118 => ⟨S32x1x8, .f32⟩
  | 119 => ⟨S32x1x8, .f32⟩
  | 120 => ⟨S1x1x8, .f32⟩
  | 121 => ⟨S32x1x8, .f32⟩
  | 122 => ⟨S32x1x8, .f32⟩
  | 123 => ⟨S32x8x128, .f32⟩
  | 124 => ⟨S32x8x128, .f32⟩
  | 125 => ⟨S32x8x128, .f32⟩
  | 126 => ⟨S32x8, .f32⟩
  | 127 => ⟨S32x8, .f32⟩
  | _ => ⟨S32x1x4096, .f32⟩

abbrev hbmTy0_1 (i : Nat) : BufTy := match i % 128 with
  | 0 => ⟨S32x8, .f32⟩
  | 1 => ⟨S32x8x1x1, .f32⟩
  | 2 => ⟨S32x8x128x128, .f32⟩
  | 3 => ⟨S32x8x128x128, .f32⟩
  | 4 => ⟨S32x8x128, .f32⟩
  | 5 => ⟨S32x8x1, .f32⟩
  | 6 => ⟨S32x8x128, .f32⟩
  | 7 => ⟨S32x8x128, .f32⟩
  | 8 => ⟨S32x8x128, .f32⟩
  | 9 => ⟨S32x8x128x1, .f32⟩
  | 10 => ⟨S32x8x1x128, .f32⟩
  | 11 => ⟨S32x8x128x128, .f32⟩
  | 12 => ⟨S32x8x128x128, .f32⟩
  | 13 => ⟨S32x8x128x128, .f32⟩
  | 14 => ⟨S32x8x128x128, .f32⟩
  | 15 => ⟨S32x8x128, .f32⟩
  | 16 => ⟨S32x1x8x128, .f32⟩
  | 17 => ⟨S32x1x8x128, .f32⟩
  | 18 => ⟨S_, .f32⟩
  | 19 => ⟨S32x1x8, .f32⟩
  | 20 => ⟨S32x1x8x1, .f32⟩
  | 21 => ⟨S_, .f32⟩
  | 22 => ⟨S32x1x8x1, .f32⟩
  | 23 => ⟨S32x1x8x1, .f32⟩
  | 24 => ⟨S_, .f32⟩
  | 25 => ⟨S32x1x8x1, .f32⟩
  | 26 => ⟨S32x1x8x1, .f32⟩
  | 27 => ⟨S32x1x8x1, .f32⟩
  | 28 => ⟨S32x1x8x128, .f32⟩
  | 29 => ⟨S32x1x8x128, .f32⟩
  | 30 => ⟨S1x1x1x128, .f32⟩
  | 31 => ⟨S32x1x8x128, .f32⟩
  | 32 => ⟨S32x1x8x128, .f32⟩
  | 33 => ⟨S32x1x8x128, .f32⟩
  | 34 => ⟨S32x1x8x128, .f32⟩
  | 35 => ⟨S32x1x8x128, .f32⟩
  | 36 => ⟨S_, .f32⟩
  | 37 => ⟨S32x1x8x128, .f32⟩
  | 38 => ⟨S32x1x8x128, .f32⟩
  | 39 => ⟨S_, .f32⟩
  | 40 => ⟨S32x1x8x128, .f32⟩
  | 41 => ⟨S32x1x8x128, .f32⟩
  | 42 => ⟨S32x1x8x128, .f32⟩
  | 43 => ⟨S32x1x8x128, .f32⟩
  | 44 => ⟨S32x1x1024, .f32⟩
  | 45 => ⟨S32x1x1024, .bf16⟩
  | _ => ⟨S32x1x4096, .f32⟩

abbrev hbmTy (i : Nat) : BufTy := match i / 128 with
  | 0 => hbmTy0_0 i
  | 1 => hbmTy0_1 i
  | _ => ⟨S32x1x4096, .f32⟩

abbrev bufTy : (tb : Table) → Fin (tcTables nBuf tb) → BufTy
  | .hbm, ⟨i, _⟩ => hbmTy i
  | _, _ => ⟨S32x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst : Ref sig .tc := ⟨.hbm, 69, rfl⟩
abbrev main_v54 : Ref sig .tc := ⟨.hbm, 70, rfl⟩
abbrev main_v55 : Ref sig .tc := ⟨.hbm, 71, rfl⟩
abbrev main_cst_0 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_1 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_2 : Ref sig .tc := ⟨.hbm, 83, rfl⟩
abbrev main_v65 : Ref sig .tc := ⟨.hbm, 84, rfl⟩
abbrev main_v66 : Ref sig .tc := ⟨.hbm, 85, rfl⟩
abbrev main_cst_3 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_4 : Ref sig .tc := ⟨.hbm, 95, rfl⟩
abbrev main_v75 : Ref sig .tc := ⟨.hbm, 96, rfl⟩
abbrev main_v76 : Ref sig .tc := ⟨.hbm, 97, rfl⟩
abbrev main_cst_5 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_call1_cst : Ref sig .tc := ⟨.hbm, 106, rfl⟩
abbrev main_call1_v0 : Ref sig .tc := ⟨.hbm, 107, rfl⟩
abbrev main_call1_v1 : Ref sig .tc := ⟨.hbm, 108, rfl⟩
abbrev main_call1_v2 : Ref sig .tc := ⟨.hbm, 109, rfl⟩
abbrev main_call1_v3 : Ref sig .tc := ⟨.hbm, 110, rfl⟩
abbrev main_call1_v4 : Ref sig .tc := ⟨.hbm, 111, rfl⟩
abbrev main_call1_v5 : Ref sig .tc := ⟨.hbm, 112, rfl⟩
abbrev main_call1_v6 : Ref sig .tc := ⟨.hbm, 113, rfl⟩
abbrev main_call1_v7 : Ref sig .tc := ⟨.hbm, 114, rfl⟩
abbrev main_call1_v8 : Ref sig .tc := ⟨.hbm, 115, rfl⟩
abbrev main_call1_v9 : Ref sig .tc := ⟨.hbm, 116, rfl⟩
abbrev main_call1_v10 : Ref sig .tc := ⟨.hbm, 117, rfl⟩
abbrev main_call1_v11 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_cst_6 : Ref sig .tc := ⟨.hbm, 146, rfl⟩
abbrev main_v111 : Ref sig .tc := ⟨.hbm, 147, rfl⟩
abbrev main_v112 : Ref sig .tc := ⟨.hbm, 148, rfl⟩
abbrev main_cst_7 : Ref sig .tc := ⟨.hbm, 149, rfl⟩
abbrev main_v113 : Ref sig .tc := ⟨.hbm, 150, rfl⟩
abbrev main_v114 : Ref sig .tc := ⟨.hbm, 151, rfl⟩
abbrev main_cst_8 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_call2_v0 : Ref sig .tc := ⟨.hbm, 162, rfl⟩
abbrev main_call2_v1 : Ref sig .tc := ⟨.hbm, 163, rfl⟩
abbrev main_call2_cst : Ref sig .tc := ⟨.hbm, 164, rfl⟩
abbrev main_call2_v2 : Ref sig .tc := ⟨.hbm, 165, rfl⟩
abbrev main_call2_v3 : Ref sig .tc := ⟨.hbm, 166, rfl⟩
abbrev main_call2_cst_0 : Ref sig .tc := ⟨.hbm, 167, rfl⟩
abbrev main_call2_v4 : Ref sig .tc := ⟨.hbm, 168, rfl⟩
abbrev main_call2_v5 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩

abbrev nD : Nat := 1
abbrev τ : Topo := Topo.v7x

variable {F : FTy → Type} [FloatOps F]
-- ==== FfnFirst.lean ====
abbrev S8x2048x2048 : Shape := ⟨3, ![8, 2048, 2048]⟩
abbrev S8x1x18432 : Shape := ⟨3, ![8, 1, 18432]⟩
abbrev S2048 : Shape := ⟨1, ![2048]⟩
abbrev S2048x11264 : Shape := ⟨2, ![2048, 11264]⟩
abbrev S5632x2048 : Shape := ⟨2, ![5632, 2048]⟩
abbrev S12816x2048 : Shape := ⟨2, ![12816, 2048]⟩
abbrev S1x2048 : Shape := ⟨2, ![1, 2048]⟩
abbrev S12800x2048 : Shape := ⟨2, ![12800, 2048]⟩
abbrev S1x512x2048 : Shape := ⟨3, ![1, 512, 2048]⟩
abbrev S1x1x2048 : Shape := ⟨3, ![1, 1, 2048]⟩
abbrev S2048x512 : Shape := ⟨2, ![2048, 512]⟩
abbrev S512x2048 : Shape := ⟨2, ![512, 2048]⟩
abbrev S128x2048 : Shape := ⟨2, ![128, 2048]⟩
abbrev S1x16x2048 : Shape := ⟨3, ![1, 16, 2048]⟩
abbrev S16x2048 : Shape := ⟨2, ![16, 2048]⟩
abbrev S16 : Shape := ⟨1, ![16]⟩
abbrev S16x1 : Shape := ⟨2, ![16, 1]⟩
abbrev S512x512 : Shape := ⟨2, ![512, 512]⟩

abbrev nBuf : Space → Nat
  | .hbm => 12
  | .vmem => 30
  | .smem => 0
  | _ => 0

abbrev bufTy : (tb : Table) → Fin (tcTables nBuf tb) → BufTy
  | .hbm, ⟨0, _⟩ => ⟨S8x2048x2048, .f32⟩
  | .hbm, ⟨1, _⟩ => ⟨S8x1x18432, .f32⟩
  | .hbm, ⟨2, _⟩ => ⟨S2048, .f32⟩
  | .hbm, ⟨3, _⟩ => ⟨S2048x11264, .bf16⟩
  | .hbm, ⟨4, _⟩ => ⟨S5632x2048, .bf16⟩
  | .hbm, ⟨5, _⟩ => ⟨S2048, .f32⟩
  | .hbm, ⟨6, _⟩ => ⟨S12816x2048, .f32⟩
  | .hbm, ⟨7, _⟩ => ⟨S1x2048, .f32⟩
  | .hbm, ⟨8, _⟩ => ⟨S1x2048, .f32⟩
  | .hbm, ⟨9, _⟩ => ⟨S8x2048x2048, .f32⟩
  | .hbm, ⟨10, _⟩ => ⟨S8x2048x2048, .bf16⟩
  | .hbm, ⟨11, _⟩ => ⟨S12800x2048, .bf16⟩
  | .local _ .vmem, ⟨0, _⟩ => ⟨S1x512x2048, .f32⟩
  | .local _ .vmem, ⟨1, _⟩ => ⟨S1x512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S512x2048, .bf16⟩
  | .local _ .vmem, ⟨14, _⟩ => ⟨S512x2048, .bf16⟩
  | .local _ .vmem, ⟨15, _⟩ => ⟨S1x1x2048, .f32⟩
  | .local _ .vmem, ⟨16, _⟩ => ⟨S1x1x2048, .f32⟩
  | .local _ .vmem, ⟨17, _⟩ => ⟨S1x1x2048, .f32⟩
  | .local _ .vmem, ⟨18, _⟩ => ⟨S1x1x2048, .f32⟩
  | .local _ .vmem, ⟨19, _⟩ => ⟨S1x2048, .f32⟩
  | .local _ .vmem, ⟨20, _⟩ => ⟨S128x2048, .f32⟩
  | .local _ .vmem, ⟨21, _⟩ => ⟨S128x2048, .f32⟩
  | .local _ .vmem, ⟨22, _⟩ => ⟨S1x512x2048, .f32⟩
  | .local _ .vmem, ⟨23, _⟩ => ⟨S1x512x2048, .f32⟩
  | .local _ .vmem, ⟨24, _⟩ => ⟨S1x512x2048, .bf16⟩
  | .local _ .vmem, ⟨25, _⟩ => ⟨S1x512x2048, .bf16⟩
  | .local _ .vmem, ⟨26, _⟩ => ⟨S128x2048, .bf16⟩
  | .local _ .vmem, ⟨27, _⟩ => ⟨S128x2048, .bf16⟩
  | .local _ .vmem, ⟨28, _⟩ => ⟨S512x2048, .bf16⟩
  | .local _ .vmem, ⟨29, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨3, ![8, 4, 11], ![false, false, false]⟩

def k0_cond2 (i : grid0.Coords) : BitVec 1 :=
  let arg2 : BitVec 32 := BitVec.ofNat 32 (i 2).val
  let c10_i32 : BitVec 32 := 10#32
  let v28 : BitVec 1 := Scalar.cmpi .eq arg2 c10_i32
  let v29 : BitVec 32 := Scalar.extui v28
  let c0_i32_21 : BitVec 32 := 0#32
  let v30 : BitVec 1 := Scalar.cmpi .ne v29 c0_i32_21
  v30

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c2_i32 : BitVec 32 := 2#32
  let c0_i32_0 : BitVec 32 := 0#32
  ![arg0.toNat, c0_i32.toNat, c2_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi arg2 c11_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c3_i32 : BitVec 32 := 3#32
  let c0_i32_0 : BitVec 32 := 0#32
  ![arg0.toNat, c0_i32.toNat, c3_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c4_i32 : BitVec 32 := 4#32
  let c0_i32_0 : BitVec 32 := 0#32
  ![arg0.toNat, c0_i32.toNat, c4_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c11_i32 : BitVec 32 := 11#32
  let v2 : BitVec 32 := Scalar.muli v1 c11_i32
  let v3 : BitVec 32 := Scalar.addi v2 arg2
  let c0_i32 : BitVec 32 := 0#32
  let v4 : BitVec 32 := Scalar.subi v3 c0_i32
  let c0_i32_0 : BitVec 32 := 0#32
  let c99_i32 : BitVec 32 := 99#32
  let v5 : BitVec 32 := Scalar.maxsi c0_i32_0 v4
  let v6 : BitVec 32 := Scalar.minsi c99_i32 v5
  let c0_i32_1 : BitVec 32 := 0#32
  let c0_i32_2 : BitVec 32 := 0#32
  ![v6.toNat, c0_i32_1.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c11_i32 : BitVec 32 := 11#32
  let v2 : BitVec 32 := Scalar.muli v1 c11_i32
  let v3 : BitVec 32 := Scalar.addi v2 arg2
  let c0_i32 : BitVec 32 := 0#32
  let v4 : BitVec 32 := Scalar.subi v3 c0_i32
  let c0_i32_0 : BitVec 32 := 0#32
  let c99_i32 : BitVec 32 := 99#32
  let v5 : BitVec 32 := Scalar.maxsi c0_i32_0 v4
  let v6 : BitVec 32 := Scalar.minsi c99_i32 v5
  let c0_i32_1 : BitVec 32 := 0#32
  let c0_i32_2 : BitVec 32 := 0#32
  ![v6.toNat, c0_i32_1.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S1x512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]

abbrev stage0_14 : Fin 2 → Memref sig .tc .vmem S128x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]
-- ==== FfnFirstRefIdeal.lean ====
abbrev S8x2048x2048 : Shape := ⟨3, ![8, 2048, 2048]⟩
abbrev S8x1x18432 : Shape := ⟨3, ![8, 1, 18432]⟩
abbrev S2048 : Shape := ⟨1, ![2048]⟩
abbrev S2048x11264 : Shape := ⟨2, ![2048, 11264]⟩
abbrev S5632x2048 : Shape := ⟨2, ![5632, 2048]⟩
abbrev S12816x2048 : Shape := ⟨2, ![12816, 2048]⟩
abbrev S8x1x2048 : Shape := ⟨3, ![8, 1, 2048]⟩
abbrev S8x1x8192 : Shape := ⟨3, ![8, 1, 8192]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x2048x11264 : Shape := ⟨3, ![8, 2048, 11264]⟩
abbrev S8x2048x5632 : Shape := ⟨3, ![8, 2048, 5632]⟩
abbrev S12800x2048 : Shape := ⟨2, ![12800, 2048]⟩

abbrev nBuf : Space → Nat
  | .hbm => 84
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x1x18432, .f32⟩
  | .hbm, ⟨2, _⟩ => ⟨S2048, .f32⟩
  | .hbm, ⟨3, _⟩ => ⟨S2048x11264, .bf16⟩
  | .hbm, ⟨4, _⟩ => ⟨S5632x2048, .bf16⟩
  | .hbm, ⟨5, _⟩ => ⟨S2048, .f32⟩
  | .hbm, ⟨6, _⟩ => ⟨S12816x2048, .f32⟩
  | .hbm, ⟨7, _⟩ => ⟨S8x1x2048, .f32⟩
  | .hbm, ⟨8, _⟩ => ⟨S8x1x2048, .f32⟩
  | .hbm, ⟨9, _⟩ => ⟨S8x1x2048, .f32⟩
  | .hbm, ⟨10, _⟩ => ⟨S8x1x2048, .f32⟩
  | .hbm, ⟨11, _⟩ => ⟨S8x1x2048, .f32⟩
  | .hbm, ⟨12, _⟩ => ⟨S8x1x8192, .f32⟩
  | .hbm, ⟨13, _⟩ => ⟨S_, .f32⟩
  | .hbm, ⟨14, _⟩ => ⟨S8x1x2048, .f32⟩
  | .hbm, ⟨15, _⟩ => ⟨S8x1x2048, .f32⟩
  | .hbm, ⟨16, _⟩ => ⟨S8x2048x2048, .f32⟩
  | .hbm, ⟨17, _⟩ => ⟨S_, .f32⟩
  | .hbm, ⟨18, _⟩ => ⟨S8x2048, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S8x2048x1, .f32⟩
  | .hbm, ⟨27, _⟩ => ⟨S8x2048x2048, .f32⟩
  | .hbm, ⟨28, _⟩ => ⟨S8x2048x2048, .f32⟩
  | .hbm, ⟨29, _⟩ => ⟨S1x1x2048, .f32⟩
  | .hbm, ⟨30, _⟩ => ⟨S8x2048x2048, .f32⟩
  | .hbm, ⟨31, _⟩ => ⟨S8x2048x2048, .f32⟩
  | .hbm, ⟨32, _⟩ => ⟨S_, .f32⟩
  | .hbm, ⟨33, _⟩ => ⟨S8x1x2048, .f32⟩
  | .hbm, ⟨34, _⟩ => ⟨S8x1x2048, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S2048x11264, .f32⟩
  | .hbm, ⟨40, _⟩ => ⟨S8x2048x11264, .f32⟩
  | .hbm, ⟨41, _⟩ => ⟨S8x2048x5632, .f32⟩
  | .hbm, ⟨42, _⟩ => ⟨S8x2048x5632, .f32⟩
  | .hbm, ⟨43, _⟩ => ⟨S8x2048x5632, .f32⟩
  | .hbm, ⟨44, _⟩ => ⟨S8x2048x5632, .f32⟩
  | .hbm, ⟨45, _⟩ => ⟨S_, .f32⟩
  | .hbm, ⟨46, _⟩ => ⟨S8x2048x5632, .f32⟩
  | .hbm, ⟨47, _⟩ => ⟨S8x2048x5632, .f32⟩
  | .hbm, ⟨48, _⟩ => ⟨S_, .f32⟩
  | .hbm, ⟨49, _⟩ => ⟨S8x2048x5632, .f32⟩
  | .hbm, ⟨50, _⟩ => ⟨S8x2048x5632, .f32⟩
  | .hbm, ⟨51, _⟩ => ⟨S8x2048x5632, .f32⟩
  | .hbm, ⟨52, _⟩ => ⟨S8x2048x5632, .f32⟩
  | .hbm, ⟨53, _⟩ => ⟨S5632x2048, .f32⟩
  | .hbm, ⟨54, _⟩ => ⟨S8x2048x2048, .f32⟩
  | .hbm, ⟨55, _⟩ => ⟨S8x2048x2048, .f32⟩
  | .hbm, ⟨56, _⟩ => ⟨S8x2048x2048, .f32⟩
  | .hbm, ⟨57, _⟩ => ⟨S8x2048x2048, .f32⟩
  | .hbm, ⟨58, _⟩ => ⟨S8x2048x2048, .f32⟩
  | .hbm, ⟨59, _⟩ => ⟨S_, .f32⟩
  | .hbm, ⟨60, _⟩ => ⟨S8x2048, .f32⟩
  | .hbm, ⟨61, _⟩ => ⟨S8x2048x1, .f32⟩
  | .hbm, ⟨62, _⟩ => ⟨S_, .f32⟩
  | .hbm, ⟨63, _⟩ => ⟨S8x2048x1, .f32⟩
  | .hbm, ⟨64, _⟩ => ⟨S8x2048x1, .f32⟩
  | .hbm, ⟨65, _⟩ => ⟨S_, .f32⟩
  | .hbm, ⟨66, _⟩ => ⟨S8x2048x1, .f32⟩
  | .hbm, ⟨67, _⟩ => ⟨S8x2048x1, .f32⟩
  | .hbm, ⟨68, _⟩ => ⟨S8x2048x1, .f32⟩
  | .hbm, ⟨69, _⟩ => ⟨S8x2048x2048, .f32⟩
  | .hbm, ⟨70, _⟩ => ⟨S8x2048x2048, .f32⟩
  | .hbm, ⟨71, _⟩ => ⟨S1x1x2048, .f32⟩
  | .hbm, ⟨72, _⟩ => ⟨S8x2048x2048, .f32⟩
  | .hbm, ⟨73, _⟩ => ⟨S8x2048x2048, .f32⟩
  | .hbm, ⟨74, _⟩ => ⟨S_, .f32⟩
  | .hbm, ⟨75, _⟩ => ⟨S8x1x2048, .f32⟩
  | .hbm, ⟨76, _⟩ => ⟨S8x1x2048, .f32⟩
  | .hbm, ⟨77, _⟩ => ⟨S8x2048x2048, .f32⟩
  | .hbm, ⟨78, _⟩ => ⟨S8x2048x2048, .f32⟩
  | .hbm, ⟨79, _⟩ => ⟨S8x2048x2048, .f32⟩
  | .hbm, ⟨80, _⟩ => ⟨S8x2048x2048, .f32⟩
  | .hbm, ⟨81, _⟩ => ⟨S8x2048x2048, .bf16⟩
  | .hbm, ⟨82, _⟩ => ⟨S12800x2048, .f32⟩
  | .hbm, ⟨83, _⟩ => ⟨S12800x2048, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_4 : Ref sig .tc := ⟨.hbm, 59, rfl⟩
abbrev main_v39 : Ref sig .tc := ⟨.hbm, 60, rfl⟩
abbrev main_v40 : Ref sig .tc := ⟨.hbm, 61, rfl⟩
abbrev main_cst_5 : Ref sig .tc := ⟨.hbm, 62, rfl⟩
abbrev main_v41 : Ref sig .tc := ⟨.hbm, 63, rfl⟩
abbrev main_v42 : Ref sig .tc := ⟨.hbm, 64, rfl⟩
abbrev main_cst_6 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_7 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]
-- ==== FfnLast.lean ====
abbrev S8x2048x2048 : Shape := ⟨3, ![8, 2048, 2048]⟩
abbrev S8x1x18432 : Shape := ⟨3, ![8, 1, 18432]⟩
abbrev S2048x11264 : Shape := ⟨2, ![2048, 11264]⟩
abbrev S5632x2048 : Shape := ⟨2, ![5632, 2048]⟩
abbrev S2048 : Shape := ⟨1, ![2048]⟩
abbrev S1x2048 : Shape := ⟨2, ![1, 2048]⟩
abbrev S1x512x2048 : Shape := ⟨3, ![1, 512, 2048]⟩
abbrev S1x1x2048 : Shape := ⟨3, ![1, 1, 2048]⟩
abbrev S2048x512 : Shape := ⟨2, ![2048, 512]⟩
abbrev S512x2048 : Shape := ⟨2, ![512, 2048]⟩
abbrev S512x512 : Shape := ⟨2, ![512, 512]⟩
abbrev S1x16x2048 : Shape := ⟨3, ![1, 16, 2048]⟩
abbrev S16x2048 : Shape := ⟨2, ![16, 2048]⟩
abbrev S16 : Shape := ⟨1, ![16]⟩
abbrev S16x1 : Shape := ⟨2, ![16, 1]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .bf16⟩
  | .hbm, ⟨2, _⟩ => ⟨S8x1x18432, .f32⟩
  | .hbm, ⟨3, _⟩ => ⟨S2048x11264, .bf16⟩
  | .hbm, ⟨4, _⟩ => ⟨S5632x2048, .bf16⟩
  | .hbm, ⟨5, _⟩ => ⟨S2048, .f32⟩
  | .hbm, ⟨6, _⟩ => ⟨S1x2048, .f32⟩
  | .hbm, ⟨7, _⟩ => ⟨S8x2048x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x512x2048, .bf16⟩
  | .local _ .vmem, ⟨3, _⟩ => ⟨S1x512x2048, .bf16⟩
  | .local _ .vmem, ⟨4, _⟩ => ⟨S1x1x2048, .f32⟩
  | .local _ .vmem, ⟨5, _⟩ => ⟨S1x1x2048, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S512x2048, .bf16⟩
  | .local _ .vmem, ⟨11, _⟩ => ⟨S512x2048, .bf16⟩
  | .local _ .vmem, ⟨12, _⟩ => ⟨S1x2048, .f32⟩
  | .local _ .vmem, ⟨13, _⟩ => ⟨S1x512x2048, .f32⟩
  | .local _ .vmem, ⟨14, _⟩ => ⟨S1x512x2048, .f32⟩
  | .local _ .vmem, ⟨15, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![8, 4, 11], ![false, false, false]⟩

def k0_cond2 (i : grid0.Coords) : BitVec 1 :=
  let arg2 : BitVec 32 := BitVec.ofNat 32 (i 2).val
  let c10_i32 : BitVec 32 := 10#32
  let v26 : BitVec 1 := Scalar.cmpi .eq arg2 c10_i32
  let v27 : BitVec 32 := Scalar.extui v26
  let c0_i32_18 : BitVec 32 := 0#32
  let v28 : BitVec 1 := Scalar.cmpi .ne v27 c0_i32_18
  v28

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c8_i32 : BitVec 32 := 8#32
  let c0_i32_0 : BitVec 32 := 0#32
  ![arg0.toNat, c0_i32.toNat, c8_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi arg2 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== FfnLastRefIdeal.lean ====
abbrev S8x2048x2048 : Shape := ⟨3, ![8, 2048, 2048]⟩
abbrev S8x1x18432 : Shape := ⟨3, ![8, 1, 18432]⟩
abbrev S2048x11264 : Shape := ⟨2, ![2048, 11264]⟩
abbrev S5632x2048 : Shape := ⟨2, ![5632, 2048]⟩
abbrev S2048 : Shape := ⟨1, ![2048]⟩
abbrev S8x1x2048 : Shape := ⟨3, ![8, 1, 2048]⟩
abbrev S_ : Shape := ⟨0, ![]⟩
abbrev S8x2048x11264 : Shape := ⟨3, ![8, 2048, 11264]⟩
abbrev S8x2048x5632 : Shape := ⟨3, ![8, 2048, 5632]⟩
abbrev S8x2048 : Shape := ⟨2, ![8, 2048]⟩
abbrev S8x2048x1 : Shape := ⟨3, ![8, 2048, 1]⟩
abbrev S1x1x2048 : Shape := ⟨3, ![1, 1, 2048]⟩

abbrev nBuf : Space → Nat
  | .hbm => 46
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .bf16⟩
  | .hbm, ⟨2, _⟩ => ⟨S8x1x18432, .f32⟩
  | .hbm, ⟨3, _⟩ => ⟨S2048x11264, .bf16⟩
  | .hbm, ⟨4, _⟩ => ⟨S5632x2048, .bf16⟩
  | .hbm, ⟨5, _⟩ => ⟨S2048, .f32⟩
  | .hbm, ⟨6, _⟩ => ⟨S8x1x2048, .f32⟩
  | .hbm, ⟨7, _⟩ => ⟨S_, .f32⟩
  | .hbm, ⟨8, _⟩ => ⟨S8x1x2048, .f32⟩
  | .hbm, ⟨9, _⟩ => ⟨S8x1x2048, .f32⟩
  | .hbm, ⟨10, _⟩ => ⟨S8x2048x2048, .f32⟩
  | .hbm, ⟨11, _⟩ => ⟨S2048x11264, .f32⟩
  | .hbm, ⟨12, _⟩ => ⟨S8x2048x11264, .f32⟩
  | .hbm, ⟨13, _⟩ => ⟨S8x2048x5632, .f32⟩
  | .hbm, ⟨14, _⟩ => ⟨S8x2048x5632, .f32⟩
  | .hbm, ⟨15, _⟩ => ⟨S8x2048x5632, .f32⟩
  | .hbm, ⟨16, _⟩ => ⟨S8x2048x5632, .f32⟩
  | .hbm, ⟨17, _⟩ => ⟨S_, .f32⟩
  | .hbm, ⟨18, _⟩ => ⟨S8x2048x5632, .f32⟩
  | .hbm, ⟨19, _⟩ => ⟨S8x2048x5632, .f32⟩
  | .hbm, ⟨20, _⟩ => ⟨S_, .f32⟩
  | .hbm, ⟨21, _⟩ => ⟨S8x2048x5632, .f32⟩
  | .hbm, ⟨22, _⟩ => ⟨S8x2048x5632, .f32⟩
  | .hbm, ⟨23, _⟩ => ⟨S8x2048x5632, .f32⟩
  | .hbm, ⟨24, _⟩ => ⟨S8x2048x5632, .f32⟩
  | .hbm, ⟨25, _⟩ => ⟨S5632x2048, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S_, .f32⟩
  | .hbm, ⟨32, _⟩ => ⟨S8x2048, .f32⟩
  | .hbm, ⟨33, _⟩ => ⟨S8x2048x1, .f32⟩
  | .hbm, ⟨34, _⟩ => ⟨S_, .f32⟩
  | .hbm, ⟨35, _⟩ => ⟨S8x2048x1, .f32⟩
  | .hbm, ⟨36, _⟩ => ⟨S8x2048x1, .f32⟩
  | .hbm, ⟨37, _⟩ => ⟨S_, .f32⟩
  | .hbm, ⟨38, _⟩ => ⟨S8x2048x1, .f32⟩
  | .hbm, ⟨39, _⟩ => ⟨S8x2048x1, .f32⟩
  | .hbm, ⟨40, _⟩ => ⟨S8x2048x1, .f32⟩
  | .hbm, ⟨41, _⟩ => ⟨S8x2048x2048, .f32⟩
  | .hbm, ⟨42, _⟩ => ⟨S8x2048x2048, .f32⟩
  | .hbm, ⟨43, _⟩ => ⟨S1x1x2048, .f32⟩
  | .hbm, ⟨44, _⟩ => ⟨S8x2048x2048, .f32⟩
  | .hbm, ⟨45, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩

abbrev nD : Nat := 1
abbrev τ : Topo := Topo.v7x

variable {F : FTy → Type} [FloatOps F]
-- ==== AttnProj.lean ====
abbrev S8x2048x2048 : Shape := ⟨3, ![8, 2048, 2048]⟩
abbrev S4608x2048 : Shape := ⟨2, ![4608, 2048]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S8x2048x1024 : Shape := ⟨3, ![8, 2048, 1024]⟩
abbrev S8x2048x1536 : Shape := ⟨3, ![8, 2048, 1536]⟩
abbrev S1x1024x2048 : Shape := ⟨3, ![1, 1024, 2048]⟩
abbrev S512x2048 : Shape := ⟨2, ![512, 2048]⟩
abbrev S1024x128 : Shape := ⟨2, ![1024, 128]⟩
abbrev S1x1024x512 : Shape := ⟨3, ![1, 1024, 512]⟩
abbrev S1024x2048 : Shape := ⟨2, ![1024, 2048]⟩
abbrev S256x2048 : Shape := ⟨2, ![256, 2048]⟩
abbrev S1024x256 : Shape := ⟨2, ![1024, 256]⟩
abbrev S1x1024x128 : Shape := ⟨3, ![1, 1024, 128]⟩
abbrev S8x128x1024 : Shape := ⟨3, ![8, 128, 1024]⟩
abbrev S1x8x128x2x4x128 : Shape := ⟨6, ![1, 8, 128, 2, 4, 128]⟩
abbrev S8x512x1024 : Shape := ⟨3, ![8, 512, 1024]⟩
abbrev S1x8x512x2x4x128 : Shape := ⟨6, ![1, 8, 512, 2, 4, 128]⟩
abbrev S1x8x2048x2x4x128 : Shape := ⟨6, ![1, 8, 2048, 2, 4, 128]⟩

abbrev nBuf : Space → Nat
  | .hbm => 31
  | .vmem => 16
  | .smem => 0
  | _ => 0

abbrev bufTy : (tb : Table) → Fin (tcTables nBuf tb) → BufTy
  | .hbm, ⟨0, _⟩ => ⟨S8x2048x2048, .bf16⟩
  | .hbm, ⟨1, _⟩ => ⟨S4608x2048, .bf16⟩
  | .hbm, ⟨2, _⟩ => ⟨S2048, .i32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S2048, .f32⟩
  | .hbm, ⟨12, _⟩ => ⟨S2048x1, .f32⟩
  | .hbm, ⟨13, _⟩ => ⟨S1x64, .f32⟩
  | .hbm, ⟨14, _⟩ => ⟨S2048x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S2048x128, .f32⟩
  | .hbm, ⟨20, _⟩ => ⟨S2048x64, .f32⟩
  | .hbm, ⟨21, _⟩ => ⟨S2048x128, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S8x2048x1536, .f32⟩
  | .hbm, ⟨26, _⟩ => ⟨S8x128x1024, .f32⟩
  | .hbm, ⟨27, _⟩ => ⟨S1x8x128x2x4x128, .f32⟩
  | .hbm, ⟨28, _⟩ => ⟨S8x512x1024, .f32⟩
  | .hbm, ⟨29, _⟩ => ⟨S1x8x512x2x4x128, .f32⟩
  | .hbm, ⟨30, _⟩ => ⟨S1x8x2048x2x4x128, .f32⟩
  | .local _ .vmem, ⟨0, _⟩ => ⟨S1x1024x2048, .bf16⟩
  | .local _ .vmem, ⟨1, _⟩ => ⟨S1x1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x1024x512, .f32⟩
  | .local _ .vmem, ⟨9, _⟩ => ⟨S1x1024x512, .f32⟩
  | .local _ .vmem, ⟨10, _⟩ => ⟨S1x1024x512, .f32⟩
  | .local _ .vmem, ⟨11, _⟩ => ⟨S1x1024x512, .f32⟩
  | .local _ .vmem, ⟨12, _⟩ => ⟨S1x1024x512, .f32⟩
  | .local _ .vmem, ⟨13, _⟩ => ⟨S1x1024x512, .f32⟩
  | .local _ .vmem, ⟨14, _⟩ => ⟨S1x1024x512, .f32⟩
  | .local _ .vmem, ⟨15, _⟩ => ⟨S1x1024x512, .f32⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18_0 : Ref sig .tc := ⟨.hbm, 22, rfl⟩
abbrev main_v18_1 : Ref sig .tc := ⟨.hbm, 23, rfl⟩
abbrev main_v18_2 : Ref sig .tc := ⟨.hbm, 24, rfl⟩
abbrev main_v18_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![8, 2, 9], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg2 : BitVec 32 := BitVec.ofNat 32 (i 2).val
  let c2_i32 : BitVec 32 := 2#32
  let v6 : BitVec 1 := Scalar.cmpi .eq arg2 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_3 : BitVec 32 := 0#32
  let v11 : BitVec 1 := Scalar.cmpi .ne v10 c0_i32_3
  v11

def k0_cond5 (i : grid0.Coords) : BitVec 1 :=
  let arg2 : BitVec 32 := BitVec.ofNat 32 (i 2).val
  let c4_i32 : BitVec 32 := 4#32
  let v12 : BitVec 1 := Scalar.cmpi .eq arg2 c4_i32
  let v13 : BitVec 32 := Scalar.extui v12
  let c0_i32_4 : BitVec 32 := 0#32
  let v14 : BitVec 1 := Scalar.cmpi .ne v13 c0_i32_4
  v14

def k0_cond6 (i : grid0.Coords) : BitVec 1 :=
  let arg2 : BitVec 32 := BitVec.ofNat 32 (i 2).val
  let c5_i32 : BitVec 32 := 5#32
  let v15 : BitVec 1 := Scalar.cmpi .eq arg2 c5_i32
  let v16 : BitVec 32 := Scalar.extui v15
  let c0_i32_5 : BitVec 32 := 0#32
  let v17 : BitVec 1 := Scalar.cmpi .ne v16 c0_i32_5
  v17

def k0_cond7 (i : grid0.Coords) : BitVec 1 :=
  let arg2 : BitVec 32 := BitVec.ofNat 32 (i 2).val
  let c6_i32 : BitVec 32 := 6#32
  let v18 : BitVec 1 := Scalar.cmpi .sge arg2 c6_i32
  let v19 : BitVec 32 := Scalar.extui v18
  let c0_i32_6 : BitVec 32 := 0#32
  let v20 : BitVec 1 := Scalar.cmpi .ne v19 c0_i32_6
  v20

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, arg1.toNat, v2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, arg1.toNat, v2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, arg1.toNat, v2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.subi arg2 c6_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg0.toNat, arg1.toNat, v2.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== AttnProjRefIdeal.lean ====
abbrev S8x2048x2048 : Shape := ⟨3, ![8, 2048, 2048]⟩
abbrev S4608x2048 : Shape := ⟨2, ![4608, 2048]⟩
abbrev S2048 : Shape := ⟨1, ![2048]⟩
abbrev S2048x4608 : Shape := ⟨2, ![2048, 4608]⟩
abbrev S8x2048x4608 : Shape := ⟨3, ![8, 2048, 4608]⟩
abbrev S8x2048x512 : Shape := ⟨3, ![8, 2048, 512]⟩
abbrev S8x2048x1536 : Shape := ⟨3, ![8, 2048, 1536]⟩
abbrev S8x2048x1x4x128 : Shape := ⟨5, ![8, 2048, 1, 4, 128]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S1x2048x1x1x64 : Shape := ⟨5, ![1, 2048, 1, 1, 64]⟩
abbrev S8x2048x1x4x64 : Shape := ⟨5, ![8, 2048, 1, 4, 64]⟩
abbrev S8x2048x4x128 : Shape := ⟨4, ![8, 2048, 4, 128]⟩
abbrev S8x2048x2x4x128 : Shape := ⟨5, ![8, 2048, 2, 4, 128]⟩
abbrev S8x2048x3x4x128 : Shape := ⟨5, ![8, 2048, 3, 4, 128]⟩
abbrev S8x2048x3x4x64 : Shape := ⟨5, ![8, 2048, 3, 4, 64]⟩
abbrev S8x128x2x4x128 : Shape := ⟨5, ![8, 128, 2, 4, 128]⟩
abbrev S1x8x128x2x4x128 : Shape := ⟨6, ![1, 8, 128, 2, 4, 128]⟩
abbrev S8x512x2x4x128 : Shape := ⟨5, ![8, 512, 2, 4, 128]⟩
abbrev S1x8x512x2x4x128 : Shape := ⟨6, ![1, 8, 512, 2, 4, 128]⟩
abbrev S1x8x2048x2x4x128 : Shape := ⟨6, ![1, 8, 2048, 2, 4, 128]⟩
abbrev S8x2048x1024 : Shape := ⟨3, ![8, 2048, 1024]⟩

abbrev nBuf : Space → Nat
  | .hbm => 166
  | .vmem => 0
  | .smem => 0
  | _ => 0

abbrev hbmTy0_0 (i : Nat) : BufTy := match i % 128 with
  | 0 => ⟨S8x2048x2048, .bf16⟩
  | 1 => ⟨S4608x2048, .bf16⟩
  | 2 => ⟨S2048, .i32⟩
  | 3 => ⟨S2048x4608, .bf16⟩
  | 4 => ⟨S8x2048x2048, .f32⟩
  | 5 => ⟨S2048x4608, .f32⟩
  | 6 => ⟨S8x2048x4608, .f32⟩
  | 7 => ⟨S8x2048x512, .f32⟩
  | 8 => ⟨S8x2048x512, .f32⟩
  | 9 => ⟨S8x2048x512, .f32⟩
  | 10 => ⟨S8x2048x512, .f32⟩
  | 11 => ⟨S8x2048x512, .f32⟩
  | 12 => ⟨S8x2048x512, .f32⟩
  | 13 => ⟨S8x2048x1536, .f32⟩
  | 14 => ⟨S8x2048x1x4x128, .f32⟩
  | 15 => ⟨S64, .f32⟩
  | 16 => ⟨S64, .f32⟩
  | 17 => ⟨S_, .f32⟩
  | 18 => ⟨S64, .f32⟩
  | 19 => ⟨S64, .f32⟩
  | 20 => ⟨S_, .f32⟩
  | 21 => ⟨S64, .f32⟩
  | 22 => ⟨S64, .f32⟩
  | 23 => ⟨S2048, .f32⟩
  | 24 => ⟨S2048x1, .f32⟩
  | 25 => ⟨S1x64, .f32⟩
  | 26 => ⟨S2048x64, .f32⟩
  | 27 => ⟨S2048x64, .f32⟩
  | 28 => ⟨S2048x64, .f32⟩
  | 29 => ⟨S2048x64, .f32⟩
  | 30 => ⟨S1x2048x1x1x64, .f32⟩
  | 31 => ⟨S2048x64, .f32⟩
  | 32 => ⟨S1x2048x1x1x64, .f32⟩
  | 33 => ⟨S8x2048x1x4x64, .f32⟩
  | 34 => ⟨S8x2048x1x4x64, .f32⟩
  | 35 => ⟨S8x2048x1x4x64, .f32⟩
  | 36 => ⟨S8x2048x1x4x64, .f32⟩
  | 37 => ⟨S8x2048x1x4x64, .f32⟩
  | 38 => ⟨S8x2048x1x4x64, .f32⟩
  | 39 => ⟨S8x2048x1x4x64, .f32⟩
  | 40 => ⟨S8x2048x1x4x64, .f32⟩
  | 41 => ⟨S8x2048x1x4x64, .f32⟩
  | 42 => ⟨S8x2048x1x4x64, .f32⟩
  | 43 => ⟨S8x2048x1x4x64, .f32⟩
  | 44 => ⟨S8x2048x1x4x64, .f32⟩
  | 45 => ⟨S8x2048x1x4x128, .f32⟩
  | 46 => ⟨S8x2048x4x128, .f32⟩
  | 47 => ⟨S8x2048x4x128, .f32⟩
  | 48 => ⟨S8x2048x1x4x128, .f32⟩
  | 49 => ⟨S8x2048x1x4x128, .f32⟩
  | 50 => ⟨S8x2048x2x4x128, .f32⟩
  | 51 => ⟨S8x2048x1x4x128, .f32⟩
  | 52 => ⟨S64, .f32⟩
  | 53 => ⟨S64, .f32⟩
  | 54 => ⟨S_, .f32⟩
  | 55 => ⟨S64, .f32⟩
  | 56 => ⟨S64, .f32⟩
  | 57 => ⟨S_, .f32⟩
  | 58 => ⟨S64, .f32⟩
  | 59 => ⟨S64, .f32⟩
  | 60 => ⟨S2048, .f32⟩
  | 61 => ⟨S2048x1, .f32⟩
  | 62 => ⟨S1x64, .f32⟩
  | 63 => ⟨S2048x64, .f32⟩
  | 64 => ⟨S2048x64, .f32⟩
  | 65 => ⟨S2048x64, .f32⟩
  | 66 => ⟨S2048x64, .f32⟩
  | 67 => ⟨S1x2048x1x1x64, .f32⟩
  | 68 => ⟨S2048x64, .f32⟩
  | 69 => ⟨S1x2048x1x1x64, .f32⟩
  | 70 => ⟨S8x2048x1x4x64, .f32⟩
  | 71 => ⟨S8x2048x1x4x64, .f32⟩
  | 72 => ⟨S8x2048x1x4x64, .f32⟩
  | 73 => ⟨S8x2048x1x4x64, .f32⟩
  | 74 => ⟨S8x2048x1x4x64, .f32⟩
  | 75 => ⟨S8x2048x1x4x64, .f32⟩
  | 76 => ⟨S8x2048x1x4x64, .f32⟩
  | 77 => ⟨S8x2048x1x4x64, .f32⟩
  | 78 => ⟨S8x2048x1x4x64, .f32⟩
  | 79 => ⟨S8x2048x1x4x64, .f32⟩
  | 80 => ⟨S8x2048x1x4x64, .f32⟩
  | 81 => ⟨S8x2048x1x4x64, .f32⟩
  | 82 => ⟨S8x2048x1x4x128, .f32⟩
  | 83 => ⟨S8x2048x4x128, .f32⟩
  | 84 => ⟨S8x2048x4x128, .f32⟩
  | 85 => ⟨S8x2048x1x4x128, .f32⟩
  | 86 => ⟨S8x2048x1x4x128, .f32⟩
  | 87 => ⟨S8x2048x2x4x128, .f32⟩
  | 88 => ⟨S8x2048x1x4x128, .f32⟩
  | 89 => ⟨S64, .f32⟩
  | 90 => ⟨S64, .f32⟩
  | 91 => ⟨S_, .f32⟩
  | 92 => ⟨S64, .f32⟩
  | 93 => ⟨S64, .f32⟩
  | 94 => ⟨S_, .f32⟩
  | 95 => ⟨S64, .f32⟩
  | 96 => ⟨S64, .f32⟩
  | 97 => ⟨S2048, .f32⟩
  | 98 => ⟨S2048x1, .f32⟩
  | 99 => ⟨S1x64, .f32⟩
  | 100 => ⟨S2048x64, .f32⟩
  | 101 => ⟨S2048x64, .f32⟩
  | 102 => ⟨S2048x64, .f32⟩
  | 103 => ⟨S2048x64, .f32⟩
  | 104 => ⟨S1x2048x1x1x64, .f32⟩
  | 105 => ⟨S2048x64, .f32⟩
  | 106 => ⟨S1x2048x1x1x64, .f32⟩
  | 107 => ⟨S8x2048x1x4x64, .f32⟩
  | 108 => ⟨S8x2048x1x4x64, .f32⟩
  | 109 => ⟨S8x2048x1x4x64, .f32⟩
  | 110 => ⟨S8x2048x1x4x64, .f32⟩
  | 111 => ⟨S8x2048x1x4x64, .f32⟩
  | 112 => ⟨S8x2048x1x4x64, .f32⟩
  | 113 => ⟨S8x2048x1x4x64, .f32⟩
  | 114 => ⟨S8x2048x1x4x64, .f32⟩
  | 115 => ⟨S8x2048x1x4x64, .f32⟩
  | 116 => ⟨S8x2048x1x4x64, .f32⟩
  | 117 => ⟨S8x2048x1x4x64, .f32⟩
  | 118 => ⟨S8x2048x1x4x64, .f32⟩
  | 119 => ⟨S8x2048x1x4x128, .f32⟩
  | 120 => ⟨S8x2048x4x128, .f32⟩
  | 121 => ⟨S8x2048x4x128, .f32⟩
  | 122 => ⟨S8x2048x1x4x128, .f32⟩
  | 123 => ⟨S8x2048x1x4x128, .f32⟩
  | 124 => ⟨S8x2048x2x4x128, .f32⟩
  | 125 => ⟨S8x2048x3x4x128, .f32⟩
  | 126 => ⟨S64, .f32⟩
  | 127 => ⟨S64, .f32⟩
  | _ => ⟨S8x2048x2048, .bf16⟩

abbrev hbmTy0_1 (i : Nat) : BufTy := match i % 128 with
  | 0 => ⟨S_, .f32⟩
  | 1 => ⟨S64, .f32⟩
  | 2 => ⟨S64, .f32⟩
  | 3 => ⟨S_, .f32⟩
  | 4 => ⟨S64, .f32⟩
  | 5 => ⟨S64, .f32⟩
  | 6 => ⟨S2048, .f32⟩
  | 7 => ⟨S2048x1, .f32⟩
  | 8 => ⟨S1x64, .f32⟩
  | 9 => ⟨S2048x64, .f32⟩
  | 10 => ⟨S2048x64, .f32⟩
  | 11 => ⟨S2048x64, .f32⟩
  | 12 => ⟨S2048x64, .f32⟩
  | 13 => ⟨S1x2048x1x1x64, .f32⟩
  | 14 => ⟨S2048x64, .f32⟩
  | 15 => ⟨S1x2048x1x1x64, .f32⟩
  | 16 => ⟨S8x2048x3x4x64, .f32⟩
  | 17 => ⟨S8x2048x3x4x64, .f32⟩
  | 18 => ⟨S8x2048x3x4x64, .f32⟩
  | 19 => ⟨S8x2048x3x4x64, .f32⟩
  | 20 => ⟨S8x2048x3x4x64, .f32⟩
  | 21 => ⟨S8x2048x3x4x64, .f32⟩
  | 22 => ⟨S8x2048x3x4x64, .f32⟩
  | 23 => ⟨S8x2048x3x4x64, .f32⟩
  | 24 => ⟨S8x2048x3x4x64, .f32⟩
  | 25 => ⟨S8x2048x3x4x64, .f32⟩
  | 26 => ⟨S8x2048x3x4x64, .f32⟩
  | 27 => ⟨S8x2048x3x4x64, .f32⟩
  | 28 => ⟨S8x2048x3x4x128, .f32⟩
  | 29 => ⟨S8x2048x1536, .f32⟩
  | 30 => ⟨S8x128x2x4x128, .f32⟩
  | 31 => ⟨S1x8x128x2x4x128, .f32⟩
  | 32 => ⟨S8x512x2x4x128, .f32⟩
  | 33 => ⟨S1x8x512x2x4x128, .f32⟩
  | 34 => ⟨S1x8x2048x2x4x128, .f32⟩
  | 35 => ⟨S8x2048x1024, .f32⟩
  | 36 => ⟨S8x2048x1024, .f32⟩
  | 37 => ⟨S8x2048x1024, .f32⟩
  | _ => ⟨S8x2048x2048, .bf16⟩

abbrev hbmTy (i : Nat) : BufTy := match i / 128 with
  | 0 => hbmTy0_0 i
  | 1 => hbmTy0_1 i
  | _ => ⟨S8x2048x2048, .bf16⟩

abbrev bufTy : (tb : Table) → Fin (tcTables nBuf tb) → BufTy
  | .hbm, ⟨i, _⟩ => hbmTy i
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_cst_1 : Ref sig .tc := ⟨.hbm, 54, rfl⟩
abbrev main_v50 : Ref sig .tc := ⟨.hbm, 55, rfl⟩
abbrev main_v51 : Ref sig .tc := ⟨.hbm, 56, rfl⟩
abbrev main_cst_2 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_cst_3 : Ref sig .tc := ⟨.hbm, 91, rfl⟩
abbrev main_v85 : Ref sig .tc := ⟨.hbm, 92, rfl⟩
abbrev main_v86 : Ref sig .tc := ⟨.hbm, 93, rfl⟩
abbrev main_cst_4 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_cst_5 : Ref sig .tc := ⟨.hbm, 128, rfl⟩
abbrev main_v120 : Ref sig .tc := ⟨.hbm, 129, rfl⟩
abbrev main_v121 : Ref sig .tc := ⟨.hbm, 130, rfl⟩
abbrev main_cst_6 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩

abbrev nD : Nat := 1
abbrev τ : Topo := Topo.v7x

variable {F : FTy → Type} [FloatOps F]
-- ==== ProjAz.lean ====
abbrev S8x2048x2048 : Shape := ⟨3, ![8, 2048, 2048]⟩
abbrev S12800x2048 : Shape := ⟨2, ![12800, 2048]⟩
abbrev S8x2048x4096 : Shape := ⟨3, ![8, 2048, 4096]⟩
abbrev S8x16x4096 : Shape := ⟨3, ![8, 16, 4096]⟩
abbrev S1x1024x2048 : Shape := ⟨3, ![1, 1024, 2048]⟩
abbrev S2048x2048 : Shape := ⟨2, ![2048, 2048]⟩
abbrev S1x8x2048 : Shape := ⟨3, ![1, 8, 2048]⟩
abbrev S1024x2048 : Shape := ⟨2, ![1024, 2048]⟩
abbrev S8x2048 : Shape := ⟨2, ![8, 2048]⟩
abbrev S8x8x4096 : Shape := ⟨3, ![8, 8, 4096]⟩
abbrev S8x8x3072 : Shape := ⟨3, ![8, 8, 3072]⟩
abbrev S8x3x3072 : Shape := ⟨3, ![8, 3, 3072]⟩
abbrev S1x8x3x3072 : Shape := ⟨4, ![1, 8, 3, 3072]⟩

abbrev nBuf : Space → Nat
  | .hbm => 8
  | .vmem => 8
  | .smem => 0
  | _ => 0

abbrev bufTy : (tb : Table) → Fin (tcTables nBuf tb) → BufTy
  | .hbm, ⟨0, _⟩ => ⟨S8x2048x2048, .bf16⟩
  | .hbm, ⟨1, _⟩ => ⟨S12800x2048, .bf16⟩
  | .hbm, ⟨2, _⟩ => ⟨S8x2048x4096, .bf16⟩
  | .hbm, ⟨3, _⟩ => ⟨S8x16x4096, .f32⟩
  | .hbm, ⟨4, _⟩ => ⟨S8x8x4096, .f32⟩
  | .hbm, ⟨5, _⟩ => ⟨S8x8x3072, .f32⟩
  | .hbm, ⟨6, _⟩ => ⟨S8x3x3072, .f32⟩
  | .hbm, ⟨7, _⟩ => ⟨S1x8x3x3072, .f32⟩
  | .local _ .vmem, ⟨0, _⟩ => ⟨S1x1024x2048, .bf16⟩
  | .local _ .vmem, ⟨1, _⟩ => ⟨S1x1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1x8x2048, .f32⟩
  | .local _ .vmem, ⟨7, _⟩ => ⟨S1x8x2048, .f32⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ProjAzRefIdeal.lean ====
abbrev S8x2048x2048 : Shape := ⟨3, ![8, 2048, 2048]⟩
abbrev S12800x2048 : Shape := ⟨2, ![12800, 2048]⟩
abbrev S4096x2048 : Shape := ⟨2, ![4096, 2048]⟩
abbrev S2048x4096 : Shape := ⟨2, ![2048, 4096]⟩
abbrev S8x2048x4096 : Shape := ⟨3, ![8, 2048, 4096]⟩
abbrev S8x3x3072 : Shape := ⟨3, ![8, 3, 3072]⟩
abbrev S1x8x3x3072 : Shape := ⟨4, ![1, 8, 3, 3072]⟩

abbrev nBuf : Space → Nat
  | .hbm => 10
  | .vmem => 0
  | .smem => 0
  | _ => 0

abbrev bufTy : (tb : Table) → Fin (tcTables nBuf tb) → BufTy
  | .hbm, ⟨0, _⟩ => ⟨S8x2048x2048, .bf16⟩
  | .hbm, ⟨1, _⟩ => ⟨S12800x2048, .bf16⟩
  | .hbm, ⟨2, _⟩ => ⟨S4096x2048, .bf16⟩
  | .hbm, ⟨3, _⟩ => ⟨S2048x4096, .bf16⟩
  | .hbm, ⟨4, _⟩ => ⟨S8x2048x2048, .f32⟩
  | .hbm, ⟨5, _⟩ => ⟨S2048x4096, .f32⟩
  | .hbm, ⟨6, _⟩ => ⟨S8x2048x4096, .f32⟩
  | .hbm, ⟨7, _⟩ => ⟨S8x2048x4096, .bf16⟩
  | .hbm, ⟨8, _⟩ => ⟨S8x3x3072, .f32⟩
  | .hbm, ⟨9, _⟩ => ⟨S1x8x3x3072, .f32⟩
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== ProjGates.lean ====
abbrev S8x2048x2048 : Shape := ⟨3, ![8, 2048, 2048]⟩
abbrev S4096x2048 : Shape := ⟨2, ![4096, 2048]⟩
abbrev S8x2048x4096 : Shape := ⟨3, ![8, 2048, 4096]⟩
abbrev S1x1024x2048 : Shape := ⟨3, ![1, 1024, 2048]⟩
abbrev S2048x2048 : Shape := ⟨2, ![2048, 2048]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8x2048x2048, .bf16⟩
  | .hbm, ⟨1, _⟩ => ⟨S4096x2048, .bf16⟩
  | .hbm, ⟨2, _⟩ => ⟨S8x2048x4096, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1x1024x2048, .bf16⟩
  | .local _ .vmem, ⟨5, _⟩ => ⟨S1x1024x2048, .bf16⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== ProjGatesRefIdeal.lean ====
abbrev S8x2048x2048 : Shape := ⟨3, ![8, 2048, 2048]⟩
abbrev S4096x2048 : Shape := ⟨2, ![4096, 2048]⟩
abbrev S2048x4096 : Shape := ⟨2, ![2048, 4096]⟩
abbrev S8x2048x4096 : Shape := ⟨3, ![8, 2048, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8x2048x2048, .bf16⟩
  | .hbm, ⟨1, _⟩ => ⟨S4096x2048, .bf16⟩
  | .hbm, ⟨2, _⟩ => ⟨S2048x4096, .bf16⟩
  | .hbm, ⟨3, _⟩ => ⟨S8x2048x2048, .f32⟩
  | .hbm, ⟨4, _⟩ => ⟨S2048x4096, .f32⟩
  | .hbm, ⟨5, _⟩ => ⟨S8x2048x4096, .f32⟩
  | .hbm, ⟨6, _⟩ => ⟨S8x2048x4096, .bf16⟩
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FfnLastSample.lean ====
abbrev S1x32x2048 : Shape := ⟨3, ![1, 32, 2048]⟩
abbrev S1x32x18432 : Shape := ⟨3, ![1, 32, 18432]⟩
abbrev S2048x11264 : Shape := ⟨2, ![2048, 11264]⟩
abbrev S5632x2048 : Shape := ⟨2, ![5632, 2048]⟩
abbrev S2048 : Shape := ⟨1, ![2048]⟩
abbrev S1x2048 : Shape := ⟨2, ![1, 2048]⟩
abbrev S2048x512 : Shape := ⟨2, ![2048, 512]⟩
abbrev S512x2048 : Shape := ⟨2, ![512, 2048]⟩
abbrev S32x2048 : Shape := ⟨2, ![32, 2048]⟩
abbrev S32x512 : Shape := ⟨2, ![32, 512]⟩
abbrev S1x16x2048 : Shape := ⟨3, ![1, 16, 2048]⟩
abbrev S16x2048 : Shape := ⟨2, ![16, 2048]⟩
abbrev S16 : Shape := ⟨1, ![16]⟩
abbrev S16x1 : Shape := ⟨2, ![16, 1]⟩
abbrev S32x1x2048 : Shape := ⟨3, ![32, 1, 2048]⟩

abbrev nBuf : Space → Nat
  | .hbm => 9
  | .vmem => 12
  | .smem => 0
  | _ => 0

abbrev bufTy : (tb : Table) → Fin (tcTables nBuf tb) → BufTy
  | .hbm, ⟨0, _⟩ => ⟨S1x32x2048, .f32⟩
  | .hbm, ⟨1, _⟩ => ⟨S1x32x2048, .bf16⟩
  | .hbm, ⟨2, _⟩ => ⟨S1x32x18432, .f32⟩
  | .hbm, ⟨3, _⟩ => ⟨S2048x11264, .bf16⟩
  | .hbm, ⟨4, _⟩ => ⟨S5632x2048, .bf16⟩
  | .hbm, ⟨5, _⟩ => ⟨S2048, .f32⟩
  | .hbm, ⟨6, _⟩ => ⟨S1x2048, .f32⟩
  | .hbm, ⟨7, _⟩ => ⟨S1x32x2048, .f32⟩
  | .hbm, ⟨8, _⟩ => ⟨S32x1x2048, .f32⟩
  | .local _ .vmem, ⟨0, _⟩ => ⟨S1x32x2048, .f32⟩
  | .local _ .vmem, ⟨1, _⟩ => ⟨S1x32x2048, .bf16⟩
  | .local _ .vmem, ⟨2, _⟩ => ⟨S1x32x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1x32x2048, .f32⟩
  | .local _ .vmem, ⟨11, _⟩ => ⟨S32x2048, .f32⟩
  | _, _ => ⟨S1x32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨3, ![1, 1, 11], ![false, false, false]⟩

def k0_cond2 (i : grid0.Coords) : BitVec 1 :=
  let arg2 : BitVec 32 := BitVec.ofNat 32 (i 2).val
  let c10_i32 : BitVec 32 := 10#32
  let v26 : BitVec 1 := Scalar.cmpi .eq arg2 c10_i32
  let v27 : BitVec 32 := Scalar.extui v26
  let c0_i32_18 : BitVec 32 := 0#32
  let v28 : BitVec 1 := Scalar.cmpi .ne v27 c0_i32_18
  v28

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let c0_i32 : BitVec 32 := 0#32
  ![arg0.toNat, arg1.toNat, c8_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi arg2 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 1 → Memref sig .tc .vmem S1x32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 1 → Memref sig .tc .vmem S1x32x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S1x32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x32x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true, false]
-- ==== FfnLastSampleRefIdeal.lean ====
abbrev S1x32x2048 : Shape := ⟨3, ![1, 32, 2048]⟩
abbrev S1x32x18432 : Shape := ⟨3, ![1, 32, 18432]⟩
abbrev S2048x11264 : Shape := ⟨2, ![2048, 11264]⟩
abbrev S5632x2048 : Shape := ⟨2, ![5632, 2048]⟩
abbrev S2048 : Shape := ⟨1, ![2048]⟩
abbrev S_ : Shape := ⟨0, ![]⟩
abbrev S1x32x11264 : Shape := ⟨3, ![1, 32, 11264]⟩
abbrev S1x32x5632 : Shape := ⟨3, ![1, 32, 5632]⟩
abbrev S1x32 : Shape := ⟨2, ![1, 32]⟩
abbrev S1x32x1 : Shape := ⟨3, ![1, 32, 1]⟩
abbrev S1x1x2048 : Shape := ⟨3, ![1, 1, 2048]⟩
abbrev S32x1x2048 : Shape := ⟨3, ![32, 1, 2048]⟩

abbrev nBuf : Space → Nat
  | .hbm => 46
  | .vmem => 0
  | .smem => 0
  | _ => 0

abbrev bufTy : (tb : Table) → Fin (tcTables nBuf tb) → BufTy
  | .hbm, ⟨0, _⟩ => ⟨S1x32x2048, .f32⟩
  | .hbm, ⟨1, _⟩ => ⟨S1x32x2048, .bf16⟩
  | .hbm, ⟨2, _⟩ => ⟨S1x32x18432, .f32⟩
  | .hbm, ⟨3, _⟩ => ⟨S2048x11264, .bf16⟩
  | .hbm, ⟨4, _⟩ => ⟨S5632x2048, .bf16⟩
  | .hbm, ⟨5, _⟩ => ⟨S2048, .f32⟩
  | .hbm, ⟨6, _⟩ => ⟨S1x32x2048, .f32⟩
  | .hbm, ⟨7, _⟩ => ⟨S_, .f32⟩
  | .hbm, ⟨8, _⟩ => ⟨S1x32x2048, .f32⟩
  | .hbm, ⟨9, _⟩ => ⟨S1x32x2048, .f32⟩
  | .hbm, ⟨10, _⟩ => ⟨S1x32x2048, .f32⟩
  | .hbm, ⟨11, _⟩ => ⟨S2048x11264, .f32⟩
  | .hbm, ⟨12, _⟩ => ⟨S1x32x11264, .f32⟩
  | .hbm, ⟨13, _⟩ => ⟨S1x32x5632, .f32⟩
  | .hbm, ⟨14, _⟩ => ⟨S1x32x5632, .f32⟩
  | .hbm, ⟨15, _⟩ => ⟨S1x32x5632, .f32⟩
  | .hbm, ⟨16, _⟩ => ⟨S1x32x5632, .f32⟩
  | .hbm, ⟨17, _⟩ => ⟨S_, .f32⟩
  | .hbm, ⟨18, _⟩ => ⟨S1x32x5632, .f32⟩
  | .hbm, ⟨19, _⟩ => ⟨S1x32x5632, .f32⟩
  | .hbm, ⟨20, _⟩ => ⟨S_, .f32⟩
  | .hbm, ⟨21, _⟩ => ⟨S1x32x5632, .f32⟩
  | .hbm, ⟨22, _⟩ => ⟨S1x32x5632, .f32⟩
  | .hbm, ⟨23, _⟩ => ⟨S1x32x5632, .f32⟩
  | .hbm, ⟨24, _⟩ => ⟨S1x32x5632, .f32⟩
  | .hbm, ⟨25, _⟩ => ⟨S5632x2048, .f32⟩
  | .hbm, ⟨26, _⟩ => ⟨S1x32x2048, .f32⟩
  | .hbm, ⟨27, _⟩ => ⟨S1x32x2048, .f32⟩
  | .hbm, ⟨28, _⟩ => ⟨S1x32x2048, .f32⟩
  | .hbm, ⟨29, _⟩ => ⟨S1x32x2048, .f32⟩
  | .hbm, ⟨30, _⟩ => ⟨S_, .f32⟩
  | .hbm, ⟨31, _⟩ => ⟨S1x32, .f32⟩
  | .hbm, ⟨32, _⟩ => ⟨S1x32x1, .f32⟩
  | .hbm, ⟨33, _⟩ => ⟨S_, .f32⟩
  | .hbm, ⟨34, _⟩ => ⟨S1x32x1, .f32⟩
  | .hbm, ⟨35, _⟩ => ⟨S1x32x1, .f32⟩
  | .hbm, ⟨36, _⟩ => ⟨S_, .f32⟩
  | .hbm, ⟨37, _⟩ => ⟨S1x32x1, .f32⟩
  | .hbm, ⟨38, _⟩ => ⟨S1x32x1, .f32⟩
  | .hbm, ⟨39, _⟩ => ⟨S1x32x1, .f32⟩
  | .hbm, ⟨40, _⟩ => ⟨S1x32x2048, .f32⟩
  | .hbm, ⟨41, _⟩ => ⟨S1x32x2048, .f32⟩
  | .hbm, ⟨42, _⟩ => ⟨S1x1x2048, .f32⟩
  | .hbm, ⟨43, _⟩ => ⟨S1x32x2048, .f32⟩
  | .hbm, ⟨44, _⟩ => ⟨S1x32x2048, .f32⟩
  | .hbm, ⟨45, _⟩ => ⟨S32x1x2048, .f32⟩
  | _, _ => ⟨S1x32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩

abbrev nD : Nat := 1
abbrev τ : Topo := Topo.v7x

variable {F : FTy → Type} [FloatOps F]
-- ==== ProjAzSample.lean ====
abbrev S1x32x2048 : Shape := ⟨3, ![1, 32, 2048]⟩
abbrev S12800x2048 : Shape := ⟨2, ![12800, 2048]⟩
abbrev S32x3x3072 : Shape := ⟨3, ![32, 3, 3072]⟩
abbrev S1x32x4096 : Shape := ⟨3, ![1, 32, 4096]⟩
abbrev S2048x2048 : Shape := ⟨2, ![2048, 2048]⟩
abbrev S32x2048 : Shape := ⟨2, ![32, 2048]⟩
abbrev S32x1x4096 : Shape := ⟨3, ![32, 1, 4096]⟩
abbrev S32x1x3072 : Shape := ⟨3, ![32, 1, 3072]⟩
abbrev S32x4x3072 : Shape := ⟨3, ![32, 4, 3072]⟩
abbrev S1x32x3x3072 : Shape := ⟨4, ![1, 32, 3, 3072]⟩

abbrev nBuf : Space → Nat
  | .hbm => 9
  | .vmem => 5
  | .smem => 0
  | _ => 0

abbrev bufTy : (tb : Table) → Fin (tcTables nBuf tb) → BufTy
  | .hbm, ⟨0, _⟩ => ⟨S1x32x2048, .bf16⟩
  | .hbm, ⟨1, _⟩ => ⟨S12800x2048, .bf16⟩
  | .hbm, ⟨2, _⟩ => ⟨S32x3x3072, .f32⟩
  | .hbm, ⟨3, _⟩ => ⟨S1x32x4096, .f32⟩
  | .hbm, ⟨4, _⟩ => ⟨S32x1x4096, .f32⟩
  | .hbm, ⟨5, _⟩ => ⟨S32x1x3072, .f32⟩
  | .hbm, ⟨6, _⟩ => ⟨S32x4x3072, .f32⟩
  | .hbm, ⟨7, _⟩ => ⟨S32x3x3072, .f32⟩
  | .hbm, ⟨8, _⟩ => ⟨S1x32x3x3072, .f32⟩
  | .local _ .vmem, ⟨0, _⟩ => ⟨S1x32x2048, .bf16⟩
  | .local _ .vmem, ⟨1, _⟩ => ⟨S2048x2048, .bf16⟩
  | .local _ .vmem, ⟨2, _⟩ => ⟨S2048x2048, .bf16⟩
  | .local _ .vmem, ⟨3, _⟩ => ⟨S1x32x2048, .f32⟩
  | .local _ .vmem, ⟨4, _⟩ => ⟨S1x32x2048, .f32⟩
  | _, _ => ⟨S1x32x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 1, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x32x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== ProjAzSampleRefIdeal.lean ====
abbrev S1x32x2048 : Shape := ⟨3, ![1, 32, 2048]⟩
abbrev S12800x2048 : Shape := ⟨2, ![12800, 2048]⟩
abbrev S32x3x3072 : Shape := ⟨3, ![32, 3, 3072]⟩
abbrev S4096x2048 : Shape := ⟨2, ![4096, 2048]⟩
abbrev S2048x4096 : Shape := ⟨2, ![2048, 4096]⟩
abbrev S1x32x4096 : Shape := ⟨3, ![1, 32, 4096]⟩
abbrev S32x1x4096 : Shape := ⟨3, ![32, 1, 4096]⟩
abbrev S32x1x3072 : Shape := ⟨3, ![32, 1, 3072]⟩
abbrev S32x4x3072 : Shape := ⟨3, ![32, 4, 3072]⟩
abbrev S1x32x3x3072 : Shape := ⟨4, ![1, 32, 3, 3072]⟩

abbrev nBuf : Space → Nat
  | .hbm => 13
  | .vmem => 0
  | .smem => 0
  | _ => 0

abbrev bufTy : (tb : Table) → Fin (tcTables nBuf tb) → BufTy
  | .hbm, ⟨0, _⟩ => ⟨S1x32x2048, .bf16⟩
  | .hbm, ⟨1, _⟩ => ⟨S12800x2048, .bf16⟩
  | .hbm, ⟨2, _⟩ => ⟨S32x3x3072, .f32⟩
  | .hbm, ⟨3, _⟩ => ⟨S4096x2048, .bf16⟩
  | .hbm, ⟨4, _⟩ => ⟨S2048x4096, .bf16⟩
  | .hbm, ⟨5, _⟩ => ⟨S1x32x2048, .f32⟩
  | .hbm, ⟨6, _⟩ => ⟨S2048x4096, .f32⟩
  | .hbm, ⟨7, _⟩ => ⟨S1x32x4096, .f32⟩
  | .hbm, ⟨8, _⟩ => ⟨S32x1x4096, .f32⟩
  | .hbm, ⟨9, _⟩ => ⟨S32x1x3072, .f32⟩
  | .hbm, ⟨10, _⟩ => ⟨S32x4x3072, .f32⟩
  | .hbm, ⟨11, _⟩ => ⟨S32x3x3072, .f32⟩
  | .hbm, ⟨12, _⟩ => ⟨S1x32x3x3072, .f32⟩
  | _, _ => ⟨S1x32x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== AttnProjSample.lean ====
abbrev S1x32x2048 : Shape := ⟨3, ![1, 32, 2048]⟩
abbrev S4608x2048 : Shape := ⟨2, ![4608, 2048]⟩
abbrev S_ : Shape := ⟨0, ![]⟩
abbrev S32 : Shape := ⟨1, ![32]⟩
abbrev S64 : Shape := ⟨1, ![64]⟩
abbrev S32x1 : Shape := ⟨2, ![32, 1]⟩
abbrev S1x64 : Shape := ⟨2, ![1, 64]⟩
abbrev S32x64 : Shape := ⟨2, ![32, 64]⟩
abbrev S32x128 : Shape := ⟨2, ![32, 128]⟩
abbrev S1x32x1024 : Shape := ⟨3, ![1, 32, 1024]⟩
abbrev S1x32x1536 : Shape := ⟨3, ![1, 32, 1536]⟩
abbrev S512x2048 : Shape := ⟨2, ![512, 2048]⟩
abbrev S1x32x512 : Shape := ⟨3, ![1, 32, 512]⟩
abbrev S32x2048 : Shape := ⟨2, ![32, 2048]⟩
abbrev S256x2048 : Shape := ⟨2, ![256, 2048]⟩
abbrev S32x256 : Shape := ⟨2, ![32, 256]⟩
abbrev S1x32x128 : Shape := ⟨3, ![1, 32, 128]⟩
abbrev S1x32x1x2x4x128 : Shape := ⟨6, ![1, 32, 1, 2, 4, 128]⟩

abbrev nBuf : Space → Nat
  | .hbm => 30
  | .vmem => 13
  | .smem => 0
  | _ => 0

abbrev bufTy : (tb : Table) → Fin (tcTables nBuf tb) → BufTy
  | .hbm, ⟨0, _⟩ => ⟨S1x32x2048, .bf16⟩
  | .hbm, ⟨1, _⟩ => ⟨S4608x2048, .bf16⟩
  | .hbm, ⟨2, _⟩ => ⟨S_, .i32⟩
  | .hbm, ⟨3, _⟩ => ⟨S32, .i32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S32, .f32⟩
  | .hbm, ⟨13, _⟩ => ⟨S32x1, .f32⟩
  | .hbm, ⟨14, _⟩ => ⟨S1x64, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x128, .f32⟩
  | .hbm, ⟨21, _⟩ => ⟨S32x64, .f32⟩
  | .hbm, ⟨22, _⟩ => ⟨S32x128, .f32⟩
  | .hbm, ⟨23, _⟩ => ⟨S1x32x1024, .f32⟩
  | .hbm, ⟨24, _⟩ => ⟨S1x32x1024, .f32⟩
  | .hbm, ⟨25, _⟩ => ⟨S1x32x1024, .f32⟩
  | .hbm, ⟨26, _⟩ => ⟨S1x32x1536, .f32⟩
  | .hbm, ⟨27, _⟩ => ⟨S1x32x1x2x4x128, .f32⟩
  | .hbm, ⟨28, _⟩ => ⟨S1x32x1x2x4x128, .f32⟩
  | .hbm, ⟨29, _⟩ => ⟨S1x32x1x2x4x128, .f32⟩
  | .local _ .vmem, ⟨0, _⟩ => ⟨S1x32x2048, .bf16⟩
  | .local _ .vmem, ⟨1, _⟩ => ⟨S512x2048, .bf16⟩
  | .local _ .vmem, ⟨2, _⟩ => ⟨S512x2048, .bf16⟩
  | .local _ .vmem, ⟨3, _⟩ => ⟨S32x128, .f32⟩
  | .local _ .vmem, ⟨4, _⟩ => ⟨S32x128, .f32⟩
  | .local _ .vmem, ⟨5, _⟩ => ⟨S1x32x512, .f32⟩
  | .local _ .vmem, ⟨6, _⟩ => ⟨S1x32x512, .f32⟩
  | .local _ .vmem, ⟨7, _⟩ => ⟨S1x32x512, .f32⟩
  | .local _ .vmem, ⟨8, _⟩ => ⟨S1x32x512, .f32⟩
  | .local _ .vmem, ⟨9, _⟩ => ⟨S1x32x512, .f32⟩
  | .local _ .vmem, ⟨10, _⟩ => ⟨S1x32x512, .f32⟩
  | .local _ .vmem, ⟨11, _⟩ => ⟨S1x32x512, .f32⟩
  | .local _ .vmem, ⟨12, _⟩ => ⟨S1x32x512, .f32⟩
  | _, _ => ⟨S1x32x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18_0 : Ref sig .tc := ⟨.hbm, 23, rfl⟩
abbrev main_v18_1 : Ref sig .tc := ⟨.hbm, 24, rfl⟩
abbrev main_v18_2 : Ref sig .tc := ⟨.hbm, 25, rfl⟩
abbrev main_v18_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![1, 1, 9], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg2 : BitVec 32 := BitVec.ofNat 32 (i 2).val
  let c2_i32 : BitVec 32 := 2#32
  let v6 : BitVec 1 := Scalar.cmpi .eq arg2 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_3 : BitVec 32 := 0#32
  let v11 : BitVec 1 := Scalar.cmpi .ne v10 c0_i32_3
  v11

def k0_cond5 (i : grid0.Coords) : BitVec 1 :=
  let arg2 : BitVec 32 := BitVec.ofNat 32 (i 2).val
  let c4_i32 : BitVec 32 := 4#32
  let v12 : BitVec 1 := Scalar.cmpi .eq arg2 c4_i32
  let v13 : BitVec 32 := Scalar.extui v12
  let c0_i32_4 : BitVec 32 := 0#32
  let v14 : BitVec 1 := Scalar.cmpi .ne v13 c0_i32_4
  v14

def k0_cond6 (i : grid0.Coords) : BitVec 1 :=
  let arg2 : BitVec 32 := BitVec.ofNat 32 (i 2).val
  let c5_i32 : BitVec 32 := 5#32
  let v15 : BitVec 1 := Scalar.cmpi .eq arg2 c5_i32
  let v16 : BitVec 32 := Scalar.extui v15
  let c0_i32_5 : BitVec 32 := 0#32
  let v17 : BitVec 1 := Scalar.cmpi .ne v16 c0_i32_5
  v17

def k0_cond7 (i : grid0.Coords) : BitVec 1 :=
  let arg2 : BitVec 32 := BitVec.ofNat 32 (i 2).val
  let c6_i32 : BitVec 32 := 6#32
  let v18 : BitVec 1 := Scalar.cmpi .sge arg2 c6_i32
  let v19 : BitVec 32 := Scalar.extui v18
  let c0_i32_6 : BitVec 32 := 0#32
  let v20 : BitVec 1 := Scalar.cmpi .ne v19 c0_i32_6
  v20

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, arg1.toNat, v2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, arg1.toNat, v2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, arg1.toNat, v2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.subi arg2 c6_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg0.toNat, arg1.toNat, v2.toNat]

abbrev stage0_0 : Fin 1 → Memref sig .tc .vmem S1x32x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1x32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== AttnProjSampleRefIdeal.lean ====
abbrev S1x32x2048 : Shape := ⟨3, ![1, 32, 2048]⟩
abbrev S4608x2048 : Shape := ⟨2, ![4608, 2048]⟩
abbrev S32x1x2048 : Shape := ⟨3, ![32, 1, 2048]⟩
abbrev S1 : Shape := ⟨1, ![1]⟩
abbrev S_ : Shape := ⟨0, ![]⟩
abbrev S2048x4608 : Shape := ⟨2, ![2048, 4608]⟩
abbrev S32x1x4608 : Shape := ⟨3, ![32, 1, 4608]⟩
abbrev S32x1x512 : Shape := ⟨3, ![32, 1, 512]⟩
abbrev S32x1x1536 : Shape := ⟨3, ![32, 1, 1536]⟩
abbrev S32x1x1x4x128 : Shape := ⟨5, ![32, 1, 1, 4, 128]⟩
abbrev S64 : Shape := ⟨1, ![64]⟩
abbrev S1x1 : Shape := ⟨2, ![1, 1]⟩
abbrev S1x64 : Shape := ⟨2, ![1, 64]⟩
abbrev S1x1x1x1x64 : Shape := ⟨5, ![1, 1, 1, 1, 64]⟩
abbrev S32x1x1x4x64 : Shape := ⟨5, ![32, 1, 1, 4, 64]⟩
abbrev S32x1x4x128 : Shape := ⟨4, ![32, 1, 4, 128]⟩
abbrev S32x1x2x4x128 : Shape := ⟨5, ![32, 1, 2, 4, 128]⟩
abbrev S32x1x3x4x128 : Shape := ⟨5, ![32, 1, 3, 4, 128]⟩
abbrev S32x1x3x4x64 : Shape := ⟨5, ![32, 1, 3, 4, 64]⟩
abbrev S1x32x1536 : Shape := ⟨3, ![1, 32, 1536]⟩
abbrev S1x32x1x2x4x128 : Shape := ⟨6, ![1, 32, 1, 2, 4, 128]⟩

abbrev nBuf : Space → Nat
  | .hbm => 162
  | .vmem => 0
  | .smem => 0
  | _ => 0

abbrev hbmTy0_0 (i : Nat) : BufTy := match i % 128 with
  | 0 => ⟨S1x32x2048, .bf16⟩
  | 1 => ⟨S4608x2048, .bf16⟩
  | 2 => ⟨S32x1x2048, .bf16⟩
  | 3 => ⟨S1, .i32⟩
  | 4 => ⟨S_, .i32⟩
  | 5 => ⟨S1, .i32⟩
  | 6 => ⟨S1, .i32⟩
  | 7 => ⟨S2048x4608, .bf16⟩
  | 8 => ⟨S32x1x2048, .f32⟩
  | 9 => ⟨S2048x4608, .f32⟩
  | 10 => ⟨S32x1x4608, .f32⟩
  | 11 => ⟨S32x1x512, .f32⟩
  | 12 => ⟨S32x1x512, .f32⟩
  | 13 => ⟨S32x1x512, .f32⟩
  | 14 => ⟨S32x1x512, .f32⟩
  | 15 => ⟨S32x1x512, .f32⟩
  | 16 => ⟨S32x1x512, .f32⟩
  | 17 => ⟨S32x1x1536, .f32⟩
  | 18 => ⟨S32x1x1x4x128, .f32⟩
  | 19 => ⟨S64, .f32⟩
  | 20 => ⟨S64, .f32⟩
  | 21 => ⟨S_, .f32⟩
  | 22 => ⟨S64, .f32⟩
  | 23 => ⟨S64, .f32⟩
  | 24 => ⟨S_, .f32⟩
  | 25 => ⟨S64, .f32⟩
  | 26 => ⟨S64, .f32⟩
  | 27 => ⟨S1, .f32⟩
  | 28 => ⟨S1x1, .f32⟩
  | 29 => ⟨S1x64, .f32⟩
  | 30 => ⟨S1x64, .f32⟩
  | 31 => ⟨S1x64, .f32⟩
  | 32 => ⟨S1x64, .f32⟩
  | 33 => ⟨S1x1x1x1x64, .f32⟩
  | 34 => ⟨S1x64, .f32⟩
  | 35 => ⟨S1x1x1x1x64, .f32⟩
  | 36 => ⟨S32x1x1x4x64, .f32⟩
  | 37 => ⟨S32x1x1x4x64, .f32⟩
  | 38 => ⟨S32x1x1x4x64, .f32⟩
  | 39 => ⟨S32x1x1x4x64, .f32⟩
  | 40 => ⟨S32x1x1x4x64, .f32⟩
  | 41 => ⟨S32x1x1x4x64, .f32⟩
  | 42 => ⟨S32x1x1x4x64, .f32⟩
  | 43 => ⟨S32x1x1x4x64, .f32⟩
  | 44 => ⟨S32x1x1x4x64, .f32⟩
  | 45 => ⟨S32x1x1x4x64, .f32⟩
  | 46 => ⟨S32x1x1x4x64, .f32⟩
  | 47 => ⟨S32x1x1x4x64, .f32⟩
  | 48 => ⟨S32x1x1x4x128, .f32⟩
  | 49 => ⟨S32x1x4x128, .f32⟩
  | 50 => ⟨S32x1x4x128, .f32⟩
  | 51 => ⟨S32x1x1x4x128, .f32⟩
  | 52 => ⟨S32x1x1x4x128, .f32⟩
  | 53 => ⟨S32x1x2x4x128, .f32⟩
  | 54 => ⟨S32x1x1x4x128, .f32⟩
  | 55 => ⟨S64, .f32⟩
  | 56 => ⟨S64, .f32⟩
  | 57 => ⟨S_, .f32⟩
  | 58 => ⟨S64, .f32⟩
  | 59 => ⟨S64, .f32⟩
  | 60 => ⟨S_, .f32⟩
  | 61 => ⟨S64, .f32⟩
  | 62 => ⟨S64, .f32⟩
  | 63 => ⟨S1, .f32⟩
  | 64 => ⟨S1x1, .f32⟩
  | 65 => ⟨S1x64, .f32⟩
  | 66 => ⟨S1x64, .f32⟩
  | 67 => ⟨S1x64, .f32⟩
  | 68 => ⟨S1x64, .f32⟩
  | 69 => ⟨S1x1x1x1x64, .f32⟩
  | 70 => ⟨S1x64, .f32⟩
  | 71 => ⟨S1x1x1x1x64, .f32⟩
  | 72 => ⟨S32x1x1x4x64, .f32⟩
  | 73 => ⟨S32x1x1x4x64, .f32⟩
  | 74 => ⟨S32x1x1x4x64, .f32⟩
  | 75 => ⟨S32x1x1x4x64, .f32⟩
  | 76 => ⟨S32x1x1x4x64, .f32⟩
  | 77 => ⟨S32x1x1x4x64, .f32⟩
  | 78 => ⟨S32x1x1x4x64, .f32⟩
  | 79 => ⟨S32x1x1x4x64, .f32⟩
  | 80 => ⟨S32x1x1x4x64, .f32⟩
  | 81 => ⟨S32x1x1x4x64, .f32⟩
  | 82 => ⟨S32x1x1x4x64, .f32⟩
  | 83 => ⟨S32x1x1x4x64, .f32⟩
  | 84 => ⟨S32x1x1x4x128, .f32⟩
  | 85 => ⟨S32x1x4x128, .f32⟩
  | 86 => ⟨S32x1x4x128, .f32⟩
  | 87 => ⟨S32x1x1x4x128, .f32⟩
  | 88 => ⟨S32x1x1x4x128, .f32⟩
  | 89 => ⟨S32x1x2x4x128, .f32⟩
  | 90 => ⟨S32x1x1x4x128, .f32⟩
  | 91 => ⟨S64, .f32⟩
  | 92 => ⟨S64, .f32⟩
  | 93 => ⟨S_, .f32⟩
  | 94 => ⟨S64, .f32⟩
  | 95 => ⟨S64, .f32⟩
  | 96 => ⟨S_, .f32⟩
  | 97 => ⟨S64, .f32⟩
  | 98 => ⟨S64, .f32⟩
  | 99 => ⟨S1, .f32⟩
  | 100 => ⟨S1x1, .f32⟩
  | 101 => ⟨S1x64, .f32⟩
  | 102 => ⟨S1x64, .f32⟩
  | 103 => ⟨S1x64, .f32⟩
  | 104 => ⟨S1x64, .f32⟩
  | 105 => ⟨S1x1x1x1x64, .f32⟩
  | 106 => ⟨S1x64, .f32⟩
  | 107 => ⟨S1x1x1x1x64, .f32⟩
  | 108 => ⟨S32x1x1x4x64, .f32⟩
  | 109 => ⟨S32x1x1x4x64, .f32⟩
  | 110 => ⟨S32x1x1x4x64, .f32⟩
  | 111 => ⟨S32x1x1x4x64, .f32⟩
  | 112 => ⟨S32x1x1x4x64, .f32⟩
  | 113 => ⟨S32x1x1x4x64, .f32⟩
  | 114 => ⟨S32x1x1x4x64, .f32⟩
  | 115 => ⟨S32x1x1x4x64, .f32⟩
  | 116 => ⟨S32x1x1x4x64, .f32⟩
  | 117 => ⟨S32x1x1x4x64, .f32⟩
  | 118 => ⟨S32x1x1x4x64, .f32⟩
  | 119 => ⟨S32x1x1x4x64, .f32⟩
  | 120 => ⟨S32x1x1x4x128, .f32⟩
  | 121 => ⟨S32x1x4x128, .f32⟩
  | 122 => ⟨S32x1x4x128, .f32⟩
  | 123 => ⟨S32x1x1x4x128, .f32⟩
  | 124 => ⟨S32x1x1x4x128, .f32⟩
  | 125 => ⟨S32x1x2x4x128, .f32⟩
  | 126 => ⟨S32x1x3x4x128, .f32⟩
  | 127 => ⟨S64, .f32⟩
  | _ => ⟨S1x32x2048, .bf16⟩

abbrev hbmTy0_1 (i : Nat) : BufTy := match i % 128 with
  | 0 => ⟨S64, .f32⟩
  | 1 => ⟨S_, .f32⟩
  | 2 => ⟨S64, .f32⟩
  | 3 => ⟨S64, .f32⟩
  | 4 => ⟨S_, .f32⟩
  | 5 => ⟨S64, .f32⟩
  | 6 => ⟨S64, .f32⟩
  | 7 => ⟨S1, .f32⟩
  | 8 => ⟨S1x1, .f32⟩
  | 9 => ⟨S1x64, .f32⟩
  | 10 => ⟨S1x64, .f32⟩
  | 11 => ⟨S1x64, .f32⟩
  | 12 => ⟨S1x64, .f32⟩
  | 13 => ⟨S1x1x1x1x64, .f32⟩
  | 14 => ⟨S1x64, .f32⟩
  | 15 => ⟨S1x1x1x1x64, .f32⟩
  | 16 => ⟨S32x1x3x4x64, .f32⟩
  | 17 => ⟨S32x1x3x4x64, .f32⟩
  | 18 => ⟨S32x1x3x4x64, .f32⟩
  | 19 => ⟨S32x1x3x4x64, .f32⟩
  | 20 => ⟨S32x1x3x4x64, .f32⟩
  | 21 => ⟨S32x1x3x4x64, .f32⟩
  | 22 => ⟨S32x1x3x4x64, .f32⟩
  | 23 => ⟨S32x1x3x4x64, .f32⟩
  | 24 => ⟨S32x1x3x4x64, .f32⟩
  | 25 => ⟨S32x1x3x4x64, .f32⟩
  | 26 => ⟨S32x1x3x4x64, .f32⟩
  | 27 => ⟨S32x1x3x4x64, .f32⟩
  | 28 => ⟨S32x1x3x4x128, .f32⟩
  | 29 => ⟨S32x1x1536, .f32⟩
  | 30 => ⟨S1x32x1536, .f32⟩
  | 31 => ⟨S1x32x1x2x4x128, .f32⟩
  | 32 => ⟨S1x32x1x2x4x128, .f32⟩
  | 33 => ⟨S1x32x1x2x4x128, .f32⟩
  | _ => ⟨S1x32x2048, .bf16⟩

abbrev hbmTy (i : Nat) : BufTy := match i / 128 with
  | 0 => hbmTy0_0 i
  | 1 => hbmTy0_1 i
  | _ => ⟨S1x32x2048, .bf16⟩

abbrev bufTy : (tb : Table) → Fin (tcTables nBuf tb) → BufTy
  | .hbm, ⟨i, _⟩ => hbmTy i
  | _, _ => ⟨S1x32x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_cst_1 : Ref sig .tc := ⟨.hbm, 57, rfl⟩
abbrev main_v52 : Ref sig .tc := ⟨.hbm, 58, rfl⟩
abbrev main_v53 : Ref sig .tc := ⟨.hbm, 59, rfl⟩
abbrev main_cst_2 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_cst_3 : Ref sig .tc := ⟨.hbm, 93, rfl⟩
abbrev main_v86 : Ref sig .tc := ⟨.hbm, 94, rfl⟩
abbrev main_v87 : Ref sig .tc := ⟨.hbm, 95, rfl⟩
abbrev main_cst_4 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_cst_5 : Ref sig .tc := ⟨.hbm, 129, rfl⟩
abbrev main_v120 : Ref sig .tc := ⟨.hbm, 130, rfl⟩
abbrev main_v121 : Ref sig .tc := ⟨.hbm, 131, rfl⟩
abbrev main_cst_6 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩

abbrev nD : Nat := 1
abbrev τ : Topo := Topo.v7x

variable {F : FTy → Type} [FloatOps F]
-- ==== MixOut.lean ====
abbrev S8x2048x1024 : Shape := ⟨3, ![8, 2048, 1024]⟩
abbrev S8x2048x512 : Shape := ⟨3, ![8, 2048, 512]⟩
abbrev S8x2048x4096 : Shape := ⟨3, ![8, 2048, 4096]⟩
abbrev S8x2048x2048 : Shape := ⟨3, ![8, 2048, 2048]⟩
abbrev S8x1x18432 : Shape := ⟨3, ![8, 1, 18432]⟩
abbrev S1024x2048 : Shape := ⟨2, ![1024, 2048]⟩
abbrev S512x2048 : Shape := ⟨2, ![512, 2048]⟩
abbrev S2048x2048 : Shape := ⟨2, ![2048, 2048]⟩
abbrev S2048 : Shape := ⟨1, ![2048]⟩
abbrev S5632x2048 : Shape := ⟨2, ![5632, 2048]⟩
abbrev S1x2048 : Shape := ⟨2, ![1, 2048]⟩
abbrev S1x512x1024 : Shape := ⟨3, ![1, 512, 1024]⟩
abbrev S1x512x512 : Shape := ⟨3, ![1, 512, 512]⟩
abbrev S1x512x2048 : Shape := ⟨3, ![1, 512, 2048]⟩
abbrev S1x1x2048 : Shape := ⟨3, ![1, 1, 2048]⟩
abbrev S256x2048 : Shape := ⟨2, ![256, 2048]⟩
abbrev S512x1024 : Shape := ⟨2, ![512, 1024]⟩
abbrev S512x512 : Shape := ⟨2, ![512, 512]⟩
abbrev S1x16x2048 : Shape := ⟨3, ![1, 16, 2048]⟩
abbrev S16x2048 : Shape := ⟨2, ![16, 2048]⟩
abbrev S16 : Shape := ⟨1, ![16]⟩
abbrev S16x1 : Shape := ⟨2, ![16, 1]⟩

abbrev nBuf : Space → Nat
  | .hbm => 14
  | .vmem => 28
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x512, .bf16⟩
  | .hbm, ⟨2, _⟩ => ⟨S8x2048x4096, .bf16⟩
  | .hbm, ⟨3, _⟩ => ⟨S8x2048x2048, .f32⟩
  | .hbm, ⟨4, _⟩ => ⟨S8x1x18432, .f32⟩
  | .hbm, ⟨5, _⟩ => ⟨S1024x2048, .bf16⟩
  | .hbm, ⟨6, _⟩ => ⟨S512x2048, .bf16⟩
  | .hbm, ⟨7, _⟩ => ⟨S2048x2048, .bf16⟩
  | .hbm, ⟨8, _⟩ => ⟨S2048, .f32⟩
  | .hbm, ⟨9, _⟩ => ⟨S5632x2048, .f32⟩
  | .hbm, ⟨10, _⟩ => ⟨S1x2048, .f32⟩
  | .hbm, ⟨11, _⟩ => ⟨S8x2048x2048, .f32⟩
  | .hbm, ⟨12, _⟩ => ⟨S8x2048x2048, .bf16⟩
  | .hbm, ⟨13, _⟩ => ⟨S5632x2048, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x512x2048, .bf16⟩
  | .local _ .vmem, ⟨7, _⟩ => ⟨S1x512x2048, .bf16⟩
  | .local _ .vmem, ⟨8, _⟩ => ⟨S1x512x2048, .f32⟩
  | .local _ .vmem, ⟨9, _⟩ => ⟨S1x512x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x1x2048, .f32⟩
  | .local _ .vmem, ⟨16, _⟩ => ⟨S1x2048, .f32⟩
  | .local _ .vmem, ⟨17, _⟩ => ⟨S1024x2048, .bf16⟩
  | .local _ .vmem, ⟨18, _⟩ => ⟨S512x2048, .bf16⟩
  | .local _ .vmem, ⟨19, _⟩ => ⟨S2048x2048, .bf16⟩
  | .local _ .vmem, ⟨20, _⟩ => ⟨S256x2048, .f32⟩
  | .local _ .vmem, ⟨21, _⟩ => ⟨S256x2048, .f32⟩
  | .local _ .vmem, ⟨22, _⟩ => ⟨S1x512x2048, .f32⟩
  | .local _ .vmem, ⟨23, _⟩ => ⟨S1x512x2048, .f32⟩
  | .local _ .vmem, ⟨24, _⟩ => ⟨S1x512x2048, .bf16⟩
  | .local _ .vmem, ⟨25, _⟩ => ⟨S1x512x2048, .bf16⟩
  | .local _ .vmem, ⟨26, _⟩ => ⟨S256x2048, .bf16⟩
  | .local _ .vmem, ⟨27, _⟩ => ⟨S256x2048, .bf16⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c6_i32 : BitVec 32 := 6#32
  let c0_i32_0 : BitVec 32 := 0#32
  ![arg0.toNat, c0_i32.toNat, c6_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c7_i32 : BitVec 32 := 7#32
  let c0_i32_0 : BitVec 32 := 0#32
  ![arg0.toNat, c0_i32.toNat, c7_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let v2 : BitVec 32 := Scalar.subi v1 c0_i32
  let c0_i32_0 : BitVec 32 := 0#32
  let c21_i32 : BitVec 32 := 21#32
  let v3 : BitVec 32 := Scalar.maxsi c0_i32_0 v2
  let v4 : BitVec 32 := Scalar.minsi c21_i32 v3
  let c0_i32_1 : BitVec 32 := 0#32
  let c0_i32_2 : BitVec 32 := 0#32
  ![v4.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let v2 : BitVec 32 := Scalar.subi v1 c0_i32
  let c0_i32_0 : BitVec 32 := 0#32
  let c21_i32 : BitVec 32 := 21#32
  let v3 : BitVec 32 := Scalar.maxsi c0_i32_0 v2
  let v4 : BitVec 32 := Scalar.minsi c21_i32 v3
  let c0_i32_1 : BitVec 32 := 0#32
  let c0_i32_2 : BitVec 32 := 0#32
  ![v4.toNat, c0_i32_1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S256x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== MixOutRefIdeal.lean ====
abbrev S8x2048x1024 : Shape := ⟨3, ![8, 2048, 1024]⟩
abbrev S8x2048x512 : Shape := ⟨3, ![8, 2048, 512]⟩
abbrev S8x2048x4096 : Shape := ⟨3, ![8, 2048, 4096]⟩
abbrev S8x2048x2048 : Shape := ⟨3, ![8, 2048, 2048]⟩
abbrev S8x1x18432 : Shape := ⟨3, ![8, 1, 18432]⟩
abbrev S1024x2048 : Shape := ⟨2, ![1024, 2048]⟩
abbrev S512x2048 : Shape := ⟨2, ![512, 2048]⟩
abbrev S2048x2048 : Shape := ⟨2, ![2048, 2048]⟩
abbrev S2048 : Shape := ⟨1, ![2048]⟩
abbrev S5632x2048 : Shape := ⟨2, ![5632, 2048]⟩
abbrev S8x1x10240 : Shape := ⟨3, ![8, 1, 10240]⟩
abbrev S8x1x2048 : Shape := ⟨3, ![8, 1, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩

abbrev nBuf : Space → Nat
  | .hbm => 73
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x512, .bf16⟩
  | .hbm, ⟨2, _⟩ => ⟨S8x2048x4096, .bf16⟩
  | .hbm, ⟨3, _⟩ => ⟨S8x2048x2048, .f32⟩
  | .hbm, ⟨4, _⟩ => ⟨S8x1x18432, .f32⟩
  | .hbm, ⟨5, _⟩ => ⟨S1024x2048, .bf16⟩
  | .hbm, ⟨6, _⟩ => ⟨S512x2048, .bf16⟩
  | .hbm, ⟨7, _⟩ => ⟨S2048x2048, .bf16⟩
  | .hbm, ⟨8, _⟩ => ⟨S2048, .f32⟩
  | .hbm, ⟨9, _⟩ => ⟨S5632x2048, .f32⟩
  | .hbm, ⟨10, _⟩ => ⟨S8x1x10240, .f32⟩
  | .hbm, ⟨11, _⟩ => ⟨S8x1x2048, .f32⟩
  | .hbm, ⟨12, _⟩ => ⟨S8x1x2048, .f32⟩
  | .hbm, ⟨13, _⟩ => ⟨S8x1x2048, .f32⟩
  | .hbm, ⟨14, _⟩ => ⟨S8x1x2048, .f32⟩
  | .hbm, ⟨15, _⟩ => ⟨S8x2048x4096, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S_, .f32⟩
  | .hbm, ⟨21, _⟩ => ⟨S8x2048x2048, .f32⟩
  | .hbm, ⟨22, _⟩ => ⟨S8x2048x2048, .f32⟩
  | .hbm, ⟨23, _⟩ => ⟨S_, .f32⟩
  | .hbm, ⟨24, _⟩ => ⟨S8x2048x2048, .f32⟩
  | .hbm, ⟨25, _⟩ => ⟨S8x2048x2048, .f32⟩
  | .hbm, ⟨26, _⟩ => ⟨S8x2048x1024, .f32⟩
  | .hbm, ⟨27, _⟩ => ⟨S1024x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S_, .f32⟩
  | .hbm, ⟨33, _⟩ => ⟨S8x2048x2048, .f32⟩
  | .hbm, ⟨34, _⟩ => ⟨S8x2048x2048, .f32⟩
  | .hbm, ⟨35, _⟩ => ⟨S_, .f32⟩
  | .hbm, ⟨36, _⟩ => ⟨S8x2048x2048, .f32⟩
  | .hbm, ⟨37, _⟩ => ⟨S8x2048x2048, .f32⟩
  | .hbm, ⟨38, _⟩ => ⟨S8x2048x512, .f32⟩
  | .hbm, ⟨39, _⟩ => ⟨S512x2048, .f32⟩
  | .hbm, ⟨40, _⟩ => ⟨S8x2048x2048, .f32⟩
  | .hbm, ⟨41, _⟩ => ⟨S8x2048x2048, .f32⟩
  | .hbm, ⟨42, _⟩ => ⟨S8x2048x2048, .f32⟩
  | .hbm, ⟨43, _⟩ => ⟨S2048x2048, .f32⟩
  | .hbm, ⟨44, _⟩ => ⟨S8x2048x2048, .f32⟩
  | .hbm, ⟨45, _⟩ => ⟨S8x2048x2048, .f32⟩
  | .hbm, ⟨46, _⟩ => ⟨S8x2048x2048, .f32⟩
  | .hbm, ⟨47, _⟩ => ⟨S8x2048x2048, .f32⟩
  | .hbm, ⟨48, _⟩ => ⟨S8x2048x2048, .f32⟩
  | .hbm, ⟨49, _⟩ => ⟨S_, .f32⟩
  | .hbm, ⟨50, _⟩ => ⟨S8x2048, .f32⟩
  | .hbm, ⟨51, _⟩ => ⟨S8x2048x1, .f32⟩
  | .hbm, ⟨52, _⟩ => ⟨S_, .f32⟩
  | .hbm, ⟨53, _⟩ => ⟨S8x2048x1, .f32⟩
  | .hbm, ⟨54, _⟩ => ⟨S8x2048x1, .f32⟩
  | .hbm, ⟨55, _⟩ => ⟨S_, .f32⟩
  | .hbm, ⟨56, _⟩ => ⟨S8x2048x1, .f32⟩
  | .hbm, ⟨57, _⟩ => ⟨S8x2048x1, .f32⟩
  | .hbm, ⟨58, _⟩ => ⟨S8x2048x1, .f32⟩
  | .hbm, ⟨59, _⟩ => ⟨S8x2048x2048, .f32⟩
  | .hbm, ⟨60, _⟩ => ⟨S8x2048x2048, .f32⟩
  | .hbm, ⟨61, _⟩ => ⟨S1x1x2048, .f32⟩
  | .hbm, ⟨62, _⟩ => ⟨S8x2048x2048, .f32⟩
  | .hbm, ⟨63, _⟩ => ⟨S8x2048x2048, .f32⟩
  | .hbm, ⟨64, _⟩ => ⟨S_, .f32⟩
  | .hbm, ⟨65, _⟩ => ⟨S8x1x2048, .f32⟩
  | .hbm, ⟨66, _⟩ => ⟨S8x1x2048, .f32⟩
  | .hbm, ⟨67, _⟩ => ⟨S8x2048x2048, .f32⟩
  | .hbm, ⟨68, _⟩ => ⟨S8x2048x2048, .f32⟩
  | .hbm, ⟨69, _⟩ => ⟨S8x2048x2048, .f32⟩
  | .hbm, ⟨70, _⟩ => ⟨S8x2048x2048, .f32⟩
  | .hbm, ⟨71, _⟩ => ⟨S8x2048x2048, .bf16⟩
  | .hbm, ⟨72, _⟩ => ⟨S5632x2048, .bf16⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_6 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== Proof.Scalars.lean ====
/-
  Scalar equations over the extended reals that more than one program needs: the logistic function written with `tanh`,
  and the two writings of softplus.
-/
module

public import Idealize.ShloMosaic.Lib.Pointwise

@[expose] public section

noncomputable section

namespace Cert.Scalars

open Idealize.ShloMosaic

/-- The f32 word of one half. -/
theorem ofBits_half : Ideal.ofBits .f32 0x3F000000#32 = (((1 : ℝ) / 2 : ℝ) : EReal) := by
  simp [Ideal.ofBits, Ideal.ieee, -EReal.coe_mul]; norm_num

/-- `½ tanh (½ r) + ½ = 1 / (1 + e⁻ʳ)` at a real. -/
theorem half_tanh_real (r : ℝ) : 1 / 2 * Real.tanh (1 / 2 * r) + 1 / 2 = (1 + Real.exp (-r))⁻¹ := by
  have hs : Real.exp (-r) = Real.exp (-(1 / 2 * r)) * Real.exp (-(1 / 2 * r)) := by
    rw [← Real.exp_add]; congr 1; ring
  have hi : Real.exp (1 / 2 * r) * Real.exp (-(1 / 2 * r)) = 1 := by
    rw [← Real.exp_add]; simp
  have hp := Real.exp_pos (1 / 2 * r)
  have hn := Real.exp_pos (-(1 / 2 * r))
  rw [Real.tanh_eq_sinh_div_cosh, Real.sinh_eq, Real.cosh_eq, hs]
  generalize Real.exp (1 / 2 * r) = a at *
  generalize Real.exp (-(1 / 2 * r)) = b at *
  have h1 : a + b ≠ 0 := by positivity
  have h2 : 1 + b * b ≠ 0 := by positivity
  field_simp
  linear_combination (2 * b) * hi

/-- The logistic function as the kernels write it, with one `tanh`, is the logistic function: at the reals and at both
    infinities. -/
theorem half_tanh (x : EReal) :
    Ideal.ofBits .f32 0x3F000000#32 * Ideal.tanh (Ideal.ofBits .f32 0x3F000000#32 * x) + Ideal.ofBits .f32 0x3F000000#32
      = Ideal.logistic x := by
  rw [ofBits_half]
  induction x with
  | bot =>
    rw [EReal.coe_mul_bot_of_pos (by norm_num), Ideal.tanh_bot, Ideal.logistic_bot,
      show (-1 : EReal) = ((-1 : ℝ) : EReal) by rw [EReal.coe_neg]; rfl, ← EReal.coe_mul, ← EReal.coe_add]
    norm_num
  | top =>
    rw [EReal.coe_mul_top_of_pos (by norm_num), Ideal.tanh_top, Ideal.logistic_top,
      show (1 : EReal) = ((1 : ℝ) : EReal) by norm_cast, ← EReal.coe_mul, ← EReal.coe_add]
    norm_num
  | coe r =>
    rw [← EReal.coe_mul, Ideal.tanh_coe, ← EReal.coe_mul, ← EReal.coe_add, Ideal.logistic_coe, half_tanh_real]

/-- The logistic function as the references spell it. -/
theorem logistic_spelt (x : EReal) : Ideal.div 1 (1 + Ideal.exp (-x)) = Ideal.logistic x := rfl

/-- A comparison of a value with itself for inequality is false. -/
theorem cmp_une_self (x : EReal) : Ideal.cmp .une x x = 0#1 := by
  simp [Ideal.cmp]

end Cert.Scalars

end
-- ==== Proof.GdnSpec.lean ====
module

public import proofs.«01_k».proof.Proof.Scalars

/-! One step of the gated delta rule for one row, entry by entry, over extended reals. -/

@[expose] public section

noncomputable section

namespace Cert.GdnSpec

open Idealize.ShloMosaic

/-- The constant added under the roots of the norms. -/
def eps : EReal := Ideal.ofBits .f32 897988541#32

/-- The scale of the queries. -/
def scale : EReal := Ideal.ofBits .f32 0x3DB504F3#32

/-- A vector of 128 entries divided by its length. -/
def unit (v : Fin 128 → EReal) (d : Fin 128) : EReal :=
  v d * Ideal.rsqrt (∑ e, v e * v e + eps)

/-- Which lane holds head `h`'s gates: the even heads stand first. -/
def lane (h : Fin 8) : Fin 8 := ⟨h % 2 * 4 + h / 2, by omega⟩

/-- The causal convolution over the three rows of history and the new one. -/
def conv (hist : Fin 3 → Fin 3072 → EReal) (new : Fin 3072 → EReal) (w : Fin 4 → Fin 3072 → EReal) (f : Fin 3072) : EReal :=
  hist 0 f * w 0 f + hist 1 f * w 1 f + hist 2 f * w 2 f + new f * w 3 f

/-- `x` times its logistic value. -/
def silu (x : EReal) : EReal := x * Ideal.logistic x

/-- `log (1 + exp x)`, as `max x 0 + log1p (exp (-|x|))`. -/
def softplus (x : EReal) : EReal := max x 0 + Ideal.log1p (Ideal.exp (-FloatOps.absf (F := Ideal) (φ := .f32) x))

/-- The decay of a head's state from its gate, its rate and its bias. -/
def decay (a rate bias : EReal) : EReal := Ideal.exp (-Ideal.exp rate * softplus (a + bias))

/-- One entry of the new state: the old one decayed, and the key times the part of the value that the decayed state does not predict. -/
def state (k : Fin 128 → EReal) (v b e : EReal) (s : Fin 128 → EReal) (d : Fin 128) : EReal :=
  s d * e + k d * (b * (v - ∑ i, k i * (s i * e)))

/-- One entry of the output: the query's reading of the new state, normalised, scaled and gated. -/
def out (o g : Fin 128 → EReal) (z : EReal) (f : Fin 128) : EReal :=
  o f * Ideal.rsqrt (Ideal.div (∑ i, o i * o i) (Ideal.ofBits .f32 0x43000000#32) + eps) * g f * silu z

/-- Head `h`'s key, query and value from the row after the convolution. -/
def key (x : Fin 3072 → EReal) (h : Fin 8) : Fin 128 → EReal := unit fun e => x ⟨1024 + 128 * h + e, by omega⟩
def query (x : Fin 3072 → EReal) (h : Fin 8) (d : Fin 128) : EReal := unit (fun e => x ⟨128 * h + e, by omega⟩) d * scale
def value (x : Fin 3072 → EReal) (h : Fin 8) (f : Fin 128) : EReal := x ⟨2048 + 128 * h + f, by omega⟩

/-- The row's new state, head `h`, entry `(d, f)`. -/
def newState (x : Fin 3072 → EReal) (ba : Fin 128 → EReal) (par : Fin 8 → Fin 128 → EReal) (s : Fin 8 → Fin 128 → Fin 128 → EReal)
    (h : Fin 8) (d f : Fin 128) : EReal :=
  state (key x h) (value x h f) (Ideal.logistic (ba ⟨lane h, by omega⟩))
    (decay (ba ⟨8 + lane h, by omega⟩) (par 0 ⟨8 + lane h, by omega⟩) (par 1 ⟨8 + lane h, by omega⟩)) (fun i => s h i f) d

/-- The row's output, head `h`, entry `f`. -/
def newOut (x : Fin 3072 → EReal) (ba : Fin 128 → EReal) (par : Fin 8 → Fin 128 → EReal) (s : Fin 8 → Fin 128 → Fin 128 → EReal)
    (g : Fin 128 → EReal) (z : EReal) (h : Fin 8) (f : Fin 128) : EReal :=
  out (fun f => ∑ k, query x h k * newState x ba par s h k f) g z f

end Cert.GdnSpec

end
-- ==== Proof.GdnKernel.lean ====
module

public import proofs.«01_k».proof.Proof.Gen.GdnStepIdeal.Value
public import proofs.«01_k».proof.Proof.GdnSpec
public import Idealize.ShloMosaic.Lib.Pipeline.ValueKit
public import Idealize.ShloMosaic.Lib.Pointwise

/-! What one grid point of the recurrence's step computes: the point's row of the new state and of the output, in the terms of `GdnSpec`. -/

@[expose] public section

set_option maxRecDepth 16384

noncomputable section

namespace Cert.GdnStepIdeal.Val

open Cert.GdnStepIdeal Cert.GdnStepIdeal.Gen Idealize.ShloMosaic Idealize.ShloMosaic.TcCoe Idealize.SL.Sem
open Idealize.ShloMosaic.Pipeline (Dat)
open Cert.GdnSpec Cert.Scalars

theorem head_cases (h : Fin 8) : h = 0 ∨ h = 1 ∨ h = 2 ∨ h = 3 ∨ h = 4 ∨ h = 5 ∨ h = 6 ∨ h = 7 := by
  omega

/-- The matrix of columns: column `h` is head `h`'s normalised key, column `8 + h` its normalised and scaled query. -/
def cols (X : FVec Ideal S1x3072 .f32) : FVec Ideal S128x128 .f32 :=
  k0_pay31 (k0_pay17 X) (k0_pay18 X) (k0_pay19 X) (k0_pay21 (k0_pay20 X) (FloatOps.ofBits FTy.f32 1035273459#32))
    (k0_pay22 X) (k0_pay23 X) (k0_pay24 X) (k0_pay25 X) (k0_pay28 (k0_pay26 X) (k0_pay27 X))
    (iota Kind.tc S128x128 32 [0] iota_S128x128_d0_w32)
    (k0_pay29 (k0_pay6 X) (k0_pay7 X) (k0_pay10 (k0_pay8 X) (k0_pay9 X)) (k0_pay11 X) (k0_pay12 X) (k0_pay13 X)
      (k0_pay16 (k0_pay14 X) (k0_pay15 X)))
    k0_pay30

/-- Column `h` of the matrix of columns. -/
theorem cols_key (X : FVec Ideal S1x3072 .f32) (h : Fin 8) (d : Fin 128) :
    cols X (ix2 d ⟨h, by omega⟩) = unit (fun e => X (ix2 0 ⟨1024 + 128 * h + e, by omega⟩)) d := by
  unfold cols unit
  rcases head_cases h with rfl | rfl | rfl | rfl | rfl | rfl | rfl | rfl
  all_goals unfold_payloads; pointwise
  all_goals simp [IntOp.cmpi, Scalar.select, eps]

/-- Column `8 + h` of the matrix of columns. -/
theorem cols_query (X : FVec Ideal S1x3072 .f32) (h : Fin 8) (d : Fin 128) :
    cols X (ix2 d ⟨8 + h, by omega⟩) = unit (fun e => X (ix2 0 ⟨128 * h + e, by omega⟩)) d * Ideal.ofBits .f32 0x3DB504F3#32 := by
  unfold cols unit
  rcases head_cases h with rfl | rfl | rfl | rfl | rfl | rfl | rfl | rfl
  all_goals unfold_payloads; pointwise
  all_goals simp [IntOp.cmpi, Scalar.select, eps]

variable (m : (ℓ : Loc nD τ sig) → Buf (Elt Ideal) ℓ)

/-- The row after the convolution and its activation. -/
def xv (c : Dev nD) (t : Fin cfg0.N) : FVec Ideal S1x3072 .f32 :=
  k0_pay2 (X0_0 m c t) (View.ld (iblk m c 5 t) (Rect.unit ![3, 0] ![1, 3072] inb_S4x3072_S1x3072_3_0))
    (View.ld (iblk m c 1 t) (Rect.unit ![0, 0, 0] ![1, 1, 3072] inb_S1x3x3072_S1x1x3072_0_0_0))
    (View.ld (iblk m c 5 t) (Rect.unit ![0, 0] ![1, 3072] inb_S4x3072_S1x3072_0_0))
    (View.ld (iblk m c 1 t) (Rect.unit ![0, 1, 0] ![1, 1, 3072] inb_S1x3x3072_S1x1x3072_0_1_0))
    (View.ld (iblk m c 5 t) (Rect.unit ![1, 0] ![1, 3072] inb_S4x3072_S1x3072_1_0))
    (View.ld (iblk m c 1 t) (Rect.unit ![0, 2, 0] ![1, 1, 3072] inb_S1x3x3072_S1x1x3072_0_2_0))
    (View.ld (iblk m c 5 t) (Rect.unit ![2, 0] ![1, 3072] inb_S4x3072_S1x3072_2_0))

/-- The row of write strengths, one lane a head. -/
def bv (c : Dev nD) (t : Fin cfg0.N) : FVec Ideal S1x128 .f32 :=
  k0_pay4 (k0_pay3 (iblk m c 3 t)) (FloatOps.ofBits FTy.f32 0x3F000000#32)

/-- The row of decays. -/
def ev (c : Dev nD) (t : Fin cfg0.N) : FVec Ideal S1x128 .f32 :=
  k0_pay5 (k0_pay3 (iblk m c 3 t)) (iblk m c 6 t)

/-- One entry of a head's new state, from the rows and columns above. -/
def stepS (X : FVec Ideal S1x3072 .f32) (b e : FVec Ideal S1x128 .f32) (C : FVec Ideal S128x128 .f32)
    (s : Vec Ideal S1x8x128x128 .f32) (h : Fin 8) (d f : Fin 128) : EReal :=
  s (ix4 0 h d f) * e (ix2 0 ⟨8 + lane h, by omega⟩) + C (ix2 d ⟨h, by omega⟩) * (b (ix2 0 ⟨lane h, by omega⟩) *
    (X (ix2 0 ⟨2048 + 128 * h + f, by omega⟩)
      - ∑ k : Fin 128, C (ix2 k ⟨h, by omega⟩) * (s (ix4 0 h k f) * e (ix2 0 ⟨8 + lane h, by omega⟩))))

set_option maxHeartbeats 4000000 in
/-- The state that a point leaves. -/
theorem state_tile (c : Dev nD) (t : Fin cfg0.N) (h : Fin 8) (d f : Fin 128) :
    (outsAt0 m c t).2 (ix4 0 h d f)
      = stepS (xv m c t) (bv m c t) (ev m c t) (cols (xv m c t)) (iblk m c 4 t) h d f := by
  unfold outsAt0
  frame_out
  canon_tiles x hx
  all_goals
    idx_vars x
    try simp only [k0_pay32, k0_pay33]
    generalize hX : k0_pay2 (F := Ideal) (X0_0 m c t) _ _ _ _ _ _ _ = X
    generalize hB : k0_pay4 (F := Ideal) _ _ = B
    generalize hE : k0_pay5 (F := Ideal) _ _ = E
    generalize hC : k0_pay31 (F := Ideal) _ _ _ _ _ _ _ _ _ _ _ _ = C
    rw [show xv m c t = X from hX, show bv m c t = B from hB, show ev m c t = E from hE, show cols X = C from hC]
    clear hX hB hE hC
    unfold_payloads
    pointwise
  all_goals
    obtain rfl : d = x2 := Fin.ext hx2
    obtain rfl : f = x3 := Fin.ext hx3
    have e1 : (x1 : ℕ) = 0 := by omega
  case piece0 => obtain rfl : h = 7 := Fin.ext (hx1.trans (congrArg (7 + ·) e1)); unfold stepS lane; pointwise
  case piece1 => obtain rfl : h = 6 := Fin.ext (hx1.trans (congrArg (6 + ·) e1)); unfold stepS lane; pointwise
  case piece2 => obtain rfl : h = 5 := Fin.ext (hx1.trans (congrArg (5 + ·) e1)); unfold stepS lane; pointwise
  case piece3 => obtain rfl : h = 4 := Fin.ext (hx1.trans (congrArg (4 + ·) e1)); unfold stepS lane; pointwise
  case piece4 => obtain rfl : h = 3 := Fin.ext (hx1.trans (congrArg (3 + ·) e1)); unfold stepS lane; pointwise
  case piece5 => obtain rfl : h = 2 := Fin.ext (hx1.trans (congrArg (2 + ·) e1)); unfold stepS lane; pointwise
  case piece6 => obtain rfl : h = 1 := Fin.ext (hx1.trans (congrArg (1 + ·) e1)); unfold stepS lane; pointwise
  case piece7 => obtain rfl : h = 0 := Fin.ext (hx1.trans (e1)); unfold stepS lane; pointwise

/-- A head's reading of the new state with its query. -/
def stepO (X : FVec Ideal S1x3072 .f32) (b e : FVec Ideal S1x128 .f32) (C : FVec Ideal S128x128 .f32)
    (s : Vec Ideal S1x8x128x128 .f32) (h : Fin 8) (f : Fin 128) : EReal :=
  ∑ k : Fin 128, C (ix2 k ⟨8 + h, by omega⟩) * stepS X b e C s h k f

set_option maxHeartbeats 4000000 in
/-- The output that a point leaves. -/
theorem out_tile (c : Dev nD) (t : Fin cfg0.N) (h : Fin 8) (f : Fin 128) :
    (outsAt0 m c t).1 (ix3 0 0 ⟨128 * h + f, by omega⟩)
      = out (stepO (xv m c t) (bv m c t) (ev m c t) (cols (xv m c t)) (iblk m c 4 t) h) (fun f => iblk m c 7 t (ix2 0 f))
          (iblk m c 2 t (ix3 0 0 ⟨128 * h + f, by omega⟩)) f := by
  unfold outsAt0
  frame_out
  canon_tiles x hx
  all_goals
    idx_vars x
    try simp only [k0_pay32, k0_pay33]
    generalize hX : k0_pay2 (F := Ideal) (X0_0 m c t) _ _ _ _ _ _ _ = X
    generalize hB : k0_pay4 (F := Ideal) _ _ = B
    generalize hE : k0_pay5 (F := Ideal) _ _ = E
    generalize hC : k0_pay31 (F := Ideal) _ _ _ _ _ _ _ _ _ _ _ _ = C
    rw [show xv m c t = X from hX, show bv m c t = B from hB, show ev m c t = E from hE, show cols X = C from hC]
    clear hX hB hE hC
    unfold_payloads
    pointwise [half_tanh]
  case piece0 =>
    obtain rfl : h = 7 := Fin.ext (by show (h : ℕ) = 7; omega)
    obtain rfl : f = x2 := Fin.ext (by omega)
    unfold stepO stepS lane out silu; pointwise [half_tanh, eps]
  case piece1 =>
    obtain rfl : h = 6 := Fin.ext (by show (h : ℕ) = 6; omega)
    obtain rfl : f = x2 := Fin.ext (by omega)
    unfold stepO stepS lane out silu; pointwise [half_tanh, eps]
  case piece2 =>
    obtain rfl : h = 5 := Fin.ext (by show (h : ℕ) = 5; omega)
    obtain rfl : f = x2 := Fin.ext (by omega)
    unfold stepO stepS lane out silu; pointwise [half_tanh, eps]
  case piece3 =>
    obtain rfl : h = 4 := Fin.ext (by show (h : ℕ) = 4; omega)
    obtain rfl : f = x2 := Fin.ext (by omega)
    unfold stepO stepS lane out silu; pointwise [half_tanh, eps]
  case piece4 =>
    obtain rfl : h = 3 := Fin.ext (by show (h : ℕ) = 3; omega)
    obtain rfl : f = x2 := Fin.ext (by omega)
    unfold stepO stepS lane out silu; pointwise [half_tanh, eps]
  case piece5 =>
    obtain rfl : h = 2 := Fin.ext (by show (h : ℕ) = 2; omega)
    obtain rfl : f = x2 := Fin.ext (by omega)
    unfold stepO stepS lane out silu; pointwise [half_tanh, eps]
  case piece6 =>
    obtain rfl : h = 1 := Fin.ext (by show (h : ℕ) = 1; omega)
    obtain rfl : f = x2 := Fin.ext (by omega)
    unfold stepO stepS lane out silu; pointwise [half_tanh, eps]
  case piece7 =>
    obtain rfl : h = 0 := Fin.ext (by show (h : ℕ) = 0; omega)
    obtain rfl : f = x2 := Fin.ext (by omega)
    unfold stepO stepS lane out silu; pointwise [half_tanh, eps]

/-- Where each window's block of point `t` stands in its array. -/
theorem places : ∀ t : Fin cfg0.N, win0_0.index t = ![t.val, 0, 0] ∧ win0_1.index t = ![t.val, 0, 0]
    ∧ win0_2.index t = ![t.val, 0, 3] ∧ win0_3.index t = ![t.val, 0, 0] ∧ win0_4.index t = ![t.val, 0, 0, 0]
    ∧ win0_5.index t = ![0, 0] ∧ win0_6.index t = ![0, 0] ∧ win0_7.index t = ![0, 0]
    ∧ win0_8.index t = ![t.val, 0, 0] ∧ win0_9.index t = ![t.val, 0, 0, 0] := by
  decide +kernel

/-- The row that point `t` handles. -/
def row (t : Fin cfg0.N) : Fin 32 := ⟨t.val, t.isLt⟩

/-- The arguments, row `n` of those that have rows. -/
def az (c : Dev nD) (n : Fin 32) (f : Fin 4096) : EReal := m ((c : Thread nD τ).loc main_arg0) (ix3 n 0 f)
def ba (c : Dev nD) (n : Fin 32) (f : Fin 128) : EReal := m ((c : Thread nD τ).loc main_arg1) (ix3 n 0 f)
def hist (c : Dev nD) (n : Fin 32) (j : Fin 3) (f : Fin 3072) : EReal := m ((c : Thread nD τ).loc main_arg2) (ix3 n j f)
def old (c : Dev nD) (n : Fin 32) (h : Fin 8) (d f : Fin 128) : EReal := m ((c : Thread nD τ).loc main_arg3) (ix4 n h d f)
def taps (c : Dev nD) (j : Fin 4) (f : Fin 3072) : EReal := m ((c : Thread nD τ).loc main_arg4) (ix2 j f)
def par (c : Dev nD) (j : Fin 8) (f : Fin 128) : EReal := m ((c : Thread nD τ).loc main_arg5) (ix2 j f)
def gain (c : Dev nD) (f : Fin 128) : EReal := m ((c : Thread nD τ).loc main_arg6) (ix2 0 f)

theorem old_at (c : Dev nD) (t : Fin cfg0.N) (h : Fin 8) (d f : Fin 128) : iblk m c 4 t (ix4 0 h d f) = old m c (row t) h d f := by
  unfold old row; blk_ext [iblk, V, places t]

theorem gain_at (c : Dev nD) (t : Fin cfg0.N) (f : Fin 128) : iblk m c 7 t (ix2 0 f) = gain m c f := by
  unfold gain; blk_ext [iblk, V, places t]

theorem gate_at (c : Dev nD) (t : Fin cfg0.N) (f : Fin 1024) :
    iblk m c 2 t (ix3 0 0 f) = az m c (row t) ⟨3072 + f, by omega⟩ := by
  unfold az row; blk_ext [iblk, V, places t]

theorem ba_at (c : Dev nD) (t : Fin cfg0.N) (f : Fin 128) : iblk m c 3 t (ix3 0 0 f) = ba m c (row t) f := by
  unfold ba row; blk_ext [iblk, V, places t]

theorem par_at (c : Dev nD) (t : Fin cfg0.N) (j : Fin 8) (f : Fin 128) : iblk m c 6 t (ix2 j f) = par m c j f := by
  unfold par; blk_ext [iblk, V, places t]

theorem taps_at (c : Dev nD) (t : Fin cfg0.N) (j : Fin 4) (f : Fin 3072) : iblk m c 5 t (ix2 j f) = taps m c j f := by
  unfold taps; blk_ext [iblk, V, places t]

theorem hist_at (c : Dev nD) (t : Fin cfg0.N) (j : Fin 3) (f : Fin 3072) : iblk m c 1 t (ix3 0 j f) = hist m c (row t) j f := by
  unfold hist row; blk_ext [iblk, V, places t]

theorem new_at (c : Dev nD) (t : Fin cfg0.N) (f : Fin 3072) :
    X0_0 m c t (ix3 0 0 f) = az m c (row t) ⟨f, by omega⟩ := by
  unfold X0_0 Pipeline.Window.fill
  rw [dif_pos (moved0_0 t _)]
  unfold az row; blk_ext [iblk, V, places t]

theorem xv_at (c : Dev nD) (t : Fin cfg0.N) (f : Fin 3072) :
    xv m c t (ix2 0 f) = silu (conv (hist m c (row t)) (fun f => az m c (row t) ⟨f, by omega⟩) (taps m c) f) := by
  unfold xv silu conv
  unfold_payloads
  pointwise [half_tanh]
  rw [new_at, hist_at, hist_at, hist_at, taps_at, taps_at, taps_at, taps_at]
  rw [show ∀ a b c d : EReal, a + b + c + d = b + c + d + a from fun a b c d => by abel]

theorem bv_at (c : Dev nD) (t : Fin cfg0.N) (f : Fin 128) : bv m c t (ix2 0 f) = Ideal.logistic (ba m c (row t) f) := by
  unfold bv
  unfold_payloads
  pointwise [half_tanh, ba_at]

theorem ev_at (c : Dev nD) (t : Fin cfg0.N) (f : Fin 128) :
    ev m c t (ix2 0 f) = decay (ba m c (row t) f) (par m c 0 f) (par m c 1 f) := by
  unfold ev decay softplus
  unfold_payloads
  pointwise [ba_at, par_at, zero_sub]

/-- The row after the convolution, by its entries. -/
def xrow (c : Dev nD) (n : Fin 32) (f : Fin 3072) : EReal :=
  silu (conv (hist m c n) (fun f => az m c n ⟨f, by omega⟩) (taps m c) f)

/-- A head's entry of the state that a point leaves, from the arguments. -/
theorem stepS_at (c : Dev nD) (t : Fin cfg0.N) (h : Fin 8) (d f : Fin 128) :
    stepS (xv m c t) (bv m c t) (ev m c t) (cols (xv m c t)) (iblk m c 4 t) h d f
      = newState (xrow m c (row t)) (ba m c (row t)) (par m c) (old m c (row t)) h d f := by
  unfold stepS newState state key value xrow
  simp only [cols_key, xv_at, bv_at, ev_at, old_at]

/-- The new states. -/
def states (c : Dev nD) : S32x8x128x128.Idx → EReal := fun i =>
  newState (xrow m c (i 0)) (ba m c (i 0)) (par m c) (old m c (i 0)) (i 1) (i 2) (i 3)

/-- A row's output at one of its 1024 lanes. -/
def outLane (c : Dev nD) (n : Fin 32) (l : Fin 1024) : EReal :=
  newOut (xrow m c n) (ba m c n) (par m c) (old m c n) (gain m c) (az m c n ⟨3072 + l, by omega⟩)
    ⟨l / 128, by omega⟩ ⟨l % 128, by omega⟩

/-- The outputs. -/
def outs (c : Dev nD) : S32x1x1024.Idx → EReal := fun i => outLane m c (i 0) (i 2)

theorem emb9 (t : Fin cfg0.N) (y0 : Fin 1) (y1 : Fin 8) (y2 y3 : Fin 128) :
    ((View.whole main_v0_1).slice (win0_9.rect t)).emb (ix4 y0 y1 y2 y3) = (ix4 (row t) y1 y2 y3 : S32x8x128x128.Idx) := by
  obtain rfl : y0 = 0 := Subsingleton.elim _ _
  blk_ext [row, places t]

theorem emb8 (t : Fin cfg0.N) (y0 y1 : Fin 1) (y2 : Fin 1024) :
    ((View.whole main_v0_0).slice (win0_8.rect t)).emb (ix3 y0 y1 y2) = (ix3 (row t) 0 y2 : S32x1x1024.Idx) := by
  obtain rfl : y0 = 0 := Subsingleton.elim _ _
  obtain rfl : y1 = 0 := Subsingleton.elim _ _
  blk_ext [row, places t]

theorem states_eq (c : Dev nD) : (dats m 0 c).arrAt 9 cfg0.N = states m c := by
  refine (dats m 0 c).arrAt_eq_of_covers 9 _ (by decide +kernel) fun t hf y => ?_
  blk_simp
  rw [after0_9]
  idx_vars y
  obtain rfl : y0 = 0 := Subsingleton.elim _ _
  exact ((state_tile m c t y1 y2 y3).trans (stepS_at m c t y1 y2 y3)).trans (congrArg (states m c) (emb9 t 0 y1 y2 y3)).symm

/-- A head's output that a point leaves, from the arguments. -/
theorem stepO_at (c : Dev nD) (t : Fin cfg0.N) (h : Fin 8) (f : Fin 128) :
    stepO (xv m c t) (bv m c t) (ev m c t) (cols (xv m c t)) (iblk m c 4 t) h f
      = ∑ k, query (xrow m c (row t)) h k * newState (xrow m c (row t)) (ba m c (row t)) (par m c) (old m c (row t)) h k f := by
  unfold stepO
  simp only [stepS_at, cols_query, xv_at]
  rfl

theorem outs_eq (c : Dev nD) : (dats m 0 c).arrAt 8 cfg0.N = outs m c := by
  refine (dats m 0 c).arrAt_eq_of_covers 8 _ (by decide +kernel) fun t hf y => ?_
  blk_simp
  rw [after0_8]
  idx_vars y
  obtain rfl : y0 = 0 := Subsingleton.elim _ _
  obtain rfl : y1 = 0 := Subsingleton.elim _ _
  refine Eq.trans ?_ (congrArg (outs m c) (emb8 t 0 0 y2)).symm
  have hl : y2 = ⟨128 * (⟨y2 / 128, by omega⟩ : Fin 8) + (⟨y2 % 128, by omega⟩ : Fin 128), by omega⟩ := Fin.ext (by simp only; omega)
  refine (congrArg (fun l => (outsAt0 m c t).1 (ix3 0 0 l)) hl).trans ((out_tile m c t _ _).trans ?_)
  rw [show stepO (xv m c t) (bv m c t) (ev m c t) (cols (xv m c t)) (iblk m c 4 t) ⟨y2 / 128, by omega⟩ = _ from
    funext (stepO_at m c t _)]
  simp only [gain_at, gate_at]
  show _ = outLane m c (row t) y2
  unfold outLane newOut
  simp only [Nat.div_add_mod]

end Cert.GdnStepIdeal.Val

end
-- ==== Proof.GdnRef.lean ====
module

public import proofs.«01_k».proof.Proof.Gen.GdnStepRefIdeal.Read
public import proofs.«01_k».proof.Proof.GdnSpec
public import Idealize.ShloMosaic.Lib.Pipeline.ValueKit
public import Idealize.ShloMosaic.Lib.Pointwise

/-! The reference of the recurrence's step, entry by entry, in the terms of `GdnSpec`. -/

@[expose] public section

set_option maxRecDepth 16384

noncomputable section

namespace Cert.GdnStepRefIdeal.Val

open Cert.GdnStepRefIdeal Cert.GdnStepRefIdeal.Read Idealize.ShloMosaic Idealize.ShloMosaic.TcCoe Idealize.SL.Sem
open Cert.GdnSpec Cert.Scalars

variable (x0 : (⟨S32x1x4096, .f32⟩ : BufTy).Contents (Elt Ideal)) (x1 : (⟨S32x1x128, .f32⟩ : BufTy).Contents (Elt Ideal)) (x2 : (⟨S32x3x3072, .f32⟩ : BufTy).Contents (Elt Ideal)) (x3 : (⟨S32x8x128x128, .f32⟩ : BufTy).Contents (Elt Ideal)) (x4 : (⟨S4x3072, .f32⟩ : BufTy).Contents (Elt Ideal))
    (x5 : (⟨S8x128, .f32⟩ : BufTy).Contents (Elt Ideal)) (x6 : (⟨S1x128, .f32⟩ : BufTy).Contents (Elt Ideal))

/-- The row after the convolution. -/
def xrow (n : Fin 32) (f : Fin 3072) : EReal :=
  silu (conv (fun j f => x2 (ix3 n j f)) (fun f => x0 (ix3 n 0 ⟨f, by omega⟩)) (fun j f => x4 (ix2 j f)) f)

theorem conv_at (n : Fin 32) (f : Fin 3072) : val_main_v48 (F := Ideal) x0 x2 x4 (ix3 n 0 f) = xrow x0 x2 x4 n f := by
  unfold xrow silu conv
  pointwise [val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_call0_v0, val_main_call0_v1, val_main_call0_cst, val_main_call0_v2, val_main_call0_v3, val_main_call0_cst_0, val_main_call0_v4, val_main_call0_v5, val_main_v48, logistic_spelt]

theorem query_at (n : Fin 32) (h : Fin 8) (d : Fin 128) :
    val_main_v62 (F := Ideal) x0 x2 x4 (ix4 n 0 h d) = query (xrow x0 x2 x4 n) h d := by
  unfold query unit scale eps
  pointwise [val_main_v49, val_main_v52, val_main_v53, val_main_cst, val_main_v54, val_main_v55, val_main_cst_0, val_main_v56, val_main_v57, val_main_v58, val_main_v59, val_main_v60, val_main_cst_1, val_main_v61, val_main_v62, conv_at, Nat.mul_comm]

theorem key_at (n : Fin 32) (h : Fin 8) (d : Fin 128) :
    val_main_v71 (F := Ideal) x0 x2 x4 (ix4 n 0 h d) = key (xrow x0 x2 x4 n) h d := by
  unfold key unit eps
  pointwise [val_main_v50, val_main_v63, val_main_v64, val_main_cst_2, val_main_v65, val_main_v66, val_main_cst_3, val_main_v67, val_main_v68, val_main_v69, val_main_v70, val_main_v71, conv_at, Nat.mul_comm, Nat.add_assoc]

theorem beta_at (n : Fin 32) (h : Fin 8) :
    val_main_v91 (F := Ideal) x1 (ix2 n h) = Ideal.logistic (x1 (ix3 n 0 ⟨lane h, by omega⟩)) := by
  unfold lane
  pointwise [val_main_v0, val_main_v1, val_main_v2, val_main_v3, val_main_v73, val_main_v74, val_main_cst_4, val_main_v75, val_main_v76, val_main_cst_5, val_main_v77, val_main_v78, val_main_v91, logistic_spelt]

theorem decay_at (n : Fin 32) (h : Fin 8) :
    val_main_v93 (F := Ideal) x1 x5 (ix2 n h)
      = decay (x1 (ix3 n 0 ⟨8 + lane h, by omega⟩)) (x5 (ix2 0 ⟨8 + lane h, by omega⟩)) (x5 (ix2 1 ⟨8 + lane h, by omega⟩)) := by
  unfold decay softplus lane
  pointwise [val_main_v4, val_main_v5, val_main_v6, val_main_v7, val_main_v8, val_main_v9, val_main_v10, val_main_v11, val_main_v12, val_main_v13, val_main_v14, val_main_v15, val_main_v16, val_main_v17, val_main_v79, val_main_v80, val_main_v81, val_main_v82, val_main_v83, val_main_call1_cst, val_main_call1_v0, val_main_call1_v1, val_main_call1_v2, val_main_call1_v3, val_main_call1_v4, val_main_call1_v5, val_main_call1_v6, val_main_call1_v7, val_main_call1_v8, val_main_call1_v9, val_main_call1_v10, val_main_call1_v11, val_main_v84, val_main_v85, val_main_v86, val_main_v87, val_main_v92, val_main_v93]
  simp only [ne_eq, not_true, if_false]

/-- The reference's new state at an index. -/
theorem state_at (n : Fin 32) (h : Fin 8) (d f : Fin 128) :
    val_main_v107 (F := Ideal) x0 x1 x2 x3 x4 x5 (ix4 n h d f)
      = newState (xrow x0 x2 x4 n) (fun f => x1 (ix3 n 0 f)) (fun j f => x5 (ix2 j f)) (fun h d f => x3 (ix4 n h d f)) h d f := by
  unfold newState state value
  pointwise [val_main_v51, val_main_v72, val_main_v88, val_main_v89, val_main_v90, val_main_v94, val_main_v95, val_main_v96, val_main_v97, val_main_v98, val_main_v99, val_main_v100, val_main_v101, val_main_v102, val_main_v103, val_main_v104, val_main_v105, val_main_v106, val_main_v107, conv_at, key_at, beta_at, decay_at, Nat.mul_comm, Nat.add_assoc]

/-- The reference's output at an index. -/
theorem out_at (n : Fin 32) (h : Fin 8) (f : Fin 128) :
    val_main_v127 (F := Ideal) x0 x1 x2 x3 x4 x5 x6 (ix3 n 0 ⟨128 * h + f, by omega⟩)
      = newOut (xrow x0 x2 x4 n) (fun f => x1 (ix3 n 0 f)) (fun j f => x5 (ix2 j f)) (fun h d f => x3 (ix4 n h d f))
          (fun f => x6 (ix2 0 f)) (x0 (ix3 n 0 ⟨3072 + (128 * h + f), by omega⟩)) h f := by
  unfold newOut out silu eps
  pointwise [val_main_v88, val_main_v19, val_main_v108, val_main_v109, val_main_v110, val_main_cst_6, val_main_v111, val_main_v112, val_main_cst_7, val_main_v113, val_main_v114, val_main_cst_8, val_main_v115, val_main_v116, val_main_v117, val_main_v118, val_main_v119, val_main_v120, val_main_v121, val_main_v122, val_main_v123, val_main_call2_v0, val_main_call2_v1, val_main_call2_cst, val_main_call2_v2, val_main_call2_v3, val_main_call2_cst_0, val_main_call2_v4, val_main_call2_v5, val_main_v124, val_main_v125, val_main_v126, val_main_v127, query_at, state_at, logistic_spelt, Nat.mul_comm]

end Cert.GdnStepRefIdeal.Val

end
-- ==== Proof.GdnClaim.lean ====
module

public import proofs.«01_k».proof.Defs
public import proofs.«01_k».proof.Proof.Gen.GdnStepRefIdeal.Run
public import proofs.«01_k».proof.Proof.GdnKernel
public import proofs.«01_k».proof.Proof.GdnRef

/-! The recurrence's step and its reference end with equal results. -/

@[expose] public section

set_option maxRecDepth 16384

noncomputable section

namespace Cert.GdnClaim

open Idealize.ShloMosaic Idealize.ShloMosaic.TcCoe Idealize.SL.Sem
open Cert.GdnStepIdeal Cert.GdnStepIdeal.Gen Cert.GdnStepIdeal.Val

variable (m : (ℓ : Loc nD τ sig) → Buf (Elt Ideal) ℓ)

/-- The kernel's states are the reference's. -/
theorem states_ref (c : Dev nD) : states m c = GdnStepRefIdeal.Read.val_main_v107 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) := by
  funext i
  idx_vars i
  exact (GdnStepRefIdeal.Val.state_at _ _ _ _ _ _ i0 i1 i2 i3).symm

/-- The kernel's outputs are the reference's. -/
theorem outs_ref (c : Dev nD) : outs m c = GdnStepRefIdeal.Read.val_main_v127 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) := by
  funext i
  idx_vars i
  obtain rfl : i1 = 0 := Subsingleton.elim _ _
  have hl : i2 = ⟨128 * (⟨i2 / 128, by omega⟩ : Fin 8) + (⟨i2 % 128, by omega⟩ : Fin 128), by omega⟩ := Fin.ext (by simp only; omega)
  refine Eq.trans ?_ (congrArg (fun l => GdnStepRefIdeal.Read.val_main_v127 (F := Ideal) _ _ _ _ _ _ _ (ix3 i0 0 l)) hl).symm
  refine Eq.trans ?_ (GdnStepRefIdeal.Val.out_at _ _ _ _ _ _ _ i0 ⟨i2 / 128, by omega⟩ ⟨i2 % 128, by omega⟩).symm
  show outLane m c i0 i2 = _
  unfold outLane
  simp only [Nat.div_add_mod]
  rfl

/-- The reference's run, its results read as the stages of `GdnRef`. -/
theorem ref_run (m' : (ℓ : Loc GdnStepRefIdeal.nD GdnStepRefIdeal.τ GdnStepRefIdeal.sig) → Buf (Elt Ideal) ℓ)
    (g' : Dev GdnStepRefIdeal.nD → PrngReg) :
    θ_run (GdnStepRefIdeal.defs (F := Ideal)) (onTc (τ := GdnStepRefIdeal.τ) (GdnStepRefIdeal.main (F := Ideal)))
      ⟨m', fun _ => 0, g'⟩ fun r => ∀ c : Dev GdnStepRefIdeal.nD,
      r.2.mem ((c.tc : Thread GdnStepRefIdeal.nD GdnStepRefIdeal.τ).loc GdnStepRefIdeal.main_v127) = GdnStepRefIdeal.Read.val_main_v127 (F := Ideal) (m' ((c.tc : Thread GdnStepRefIdeal.nD GdnStepRefIdeal.τ).loc GdnStepRefIdeal.main_arg0)) (m' ((c.tc : Thread GdnStepRefIdeal.nD GdnStepRefIdeal.τ).loc GdnStepRefIdeal.main_arg1)) (m' ((c.tc : Thread GdnStepRefIdeal.nD GdnStepRefIdeal.τ).loc GdnStepRefIdeal.main_arg2)) (m' ((c.tc : Thread GdnStepRefIdeal.nD GdnStepRefIdeal.τ).loc GdnStepRefIdeal.main_arg3)) (m' ((c.tc : Thread GdnStepRefIdeal.nD GdnStepRefIdeal.τ).loc GdnStepRefIdeal.main_arg4)) (m' ((c.tc : Thread GdnStepRefIdeal.nD GdnStepRefIdeal.τ).loc GdnStepRefIdeal.main_arg5)) (m' ((c.tc : Thread GdnStepRefIdeal.nD GdnStepRefIdeal.τ).loc GdnStepRefIdeal.main_arg6))
      ∧ r.2.mem ((c.tc : Thread GdnStepRefIdeal.nD GdnStepRefIdeal.τ).loc GdnStepRefIdeal.main_v107) = GdnStepRefIdeal.Read.val_main_v107 (F := Ideal) (m' ((c.tc : Thread GdnStepRefIdeal.nD GdnStepRefIdeal.τ).loc GdnStepRefIdeal.main_arg0)) (m' ((c.tc : Thread GdnStepRefIdeal.nD GdnStepRefIdeal.τ).loc GdnStepRefIdeal.main_arg1)) (m' ((c.tc : Thread GdnStepRefIdeal.nD GdnStepRefIdeal.τ).loc GdnStepRefIdeal.main_arg2)) (m' ((c.tc : Thread GdnStepRefIdeal.nD GdnStepRefIdeal.τ).loc GdnStepRefIdeal.main_arg3)) (m' ((c.tc : Thread GdnStepRefIdeal.nD GdnStepRefIdeal.τ).loc GdnStepRefIdeal.main_arg4)) (m' ((c.tc : Thread GdnStepRefIdeal.nD GdnStepRefIdeal.τ).loc GdnStepRefIdeal.main_arg5))
      ∧ r.2.mem ((c.tc : Thread GdnStepRefIdeal.nD GdnStepRefIdeal.τ).loc GdnStepRefIdeal.main_arg0) = m' ((c.tc : Thread GdnStepRefIdeal.nD GdnStepRefIdeal.τ).loc GdnStepRefIdeal.main_arg0)
      ∧ r.2.mem ((c.tc : Thread GdnStepRefIdeal.nD GdnStepRefIdeal.τ).loc GdnStepRefIdeal.main_arg1) = m' ((c.tc : Thread GdnStepRefIdeal.nD GdnStepRefIdeal.τ).loc GdnStepRefIdeal.main_arg1)
      ∧ r.2.mem ((c.tc : Thread GdnStepRefIdeal.nD GdnStepRefIdeal.τ).loc GdnStepRefIdeal.main_arg2) = m' ((c.tc : Thread GdnStepRefIdeal.nD GdnStepRefIdeal.τ).loc GdnStepRefIdeal.main_arg2)
      ∧ r.2.mem ((c.tc : Thread GdnStepRefIdeal.nD GdnStepRefIdeal.τ).loc GdnStepRefIdeal.main_arg3) = m' ((c.tc : Thread GdnStepRefIdeal.nD GdnStepRefIdeal.τ).loc GdnStepRefIdeal.main_arg3)
      ∧ r.2.mem ((c.tc : Thread GdnStepRefIdeal.nD GdnStepRefIdeal.τ).loc GdnStepRefIdeal.main_arg4) = m' ((c.tc : Thread GdnStepRefIdeal.nD GdnStepRefIdeal.τ).loc GdnStepRefIdeal.main_arg4)
      ∧ r.2.mem ((c.tc : Thread GdnStepRefIdeal.nD GdnStepRefIdeal.τ).loc GdnStepRefIdeal.main_arg5) = m' ((c.tc : Thread GdnStepRefIdeal.nD GdnStepRefIdeal.τ).loc GdnStepRefIdeal.main_arg5)
      ∧ r.2.mem ((c.tc : Thread GdnStepRefIdeal.nD GdnStepRefIdeal.τ).loc GdnStepRefIdeal.main_arg6) = m' ((c.tc : Thread GdnStepRefIdeal.nD GdnStepRefIdeal.τ).loc GdnStepRefIdeal.main_arg6) :=
  θ_run_mono (GdnStepRefIdeal.Value.run m' g') fun r h c =>
    ⟨(h c).1.trans (GdnStepRefIdeal.Read.val_main_v127_eq _), (h c).2.1.trans (GdnStepRefIdeal.Read.val_main_v107_eq _), (h c).2.2⟩

/-- The reference runs, leaves its arguments as they are, and has no semaphore. -/
theorem frame_ref : Cert.quiescent_GdnStepRefIdeal := fun m' g' _ =>
  θ_run_mono (ref_run m' g') fun r h => ⟨fun c => (h c).2.2, sem_eq_zero_of_no_sems rfl r.2⟩

theorem algebraic : Cert.algebraic_GdnStepIdeal_GdnStepRefIdeal := by
  pair_intro
  · run_from (Cert.GdnStepIdeal.Value.run_blocks m g)
  · run_from (ref_run m' g')
    · exact (outs_ref m c).symm.trans (outs_eq m c).symm
    · exact (states_ref m c).symm.trans (states_eq m c).symm

end Cert.GdnClaim

end
-- ==== Proof.FfnSpec.lean ====
module

public import proofs.«01_k».proof.Proof.GdnSpec

/-! The feed-forward block's mathematics, at one row. -/

@[expose] public section

noncomputable section

namespace Cert.FfnSpec

open Idealize.ShloMosaic Cert.GdnSpec

/-- The row times column `j` of the first weight. -/
def up (x : Fin 2048 → EReal) (w : Fin 2048 → Fin 11264 → EReal) (j : Fin 11264) : EReal := ∑ d, x d * w d j

/-- The gated hidden unit `j`: column `j` gates column `5632 + j`. -/
def unitAt (x : Fin 2048 → EReal) (w : Fin 2048 → Fin 11264 → EReal) (j : Fin 5632) : EReal :=
  silu (up x w ⟨j, by omega⟩) * up x w ⟨5632 + j, by omega⟩

/-- The block's row, entry `f`. -/
def swiglu (x : Fin 2048 → EReal) (w : Fin 2048 → Fin 11264 → EReal) (w' : Fin 5632 → Fin 2048 → EReal) (f : Fin 2048) : EReal :=
  ∑ j, unitAt x w j * w' j f

/-- The part of `swiglu` that tile `s` of 512 hidden units adds. -/
def tile (x : Fin 2048 → EReal) (w : Fin 2048 → Fin 11264 → EReal) (w' : Fin 5632 → Fin 2048 → EReal) (s : Fin 11) (f : Fin 2048) :
    EReal :=
  ∑ k : Fin 512, unitAt x w ⟨512 * s + k, by omega⟩ * w' ⟨512 * s + k, by omega⟩ f

theorem swiglu_eq_tiles (x : Fin 2048 → EReal) (w : Fin 2048 → Fin 11264 → EReal) (w' : Fin 5632 → Fin 2048 → EReal) (f : Fin 2048) :
    swiglu x w w' f = ∑ s, tile x w w' s f := by
  unfold swiglu tile
  rw [← Fintype.sum_prod_type']
  refine (Fintype.sum_equiv (finProdFinEquiv (m := 11) (n := 512)) _ _ fun p => ?_).symm
  have e : (⟨512 * p.1 + p.2, by omega⟩ : Fin 5632) = finProdFinEquiv (m := 11) (n := 512) p := Fin.ext (by simp [finProdFinEquiv]; omega)
  rw [e]

/-- The row over its root mean square. -/
def rms (v : Fin 2048 → EReal) (f : Fin 2048) : EReal :=
  v f * Ideal.rsqrt (Ideal.div (∑ e, v e * v e) (Ideal.ofBits .f32 0x45000000#32) + eps)

/-- The row scaled to the gain, then scaled and shifted by the modulation. -/
def modulate (v : Fin 2048 → EReal) (gain shift scale : Fin 2048 → EReal) (f : Fin 2048) : EReal :=
  rms v f * gain f * (1 + scale f) + shift f

/-- The residual stream after the block. -/
def resid (x gate y : Fin 2048 → EReal) (f : Fin 2048) : EReal := x f + Ideal.ofBits .f32 0x3F000000#32 * gate f * y f

end Cert.FfnSpec

end
-- ==== Proof.Reads.lean ====
module

public import Idealize.ShloMosaic.Lib.Pipeline.ValueKit

/-! A load of a part of a buffer that the same point has stored whole. -/

@[expose] public section

namespace Cert.Reads

open Idealize.ShloMosaic

variable {Val : EltTy → Type} [∀ e, Nonempty (Val e)] {sig : RefSig} {κ : Kind} {sp : Space} {S : Shape} {e : EltTy}

/-- The load reads the stored vector. -/
theorem readCov_part (v : View sig κ sp S e) {off : Fin S.rank → Nat} (h : ∀ a, off a + S.size a ≤ S.size a) (A : S.Idx → Val e)
    (r : Rect S) (h0 : ∀ a, off a = 0) :
    v.readCov [(⟨Rect.unit off (no_index S.size) h, A⟩ : View.Piece Val S e)] r.toLoadRect = View.ld A r := by
  rw [View.readCov_eq_canon', View.canon_unit_zero (funext h0)]

/-- A load of the whole buffer reads what the stores leave. -/
theorem readCov_all (v : View sig κ sp S e) {off : Fin S.rank → Nat} (h : ∀ a, off a + S.size a ≤ S.size a) (L : List (View.Piece Val S e))
    (h0 : ∀ a, off a = 0) : v.readCov L (Rect.unit off (no_index S.size) h).toLoadRect = View.canon L := by
  obtain rfl : off = fun _ => 0 := funext h0
  rw [View.readCov_eq_canon']
  funext j
  refine congrArg (View.canon L) (funext fun a => Fin.ext ?_)
  simp [Rect.toLoadRect, LoadRect.idx, Rect.unit]

end Cert.Reads
-- ==== Proof.FfnFirstKernel.lean ====
module

public import proofs.«01_k».proof.Proof.Gen.FfnFirstIdeal.Value
public import proofs.«01_k».proof.Proof.FfnSpec
public import proofs.«01_k».proof.Proof.Reads
public import Idealize.ShloMosaic.Lib.Pipeline.ValueKit
public import Idealize.ShloMosaic.Lib.Pipeline.ReadBack
public import Idealize.ShloMosaic.Lib.Pointwise
public import Idealize.ShloMosaic.Lib.StableHlo.ReadAt

/-! What the first feed-forward block's call computes: the normalised rows held for a block of rows, the accumulated tiles, the rows that the
last tile's point writes, and the weight's rows carried to the narrower type on the side. -/

@[expose] public section

set_option maxRecDepth 16384

noncomputable section

namespace Cert.FfnFirstIdeal.Val

open Cert.FfnFirstIdeal Cert.FfnFirstIdeal.Gen Idealize.ShloMosaic Idealize.ShloMosaic.TcCoe Idealize.SL.Sem
open Idealize.ShloMosaic.Pipeline (Dat)
open Cert.GdnSpec Cert.FfnSpec Cert.Scalars

variable (m : (ℓ : Loc nD τ sig) → Buf (Elt Ideal) ℓ)

/-- Where each window's block of point `t` stands in its array: points run over the batch, then four blocks of 512 rows, then eleven tiles of
512 hidden units. -/
theorem places : ∀ t : Fin cfg0.N, win0_0.index t = ![t.val / 44, t.val / 11 % 4, 0] ∧ win0_1.index t = ![t.val / 44, 0, 0]
    ∧ win0_2.index t = ![t.val / 44, 0, 1] ∧ win0_3.index t = ![t.val / 44, 0, 2] ∧ win0_4.index t = ![0, 0]
    ∧ win0_5.index t = ![0, t.val % 11] ∧ win0_6.index t = ![0, t.val % 11 + 11] ∧ win0_7.index t = ![t.val % 11, 0]
    ∧ win0_8.index t = ![t.val / 44, 0, 3] ∧ win0_9.index t = ![t.val / 44, 0, 4] ∧ win0_10.index t = ![0, 0]
    ∧ win0_11.index t = ![min t.val 99, 0] ∧ win0_12.index t = ![t.val / 44, t.val / 11 % 4, 0]
    ∧ win0_13.index t = ![t.val / 44, t.val / 11 % 4, 0] ∧ win0_14.index t = ![min t.val 99, 0] := by
  decide +kernel

theorem points (t : Fin cfg0.N) : t.val < 352 := t.isLt

/-- The batch entry of point `t`, and its block's row `r`. -/
def bat (t : Fin cfg0.N) : Fin 8 := ⟨t.val / 44, by have := points t; omega⟩
def row (t : Fin cfg0.N) (r : Fin 512) : Fin 2048 := ⟨512 * (t.val / 11 % 4) + r, by omega⟩
def til (t : Fin cfg0.N) : Fin 11 := ⟨t.val % 11, by omega⟩

/-- The arguments: a row of the residual stream, a piece of the modulation, the weights, the gains, the weight to be carried over. -/
def xx (c : Dev nD) (b : Fin 8) (r : Fin 2048) (f : Fin 2048) : EReal := m ((c : Thread nD τ).loc main_arg0) (ix3 b r f)
def mods (c : Dev nD) (b : Fin 8) (k : Fin 9) (f : Fin 2048) : EReal := m ((c : Thread nD τ).loc main_arg1) (ix3 b 0 ⟨2048 * k + f, by omega⟩)
def gain (c : Dev nD) (f : Fin 2048) : EReal := m ((c : Thread nD τ).loc main_arg2) (ix1 f)
def wUp (c : Dev nD) (d : Fin 2048) (j : Fin 11264) : EReal := m ((c : Thread nD τ).loc main_arg3) (ix2 d j)
def wDown (c : Dev nD) (j : Fin 5632) (f : Fin 2048) : EReal := m ((c : Thread nD τ).loc main_arg4) (ix2 j f)
def gain' (c : Dev nD) (f : Fin 2048) : EReal := m ((c : Thread nD τ).loc main_arg5) (ix1 f)
def wIn (c : Dev nD) (r : Fin 12816) (f : Fin 2048) : EReal := m ((c : Thread nD τ).loc main_arg6) (ix2 r f)

theorem xx_at (c : Dev nD) (t : Fin cfg0.N) (r : Fin 512) (f : Fin 2048) : iblk m c 0 t (ix3 0 r f) = xx m c (bat t) (row t r) f := by
  unfold xx bat row; blk_ext [iblk, V, places t]

theorem shift_at (c : Dev nD) (t : Fin cfg0.N) (f : Fin 2048) : iblk m c 1 t (ix3 0 0 f) = mods m c (bat t) 0 f := by
  unfold mods bat; blk_ext [iblk, V, places t]

theorem scale_at (c : Dev nD) (t : Fin cfg0.N) (f : Fin 2048) : iblk m c 2 t (ix3 0 0 f) = mods m c (bat t) 1 f := by
  unfold mods bat; blk_ext [iblk, V, places t]

theorem gate_at (c : Dev nD) (t : Fin cfg0.N) (f : Fin 2048) : iblk m c 3 t (ix3 0 0 f) = mods m c (bat t) 2 f := by
  unfold mods bat; blk_ext [iblk, V, places t]

theorem shift'_at (c : Dev nD) (t : Fin cfg0.N) (f : Fin 2048) : iblk m c 8 t (ix3 0 0 f) = mods m c (bat t) 3 f := by
  unfold mods bat; blk_ext [iblk, V, places t]

theorem scale'_at (c : Dev nD) (t : Fin cfg0.N) (f : Fin 2048) : iblk m c 9 t (ix3 0 0 f) = mods m c (bat t) 4 f := by
  unfold mods bat; blk_ext [iblk, V, places t]

theorem wg_at (c : Dev nD) (t : Fin cfg0.N) (d : Fin 2048) (k : Fin 512) : iblk m c 5 t (ix2 d k) = wUp m c d ⟨512 * til t + k, by omega⟩ := by
  unfold wUp til; blk_ext [iblk, V, places t]

theorem wu_at (c : Dev nD) (t : Fin cfg0.N) (d : Fin 2048) (k : Fin 512) : iblk m c 6 t (ix2 d k) = wUp m c d ⟨5632 + (512 * til t + k), by omega⟩ := by
  unfold wUp til; blk_ext [iblk, V, places t]

theorem wd_at (c : Dev nD) (t : Fin cfg0.N) (k : Fin 512) (f : Fin 2048) : iblk m c 7 t (ix2 k f) = wDown m c ⟨512 * til t + k, by omega⟩ f := by
  unfold wDown til; blk_ext [iblk, V, places t]

theorem gain_at (c : Dev nD) (t : Fin cfg0.N) (f : Fin 2048) : iblk m c 4 t (ix2 0 f) = gain m c f := by
  have e : (win0_4.blk t).view.emb (ix2 0 f) = (ix2 0 f : S1x2048.Idx) := by blk_ext [places t]
  refine (congrArg (V m c main_v0) e).trans ?_
  unfold gain V
  after_reads_at

theorem gain'_at (c : Dev nD) (t : Fin cfg0.N) (f : Fin 2048) : iblk m c 10 t (ix2 0 f) = gain' m c f := by
  have e : (win0_10.blk t).view.emb (ix2 0 f) = (ix2 0 f : S1x2048.Idx) := by blk_ext [places t]
  refine (congrArg (V m c main_v1) e).trans ?_
  unfold gain' V
  after_reads_at

/-- A row of the block's normalised and modulated input. -/
def input (c : Dev nD) (b : Fin 8) (r : Fin 2048) : Fin 2048 → EReal :=
  modulate (xx m c b r) (gain m c) (mods m c b 0) (mods m c b 1)

set_option maxHeartbeats 4000000 in
/-- The first tile's point stores the rows of the input. -/
theorem held_store (c : Dev nD) (t : Fin cfg0.N) (h : t.val % 11 = 0) (r : Fin 512) (f : Fin 2048) :
    (outsAt0 m c t.val t.isLt).2.2.2.1 (ix2 r f) = input m c (bat t) (row t r) f := by
  rw [outsAt0_A m c t h (by omega)]
  frame_out
  canon_tiles x hx
  all_goals
    idx_vars x
    unfold input modulate rms eps
    obtain rfl : f = x1 := Fin.ext hx1
    unfold_payloads
    pointwise [xx_at, shift_at, scale_at, gain_at]
    have hr := fun hp => (Fin.ext hx0.symm : (⟨_, hp⟩ : Fin 512) = r)
    try simp only [hr]

/-- The other points leave them. -/
theorem held_keep (c : Dev nD) (t : Fin cfg0.N) (h : ¬t.val % 11 = 0) :
    (outsAt0 m c t.val t.isLt).2.2.2.1 = (outsAt0 m c (t.val - 1) (Nat.lt_of_le_of_lt (Nat.sub_le _ _) t.isLt)).2.2.2.1 := by
  by_cases h' : t.val % 11 = 10
  · rw [outsAt0_C m c t h h']
    rfl
  · rw [outsAt0_B m c t h h']
    rfl

/-- At every point the held rows are the block's rows of the input. -/
theorem held (c : Dev nD) (n : ℕ) (hn : n < cfg0.N) (r : Fin 512) (f : Fin 2048) :
    (outsAt0 m c n hn).2.2.2.1 (ix2 r f) = input m c (bat ⟨n, hn⟩) (row ⟨n, hn⟩ r) f := by
  induction n with
  | zero => exact held_store m c ⟨0, hn⟩ rfl r f
  | succ n ih =>
    by_cases h : (n + 1) % 11 = 0
    · exact held_store m c ⟨n + 1, hn⟩ h r f
    · refine (congrFun (held_keep m c ⟨n + 1, hn⟩ h) _).trans ((ih _).trans ?_)
      have e1 : bat ⟨n, Nat.lt_of_succ_lt hn⟩ = bat ⟨n + 1, hn⟩ := Fin.ext (by simp only [bat]; omega)
      have e2 : row ⟨n, Nat.lt_of_succ_lt hn⟩ r = row ⟨n + 1, hn⟩ r := Fin.ext (by simp only [row]; omega)
      exact congrArg₂ (fun b r => input m c b r f) e1 e2

/-- What a point adds into the accumulator at row `i 0`, column `i 1`. -/
def add (c : Dev nD) (t : Fin cfg0.N) (i : S512x2048.Idx) : EReal :=
  tile (fun d => (outsAt0 m c t.val t.isLt).2.2.2.1 (ix2 (i 0) d)) (wUp m c) (wDown m c) (til t) (i 1)

theorem acc_reset_of (c : Dev nD) (t : Fin cfg0.N) (X : FVec Ideal S512x2048 .bf16) (r : Fin 512) (f : Fin 2048) :
    k0_pay202 X (iblk m c 5 t) (iblk m c 6 t) (k0_pay200 (F := Ideal)) (iblk m c 7 t) (ix2 r f)
      = 0 + tile (fun d => X (ix2 r d)) (wUp m c) (wDown m c) (til t) f := by
  unfold tile unitAt up silu
  pointwise [k0_pay200, k0_pay202, half_tanh, wg_at, wu_at, wd_at]

theorem acc_reset (c : Dev nD) (t : Fin cfg0.N) (h : t.val % 11 = 0) (i : S512x2048.Idx) :
    (outsAt0 m c t.val t.isLt).2.2.2.2 i = 0 + add m c t i := by
  unfold add
  idx_vars i
  rw [outsAt0_A m c t h (by omega)]
  frame_out
  simp (disch := decide) only [Reads.readCov_all]
  exact acc_reset_of m c t _ i0 i1

theorem acc_step (c : Dev nD) (t : Fin cfg0.N) (h : ¬t.val % 11 = 0) (i : S512x2048.Idx) :
    (outsAt0 m c t.val t.isLt).2.2.2.2 i = (outsAt0 m c (t.val - 1) (Nat.lt_of_le_of_lt (Nat.sub_le _ _) t.isLt)).2.2.2.2 i + add m c t i := by
  unfold add
  rw [held_keep m c t h]
  unfold tile unitAt up silu
  idx_vars i
  by_cases h' : t.val % 11 = 10
  · rw [outsAt0_C m c t h h']
    frame_out
    simp only [read_unread_whole]
    pointwise [k0_pay202, half_tanh, wg_at, wu_at, wd_at]
  · rw [outsAt0_B m c t h h']
    frame_out
    simp only [read_unread_whole]
    pointwise [k0_pay202, half_tanh, wg_at, wu_at, wd_at]

/-- After the last tile's point the accumulator holds the block's rows. -/
theorem acc_last (c : Dev nD) (t : Fin cfg0.N) (h : t.val % 11 = 10) (r : Fin 512) (f : Fin 2048) :
    (outsAt0 m c t.val t.isLt).2.2.2.2 (ix2 r f) = swiglu (input m c (bat t) (row t r)) (wUp m c) (wDown m c) f := by
  refine (Pipeline.eq_sum_fin_of_reset_step_apply_of_flush (fun n hn => (outsAt0 m c n hn).2.2.2.2) 11 (fun _ => (0 : EReal)) (add m c)
    (fun t h i => acc_reset m c t h i) (fun t h i => acc_step m c t h i) t h (ix2 r f)).trans ?_
  rw [zero_add, swiglu_eq_tiles]
  refine Finset.sum_congr rfl fun s _ => ?_
  unfold add
  have hb : ∀ hp, bat ⟨11 * (t.val / 11) + s.val, hp⟩ = bat t := fun hp => Fin.ext (by simp only [bat]; omega)
  have hr : ∀ hp, row ⟨11 * (t.val / 11) + s.val, hp⟩ r = row t r := fun hp => Fin.ext (by simp only [row]; omega)
  have ht : ∀ hp, til ⟨11 * (t.val / 11) + s.val, hp⟩ = s := fun hp => Fin.ext (by simp only [til]; omega)
  rw [ht]
  refine congrArg (fun v => tile v (wUp m c) (wDown m c) s f) (funext fun d => (held m c _ _ r d).trans ?_)
  rw [hb, hr]

set_option maxHeartbeats 4000000 in
/-- The rows that the last tile's point writes. -/
theorem out_tile (c : Dev nD) (t : Fin cfg0.N) (h : t.val % 11 = 10) (r : Fin 512) (f : Fin 2048) :
    (outsAt0 m c t.val t.isLt).1 (ix3 0 r f) = resid (xx m c (bat t) (row t r)) (mods m c (bat t) 2)
      (fun f => (outsAt0 m c t.val t.isLt).2.2.2.2 (ix2 r f)) f := by
  rw [outsAt0_C m c t (by omega) h]
  frame_out
  canon_tiles x hx
  all_goals
    simp (disch := decide) only [Reads.readCov_part]
    generalize k0_pay202 (F := Ideal) _ _ _ _ _ = A
    idx_vars x
    unfold resid
    obtain rfl : f = x2 := Fin.ext hx2
    unfold_payloads
    pointwise [xx_at, gate_at]
    have hr := fun hp => (Fin.ext hx1.symm : (⟨_, hp⟩ : Fin 512) = r)
    try simp only [hr]

set_option maxHeartbeats 4000000 in
/-- The next block's normalised and modulated rows that it writes beside them. -/
theorem next_tile (c : Dev nD) (t : Fin cfg0.N) (h : t.val % 11 = 10) (r : Fin 512) (f : Fin 2048) :
    (outsAt0 m c t.val t.isLt).2.1 (ix3 0 r f) = modulate (resid (xx m c (bat t) (row t r)) (mods m c (bat t) 2)
      (fun f => (outsAt0 m c t.val t.isLt).2.2.2.2 (ix2 r f))) (gain' m c) (mods m c (bat t) 3) (mods m c (bat t) 4) f := by
  rw [outsAt0_C m c t (by omega) h]
  frame_out
  canon_tiles x hx
  all_goals
    simp (disch := decide) only [Reads.readCov_part]
    generalize k0_pay202 (F := Ideal) _ _ _ _ _ = A
    idx_vars x
    unfold modulate rms resid eps
    obtain rfl : f = x2 := Fin.ext hx2
    unfold_payloads
    pointwise [xx_at, gate_at, shift'_at, scale'_at, gain'_at]
    have hr := fun hp => (Fin.ext hx1.symm : (⟨_, hp⟩ : Fin 512) = r)
    try simp only [hr]

/-- The rows of the weight that a point carries over. -/
theorem cast_tile (c : Dev nD) (t : Fin cfg0.N) (r : Fin 128) (f : Fin 2048) :
    (outsAt0 m c t.val t.isLt).2.2.1 (ix2 r f) = X0_11 m c t (ix2 r f) := by
  by_cases h : t.val % 11 = 0
  · rw [outsAt0_A m c t h (by omega)]; frame_out; pointwise [k0_pay201]
  · by_cases h' : t.val % 11 = 10
    · rw [outsAt0_C m c t h h']; frame_out; pointwise [k0_pay201]
    · rw [outsAt0_B m c t h h']; frame_out; pointwise [k0_pay201]

theorem wIn_at (c : Dev nD) (t : Fin cfg0.N) (r : Fin 128) (f : Fin 2048) :
    X0_11 m c t (ix2 r f) = wIn m c ⟨128 * min t.val 99 + r, by omega⟩ f := by
  unfold X0_11 Pipeline.Window.fill
  rw [dif_pos (moved0_11 t _)]
  unfold wIn; blk_ext [iblk, V, places t]

/-- A row of the residual stream after the block. -/
def stream (c : Dev nD) (b : Fin 8) (r : Fin 2048) : Fin 2048 → EReal :=
  resid (xx m c b r) (mods m c b 2) (swiglu (input m c b r) (wUp m c) (wDown m c))

/-- The call's results, from its arguments. -/
def outs (c : Dev nD) : S8x2048x2048.Idx → EReal := fun i => stream m c (i 0) (i 1) (i 2)
def nexts (c : Dev nD) : S8x2048x2048.Idx → EReal := fun i =>
  modulate (stream m c (i 0) (i 1)) (gain' m c) (mods m c (i 0) 3) (mods m c (i 0) 4) (i 2)
def castLane (c : Dev nD) (r : Fin 12800) (f : Fin 2048) : EReal := wIn m c ⟨r, by omega⟩ f
def casts (c : Dev nD) : S12800x2048.Idx → EReal := fun i => castLane m c (i 0) (i 1)

theorem emb12 (t : Fin cfg0.N) (y0 : Fin 1) (y1 : Fin 512) (y2 : Fin 2048) :
    ((View.whole main_v2_0).slice (win0_12.rect t)).emb (ix3 y0 y1 y2) = (ix3 (bat t) (row t y1) y2 : S8x2048x2048.Idx) := by
  obtain rfl : y0 = 0 := Subsingleton.elim _ _
  blk_ext [bat, row, places t]

theorem emb13 (t : Fin cfg0.N) (y0 : Fin 1) (y1 : Fin 512) (y2 : Fin 2048) :
    ((View.whole main_v2_1).slice (win0_13.rect t)).emb (ix3 y0 y1 y2) = (ix3 (bat t) (row t y1) y2 : S8x2048x2048.Idx) := by
  obtain rfl : y0 = 0 := Subsingleton.elim _ _
  blk_ext [bat, row, places t]

theorem emb14 (t : Fin cfg0.N) (y0 : Fin 128) (y1 : Fin 2048) :
    ((View.whole main_v2_2).slice (win0_14.rect t)).emb (ix2 y0 y1)
      = (ix2 ⟨128 * min t.val 99 + y0, by omega⟩ y1 : S12800x2048.Idx) := by
  blk_ext [places t]

theorem outs_eq (c : Dev nD) : (dats m 0 c).arrAt 12 cfg0.N = outs m c := by
  refine (dats m 0 c).arrAt_eq_of_covers 12 _ (by decide +kernel) fun t hf y => ?_
  blk_simp
  rw [after0_12]
  idx_vars y
  obtain rfl : y0 = 0 := Subsingleton.elim _ _
  have h := (flush0_12 t).mp hf
  refine Eq.trans ?_ (congrArg (outs m c) (emb12 t 0 y1 y2)).symm
  refine (out_tile m c t h y1 y2).trans ?_
  simp only [acc_last m c t h]
  rfl

theorem nexts_eq (c : Dev nD) : (dats m 0 c).arrAt 13 cfg0.N = nexts m c := by
  refine (dats m 0 c).arrAt_eq_of_covers 13 _ (by decide +kernel) fun t hf y => ?_
  blk_simp
  rw [after0_13]
  idx_vars y
  obtain rfl : y0 = 0 := Subsingleton.elim _ _
  have h := (flush0_13 t).mp hf
  refine Eq.trans ?_ (congrArg (nexts m c) (emb13 t 0 y1 y2)).symm
  refine (next_tile m c t h y1 y2).trans ?_
  simp only [acc_last m c t h]
  rfl

theorem casts_eq (c : Dev nD) : (dats m 0 c).arrAt 14 cfg0.N = casts m c := by
  refine (dats m 0 c).arrAt_eq_of_covers 14 _ (by decide +kernel) fun t hf y => ?_
  blk_simp
  rw [after0_14]
  idx_vars y
  refine Eq.trans ?_ (congrArg (casts m c) (emb14 t y0 y1)).symm
  exact (cast_tile m c t y0 y1).trans (wIn_at m c t y0 y1)

end Cert.FfnFirstIdeal.Val

end
-- ==== Proof.FfnFirstRef.lean ====
module

public import proofs.«01_k».proof.Proof.Gen.FfnFirstRefIdeal.Read
public import proofs.«01_k».proof.Proof.FfnSpec
public import Idealize.ShloMosaic.Lib.Pipeline.ValueKit
public import Idealize.ShloMosaic.Lib.Pointwise

/-! The reference of the first feed-forward block, entry by entry, in the terms of `FfnSpec`. -/

@[expose] public section

set_option maxRecDepth 16384

noncomputable section

namespace Cert.FfnFirstRefIdeal.Val

open Cert.FfnFirstRefIdeal Cert.FfnFirstRefIdeal.Read Idealize.ShloMosaic Idealize.ShloMosaic.TcCoe Idealize.SL.Sem
open Cert.GdnSpec Cert.FfnSpec Cert.Scalars

variable (x0 : (⟨S8x2048x2048, .f32⟩ : BufTy).Contents (Elt Ideal)) (x1 : (⟨S8x1x18432, .f32⟩ : BufTy).Contents (Elt Ideal)) (x2 : (⟨S2048, .f32⟩ : BufTy).Contents (Elt Ideal))
    (x3 : (⟨S2048x11264, .bf16⟩ : BufTy).Contents (Elt Ideal)) (x4 : (⟨S5632x2048, .bf16⟩ : BufTy).Contents (Elt Ideal)) (x5 : (⟨S2048, .f32⟩ : BufTy).Contents (Elt Ideal))
    (x6 : (⟨S12816x2048, .f32⟩ : BufTy).Contents (Elt Ideal))

/-- A row of the block's normalised and modulated input. -/
def input (b : Fin 8) (r : Fin 2048) : Fin 2048 → EReal :=
  modulate (fun f => x0 (ix3 b r f)) (fun f => x2 (ix1 f)) (fun f => x1 (ix3 b 0 ⟨f, by omega⟩)) (fun f => x1 (ix3 b 0 ⟨2048 + f, by omega⟩))

/-- A row of the block's result. -/
def stream (b : Fin 8) (r : Fin 2048) : Fin 2048 → EReal :=
  resid (fun f => x0 (ix3 b r f)) (fun f => x1 (ix3 b 0 ⟨4096 + f, by omega⟩))
    (swiglu (input x0 x1 x2 b r) (fun d j => x3 (ix2 d j)) (fun j f => x4 (ix2 j f)))

theorem input_at (b : Fin 8) (r : Fin 2048) (f : Fin 2048) : val_main_v26 (F := Ideal) x0 x1 x2 (ix3 b r f) = input x0 x1 x2 b r f := by
  unfold input modulate rms eps
  pointwise [val_main_v0, val_main_v1, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_cst_0, val_main_cst_1, val_main_cst_2, val_main_cst_3]

theorem up_at (b : Fin 8) (r : Fin 2048) (j : Fin 11264) :
    val_main_v28 (F := Ideal) x0 x1 x2 x3 (ix3 b r j) = up (input x0 x1 x2 b r) (fun d j => x3 (ix2 d j)) j := by
  unfold up
  pointwise [val_main_v27, val_main_v28, input_at]

theorem unit_at (b : Fin 8) (r : Fin 2048) (j : Fin 5632) :
    val_main_v32 (F := Ideal) x0 x1 x2 x3 (ix3 b r j) = unitAt (input x0 x1 x2 b r) (fun d j => x3 (ix2 d j)) j := by
  unfold unitAt silu
  pointwise [val_main_v29, val_main_v30, val_main_v31, val_main_v32, val_main_call0_v0, val_main_call0_v1, val_main_call0_v2, val_main_call0_v3, val_main_call0_v4, val_main_call0_v5, val_main_call0_cst, val_main_call0_cst_0, up_at, logistic_spelt]

theorem swiglu_at (b : Fin 8) (r : Fin 2048) (f : Fin 2048) : val_main_v34 (F := Ideal) x0 x1 x2 x3 x4 (ix3 b r f)
      = swiglu (input x0 x1 x2 b r) (fun d j => x3 (ix2 d j)) (fun j f => x4 (ix2 j f)) f := by
  unfold swiglu
  pointwise [val_main_v33, val_main_v34, unit_at]

theorem stream_at (b : Fin 8) (r : Fin 2048) (f : Fin 2048) : val_main_v37 (F := Ideal) x0 x1 x2 x3 x4 (ix3 b r f)
      = stream x0 x1 x2 x3 x4 b r f := by
  unfold stream resid
  pointwise [val_main_v2, val_main_cst, val_main_v6, val_main_v7, val_main_v35, val_main_v36, val_main_v37, swiglu_at]

theorem next_at (b : Fin 8) (r : Fin 2048) (f : Fin 2048) : val_main_v57 (F := Ideal) x0 x1 x2 x3 x4 x5 (ix3 b r f)
      = modulate (stream x0 x1 x2 x3 x4 b r) (fun f => x5 (ix1 f)) (fun f => x1 (ix3 b 0 ⟨6144 + f, by omega⟩))
          (fun f => x1 (ix3 b 0 ⟨8192 + f, by omega⟩)) f := by
  unfold modulate rms eps
  pointwise [val_main_v3, val_main_v4, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_cst_4, val_main_cst_5, val_main_cst_6, val_main_cst_7, stream_at]

theorem cast_at (r : Fin 12800) (f : Fin 2048) : val_main_v59 (F := Ideal) x6 (ix2 r f) = x6 (ix2 ⟨r, by omega⟩ f) := by
  pointwise [val_main_v58, val_main_v59]

end Cert.FfnFirstRefIdeal.Val

end
-- ==== Proof.FfnFirstClaim.lean ====
module

public import proofs.«01_k».proof.Defs
public import proofs.«01_k».proof.Proof.Gen.FfnFirstRefIdeal.Run
public import proofs.«01_k».proof.Proof.FfnFirstKernel
public import proofs.«01_k».proof.Proof.FfnFirstRef

/-! The first feed-forward block and its reference end with equal results. -/

@[expose] public section

set_option maxRecDepth 16384

noncomputable section

namespace Cert.FfnFirstClaim

open Idealize.ShloMosaic Idealize.ShloMosaic.TcCoe Idealize.SL.Sem
open Cert.FfnFirstIdeal Cert.FfnFirstIdeal.Gen Cert.FfnFirstIdeal.Val

variable (m : (ℓ : Loc nD τ sig) → Buf (Elt Ideal) ℓ)

theorem input_ref (c : Dev nD) (b : Fin 8) (r : Fin 2048) : input m c b r = FfnFirstRefIdeal.Val.input
    (m ((c : Thread nD τ).loc main_arg0)) (m ((c : Thread nD τ).loc main_arg1)) (m ((c : Thread nD τ).loc main_arg2)) b r := by
  unfold input FfnFirstRefIdeal.Val.input mods
  congr 1 <;> funext f
  · exact congrArg (fun k => m ((c : Thread nD τ).loc main_arg1) (ix3 b 0 k)) (Fin.ext (by simp only [Fin.val_zero]; omega))

theorem stream_ref (c : Dev nD) (b : Fin 8) (r : Fin 2048) : stream m c b r = FfnFirstRefIdeal.Val.stream
    (m ((c : Thread nD τ).loc main_arg0)) (m ((c : Thread nD τ).loc main_arg1)) (m ((c : Thread nD τ).loc main_arg2)) (m ((c : Thread nD τ).loc main_arg3)) (m ((c : Thread nD τ).loc main_arg4)) b r := by
  unfold stream FfnFirstRefIdeal.Val.stream
  rw [input_ref]
  rfl

/-- The kernel's results are the reference's. -/
theorem outs_ref (c : Dev nD) : outs m c = FfnFirstRefIdeal.Read.val_main_v37 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) := by
  funext i
  idx_vars i
  exact (congrFun (stream_ref m c i0 i1) i2).trans (FfnFirstRefIdeal.Val.stream_at _ _ _ _ _ i0 i1 i2).symm

theorem nexts_ref (c : Dev nD) : nexts m c = FfnFirstRefIdeal.Read.val_main_v57 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  idx_vars i
  refine Eq.trans ?_ (FfnFirstRefIdeal.Val.next_at _ _ _ _ _ _ i0 i1 i2).symm
  rw [← stream_ref]
  rfl

theorem casts_ref (c : Dev nD) : casts m c = FfnFirstRefIdeal.Read.val_main_v59 (F := Ideal)
    (m ((c : Thread nD τ).loc main_arg6)) := by
  funext i
  idx_vars i
  exact (FfnFirstRefIdeal.Val.cast_at _ i0 i1).symm

/-- The reference's run, its results read as its stages. -/
theorem ref_run (m' : (ℓ : Loc FfnFirstRefIdeal.nD FfnFirstRefIdeal.τ FfnFirstRefIdeal.sig) → Buf (Elt Ideal) ℓ)
    (g' : Dev FfnFirstRefIdeal.nD → PrngReg) :
    θ_run (FfnFirstRefIdeal.defs (F := Ideal)) (onTc (τ := FfnFirstRefIdeal.τ) (FfnFirstRefIdeal.main (F := Ideal)))
      ⟨m', fun _ => 0, g'⟩ fun r => ∀ c : Dev FfnFirstRefIdeal.nD,
      r.2.mem ((c.tc : Thread FfnFirstRefIdeal.nD FfnFirstRefIdeal.τ).loc FfnFirstRefIdeal.main_v37) = FfnFirstRefIdeal.Read.val_main_v37 (F := Ideal) (m' ((c.tc : Thread FfnFirstRefIdeal.nD FfnFirstRefIdeal.τ).loc FfnFirstRefIdeal.main_arg0)) (m' ((c.tc : Thread FfnFirstRefIdeal.nD FfnFirstRefIdeal.τ).loc FfnFirstRefIdeal.main_arg1)) (m' ((c.tc : Thread FfnFirstRefIdeal.nD FfnFirstRefIdeal.τ).loc FfnFirstRefIdeal.main_arg2)) (m' ((c.tc : Thread FfnFirstRefIdeal.nD FfnFirstRefIdeal.τ).loc FfnFirstRefIdeal.main_arg3)) (m' ((c.tc : Thread FfnFirstRefIdeal.nD FfnFirstRefIdeal.τ).loc FfnFirstRefIdeal.main_arg4))
      ∧ r.2.mem ((c.tc : Thread FfnFirstRefIdeal.nD FfnFirstRefIdeal.τ).loc FfnFirstRefIdeal.main_v57) = FfnFirstRefIdeal.Read.val_main_v57 (F := Ideal) (m' ((c.tc : Thread FfnFirstRefIdeal.nD FfnFirstRefIdeal.τ).loc FfnFirstRefIdeal.main_arg0)) (m' ((c.tc : Thread FfnFirstRefIdeal.nD FfnFirstRefIdeal.τ).loc FfnFirstRefIdeal.main_arg1)) (m' ((c.tc : Thread FfnFirstRefIdeal.nD FfnFirstRefIdeal.τ).loc FfnFirstRefIdeal.main_arg2)) (m' ((c.tc : Thread FfnFirstRefIdeal.nD FfnFirstRefIdeal.τ).loc FfnFirstRefIdeal.main_arg3)) (m' ((c.tc : Thread FfnFirstRefIdeal.nD FfnFirstRefIdeal.τ).loc FfnFirstRefIdeal.main_arg4)) (m' ((c.tc : Thread FfnFirstRefIdeal.nD FfnFirstRefIdeal.τ).loc FfnFirstRefIdeal.main_arg5))
      ∧ r.2.mem ((c.tc : Thread FfnFirstRefIdeal.nD FfnFirstRefIdeal.τ).loc FfnFirstRefIdeal.main_v59) = FfnFirstRefIdeal.Read.val_main_v59 (F := Ideal) (m' ((c.tc : Thread FfnFirstRefIdeal.nD FfnFirstRefIdeal.τ).loc FfnFirstRefIdeal.main_arg6))
      ∧ r.2.mem ((c.tc : Thread FfnFirstRefIdeal.nD FfnFirstRefIdeal.τ).loc FfnFirstRefIdeal.main_arg0) = m' ((c.tc : Thread FfnFirstRefIdeal.nD FfnFirstRefIdeal.τ).loc FfnFirstRefIdeal.main_arg0)
      ∧ r.2.mem ((c.tc : Thread FfnFirstRefIdeal.nD FfnFirstRefIdeal.τ).loc FfnFirstRefIdeal.main_arg1) = m' ((c.tc : Thread FfnFirstRefIdeal.nD FfnFirstRefIdeal.τ).loc FfnFirstRefIdeal.main_arg1)
      ∧ r.2.mem ((c.tc : Thread FfnFirstRefIdeal.nD FfnFirstRefIdeal.τ).loc FfnFirstRefIdeal.main_arg2) = m' ((c.tc : Thread FfnFirstRefIdeal.nD FfnFirstRefIdeal.τ).loc FfnFirstRefIdeal.main_arg2)
      ∧ r.2.mem ((c.tc : Thread FfnFirstRefIdeal.nD FfnFirstRefIdeal.τ).loc FfnFirstRefIdeal.main_arg3) = m' ((c.tc : Thread FfnFirstRefIdeal.nD FfnFirstRefIdeal.τ).loc FfnFirstRefIdeal.main_arg3)
      ∧ r.2.mem ((c.tc : Thread FfnFirstRefIdeal.nD FfnFirstRefIdeal.τ).loc FfnFirstRefIdeal.main_arg4) = m' ((c.tc : Thread FfnFirstRefIdeal.nD FfnFirstRefIdeal.τ).loc FfnFirstRefIdeal.main_arg4)
      ∧ r.2.mem ((c.tc : Thread FfnFirstRefIdeal.nD FfnFirstRefIdeal.τ).loc FfnFirstRefIdeal.main_arg5) = m' ((c.tc : Thread FfnFirstRefIdeal.nD FfnFirstRefIdeal.τ).loc FfnFirstRefIdeal.main_arg5)
      ∧ r.2.mem ((c.tc : Thread FfnFirstRefIdeal.nD FfnFirstRefIdeal.τ).loc FfnFirstRefIdeal.main_arg6) = m' ((c.tc : Thread FfnFirstRefIdeal.nD FfnFirstRefIdeal.τ).loc FfnFirstRefIdeal.main_arg6) :=
  θ_run_mono (FfnFirstRefIdeal.Value.run m' g') fun r h c =>
    ⟨(h c).1.trans (FfnFirstRefIdeal.Read.val_main_v37_eq _ _), (h c).2.1.trans (FfnFirstRefIdeal.Read.val_main_v57_eq _ _), (h c).2.2.1.trans (FfnFirstRefIdeal.Read.val_main_v59_eq _), (h c).2.2.2⟩

/-- The reference runs, leaves its arguments as they are, and has no semaphore. -/
theorem frame_ref : Cert.quiescent_FfnFirstRefIdeal := fun m' g' _ =>
  θ_run_mono (ref_run m' g') fun r h => ⟨fun c => (h c).2.2.2, sem_eq_zero_of_no_sems rfl r.2⟩

theorem algebraic : Cert.algebraic_FfnFirstIdeal_FfnFirstRefIdeal := by
  pair_intro
  · run_from (Cert.FfnFirstIdeal.Value.run_blocks m g)
  · run_from (ref_run m' g')
    · exact (outs_ref m c).symm.trans (outs_eq m c).symm
    · exact (nexts_ref m c).symm.trans (nexts_eq m c).symm
    · exact (casts_ref m c).symm.trans (casts_eq m c).symm

end Cert.FfnFirstClaim

end
-- ==== Proof.FfnLastKernel.lean ====
module

public import proofs.«01_k».proof.Proof.Gen.FfnLastIdeal.Value
public import proofs.«01_k».proof.Proof.FfnSpec
public import proofs.«01_k».proof.Proof.Reads
public import Idealize.ShloMosaic.Lib.Pipeline.ValueKit
public import Idealize.ShloMosaic.Lib.Pipeline.ReadBack
public import Idealize.ShloMosaic.Lib.Pointwise
public import Idealize.ShloMosaic.Lib.StableHlo.ReadAt

/-! What the last feed-forward block's call computes: the accumulated tiles of a block of rows, and the rows that the last tile's point writes. -/

@[expose] public section

set_option maxRecDepth 16384

noncomputable section

namespace Cert.FfnLastIdeal.Val

open Cert.FfnLastIdeal Cert.FfnLastIdeal.Gen Idealize.ShloMosaic Idealize.ShloMosaic.TcCoe Idealize.SL.Sem
open Idealize.ShloMosaic.Pipeline (Dat)
open Cert.GdnSpec Cert.FfnSpec Cert.Scalars

variable (m : (ℓ : Loc nD τ sig) → Buf (Elt Ideal) ℓ)

/-- Where each window's block of point `t` stands in its array: points run over the batch, then four blocks of 512 rows, then eleven tiles of
512 hidden units. -/
theorem places : ∀ t : Fin cfg0.N, win0_0.index t = ![t.val / 44, t.val / 11 % 4, 0] ∧ win0_1.index t = ![t.val / 44, t.val / 11 % 4, 0]
    ∧ win0_2.index t = ![t.val / 44, 0, 8] ∧ win0_3.index t = ![0, t.val % 11] ∧ win0_4.index t = ![0, t.val % 11 + 11]
    ∧ win0_5.index t = ![t.val % 11, 0] ∧ win0_6.index t = ![0, 0] ∧ win0_7.index t = ![t.val / 44, t.val / 11 % 4, 0] := by
  decide +kernel

theorem points (t : Fin cfg0.N) : t.val < 352 := t.isLt

/-- The batch entry of point `t`, and its block's row `r`. -/
def bat (t : Fin cfg0.N) : Fin 8 := ⟨t.val / 44, by have := points t; omega⟩
def row (t : Fin cfg0.N) (r : Fin 512) : Fin 2048 := ⟨512 * (t.val / 11 % 4) + r, by omega⟩
def til (t : Fin cfg0.N) : Fin 11 := ⟨t.val % 11, by omega⟩

/-- The arguments: a row of the residual stream and of the normalised stream, the gate, the weights, the gain. -/
def hh (c : Dev nD) (b : Fin 8) (r : Fin 2048) (f : Fin 2048) : EReal := m ((c : Thread nD τ).loc main_arg0) (ix3 b r f)
def xm (c : Dev nD) (b : Fin 8) (r : Fin 2048) (f : Fin 2048) : EReal := m ((c : Thread nD τ).loc main_arg1) (ix3 b r f)
def gate (c : Dev nD) (b : Fin 8) (f : Fin 2048) : EReal := m ((c : Thread nD τ).loc main_arg2) (ix3 b 0 ⟨16384 + f, by omega⟩)
def wUp (c : Dev nD) (d : Fin 2048) (j : Fin 11264) : EReal := m ((c : Thread nD τ).loc main_arg3) (ix2 d j)
def wDown (c : Dev nD) (j : Fin 5632) (f : Fin 2048) : EReal := m ((c : Thread nD τ).loc main_arg4) (ix2 j f)
def gain (c : Dev nD) (f : Fin 2048) : EReal := m ((c : Thread nD τ).loc main_arg5) (ix1 f)

theorem hh_at (c : Dev nD) (t : Fin cfg0.N) (r : Fin 512) (f : Fin 2048) : iblk m c 0 t (ix3 0 r f) = hh m c (bat t) (row t r) f := by
  unfold hh bat row; blk_ext [iblk, V, places t]

theorem xm_at (c : Dev nD) (t : Fin cfg0.N) (r : Fin 512) (f : Fin 2048) : iblk m c 1 t (ix3 0 r f) = xm m c (bat t) (row t r) f := by
  unfold xm bat row; blk_ext [iblk, V, places t]

theorem gate_at (c : Dev nD) (t : Fin cfg0.N) (f : Fin 2048) : iblk m c 2 t (ix3 0 0 f) = gate m c (bat t) f := by
  unfold gate bat; blk_ext [iblk, V, places t]

theorem wg_at (c : Dev nD) (t : Fin cfg0.N) (d : Fin 2048) (k : Fin 512) :
    iblk m c 3 t (ix2 d k) = wUp m c d ⟨512 * til t + k, by omega⟩ := by
  unfold wUp til; blk_ext [iblk, V, places t]

theorem wu_at (c : Dev nD) (t : Fin cfg0.N) (d : Fin 2048) (k : Fin 512) :
    iblk m c 4 t (ix2 d k) = wUp m c d ⟨5632 + (512 * til t + k), by omega⟩ := by
  unfold wUp til; blk_ext [iblk, V, places t]

theorem wd_at (c : Dev nD) (t : Fin cfg0.N) (k : Fin 512) (f : Fin 2048) :
    iblk m c 5 t (ix2 k f) = wDown m c ⟨512 * til t + k, by omega⟩ f := by
  unfold wDown til; blk_ext [iblk, V, places t]

theorem gain_at (c : Dev nD) (t : Fin cfg0.N) (f : Fin 2048) : iblk m c 6 t (ix2 0 f) = gain m c f := by
  have e : (win0_6.blk t).view.emb (ix2 0 f) = (ix2 0 f : S1x2048.Idx) := by blk_ext [places t]
  refine (congrArg (V m c main_v0) e).trans ?_
  unfold gain V
  after_reads_at

/-- What a point adds into the accumulator at row `i 0`, column `i 1`. -/
def add (c : Dev nD) (t : Fin cfg0.N) (i : S512x2048.Idx) : EReal :=
  tile (xm m c (bat t) (row t (i 0))) (wUp m c) (wDown m c) (til t) (i 1)

theorem acc_reset (c : Dev nD) (t : Fin cfg0.N) (h : t.val % 11 = 0) (i : S512x2048.Idx) :
    (outsAt0 m c t.val t.isLt).2 i = 0 + add m c t i := by
  rw [outsAt0_A m c t h (by omega)]
  frame_out
  unfold add tile unitAt up silu
  idx_vars i
  pointwise [k0_pay1, k0_pay2, half_tanh, xm_at, wg_at, wu_at, wd_at]

theorem acc_step (c : Dev nD) (t : Fin cfg0.N) (h : ¬t.val % 11 = 0) (i : S512x2048.Idx) :
    (outsAt0 m c t.val t.isLt).2 i = (outsAt0 m c (t.val - 1) (Nat.lt_of_le_of_lt (Nat.sub_le _ _) t.isLt)).2 i + add m c t i := by
  unfold add tile unitAt up silu
  idx_vars i
  by_cases h' : t.val % 11 = 10
  · rw [outsAt0_C m c t h h']
    frame_out
    simp only [read_unread_whole]
    pointwise [k0_pay2, half_tanh, xm_at, wg_at, wu_at, wd_at]
  · rw [outsAt0_B m c t h h']
    frame_out
    simp only [read_unread_whole]
    pointwise [k0_pay2, half_tanh, xm_at, wg_at, wu_at, wd_at]

/-- After the last tile's point the accumulator holds the block's rows. -/
theorem acc_last (c : Dev nD) (t : Fin cfg0.N) (h : t.val % 11 = 10) (r : Fin 512) (f : Fin 2048) :
    (outsAt0 m c t.val t.isLt).2 (ix2 r f) = swiglu (xm m c (bat t) (row t r)) (wUp m c) (wDown m c) f := by
  refine (Pipeline.eq_sum_fin_of_reset_step_apply_of_flush (fun n hn => (outsAt0 m c n hn).2) 11 (fun _ => (0 : EReal)) (add m c)
    (fun t h i => acc_reset m c t h i) (fun t h i => acc_step m c t h i) t h (ix2 r f)).trans ?_
  rw [zero_add, swiglu_eq_tiles]
  refine Finset.sum_congr rfl fun s _ => ?_
  unfold add
  have hb : ∀ hp, bat ⟨11 * (t.val / 11) + s.val, hp⟩ = bat t := fun hp => Fin.ext (by simp only [bat]; omega)
  have hr : ∀ hp, row ⟨11 * (t.val / 11) + s.val, hp⟩ r = row t r := fun hp => Fin.ext (by simp only [row]; omega)
  have ht : ∀ hp, til ⟨11 * (t.val / 11) + s.val, hp⟩ = s := fun hp => Fin.ext (by simp only [til]; omega)
  rw [hb, ht]
  exact congrArg (fun r => tile (xm m c (bat t) r) (wUp m c) (wDown m c) s f) (hr _)

set_option maxHeartbeats 4000000 in
/-- The rows that the last tile's point writes. -/
theorem out_tile (c : Dev nD) (t : Fin cfg0.N) (h : t.val % 11 = 10) (r : Fin 512) (f : Fin 2048) :
    (outsAt0 m c t.val t.isLt).1 (ix3 0 r f) = rms (resid (hh m c (bat t) (row t r)) (gate m c (bat t))
      (fun f => (outsAt0 m c t.val t.isLt).2 (ix2 r f))) f * gain m c f := by
  rw [outsAt0_C m c t (by omega) h]
  frame_out
  canon_tiles x hx
  all_goals
    simp (disch := decide) only [Reads.readCov_part]
    generalize k0_pay2 (F := Ideal) _ _ _ _ _ = A
    idx_vars x
    unfold rms resid eps
    obtain rfl : f = x2 := Fin.ext hx2
    unfold_payloads
    pointwise [hh_at, gate_at, gain_at]
    have hr := fun hp => (Fin.ext hx1.symm : (⟨_, hp⟩ : Fin 512) = r)
    try simp only [hr]

/-- The call's result, from its arguments. -/
def outs (c : Dev nD) : S8x2048x2048.Idx → EReal := fun i =>
  rms (resid (hh m c (i 0) (i 1)) (gate m c (i 0)) (swiglu (xm m c (i 0) (i 1)) (wUp m c) (wDown m c))) (i 2) * gain m c (i 2)

theorem emb7 (t : Fin cfg0.N) (y0 : Fin 1) (y1 : Fin 512) (y2 : Fin 2048) :
    ((View.whole main_v1).slice (win0_7.rect t)).emb (ix3 y0 y1 y2) = (ix3 (bat t) (row t y1) y2 : S8x2048x2048.Idx) := by
  obtain rfl : y0 = 0 := Subsingleton.elim _ _
  blk_ext [bat, row, places t]

theorem outs_eq (c : Dev nD) : (dats m 0 c).arrAt 7 cfg0.N = outs m c := by
  refine (dats m 0 c).arrAt_eq_of_covers 7 _ (by decide +kernel) fun t hf y => ?_
  blk_simp
  rw [after0_7]
  idx_vars y
  obtain rfl : y0 = 0 := Subsingleton.elim _ _
  have h := (flush0_7 t).mp hf
  refine Eq.trans ?_ (congrArg (outs m c) (emb7 t 0 y1 y2)).symm
  refine (out_tile m c t h y1 y2).trans ?_
  simp only [acc_last m c t h]
  rfl

end Cert.FfnLastIdeal.Val

end
-- ==== Proof.FfnLastRef.lean ====
module

public import proofs.«01_k».proof.Proof.Gen.FfnLastRefIdeal.Read
public import proofs.«01_k».proof.Proof.FfnSpec
public import Idealize.ShloMosaic.Lib.Pipeline.ValueKit
public import Idealize.ShloMosaic.Lib.Pointwise

/-! The reference of the last feed-forward block, entry by entry, in the terms of `FfnSpec`. -/

@[expose] public section

set_option maxRecDepth 16384

noncomputable section

namespace Cert.FfnLastRefIdeal.Val

open Cert.FfnLastRefIdeal Cert.FfnLastRefIdeal.Read Idealize.ShloMosaic Idealize.ShloMosaic.TcCoe Idealize.SL.Sem
open Cert.GdnSpec Cert.FfnSpec Cert.Scalars

variable (x0 : (⟨S8x2048x2048, .f32⟩ : BufTy).Contents (Elt Ideal)) (x1 : (⟨S8x2048x2048, .bf16⟩ : BufTy).Contents (Elt Ideal)) (x2 : (⟨S8x1x18432, .f32⟩ : BufTy).Contents (Elt Ideal))
    (x3 : (⟨S2048x11264, .bf16⟩ : BufTy).Contents (Elt Ideal)) (x4 : (⟨S5632x2048, .bf16⟩ : BufTy).Contents (Elt Ideal)) (x5 : (⟨S2048, .f32⟩ : BufTy).Contents (Elt Ideal))

theorem up_at (b : Fin 8) (r : Fin 2048) (j : Fin 11264) :
    val_main_v5 (F := Ideal) x1 x3 (ix3 b r j) = up (fun d => x1 (ix3 b r d)) (fun d j => x3 (ix2 d j)) j := by
  unfold up
  pointwise [val_main_v3, val_main_v4, val_main_v5]

theorem unitAt_at (b : Fin 8) (r : Fin 2048) (j : Fin 5632) :
    val_main_v9 (F := Ideal) x1 x3 (ix3 b r j) = unitAt (fun d => x1 (ix3 b r d)) (fun d j => x3 (ix2 d j)) j := by
  unfold unitAt silu
  pointwise [val_main_v6, val_main_v7, val_main_v8, val_main_v9, val_main_call0_v0, val_main_call0_v1, val_main_call0_v2, val_main_call0_v3, val_main_call0_v4, val_main_call0_v5, val_main_call0_cst, val_main_call0_cst_0, up_at, logistic_spelt]

theorem swiglu_at (b : Fin 8) (r : Fin 2048) (f : Fin 2048) : val_main_v11 (F := Ideal) x1 x3 x4 (ix3 b r f)
      = swiglu (fun d => x1 (ix3 b r d)) (fun d j => x3 (ix2 d j)) (fun j f => x4 (ix2 j f)) f := by
  unfold swiglu
  pointwise [val_main_v10, val_main_v11, unitAt_at]

theorem resid_at (b : Fin 8) (r : Fin 2048) (f : Fin 2048) : val_main_v14 (F := Ideal) x0 x1 x2 x3 x4 (ix3 b r f)
      = resid (fun f => x0 (ix3 b r f)) (fun f => x2 (ix3 b 0 ⟨16384 + f, by omega⟩))
          (swiglu (fun d => x1 (ix3 b r d)) (fun d j => x3 (ix2 d j)) (fun j f => x4 (ix2 j f))) f := by
  unfold resid
  pointwise [val_main_v0, val_main_cst, val_main_v1, val_main_v2, val_main_v12, val_main_v13, val_main_v14, swiglu_at]

theorem out_at (b : Fin 8) (r : Fin 2048) (f : Fin 2048) : val_main_v27 (F := Ideal) x0 x1 x2 x3 x4 x5 (ix3 b r f)
      = rms (resid (fun f => x0 (ix3 b r f)) (fun f => x2 (ix3 b 0 ⟨16384 + f, by omega⟩))
          (swiglu (fun d => x1 (ix3 b r d)) (fun d j => x3 (ix2 d j)) (fun j f => x4 (ix2 j f)))) f * x5 (ix1 f) := by
  unfold rms eps
  pointwise [val_main_v15, val_main_v16, val_main_v17, val_main_v18, val_main_v19, val_main_v20, val_main_v21, val_main_v22, val_main_v23, val_main_v24, val_main_v25, val_main_v26, val_main_v27, val_main_cst_0, val_main_cst_1, val_main_cst_2, resid_at]

end Cert.FfnLastRefIdeal.Val

end
-- ==== Proof.FfnLastClaim.lean ====
module

public import proofs.«01_k».proof.Defs
public import proofs.«01_k».proof.Proof.Gen.FfnLastRefIdeal.Run
public import proofs.«01_k».proof.Proof.FfnLastKernel
public import proofs.«01_k».proof.Proof.FfnLastRef

/-! The last feed-forward block and its reference end with equal results. -/

@[expose] public section

set_option maxRecDepth 16384

noncomputable section

namespace Cert.FfnLastClaim

open Idealize.ShloMosaic Idealize.ShloMosaic.TcCoe Idealize.SL.Sem
open Cert.FfnLastIdeal Cert.FfnLastIdeal.Gen Cert.FfnLastIdeal.Val

variable (m : (ℓ : Loc nD τ sig) → Buf (Elt Ideal) ℓ)

/-- The kernel's result is the reference's. -/
theorem outs_ref (c : Dev nD) : outs m c = FfnLastRefIdeal.Read.val_main_v27 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  idx_vars i
  exact (FfnLastRefIdeal.Val.out_at _ _ _ _ _ _ i0 i1 i2).symm

/-- The reference's run, its results read as its stages. -/
theorem ref_run (m' : (ℓ : Loc FfnLastRefIdeal.nD FfnLastRefIdeal.τ FfnLastRefIdeal.sig) → Buf (Elt Ideal) ℓ)
    (g' : Dev FfnLastRefIdeal.nD → PrngReg) :
    θ_run (FfnLastRefIdeal.defs (F := Ideal)) (onTc (τ := FfnLastRefIdeal.τ) (FfnLastRefIdeal.main (F := Ideal)))
      ⟨m', fun _ => 0, g'⟩ fun r => ∀ c : Dev FfnLastRefIdeal.nD,
      r.2.mem ((c.tc : Thread FfnLastRefIdeal.nD FfnLastRefIdeal.τ).loc FfnLastRefIdeal.main_v27) = FfnLastRefIdeal.Read.val_main_v27 (F := Ideal) (m' ((c.tc : Thread FfnLastRefIdeal.nD FfnLastRefIdeal.τ).loc FfnLastRefIdeal.main_arg0)) (m' ((c.tc : Thread FfnLastRefIdeal.nD FfnLastRefIdeal.τ).loc FfnLastRefIdeal.main_arg1)) (m' ((c.tc : Thread FfnLastRefIdeal.nD FfnLastRefIdeal.τ).loc FfnLastRefIdeal.main_arg2)) (m' ((c.tc : Thread FfnLastRefIdeal.nD FfnLastRefIdeal.τ).loc FfnLastRefIdeal.main_arg3)) (m' ((c.tc : Thread FfnLastRefIdeal.nD FfnLastRefIdeal.τ).loc FfnLastRefIdeal.main_arg4)) (m' ((c.tc : Thread FfnLastRefIdeal.nD FfnLastRefIdeal.τ).loc FfnLastRefIdeal.main_arg5))
      ∧ r.2.mem ((c.tc : Thread FfnLastRefIdeal.nD FfnLastRefIdeal.τ).loc FfnLastRefIdeal.main_arg0) = m' ((c.tc : Thread FfnLastRefIdeal.nD FfnLastRefIdeal.τ).loc FfnLastRefIdeal.main_arg0)
      ∧ r.2.mem ((c.tc : Thread FfnLastRefIdeal.nD FfnLastRefIdeal.τ).loc FfnLastRefIdeal.main_arg1) = m' ((c.tc : Thread FfnLastRefIdeal.nD FfnLastRefIdeal.τ).loc FfnLastRefIdeal.main_arg1)
      ∧ r.2.mem ((c.tc : Thread FfnLastRefIdeal.nD FfnLastRefIdeal.τ).loc FfnLastRefIdeal.main_arg2) = m' ((c.tc : Thread FfnLastRefIdeal.nD FfnLastRefIdeal.τ).loc FfnLastRefIdeal.main_arg2)
      ∧ r.2.mem ((c.tc : Thread FfnLastRefIdeal.nD FfnLastRefIdeal.τ).loc FfnLastRefIdeal.main_arg3) = m' ((c.tc : Thread FfnLastRefIdeal.nD FfnLastRefIdeal.τ).loc FfnLastRefIdeal.main_arg3)
      ∧ r.2.mem ((c.tc : Thread FfnLastRefIdeal.nD FfnLastRefIdeal.τ).loc FfnLastRefIdeal.main_arg4) = m' ((c.tc : Thread FfnLastRefIdeal.nD FfnLastRefIdeal.τ).loc FfnLastRefIdeal.main_arg4)
      ∧ r.2.mem ((c.tc : Thread FfnLastRefIdeal.nD FfnLastRefIdeal.τ).loc FfnLastRefIdeal.main_arg5) = m' ((c.tc : Thread FfnLastRefIdeal.nD FfnLastRefIdeal.τ).loc FfnLastRefIdeal.main_arg5) :=
  θ_run_mono (FfnLastRefIdeal.Value.run m' g') fun r h c =>
    ⟨(h c).1.trans (FfnLastRefIdeal.Read.val_main_v27_eq _ _), (h c).2⟩

/-- The reference runs, leaves its arguments as they are, and has no semaphore. -/
theorem frame_ref : Cert.quiescent_FfnLastRefIdeal := fun m' g' _ =>
  θ_run_mono (ref_run m' g') fun r h => ⟨fun c => (h c).2, sem_eq_zero_of_no_sems rfl r.2⟩

theorem algebraic : Cert.algebraic_FfnLastIdeal_FfnLastRefIdeal := by
  pair_intro
  · run_from (Cert.FfnLastIdeal.Value.run_blocks m g)
  · run_from (ref_run m' g')
    · exact (outs_ref m c).symm.trans (outs_eq m c).symm

end Cert.FfnLastClaim

end
-- ==== Proof.AttnProjIdealRun.lean ====
module

public import proofs.«01_k».proof.Proof.Gen.AttnProjIdeal.Frame
public import proofs.«01_k».proof.Proof.Gen.AttnProjIdeal.Skeleton
public import Idealize.ShloMosaic.Lib.Exec
public import Idealize.ShloMosaic.Lib.Ring

/-! What the body of `AttnProjIdeal` stores in each of its seven cases.

The nine column tiles of a row of tiles take one branch each: the first six a branch of their own, the last three the
same one. A branch stores four bands of 128 columns into one output's buffer and touches no other output. Each
definition below is the list of those stores, found by running the body, with the proof that the body runs on whole
buffers and leaves exactly these stores there. -/

@[expose] public section

set_option maxRecDepth 16384

noncomputable section

namespace Cert.AttnProjIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnProjIdeal.Gen

variable {F : FTy → Type} [FloatOps F]

local notation "𝕄" => MT nD τ sig Unit (Elt F) ℕ (UR sig nD τ) ℕ

variable (c : Dev nD) (i : grid0.Coords) (arg3 : Memref sig .tc .vmem S1x1024x2048 .bf16) (harg3 : arg3.IsWhole) (arg4 : Memref sig .tc .vmem S512x2048 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x1024x512 .f32) (harg7 : arg7.IsWhole) (arg8 : Memref sig .tc .vmem S1x1024x512 .f32) (harg8 : arg8.IsWhole) (arg9 : Memref sig .tc .vmem S1x1024x512 .f32) (harg9 : arg9.IsWhole) (arg10 : Memref sig .tc .vmem S1x1024x512 .f32) (harg10 : arg10.IsWhole)

set_option maxHeartbeats 1000000 in
/-- The stores of the first column tile, into the buffer `arg7`, rotated. -/
def runA (hc0 : k0_cond1 i = 1#1) (hc1 : ¬k0_cond2 i = 1#1) (hc2 : ¬k0_cond3 i = 1#1) (hc3 : ¬k0_cond4 i = 1#1) (hc4 : ¬k0_cond5 i = 1#1) (hc5 : ¬k0_cond6 i = 1#1) (hc6 : ¬k0_cond7 i = 1#1)
    (x0 : Vec F S1x1024x2048 .bf16) (x1 : Vec F S512x2048 .bf16) (x2 : Vec F S1024x128 .f32) (x3 : Vec F S1024x128 .f32) :
    { L : List (View.Piece (Elt F) S1x1024x512 .f32) // ∀ (E : Set ℕ) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
          ∗ (iprop(owns (c : Thread nD τ) arg3 fullShare x0 ∗ owns (c : Thread nD τ) arg4 fullShare x1 ∗ owns (c : Thread nD τ) arg5 fullShare x2 ∗ owns (c : Thread nD τ) arg6 fullShare x3
              ∗ (∃ f, arg7.view.loc (c : Thread nD τ) ↦[arg7.view.set]{fullShare} arg7.view.writes (Elt F) f L)) -∗ K ⟨⟩))
        ⊢ wp frame (wpE (defs₀ (F := F)) Variants.none c none) E (cc0_proj_attn i arg3 harg3 arg4 harg4 arg5 harg5 arg6 harg6 arg7 harg7 arg8 harg8 arg9 harg9 arg10 harg10) K } := by
  refine ⟨?_, fun E K => ?run⟩
  case run =>
    simp only [cc0_proj_attn_eq_skeleton]; unfold cc0_proj_attn_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

/-- Those stores fill the buffer. -/
theorem coverA (hc0 : k0_cond1 i = 1#1) (hc1 : ¬k0_cond2 i = 1#1) (hc2 : ¬k0_cond3 i = 1#1) (hc3 : ¬k0_cond4 i = 1#1) (hc4 : ¬k0_cond5 i = 1#1) (hc5 : ¬k0_cond6 i = 1#1) (hc6 : ¬k0_cond7 i = 1#1)
    (x0 : Vec F S1x1024x2048 .bf16) (x1 : Vec F S512x2048 .bf16) (x2 : Vec F S1024x128 .f32) (x3 : Vec F S1024x128 .f32) (y : S1x1024x512.Idx) :
    ∃ pc ∈ (runA c i arg3 harg3 arg4 harg4 arg5 harg5 arg6 harg6 arg7 harg7 arg8 harg8 arg9 harg9 arg10 harg10 hc0 hc1 hc2 hc3 hc4 hc5 hc6 x0 x1 x2 x3).1, y ∈ pc.1.set :=
  View.cover_of_tiledL (s := S1x1024x512) _ S1x1024x128.size (by sl_kernel_rfl) y

set_option maxHeartbeats 1000000 in
/-- The stores of the second column tile, into the buffer `arg7`, as projected. -/
def runB (hc0 : ¬k0_cond1 i = 1#1) (hc1 : k0_cond2 i = 1#1) (hc2 : ¬k0_cond3 i = 1#1) (hc3 : ¬k0_cond4 i = 1#1) (hc4 : ¬k0_cond5 i = 1#1) (hc5 : ¬k0_cond6 i = 1#1) (hc6 : ¬k0_cond7 i = 1#1)
    (x0 : Vec F S1x1024x2048 .bf16) (x1 : Vec F S512x2048 .bf16) (x2 : Vec F S1024x128 .f32) (x3 : Vec F S1024x128 .f32) :
    { L : List (View.Piece (Elt F) S1x1024x512 .f32) // ∀ (E : Set ℕ) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
          ∗ (iprop(owns (c : Thread nD τ) arg3 fullShare x0 ∗ owns (c : Thread nD τ) arg4 fullShare x1 ∗ owns (c : Thread nD τ) arg5 fullShare x2 ∗ owns (c : Thread nD τ) arg6 fullShare x3
              ∗ (∃ f, arg7.view.loc (c : Thread nD τ) ↦[arg7.view.set]{fullShare} arg7.view.writes (Elt F) f L)) -∗ K ⟨⟩))
        ⊢ wp frame (wpE (defs₀ (F := F)) Variants.none c none) E (cc0_proj_attn i arg3 harg3 arg4 harg4 arg5 harg5 arg6 harg6 arg7 harg7 arg8 harg8 arg9 harg9 arg10 harg10) K } := by
  refine ⟨?_, fun E K => ?run⟩
  case run =>
    simp only [cc0_proj_attn_eq_skeleton]; unfold cc0_proj_attn_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

/-- Those stores fill the buffer. -/
theorem coverB (hc0 : ¬k0_cond1 i = 1#1) (hc1 : k0_cond2 i = 1#1) (hc2 : ¬k0_cond3 i = 1#1) (hc3 : ¬k0_cond4 i = 1#1) (hc4 : ¬k0_cond5 i = 1#1) (hc5 : ¬k0_cond6 i = 1#1) (hc6 : ¬k0_cond7 i = 1#1)
    (x0 : Vec F S1x1024x2048 .bf16) (x1 : Vec F S512x2048 .bf16) (x2 : Vec F S1024x128 .f32) (x3 : Vec F S1024x128 .f32) (y : S1x1024x512.Idx) :
    ∃ pc ∈ (runB c i arg3 harg3 arg4 harg4 arg5 harg5 arg6 harg6 arg7 harg7 arg8 harg8 arg9 harg9 arg10 harg10 hc0 hc1 hc2 hc3 hc4 hc5 hc6 x0 x1 x2 x3).1, y ∈ pc.1.set :=
  View.cover_of_tiledL (s := S1x1024x512) _ S1x1024x128.size (by sl_kernel_rfl) y

set_option maxHeartbeats 1000000 in
/-- The stores of the third column tile, into the buffer `arg8`, rotated. -/
def runC (hc0 : ¬k0_cond1 i = 1#1) (hc1 : ¬k0_cond2 i = 1#1) (hc2 : k0_cond3 i = 1#1) (hc3 : ¬k0_cond4 i = 1#1) (hc4 : ¬k0_cond5 i = 1#1) (hc5 : ¬k0_cond6 i = 1#1) (hc6 : ¬k0_cond7 i = 1#1)
    (x0 : Vec F S1x1024x2048 .bf16) (x1 : Vec F S512x2048 .bf16) (x2 : Vec F S1024x128 .f32) (x3 : Vec F S1024x128 .f32) :
    { L : List (View.Piece (Elt F) S1x1024x512 .f32) // ∀ (E : Set ℕ) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg8 fullShare d)
          ∗ (iprop(owns (c : Thread nD τ) arg3 fullShare x0 ∗ owns (c : Thread nD τ) arg4 fullShare x1 ∗ owns (c : Thread nD τ) arg5 fullShare x2 ∗ owns (c : Thread nD τ) arg6 fullShare x3
              ∗ (∃ f, arg8.view.loc (c : Thread nD τ) ↦[arg8.view.set]{fullShare} arg8.view.writes (Elt F) f L)) -∗ K ⟨⟩))
        ⊢ wp frame (wpE (defs₀ (F := F)) Variants.none c none) E (cc0_proj_attn i arg3 harg3 arg4 harg4 arg5 harg5 arg6 harg6 arg7 harg7 arg8 harg8 arg9 harg9 arg10 harg10) K } := by
  refine ⟨?_, fun E K => ?run⟩
  case run =>
    simp only [cc0_proj_attn_eq_skeleton]; unfold cc0_proj_attn_skel
    simp only [k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

/-- Those stores fill the buffer. -/
theorem coverC (hc0 : ¬k0_cond1 i = 1#1) (hc1 : ¬k0_cond2 i = 1#1) (hc2 : k0_cond3 i = 1#1) (hc3 : ¬k0_cond4 i = 1#1) (hc4 : ¬k0_cond5 i = 1#1) (hc5 : ¬k0_cond6 i = 1#1) (hc6 : ¬k0_cond7 i = 1#1)
    (x0 : Vec F S1x1024x2048 .bf16) (x1 : Vec F S512x2048 .bf16) (x2 : Vec F S1024x128 .f32) (x3 : Vec F S1024x128 .f32) (y : S1x1024x512.Idx) :
    ∃ pc ∈ (runC c i arg3 harg3 arg4 harg4 arg5 harg5 arg6 harg6 arg7 harg7 arg8 harg8 arg9 harg9 arg10 harg10 hc0 hc1 hc2 hc3 hc4 hc5 hc6 x0 x1 x2 x3).1, y ∈ pc.1.set :=
  View.cover_of_tiledL (s := S1x1024x512) _ S1x1024x128.size (by sl_kernel_rfl) y

set_option maxHeartbeats 1000000 in
/-- The stores of the fourth column tile, into the buffer `arg8`, as projected. -/
def runD (hc0 : ¬k0_cond1 i = 1#1) (hc1 : ¬k0_cond2 i = 1#1) (hc2 : ¬k0_cond3 i = 1#1) (hc3 : k0_cond4 i = 1#1) (hc4 : ¬k0_cond5 i = 1#1) (hc5 : ¬k0_cond6 i = 1#1) (hc6 : ¬k0_cond7 i = 1#1)
    (x0 : Vec F S1x1024x2048 .bf16) (x1 : Vec F S512x2048 .bf16) (x2 : Vec F S1024x128 .f32) (x3 : Vec F S1024x128 .f32) :
    { L : List (View.Piece (Elt F) S1x1024x512 .f32) // ∀ (E : Set ℕ) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg8 fullShare d)
          ∗ (iprop(owns (c : Thread nD τ) arg3 fullShare x0 ∗ owns (c : Thread nD τ) arg4 fullShare x1 ∗ owns (c : Thread nD τ) arg5 fullShare x2 ∗ owns (c : Thread nD τ) arg6 fullShare x3
              ∗ (∃ f, arg8.view.loc (c : Thread nD τ) ↦[arg8.view.set]{fullShare} arg8.view.writes (Elt F) f L)) -∗ K ⟨⟩))
        ⊢ wp frame (wpE (defs₀ (F := F)) Variants.none c none) E (cc0_proj_attn i arg3 harg3 arg4 harg4 arg5 harg5 arg6 harg6 arg7 harg7 arg8 harg8 arg9 harg9 arg10 harg10) K } := by
  refine ⟨?_, fun E K => ?run⟩
  case run =>
    simp only [cc0_proj_attn_eq_skeleton]; unfold cc0_proj_attn_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

/-- Those stores fill the buffer. -/
theorem coverD (hc0 : ¬k0_cond1 i = 1#1) (hc1 : ¬k0_cond2 i = 1#1) (hc2 : ¬k0_cond3 i = 1#1) (hc3 : k0_cond4 i = 1#1) (hc4 : ¬k0_cond5 i = 1#1) (hc5 : ¬k0_cond6 i = 1#1) (hc6 : ¬k0_cond7 i = 1#1)
    (x0 : Vec F S1x1024x2048 .bf16) (x1 : Vec F S512x2048 .bf16) (x2 : Vec F S1024x128 .f32) (x3 : Vec F S1024x128 .f32) (y : S1x1024x512.Idx) :
    ∃ pc ∈ (runD c i arg3 harg3 arg4 harg4 arg5 harg5 arg6 harg6 arg7 harg7 arg8 harg8 arg9 harg9 arg10 harg10 hc0 hc1 hc2 hc3 hc4 hc5 hc6 x0 x1 x2 x3).1, y ∈ pc.1.set :=
  View.cover_of_tiledL (s := S1x1024x512) _ S1x1024x128.size (by sl_kernel_rfl) y

set_option maxHeartbeats 1000000 in
/-- The stores of the fifth column tile, into the buffer `arg9`, rotated. -/
def runE (hc0 : ¬k0_cond1 i = 1#1) (hc1 : ¬k0_cond2 i = 1#1) (hc2 : ¬k0_cond3 i = 1#1) (hc3 : ¬k0_cond4 i = 1#1) (hc4 : k0_cond5 i = 1#1) (hc5 : ¬k0_cond6 i = 1#1) (hc6 : ¬k0_cond7 i = 1#1)
    (x0 : Vec F S1x1024x2048 .bf16) (x1 : Vec F S512x2048 .bf16) (x2 : Vec F S1024x128 .f32) (x3 : Vec F S1024x128 .f32) :
    { L : List (View.Piece (Elt F) S1x1024x512 .f32) // ∀ (E : Set ℕ) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg9 fullShare d)
          ∗ (iprop(owns (c : Thread nD τ) arg3 fullShare x0 ∗ owns (c : Thread nD τ) arg4 fullShare x1 ∗ owns (c : Thread nD τ) arg5 fullShare x2 ∗ owns (c : Thread nD τ) arg6 fullShare x3
              ∗ (∃ f, arg9.view.loc (c : Thread nD τ) ↦[arg9.view.set]{fullShare} arg9.view.writes (Elt F) f L)) -∗ K ⟨⟩))
        ⊢ wp frame (wpE (defs₀ (F := F)) Variants.none c none) E (cc0_proj_attn i arg3 harg3 arg4 harg4 arg5 harg5 arg6 harg6 arg7 harg7 arg8 harg8 arg9 harg9 arg10 harg10) K } := by
  refine ⟨?_, fun E K => ?run⟩
  case run =>
    simp only [cc0_proj_attn_eq_skeleton]; unfold cc0_proj_attn_skel
    simp only [k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

/-- Those stores fill the buffer. -/
theorem coverE (hc0 : ¬k0_cond1 i = 1#1) (hc1 : ¬k0_cond2 i = 1#1) (hc2 : ¬k0_cond3 i = 1#1) (hc3 : ¬k0_cond4 i = 1#1) (hc4 : k0_cond5 i = 1#1) (hc5 : ¬k0_cond6 i = 1#1) (hc6 : ¬k0_cond7 i = 1#1)
    (x0 : Vec F S1x1024x2048 .bf16) (x1 : Vec F S512x2048 .bf16) (x2 : Vec F S1024x128 .f32) (x3 : Vec F S1024x128 .f32) (y : S1x1024x512.Idx) :
    ∃ pc ∈ (runE c i arg3 harg3 arg4 harg4 arg5 harg5 arg6 harg6 arg7 harg7 arg8 harg8 arg9 harg9 arg10 harg10 hc0 hc1 hc2 hc3 hc4 hc5 hc6 x0 x1 x2 x3).1, y ∈ pc.1.set :=
  View.cover_of_tiledL (s := S1x1024x512) _ S1x1024x128.size (by sl_kernel_rfl) y

set_option maxHeartbeats 1000000 in
/-- The stores of the sixth column tile, into the buffer `arg9`, as projected. -/
def runF (hc0 : ¬k0_cond1 i = 1#1) (hc1 : ¬k0_cond2 i = 1#1) (hc2 : ¬k0_cond3 i = 1#1) (hc3 : ¬k0_cond4 i = 1#1) (hc4 : ¬k0_cond5 i = 1#1) (hc5 : k0_cond6 i = 1#1) (hc6 : ¬k0_cond7 i = 1#1)
    (x0 : Vec F S1x1024x2048 .bf16) (x1 : Vec F S512x2048 .bf16) (x2 : Vec F S1024x128 .f32) (x3 : Vec F S1024x128 .f32) :
    { L : List (View.Piece (Elt F) S1x1024x512 .f32) // ∀ (E : Set ℕ) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg9 fullShare d)
          ∗ (iprop(owns (c : Thread nD τ) arg3 fullShare x0 ∗ owns (c : Thread nD τ) arg4 fullShare x1 ∗ owns (c : Thread nD τ) arg5 fullShare x2 ∗ owns (c : Thread nD τ) arg6 fullShare x3
              ∗ (∃ f, arg9.view.loc (c : Thread nD τ) ↦[arg9.view.set]{fullShare} arg9.view.writes (Elt F) f L)) -∗ K ⟨⟩))
        ⊢ wp frame (wpE (defs₀ (F := F)) Variants.none c none) E (cc0_proj_attn i arg3 harg3 arg4 harg4 arg5 harg5 arg6 harg6 arg7 harg7 arg8 harg8 arg9 harg9 arg10 harg10) K } := by
  refine ⟨?_, fun E K => ?run⟩
  case run =>
    simp only [cc0_proj_attn_eq_skeleton]; unfold cc0_proj_attn_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

/-- Those stores fill the buffer. -/
theorem coverF (hc0 : ¬k0_cond1 i = 1#1) (hc1 : ¬k0_cond2 i = 1#1) (hc2 : ¬k0_cond3 i = 1#1) (hc3 : ¬k0_cond4 i = 1#1) (hc4 : ¬k0_cond5 i = 1#1) (hc5 : k0_cond6 i = 1#1) (hc6 : ¬k0_cond7 i = 1#1)
    (x0 : Vec F S1x1024x2048 .bf16) (x1 : Vec F S512x2048 .bf16) (x2 : Vec F S1024x128 .f32) (x3 : Vec F S1024x128 .f32) (y : S1x1024x512.Idx) :
    ∃ pc ∈ (runF c i arg3 harg3 arg4 harg4 arg5 harg5 arg6 harg6 arg7 harg7 arg8 harg8 arg9 harg9 arg10 harg10 hc0 hc1 hc2 hc3 hc4 hc5 hc6 x0 x1 x2 x3).1, y ∈ pc.1.set :=
  View.cover_of_tiledL (s := S1x1024x512) _ S1x1024x128.size (by sl_kernel_rfl) y

set_option maxHeartbeats 1000000 in
/-- The stores of the last three column tiles, into the buffer `arg10`, rotated. -/
def runG (hc0 : ¬k0_cond1 i = 1#1) (hc1 : ¬k0_cond2 i = 1#1) (hc2 : ¬k0_cond3 i = 1#1) (hc3 : ¬k0_cond4 i = 1#1) (hc4 : ¬k0_cond5 i = 1#1) (hc5 : ¬k0_cond6 i = 1#1) (hc6 : k0_cond7 i = 1#1)
    (x0 : Vec F S1x1024x2048 .bf16) (x1 : Vec F S512x2048 .bf16) (x2 : Vec F S1024x128 .f32) (x3 : Vec F S1024x128 .f32) :
    { L : List (View.Piece (Elt F) S1x1024x512 .f32) // ∀ (E : Set ℕ) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg10 fullShare d)
          ∗ (iprop(owns (c : Thread nD τ) arg3 fullShare x0 ∗ owns (c : Thread nD τ) arg4 fullShare x1 ∗ owns (c : Thread nD τ) arg5 fullShare x2 ∗ owns (c : Thread nD τ) arg6 fullShare x3
              ∗ (∃ f, arg10.view.loc (c : Thread nD τ) ↦[arg10.view.set]{fullShare} arg10.view.writes (Elt F) f L)) -∗ K ⟨⟩))
        ⊢ wp frame (wpE (defs₀ (F := F)) Variants.none c none) E (cc0_proj_attn i arg3 harg3 arg4 harg4 arg5 harg5 arg6 harg6 arg7 harg7 arg8 harg8 arg9 harg9 arg10 harg10) K } := by
  refine ⟨?_, fun E K => ?run⟩
  case run =>
    simp only [cc0_proj_attn_eq_skeleton]; unfold cc0_proj_attn_skel
    simp only [k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

/-- Those stores fill the buffer. -/
theorem coverG (hc0 : ¬k0_cond1 i = 1#1) (hc1 : ¬k0_cond2 i = 1#1) (hc2 : ¬k0_cond3 i = 1#1) (hc3 : ¬k0_cond4 i = 1#1) (hc4 : ¬k0_cond5 i = 1#1) (hc5 : ¬k0_cond6 i = 1#1) (hc6 : k0_cond7 i = 1#1)
    (x0 : Vec F S1x1024x2048 .bf16) (x1 : Vec F S512x2048 .bf16) (x2 : Vec F S1024x128 .f32) (x3 : Vec F S1024x128 .f32) (y : S1x1024x512.Idx) :
    ∃ pc ∈ (runG c i arg3 harg3 arg4 harg4 arg5 harg5 arg6 harg6 arg7 harg7 arg8 harg8 arg9 harg9 arg10 harg10 hc0 hc1 hc2 hc3 hc4 hc5 hc6 x0 x1 x2 x3).1, y ∈ pc.1.set :=
  View.cover_of_tiledL (s := S1x1024x512) _ S1x1024x128.size (by sl_kernel_rfl) y

end Cert.AttnProjIdeal.Hand

end
-- ==== Proof.AttnProjIdealHand.lean ====
module

public import proofs.«01_k».proof.Proof.AttnProjIdealRun
public import Idealize.ShloMosaic.Lib.Pipeline.FrameBody
public import Idealize.ShloMosaic.Lib.Pipeline.FrameSuffix
public import Idealize.ShloMosaic.Lib.Pipeline.TableIdle
public import Idealize.ShloMosaic.Lib.Claim

/-! The frame of `AttnProjIdeal`.

Each output's buffer is stored at its own column tiles and left alone at the others, and is written back once more at
the end of the row of tiles, where the body stores nothing in it. What it holds at every tile is therefore named by the
last tile that stored it: `src0`, `src1`, `src2` for the three outputs of keys and values, and the tile itself for the
queries. With that the body's triple holds at every tile, and the launch gives the frame. -/

@[expose] public section

set_option maxRecDepth 16384

noncomputable section

namespace Cert.AttnProjIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnProjIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tiles: conditions, idle outputs, write-backs -/

theorem size (t : Fin cfg0.N) : t.val < 144 := lt_of_lt_of_eq t.isLt (show cfg0.N = 144 from N_0)

theorem cond0 : ∀ t : Fin cfg0.N, k0_cond1 (grid0.coords t) = 1#1 ↔ t.val % 9 = 0 :=
  (by decide +kernel : ∀ t : Fin grid0.N, k0_cond1 (grid0.coords t) = 1#1 ↔ t.val % 9 = 0)
theorem cond1 : ∀ t : Fin cfg0.N, k0_cond2 (grid0.coords t) = 1#1 ↔ t.val % 9 = 1 :=
  (by decide +kernel : ∀ t : Fin grid0.N, k0_cond2 (grid0.coords t) = 1#1 ↔ t.val % 9 = 1)
theorem cond2 : ∀ t : Fin cfg0.N, k0_cond3 (grid0.coords t) = 1#1 ↔ t.val % 9 = 2 :=
  (by decide +kernel : ∀ t : Fin grid0.N, k0_cond3 (grid0.coords t) = 1#1 ↔ t.val % 9 = 2)
theorem cond3 : ∀ t : Fin cfg0.N, k0_cond4 (grid0.coords t) = 1#1 ↔ t.val % 9 = 3 :=
  (by decide +kernel : ∀ t : Fin grid0.N, k0_cond4 (grid0.coords t) = 1#1 ↔ t.val % 9 = 3)
theorem cond4 : ∀ t : Fin cfg0.N, k0_cond5 (grid0.coords t) = 1#1 ↔ t.val % 9 = 4 :=
  (by decide +kernel : ∀ t : Fin grid0.N, k0_cond5 (grid0.coords t) = 1#1 ↔ t.val % 9 = 4)
theorem cond5 : ∀ t : Fin cfg0.N, k0_cond6 (grid0.coords t) = 1#1 ↔ t.val % 9 = 5 :=
  (by decide +kernel : ∀ t : Fin grid0.N, k0_cond6 (grid0.coords t) = 1#1 ↔ t.val % 9 = 5)
theorem cond6 : ∀ t : Fin cfg0.N, k0_cond7 (grid0.coords t) = 1#1 ↔ 6 ≤ t.val % 9 :=
  (by decide +kernel : ∀ t : Fin grid0.N, k0_cond7 (grid0.coords t) = 1#1 ↔ 6 ≤ t.val % 9)

/-- Where output 4 is not stored, and where it is written back. -/
theorem idle4 : ∀ t : Fin cfg0.N, cfg0.idle 4 (cfg0.grid.coords t) = decide (2 ≤ t.val % 9) :=
  (by decide +kernel : ∀ t : Fin grid0.N, idle0 4 (grid0.coords t) = decide (2 ≤ t.val % 9))
theorem flush4 : ∀ t : Fin cfg0.N, (cfg0.win 4).flush t = decide (t.val % 9 = 0 ∨ t.val % 9 = 8) :=
  fun t => (Window.flush_eq_flushF win0_4 t).trans
    ((by decide +kernel : ∀ t : Fin grid0.N, win0_4.flushF t = decide (t.val % 9 = 0 ∨ t.val % 9 = 8)) t)

/-- Where output 5 is not stored, and where it is written back. -/
theorem idle5 : ∀ t : Fin cfg0.N, cfg0.idle 5 (cfg0.grid.coords t) = decide (t.val % 9 < 2 ∨ 4 ≤ t.val % 9) :=
  (by decide +kernel : ∀ t : Fin grid0.N, idle0 5 (grid0.coords t) = decide (t.val % 9 < 2 ∨ 4 ≤ t.val % 9))
theorem flush5 : ∀ t : Fin cfg0.N, (cfg0.win 5).flush t = decide (t.val % 9 = 2 ∨ t.val % 9 = 8) :=
  fun t => (Window.flush_eq_flushF win0_5 t).trans
    ((by decide +kernel : ∀ t : Fin grid0.N, win0_5.flushF t = decide (t.val % 9 = 2 ∨ t.val % 9 = 8)) t)

/-- Where output 6 is not stored, and where it is written back. -/
theorem idle6 : ∀ t : Fin cfg0.N, cfg0.idle 6 (cfg0.grid.coords t) = decide (t.val % 9 < 4 ∨ 6 ≤ t.val % 9) :=
  (by decide +kernel : ∀ t : Fin grid0.N, idle0 6 (grid0.coords t) = decide (t.val % 9 < 4 ∨ 6 ≤ t.val % 9))
theorem flush6 : ∀ t : Fin cfg0.N, (cfg0.win 6).flush t = decide (t.val % 9 = 4 ∨ t.val % 9 = 8) :=
  fun t => (Window.flush_eq_flushF win0_6 t).trans
    ((by decide +kernel : ∀ t : Fin grid0.N, win0_6.flushF t = decide (t.val % 9 = 4 ∨ t.val % 9 = 8)) t)

/-- Where output 7 is not stored, and where it is written back. -/
theorem idle7 : ∀ t : Fin cfg0.N, cfg0.idle 7 (cfg0.grid.coords t) = decide (t.val % 9 < 6) :=
  (by decide +kernel : ∀ t : Fin grid0.N, idle0 7 (grid0.coords t) = decide (t.val % 9 < 6))
theorem flush7 : ∀ t : Fin cfg0.N, (cfg0.win 7).flush t = decide (6 ≤ t.val % 9) :=
  fun t => (Window.flush_eq_flushF win0_7 t).trans
    ((by decide +kernel : ∀ t : Fin grid0.N, win0_7.flushF t = decide (6 ≤ t.val % 9)) t)

/-- Output 4's buffer holds nothing named until the row's tile 1 has stored it again. -/
theorem fresh4 (n : ℕ) (h : n ≤ cfg0.N) : cfg0.fresh 4 n = decide (n % 9 ≤ 1) :=
  cfg0.fresh_tab 4 (fun n => decide (n % 9 ≤ 1)) (by decide) (fun t => by
    rw [flush4, idle4, ← Bool.decide_and, ← Bool.decide_or, decide_eq_decide]; omega) n h

/-- Output 5's buffer holds nothing named until the row's tile 3 has stored it again. -/
theorem fresh5 (n : ℕ) (h : n ≤ cfg0.N) : cfg0.fresh 5 n = decide (n % 9 ≤ 3) :=
  cfg0.fresh_tab 5 (fun n => decide (n % 9 ≤ 3)) (by decide) (fun t => by
    rw [flush5, idle5, ← Bool.decide_and, ← Bool.decide_or, decide_eq_decide]; omega) n h

/-- Output 6's buffer holds nothing named until the row's tile 5 has stored it again. -/
theorem fresh6 (n : ℕ) (h : n ≤ cfg0.N) : cfg0.fresh 6 n = decide (n % 9 ≤ 5) :=
  cfg0.fresh_tab 6 (fun n => decide (n % 9 ≤ 5)) (by decide) (fun t => by
    rw [flush6, idle6, ← Bool.decide_and, ← Bool.decide_or, decide_eq_decide]; omega) n h

/-! ## The buffers at a tile -/

abbrev ms0 (t : Fin cfg0.N) : Memref sig .tc .vmem S1x1024x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x2048 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1024x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1024x512 .f32 := win0_7.stage (cfg0.slots t 7)
abbrev hs7 (t : Fin cfg0.N) : (ms7 t).IsWhole := hstage0_7 ((cfg0.slots t 7).cast nbuf0_7)
abbrev VO4 : View sig .tc .vmem S1x1024x512 .f32 := (Memref.whole cc0_stg4_0 : Memref sig .tc .vmem S1x1024x512 .f32).view
abbrev VO5 : View sig .tc .vmem S1x1024x512 .f32 := (Memref.whole cc0_stg5_0 : Memref sig .tc .vmem S1x1024x512 .f32).view
abbrev VO6 : View sig .tc .vmem S1x1024x512 .f32 := (Memref.whole cc0_stg6_0 : Memref sig .tc .vmem S1x1024x512 .f32).view
abbrev VO7 : View sig .tc .vmem S1x1024x512 .f32 := (Memref.whole cc0_stg7_0 : Memref sig .tc .vmem S1x1024x512 .f32).view

/-- What a tile of case A leaves in output 4's buffer. -/
def blkA (c : Dev nD) (t : Fin cfg0.N) (h : t.val % 9 = 0) : Vec F S1x1024x512 .f32 :=
  VO4.read (Elt F) (VO4.writes (Elt F) VO4.junk (runA c (grid0.coords t) (ms0 t) (hs0 t) (ms1 t) (hs1 t) (ms2 t) (hs2 t) (ms3 t) (hs3 t) (ms4 t) (hs4 t) (ms5 t) (hs5 t) (ms6 t) (hs6 t) (ms7 t) (hs7 t)
    ((cond0 t).mpr h) (fun e => by have := (cond1 t).mp e; omega) (fun e => by have := (cond2 t).mp e; omega) (fun e => by have := (cond3 t).mp e; omega) (fun e => by have := (cond4 t).mp e; omega) (fun e => by have := (cond5 t).mp e; omega) (fun e => by have := (cond6 t).mp e; omega)
    (iblk m c 0 t) (iblk m c 1 t) (iblk m c 2 t) (iblk m c 3 t)).1)

/-- What a tile of case B leaves in output 4's buffer. -/
def blkB (c : Dev nD) (t : Fin cfg0.N) (h : t.val % 9 = 1) : Vec F S1x1024x512 .f32 :=
  VO4.read (Elt F) (VO4.writes (Elt F) VO4.junk (runB c (grid0.coords t) (ms0 t) (hs0 t) (ms1 t) (hs1 t) (ms2 t) (hs2 t) (ms3 t) (hs3 t) (ms4 t) (hs4 t) (ms5 t) (hs5 t) (ms6 t) (hs6 t) (ms7 t) (hs7 t)
    (fun e => by have := (cond0 t).mp e; omega) ((cond1 t).mpr h) (fun e => by have := (cond2 t).mp e; omega) (fun e => by have := (cond3 t).mp e; omega) (fun e => by have := (cond4 t).mp e; omega) (fun e => by have := (cond5 t).mp e; omega) (fun e => by have := (cond6 t).mp e; omega)
    (iblk m c 0 t) (iblk m c 1 t) (iblk m c 2 t) (iblk m c 3 t)).1)

/-- What a tile of case C leaves in output 5's buffer. -/
def blkC (c : Dev nD) (t : Fin cfg0.N) (h : t.val % 9 = 2) : Vec F S1x1024x512 .f32 :=
  VO5.read (Elt F) (VO5.writes (Elt F) VO5.junk (runC c (grid0.coords t) (ms0 t) (hs0 t) (ms1 t) (hs1 t) (ms2 t) (hs2 t) (ms3 t) (hs3 t) (ms4 t) (hs4 t) (ms5 t) (hs5 t) (ms6 t) (hs6 t) (ms7 t) (hs7 t)
    (fun e => by have := (cond0 t).mp e; omega) (fun e => by have := (cond1 t).mp e; omega) ((cond2 t).mpr h) (fun e => by have := (cond3 t).mp e; omega) (fun e => by have := (cond4 t).mp e; omega) (fun e => by have := (cond5 t).mp e; omega) (fun e => by have := (cond6 t).mp e; omega)
    (iblk m c 0 t) (iblk m c 1 t) (iblk m c 2 t) (iblk m c 3 t)).1)

/-- What a tile of case D leaves in output 5's buffer. -/
def blkD (c : Dev nD) (t : Fin cfg0.N) (h : t.val % 9 = 3) : Vec F S1x1024x512 .f32 :=
  VO5.read (Elt F) (VO5.writes (Elt F) VO5.junk (runD c (grid0.coords t) (ms0 t) (hs0 t) (ms1 t) (hs1 t) (ms2 t) (hs2 t) (ms3 t) (hs3 t) (ms4 t) (hs4 t) (ms5 t) (hs5 t) (ms6 t) (hs6 t) (ms7 t) (hs7 t)
    (fun e => by have := (cond0 t).mp e; omega) (fun e => by have := (cond1 t).mp e; omega) (fun e => by have := (cond2 t).mp e; omega) ((cond3 t).mpr h) (fun e => by have := (cond4 t).mp e; omega) (fun e => by have := (cond5 t).mp e; omega) (fun e => by have := (cond6 t).mp e; omega)
    (iblk m c 0 t) (iblk m c 1 t) (iblk m c 2 t) (iblk m c 3 t)).1)

/-- What a tile of case E leaves in output 6's buffer. -/
def blkE (c : Dev nD) (t : Fin cfg0.N) (h : t.val % 9 = 4) : Vec F S1x1024x512 .f32 :=
  VO6.read (Elt F) (VO6.writes (Elt F) VO6.junk (runE c (grid0.coords t) (ms0 t) (hs0 t) (ms1 t) (hs1 t) (ms2 t) (hs2 t) (ms3 t) (hs3 t) (ms4 t) (hs4 t) (ms5 t) (hs5 t) (ms6 t) (hs6 t) (ms7 t) (hs7 t)
    (fun e => by have := (cond0 t).mp e; omega) (fun e => by have := (cond1 t).mp e; omega) (fun e => by have := (cond2 t).mp e; omega) (fun e => by have := (cond3 t).mp e; omega) ((cond4 t).mpr h) (fun e => by have := (cond5 t).mp e; omega) (fun e => by have := (cond6 t).mp e; omega)
    (iblk m c 0 t) (iblk m c 1 t) (iblk m c 2 t) (iblk m c 3 t)).1)

/-- What a tile of case F leaves in output 6's buffer. -/
def blkF (c : Dev nD) (t : Fin cfg0.N) (h : t.val % 9 = 5) : Vec F S1x1024x512 .f32 :=
  VO6.read (Elt F) (VO6.writes (Elt F) VO6.junk (runF c (grid0.coords t) (ms0 t) (hs0 t) (ms1 t) (hs1 t) (ms2 t) (hs2 t) (ms3 t) (hs3 t) (ms4 t) (hs4 t) (ms5 t) (hs5 t) (ms6 t) (hs6 t) (ms7 t) (hs7 t)
    (fun e => by have := (cond0 t).mp e; omega) (fun e => by have := (cond1 t).mp e; omega) (fun e => by have := (cond2 t).mp e; omega) (fun e => by have := (cond3 t).mp e; omega) (fun e => by have := (cond4 t).mp e; omega) ((cond5 t).mpr h) (fun e => by have := (cond6 t).mp e; omega)
    (iblk m c 0 t) (iblk m c 1 t) (iblk m c 2 t) (iblk m c 3 t)).1)

/-- What a tile of case G leaves in output 7's buffer. -/
def blkG (c : Dev nD) (t : Fin cfg0.N) (h : 6 ≤ t.val % 9) : Vec F S1x1024x512 .f32 :=
  VO7.read (Elt F) (VO7.writes (Elt F) VO7.junk (runG c (grid0.coords t) (ms0 t) (hs0 t) (ms1 t) (hs1 t) (ms2 t) (hs2 t) (ms3 t) (hs3 t) (ms4 t) (hs4 t) (ms5 t) (hs5 t) (ms6 t) (hs6 t) (ms7 t) (hs7 t)
    (fun e => by have := (cond0 t).mp e; omega) (fun e => by have := (cond1 t).mp e; omega) (fun e => by have := (cond2 t).mp e; omega) (fun e => by have := (cond3 t).mp e; omega) (fun e => by have := (cond4 t).mp e; omega) (fun e => by have := (cond5 t).mp e; omega) ((cond6 t).mpr h)
    (iblk m c 0 t) (iblk m c 1 t) (iblk m c 2 t) (iblk m c 3 t)).1)

/-- Output 4's block as its tile leaves it. -/
def blk0 (c : Dev nD) (t : Fin cfg0.N) : Vec F S1x1024x512 .f32 :=
  if h : t.val % 9 = 0 then blkA m c t h else if h : t.val % 9 = 1 then blkB m c t h else VO4.read (Elt F) VO4.junk
theorem blk0_fst (c : Dev nD) (t : Fin cfg0.N) (h : t.val % 9 = 0) : blk0 m c t = blkA m c t h := dif_pos h
theorem blk0_snd (c : Dev nD) (t : Fin cfg0.N) (h : t.val % 9 = 1) : blk0 m c t = blkB m c t h := by
  unfold blk0; rw [dif_neg (by omega), dif_pos h]
/-- The tile whose block output 4's buffer holds at `t`. -/
def src0 (t : Fin cfg0.N) : Fin cfg0.N :=
  ⟨t.val / 9 * 9 + min (max (t.val % 9) 0) 1, by
    have := size t; have e : cfg0.N = 144 := N_0; omega⟩
theorem src0_self (t : Fin cfg0.N) (h : t.val % 9 = 0 ∨ t.val % 9 = 1) : src0 t = t :=
  Fin.ext (by show t.val / 9 * 9 + min (max (t.val % 9) 0) 1 = t.val; omega)
theorem src0_pred (t : Fin cfg0.N) (h : 1 < t.val % 9) (h' : t.val - 1 < cfg0.N) : src0 t = src0 ⟨t.val - 1, h'⟩ :=
  Fin.ext (by
    show t.val / 9 * 9 + min (max (t.val % 9) 0) 1
      = (t.val - 1) / 9 * 9 + min (max ((t.val - 1) % 9) 0) 1
    omega)

/-- Output 5's block as its tile leaves it. -/
def blk1 (c : Dev nD) (t : Fin cfg0.N) : Vec F S1x1024x512 .f32 :=
  if h : t.val % 9 = 2 then blkC m c t h else if h : t.val % 9 = 3 then blkD m c t h else VO5.read (Elt F) VO5.junk
theorem blk1_fst (c : Dev nD) (t : Fin cfg0.N) (h : t.val % 9 = 2) : blk1 m c t = blkC m c t h := dif_pos h
theorem blk1_snd (c : Dev nD) (t : Fin cfg0.N) (h : t.val % 9 = 3) : blk1 m c t = blkD m c t h := by
  unfold blk1; rw [dif_neg (by omega), dif_pos h]
/-- The tile whose block output 5's buffer holds at `t`. -/
def src1 (t : Fin cfg0.N) : Fin cfg0.N :=
  ⟨t.val / 9 * 9 + min (max (t.val % 9) 2) 3, by
    have := size t; have e : cfg0.N = 144 := N_0; omega⟩
theorem src1_self (t : Fin cfg0.N) (h : t.val % 9 = 2 ∨ t.val % 9 = 3) : src1 t = t :=
  Fin.ext (by show t.val / 9 * 9 + min (max (t.val % 9) 2) 3 = t.val; omega)
theorem src1_pred (t : Fin cfg0.N) (h : 3 < t.val % 9) (h' : t.val - 1 < cfg0.N) : src1 t = src1 ⟨t.val - 1, h'⟩ :=
  Fin.ext (by
    show t.val / 9 * 9 + min (max (t.val % 9) 2) 3
      = (t.val - 1) / 9 * 9 + min (max ((t.val - 1) % 9) 2) 3
    omega)

/-- Output 6's block as its tile leaves it. -/
def blk2 (c : Dev nD) (t : Fin cfg0.N) : Vec F S1x1024x512 .f32 :=
  if h : t.val % 9 = 4 then blkE m c t h else if h : t.val % 9 = 5 then blkF m c t h else VO6.read (Elt F) VO6.junk
theorem blk2_fst (c : Dev nD) (t : Fin cfg0.N) (h : t.val % 9 = 4) : blk2 m c t = blkE m c t h := dif_pos h
theorem blk2_snd (c : Dev nD) (t : Fin cfg0.N) (h : t.val % 9 = 5) : blk2 m c t = blkF m c t h := by
  unfold blk2; rw [dif_neg (by omega), dif_pos h]
/-- The tile whose block output 6's buffer holds at `t`. -/
def src2 (t : Fin cfg0.N) : Fin cfg0.N :=
  ⟨t.val / 9 * 9 + min (max (t.val % 9) 4) 5, by
    have := size t; have e : cfg0.N = 144 := N_0; omega⟩
theorem src2_self (t : Fin cfg0.N) (h : t.val % 9 = 4 ∨ t.val % 9 = 5) : src2 t = t :=
  Fin.ext (by show t.val / 9 * 9 + min (max (t.val % 9) 4) 5 = t.val; omega)
theorem src2_pred (t : Fin cfg0.N) (h : 5 < t.val % 9) (h' : t.val - 1 < cfg0.N) : src2 t = src2 ⟨t.val - 1, h'⟩ :=
  Fin.ext (by
    show t.val / 9 * 9 + min (max (t.val % 9) 4) 5
      = (t.val - 1) / 9 * 9 + min (max ((t.val - 1) % 9) 4) 5
    omega)

/-- The block of queries as its tile leaves it. -/
def blk3 (c : Dev nD) (t : Fin cfg0.N) : Vec F S1x1024x512 .f32 :=
  if h : 6 ≤ t.val % 9 then blkG m c t h else VO7.read (Elt F) VO7.junk
theorem blk3_live (c : Dev nD) (t : Fin cfg0.N) (h : 6 ≤ t.val % 9) : blk3 m c t = blkG m c t h := dif_pos h

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blk0 m c (src0 t)
    | ⟨5, _⟩ => blk1 m c (src1 t)
    | ⟨6, _⟩ => blk2 m c (src2 t)
    | ⟨7, _⟩ => blk3 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = blk0 m c (src0 t) := by dsimp only [dats]
theorem after5 (c : Dev nD) (t : Fin cfg0.N) : (dats m 0 c).after 5 t = blk1 m c (src1 t) := by dsimp only [dats]
theorem after6 (c : Dev nD) (t : Fin cfg0.N) : (dats m 0 c).after 6 t = blk2 m c (src2 t) := by dsimp only [dats]
theorem after7 (c : Dev nD) (t : Fin cfg0.N) : (dats m 0 c).after 7 t = blk3 m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- At the row's last tile output 4's buffer still holds the block its own last tile stored. -/
theorem before4_last (c : Dev nD) (t : Fin cfg0.N) (h : t.val % 9 = 8) (d) :
    (dats m 0 c).before 4 t d = (dats m 0 c).after 4 t := by
  rw [(dats m 0 c).before_out_traj 4 rfl (fun _ _ => rfl) (fun t _ _ hf => by
      rw [fresh4 t.val (le_of_lt t.isLt), decide_eq_false_iff_not] at hf
      rw [after4, after4, src0_pred t (by omega)]) t.val t rfl d,
    fresh4 t.val (le_of_lt t.isLt), if_neg (by rw [decide_eq_true_iff]; omega), after4, after4, ← src0_pred t (by omega)]

/-- At the row's last tile output 5's buffer still holds the block its own last tile stored. -/
theorem before5_last (c : Dev nD) (t : Fin cfg0.N) (h : t.val % 9 = 8) (d) :
    (dats m 0 c).before 5 t d = (dats m 0 c).after 5 t := by
  rw [(dats m 0 c).before_out_traj 5 rfl (fun _ _ => rfl) (fun t _ _ hf => by
      rw [fresh5 t.val (le_of_lt t.isLt), decide_eq_false_iff_not] at hf
      rw [after5, after5, src1_pred t (by omega)]) t.val t rfl d,
    fresh5 t.val (le_of_lt t.isLt), if_neg (by rw [decide_eq_true_iff]; omega), after5, after5, ← src1_pred t (by omega)]

/-- At the row's last tile output 6's buffer still holds the block its own last tile stored. -/
theorem before6_last (c : Dev nD) (t : Fin cfg0.N) (h : t.val % 9 = 8) (d) :
    (dats m 0 c).before 6 t d = (dats m 0 c).after 6 t := by
  rw [(dats m 0 c).before_out_traj 6 rfl (fun _ _ => rfl) (fun t _ _ hf => by
      rw [fresh6 t.val (le_of_lt t.isLt), decide_eq_false_iff_not] at hf
      rw [after6, after6, src2_pred t (by omega)]) t.val t rfl d,
    fresh6 t.val (le_of_lt t.isLt), if_neg (by rw [decide_eq_true_iff]; omega), after6, after6, ← src2_pred t (by omega)]

/-- A buffer the tile stores is handed back at its named contents. -/
theorem leaves_live (c : Dev nD) (w : Fin cfg0.W) (t : Fin cfg0.N) (hi : cfg0.idle w (cfg0.grid.coords t) = false) :
    (dats m 0 c).leavesExact w t
      = owns (c : Thread nD τ) ((cfg0.win w).stage (cfg0.slots t w)) fullShare ((dats m 0 c).after w t) := by
  unfold Dat.leavesExact; rw [hi]

/-- A buffer the tile leaves alone is handed back as it was found: where it is written back, at its named contents. -/
theorem leaves_kept (c : Dev nD) (w : Fin cfg0.W) (t : Fin cfg0.N) (hi : cfg0.idle w (cfg0.grid.coords t) = true)
    (hb : (cfg0.win w).flush t = true → ∀ d, (dats m 0 c).before w t d = (dats m 0 c).after w t)
    (d : (cfg0.win w).block.Idx → Elt F (cfg0.win w).elt) :
    owns (c : Thread nD τ) ((cfg0.win w).stage (cfg0.slots t w)) fullShare ((dats m 0 c).before w t d)
      ⊢ (dats m 0 c).leavesExact w t := by
  cases hf : (cfg0.win w).flush t with
  | false =>
    rw [Dat.leavesExact_idle (dats m 0 c) w t hi hf]
    iintro H; iexists _; iexact H
  | true =>
    unfold Dat.leavesExact; rw [hi, hf, hb hf d]

theorem keep4 (c : Dev nD) (t : Fin cfg0.N) (h : 2 ≤ t.val % 9) (d : (cfg0.win 4).block.Idx → Elt F (cfg0.win 4).elt) :
    owns (c : Thread nD τ) (ms4 t) fullShare ((dats m 0 c).before 4 t d) ⊢ (dats m 0 c).leavesExact 4 t :=
  leaves_kept m c 4 t (by rw [idle4]; exact decide_eq_true h) (fun hf => before4_last m c t (by rw [flush4, decide_eq_true_iff] at hf; omega)) d

theorem keep5 (c : Dev nD) (t : Fin cfg0.N) (h : t.val % 9 < 2 ∨ 4 ≤ t.val % 9) (d : (cfg0.win 5).block.Idx → Elt F (cfg0.win 5).elt) :
    owns (c : Thread nD τ) (ms5 t) fullShare ((dats m 0 c).before 5 t d) ⊢ (dats m 0 c).leavesExact 5 t :=
  leaves_kept m c 5 t (by rw [idle5]; exact decide_eq_true h) (fun hf => before5_last m c t (by rw [flush5, decide_eq_true_iff] at hf; omega)) d

theorem keep6 (c : Dev nD) (t : Fin cfg0.N) (h : t.val % 9 < 4 ∨ 6 ≤ t.val % 9) (d : (cfg0.win 6).block.Idx → Elt F (cfg0.win 6).elt) :
    owns (c : Thread nD τ) (ms6 t) fullShare ((dats m 0 c).before 6 t d) ⊢ (dats m 0 c).leavesExact 6 t :=
  leaves_kept m c 6 t (by rw [idle6]; exact decide_eq_true h) (fun hf => before6_last m c t (by rw [flush6, decide_eq_true_iff] at hf; omega)) d

theorem keep7 (c : Dev nD) (t : Fin cfg0.N) (h : t.val % 9 < 6) (d : (cfg0.win 7).block.Idx → Elt F (cfg0.win 7).elt) :
    owns (c : Thread nD τ) (ms7 t) fullShare ((dats m 0 c).before 7 t d) ⊢ (dats m 0 c).leavesExact 7 t :=
  leaves_kept m c 7 t (by rw [idle7]; exact decide_eq_true h) (fun hf => absurd hf (by rw [flush7, decide_eq_true_iff]; omega)) d

/-! ## The body at a tile -/

/-- What the body is called with at a tile, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
theorem bodyA (c : Dev nD) (t : Fin cfg0.N) (h : t.val % 9 = 0) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    leaves_live m c 0 t rfl, leaves_live m c 1 t rfl, leaves_live m c 2 t rfl, leaves_live m c 3 t rfl,
    leaves_live m c 4 t (by rw [idle4]; exact decide_eq_false (by omega)), after0, after1, after2, after3, after4, src0_self t (by omega), blk0_fst m c t h]
  unfold blkA
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t)
    ((cond0 t).mpr h) (fun e => by have := (cond1 t).mp e; omega) (fun e => by have := (cond2 t).mp e; omega) (fun e => by have := (cond3 t).mp e; omega) (fun e => by have := (cond4 t).mp e; omega) (fun e => by have := (cond5 t).mp e; omega) (fun e => by have := (cond6 t).mp e; omega)
    (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e, H4⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr; swap
    · iexact H4
    ipureintro; exact View.read_writes_of_cover _ _ _ _ _ (coverA c _ _ _ _ _ _ _ _ _ _ _ _ _ _ _ _ _ _ _ _ _ _ _ _ _ _ _ _ )
  isplitl [H5]
  · iapply (keep5 m c t (by omega) d5); iexact H5
  isplitl [H6]
  · iapply (keep6 m c t (by omega) d6); iexact H6
  iapply (keep7 m c t (by omega) d7); iexact H7

set_option maxHeartbeats 1600000 in
theorem bodyB (c : Dev nD) (t : Fin cfg0.N) (h : t.val % 9 = 1) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    leaves_live m c 0 t rfl, leaves_live m c 1 t rfl, leaves_live m c 2 t rfl, leaves_live m c 3 t rfl,
    leaves_live m c 4 t (by rw [idle4]; exact decide_eq_false (by omega)), after0, after1, after2, after3, after4, src0_self t (by omega), blk0_snd m c t h]
  unfold blkB
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t)
    (fun e => by have := (cond0 t).mp e; omega) ((cond1 t).mpr h) (fun e => by have := (cond2 t).mp e; omega) (fun e => by have := (cond3 t).mp e; omega) (fun e => by have := (cond4 t).mp e; omega) (fun e => by have := (cond5 t).mp e; omega) (fun e => by have := (cond6 t).mp e; omega)
    (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e, H4⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr; swap
    · iexact H4
    ipureintro; exact View.read_writes_of_cover _ _ _ _ _ (coverB c _ _ _ _ _ _ _ _ _ _ _ _ _ _ _ _ _ _ _ _ _ _ _ _ _ _ _ _ )
  isplitl [H5]
  · iapply (keep5 m c t (by omega) d5); iexact H5
  isplitl [H6]
  · iapply (keep6 m c t (by omega) d6); iexact H6
  iapply (keep7 m c t (by omega) d7); iexact H7

set_option maxHeartbeats 1600000 in
theorem bodyC (c : Dev nD) (t : Fin cfg0.N) (h : t.val % 9 = 2) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    leaves_live m c 0 t rfl, leaves_live m c 1 t rfl, leaves_live m c 2 t rfl, leaves_live m c 3 t rfl,
    leaves_live m c 5 t (by rw [idle5]; exact decide_eq_false (by omega)), after0, after1, after2, after3, after5, src1_self t (by omega), blk1_fst m c t h]
  unfold blkC
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runC c (grid0.coords t) (ms0 t) (hs0 t) (ms1 t) (hs1 t) (ms2 t) (hs2 t) (ms3 t) (hs3 t) (ms4 t) (hs4 t) (ms5 t) (hs5 t) (ms6 t) (hs6 t) (ms7 t) (hs7 t)
    (fun e => by have := (cond0 t).mp e; omega) (fun e => by have := (cond1 t).mp e; omega) ((cond2 t).mpr h) (fun e => by have := (cond3 t).mp e; omega) (fun e => by have := (cond4 t).mp e; omega) (fun e => by have := (cond5 t).mp e; omega) (fun e => by have := (cond6 t).mp e; omega)
    (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H5]; · iexists _; iexact H5
  iintro ⟨H0, H1, H2, H3, ⟨%e, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · iapply (keep4 m c t (by omega) d4); iexact H4
  isplitl [H5]
  · unfold owns; iexists _; isplitr; swap
    · iexact H5
    ipureintro; exact View.read_writes_of_cover _ _ _ _ _ (coverC c _ _ _ _ _ _ _ _ _ _ _ _ _ _ _ _ _ _ _ _ _ _ _ _ _ _ _ _ )
  isplitl [H6]
  · iapply (keep6 m c t (by omega) d6); iexact H6
  iapply (keep7 m c t (by omega) d7); iexact H7

set_option maxHeartbeats 1600000 in
theorem bodyD (c : Dev nD) (t : Fin cfg0.N) (h : t.val % 9 = 3) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    leaves_live m c 0 t rfl, leaves_live m c 1 t rfl, leaves_live m c 2 t rfl, leaves_live m c 3 t rfl,
    leaves_live m c 5 t (by rw [idle5]; exact decide_eq_false (by omega)), after0, after1, after2, after3, after5, src1_self t (by omega), blk1_snd m c t h]
  unfold blkD
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runD c (grid0.coords t) (ms0 t) (hs0 t) (ms1 t) (hs1 t) (ms2 t) (hs2 t) (ms3 t) (hs3 t) (ms4 t) (hs4 t) (ms5 t) (hs5 t) (ms6 t) (hs6 t) (ms7 t) (hs7 t)
    (fun e => by have := (cond0 t).mp e; omega) (fun e => by have := (cond1 t).mp e; omega) (fun e => by have := (cond2 t).mp e; omega) ((cond3 t).mpr h) (fun e => by have := (cond4 t).mp e; omega) (fun e => by have := (cond5 t).mp e; omega) (fun e => by have := (cond6 t).mp e; omega)
    (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H5]; · iexists _; iexact H5
  iintro ⟨H0, H1, H2, H3, ⟨%e, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · iapply (keep4 m c t (by omega) d4); iexact H4
  isplitl [H5]
  · unfold owns; iexists _; isplitr; swap
    · iexact H5
    ipureintro; exact View.read_writes_of_cover _ _ _ _ _ (coverD c _ _ _ _ _ _ _ _ _ _ _ _ _ _ _ _ _ _ _ _ _ _ _ _ _ _ _ _ )
  isplitl [H6]
  · iapply (keep6 m c t (by omega) d6); iexact H6
  iapply (keep7 m c t (by omega) d7); iexact H7

set_option maxHeartbeats 1600000 in
theorem bodyE (c : Dev nD) (t : Fin cfg0.N) (h : t.val % 9 = 4) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    leaves_live m c 0 t rfl, leaves_live m c 1 t rfl, leaves_live m c 2 t rfl, leaves_live m c 3 t rfl,
    leaves_live m c 6 t (by rw [idle6]; exact decide_eq_false (by omega)), after0, after1, after2, after3, after6, src2_self t (by omega), blk2_fst m c t h]
  unfold blkE
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runE c (grid0.coords t) (ms0 t) (hs0 t) (ms1 t) (hs1 t) (ms2 t) (hs2 t) (ms3 t) (hs3 t) (ms4 t) (hs4 t) (ms5 t) (hs5 t) (ms6 t) (hs6 t) (ms7 t) (hs7 t)
    (fun e => by have := (cond0 t).mp e; omega) (fun e => by have := (cond1 t).mp e; omega) (fun e => by have := (cond2 t).mp e; omega) (fun e => by have := (cond3 t).mp e; omega) ((cond4 t).mpr h) (fun e => by have := (cond5 t).mp e; omega) (fun e => by have := (cond6 t).mp e; omega)
    (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H6]; · iexists _; iexact H6
  iintro ⟨H0, H1, H2, H3, ⟨%e, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · iapply (keep4 m c t (by omega) d4); iexact H4
  isplitl [H5]
  · iapply (keep5 m c t (by omega) d5); iexact H5
  isplitl [H6]
  · unfold owns; iexists _; isplitr; swap
    · iexact H6
    ipureintro; exact View.read_writes_of_cover _ _ _ _ _ (coverE c _ _ _ _ _ _ _ _ _ _ _ _ _ _ _ _ _ _ _ _ _ _ _ _ _ _ _ _ )
  iapply (keep7 m c t (by omega) d7); iexact H7

set_option maxHeartbeats 1600000 in
theorem bodyF (c : Dev nD) (t : Fin cfg0.N) (h : t.val % 9 = 5) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    leaves_live m c 0 t rfl, leaves_live m c 1 t rfl, leaves_live m c 2 t rfl, leaves_live m c 3 t rfl,
    leaves_live m c 6 t (by rw [idle6]; exact decide_eq_false (by omega)), after0, after1, after2, after3, after6, src2_self t (by omega), blk2_snd m c t h]
  unfold blkF
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runF c (grid0.coords t) (ms0 t) (hs0 t) (ms1 t) (hs1 t) (ms2 t) (hs2 t) (ms3 t) (hs3 t) (ms4 t) (hs4 t) (ms5 t) (hs5 t) (ms6 t) (hs6 t) (ms7 t) (hs7 t)
    (fun e => by have := (cond0 t).mp e; omega) (fun e => by have := (cond1 t).mp e; omega) (fun e => by have := (cond2 t).mp e; omega) (fun e => by have := (cond3 t).mp e; omega) (fun e => by have := (cond4 t).mp e; omega) ((cond5 t).mpr h) (fun e => by have := (cond6 t).mp e; omega)
    (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H6]; · iexists _; iexact H6
  iintro ⟨H0, H1, H2, H3, ⟨%e, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · iapply (keep4 m c t (by omega) d4); iexact H4
  isplitl [H5]
  · iapply (keep5 m c t (by omega) d5); iexact H5
  isplitl [H6]
  · unfold owns; iexists _; isplitr; swap
    · iexact H6
    ipureintro; exact View.read_writes_of_cover _ _ _ _ _ (coverF c _ _ _ _ _ _ _ _ _ _ _ _ _ _ _ _ _ _ _ _ _ _ _ _ _ _ _ _ )
  iapply (keep7 m c t (by omega) d7); iexact H7

set_option maxHeartbeats 1600000 in
theorem bodyG (c : Dev nD) (t : Fin cfg0.N) (h : 6 ≤ t.val % 9) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    leaves_live m c 0 t rfl, leaves_live m c 1 t rfl, leaves_live m c 2 t rfl, leaves_live m c 3 t rfl,
    leaves_live m c 7 t (by rw [idle7]; exact decide_eq_false (by omega)), after0, after1, after2, after3, after7, blk3_live m c t h]
  unfold blkG
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runG c (grid0.coords t) (ms0 t) (hs0 t) (ms1 t) (hs1 t) (ms2 t) (hs2 t) (ms3 t) (hs3 t) (ms4 t) (hs4 t) (ms5 t) (hs5 t) (ms6 t) (hs6 t) (ms7 t) (hs7 t)
    (fun e => by have := (cond0 t).mp e; omega) (fun e => by have := (cond1 t).mp e; omega) (fun e => by have := (cond2 t).mp e; omega) (fun e => by have := (cond3 t).mp e; omega) (fun e => by have := (cond4 t).mp e; omega) (fun e => by have := (cond5 t).mp e; omega) ((cond6 t).mpr h)
    (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H7]; · iexists _; iexact H7
  iintro ⟨H0, H1, H2, H3, ⟨%e, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · iapply (keep4 m c t (by omega) d4); iexact H4
  isplitl [H5]
  · iapply (keep5 m c t (by omega) d5); iexact H5
  isplitl [H6]
  · iapply (keep6 m c t (by omega) d6); iexact H6
  unfold owns; iexists _; isplitr; swap
  · iexact H7
  ipureintro; exact View.read_writes_of_cover _ _ _ _ _ (coverG c _ _ _ _ _ _ _ _ _ _ _ _ _ _ _ _ _ _ _ _ _ _ _ _ _ _ _ _ )

theorem sound_body (c : Dev nD) (t : Fin cfg0.N) :
    bodyPre m c t ⊢ wp frame (wpE (defs₀ (F := F)) Variants.none c none) Set.univ (bodyAt0 t) (fun _ => bodyPost m c t) := by
  by_cases h0 : t.val % 9 = 0; · exact bodyA m c t h0
  by_cases h1 : t.val % 9 = 1; · exact bodyB m c t h1
  by_cases h2 : t.val % 9 = 2; · exact bodyC m c t h2
  by_cases h3 : t.val % 9 = 3; · exact bodyD m c t h3
  by_cases h4 : t.val % 9 = 4; · exact bodyE m c t h4
  by_cases h5 : t.val % 9 = 5; · exact bodyF m c t h5
  exact bodyG m c t (by omega)

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ :=
  fun t => by
    rw [bigSep_W0, bigSep_W0, defs_row]
    exact triple_restated (sound_body m c t) rfl .rfl fun _ => .rfl

/-! ## The run and the frame -/

set_option backward.isDefEq.respectTransparency.types false in
set_option maxHeartbeats 800000 in
/-- Every execution ends, with the call's arrays at what the blocks written back make of them, the lines after the call
    run on those, and every semaphore at zero. -/
theorem run_quiet : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiet m ρ)

/-- The arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_quiet m ρ))

end Cert.AttnProjIdeal.Hand

end
-- ==== Proof.ProjSpec.lean ====
module

public import Idealize.ShloMosaic.Lib.Pointwise

/-! A projection's mathematics, at one row. -/

@[expose] public section

noncomputable section

namespace Cert.ProjSpec

open Idealize.ShloMosaic

/-- The row times row `j` of the weight. -/
def proj {n : ℕ} (x : Fin 2048 → EReal) (w : Fin n → Fin 2048 → EReal) (j : Fin n) : EReal := ∑ d, x d * w j d

end Cert.ProjSpec

end
-- ==== Proof.RopeSpec.lean ====
module

public import proofs.«01_k».proof.Proof.ProjSpec

/-! The attention's projection, at one row: the projected columns, and the rotary embedding of a head's 128 of them. -/

@[expose] public section

noncomputable section

namespace Cert.RopeSpec

open Idealize.ShloMosaic Cert.ProjSpec

/-- The angle at position `p` of the pair of lanes `l`. -/
def angle (p : BitVec 32) (l : ℕ) : EReal :=
  FloatOps.sitofp (F := Ideal) FTy.f32 p * Ideal.pow (Ideal.ofBits FTy.f32 1176256512#32)
    (Ideal.div (-FloatOps.sitofp (F := Ideal) FTy.f32 (BitVec.ofNat 32 l)) (Ideal.ofBits FTy.f32 1115684864#32))

/-- The two tables of a position: the cosines twice, the sines negated and then as they are. -/
def cosT (p : BitVec 32) (l : Fin 128) : EReal := if l.val < 64 then Ideal.cos (angle p l) else Ideal.cos (angle p (l - 64))
def sinT (p : BitVec 32) (l : Fin 128) : EReal := if l.val < 64 then -Ideal.sin (angle p l) else Ideal.sin (angle p (l - 64))

/-- A head's lanes turned by two tables: each lane times its cosine, plus the lane half a head away times its sine. -/
def turn (x c s : Fin 128 → EReal) (l : Fin 128) : EReal := x l * c l + x ⟨(l + 128 - 64) % 128, by omega⟩ * s l

/-- A head's lanes turned at a position. -/
def rotated (x : Fin 128 → EReal) (p : BitVec 32) : Fin 128 → EReal := turn x (cosT p) (sinT p)

/-- In the lower half the partner's product is taken away. -/
theorem rotated_low (x : Fin 128 → EReal) (p : BitVec 32) (l : Fin 128) (h : l.val < 64) :
    rotated x p l = x l * Ideal.cos (angle p l) - x ⟨64 + l, by omega⟩ * Ideal.sin (angle p l) := by
  unfold rotated turn cosT sinT
  rw [if_pos h, if_pos h, mul_neg, ← sub_eq_add_neg]
  congr 3
  exact Fin.ext (by show (l.val + 128 - 64) % 128 = 64 + l.val; omega)

/-- In the upper half it is added. -/
theorem rotated_high (x : Fin 128 → EReal) (p : BitVec 32) (l : Fin 128) (h : ¬l.val < 64) :
    rotated x p l = x l * Ideal.cos (angle p (l - 64)) + x ⟨l - 64, by omega⟩ * Ideal.sin (angle p (l - 64)) := by
  unfold rotated turn cosT sinT
  rw [if_neg h, if_neg h]
  congr 3
  exact Fin.ext (by show (l.val + 128 - 64) % 128 = l.val - 64; omega)

/-- Tile `j` of 512 projected columns: as projected, and with each head of 128 turned at a position. -/
def plain (x : Fin 2048 → EReal) (w : Fin 4608 → Fin 2048 → EReal) (j : Fin 9) (f : Fin 512) : EReal :=
  proj x w ⟨512 * j + f, by omega⟩
def turned (x : Fin 2048 → EReal) (w : Fin 4608 → Fin 2048 → EReal) (p : BitVec 32) (j : Fin 9) (f : Fin 512) : EReal :=
  rotated (fun l => plain x w j ⟨f / 128 * 128 + l, by omega⟩) p ⟨f % 128, by omega⟩

/-- A turned tile, read inside the band of 128 columns that starts at `o`. -/
theorem turned_band (x : Fin 2048 → EReal) (w : Fin 4608 → Fin 2048 → EReal) (p : BitVec 32) (j : Fin 9) (f : Fin 512) (l : Fin 128)
    (o : ℕ) (ho : o + 128 ≤ 512) (hd : o % 128 = 0) (h : f.val = o + l) :
    turned x w p j f = rotated (fun l => plain x w j ⟨o + l, by omega⟩) p l := by
  have e : f.val / 128 * 128 = o := by omega
  have e' : (⟨f % 128, by omega⟩ : Fin 128) = l := Fin.ext (by show f.val % 128 = l; omega)
  unfold turned
  rw [e']
  simp only [e]

/-- Group `k`'s keys, turned, then its values, as a row of 1024; the queries of the three groups, turned, as a row of 1536. -/
def kvRow (x : Fin 2048 → EReal) (w : Fin 4608 → Fin 2048 → EReal) (p : BitVec 32) (k : Fin 3) (f : Fin 1024) : EReal :=
  if h : f.val < 512 then turned x w p ⟨2 * k, by omega⟩ ⟨f, h⟩ else plain x w ⟨2 * k + 1, by omega⟩ ⟨f - 512, by omega⟩
def qRow (x : Fin 2048 → EReal) (w : Fin 4608 → Fin 2048 → EReal) (p : BitVec 32) (f : Fin 1536) : EReal :=
  turned x w p ⟨6 + f / 512, by omega⟩ ⟨f % 512, by omega⟩

/-- The same by head: keys or values (`e`), head `h`, lane `l`; and a group's queries. -/
def keptRow (x : Fin 2048 → EReal) (w : Fin 4608 → Fin 2048 → EReal) (p : BitVec 32) (k : Fin 3) (e : Fin 2) (h : Fin 4) (l : Fin 128) : EReal :=
  if e.val < 1 then rotated (fun l => plain x w ⟨2 * k, by omega⟩ ⟨128 * h + l, by omega⟩) p l
  else plain x w ⟨2 * k + 1, by omega⟩ ⟨128 * h + l, by omega⟩
def qHead (x : Fin 2048 → EReal) (w : Fin 4608 → Fin 2048 → EReal) (p : BitVec 32) (g : Fin 3) (h : Fin 4) (l : Fin 128) : EReal :=
  rotated (fun l => plain x w ⟨6 + g, by omega⟩ ⟨128 * h + l, by omega⟩) p l

theorem kvRow_low (x : Fin 2048 → EReal) (w : Fin 4608 → Fin 2048 → EReal) (p : BitVec 32) (k : Fin 3) (f : Fin 1024) (g : Fin 512) (j : Fin 9)
    (hj : j.val = 2 * k) (hf : f.val = g) : turned x w p j g = kvRow x w p k f := by
  unfold kvRow
  rw [dif_pos (by omega)]
  congr 1
  · exact Fin.ext hj
  · exact Fin.ext hf.symm

theorem kvRow_high (x : Fin 2048 → EReal) (w : Fin 4608 → Fin 2048 → EReal) (p : BitVec 32) (k : Fin 3) (f : Fin 1024) (g : Fin 512) (j : Fin 9)
    (hj : j.val = 2 * k + 1) (hf : f.val = 512 + g) : plain x w j g = kvRow x w p k f := by
  unfold kvRow
  rw [dif_neg (by omega)]
  congr 1
  · exact Fin.ext hj
  · exact Fin.ext (by show g.val = f.val - 512; omega)

theorem qRow_at (x : Fin 2048 → EReal) (w : Fin 4608 → Fin 2048 → EReal) (p : BitVec 32) (f : Fin 1536) (g : Fin 512) (j : Fin 9)
    (hf : f.val + 3072 = 512 * j + g) : turned x w p j g = qRow x w p f := by
  unfold qRow
  congr 1
  · exact Fin.ext (by show j.val = 6 + f.val / 512; omega)
  · exact Fin.ext (by show g.val = f.val % 512; omega)

theorem kvRow_head (x : Fin 2048 → EReal) (w : Fin 4608 → Fin 2048 → EReal) (p : BitVec 32) (k : Fin 3) (f : Fin 1024)
    (e : Fin 2) (h : Fin 4) (l : Fin 128) (hf : f.val = 512 * e + 128 * h + l) : kvRow x w p k f = keptRow x w p k e h l := by
  unfold keptRow
  by_cases he : e.val < 1
  · rw [if_pos he, ← kvRow_low x w p k f ⟨128 * h + l, by omega⟩ ⟨2 * k, by omega⟩ rfl (by show f.val = 128 * h + l; omega)]
    exact turned_band x w p _ _ l (128 * h) (by omega) (by omega) rfl
  · rw [if_neg he, ← kvRow_high x w p k f ⟨128 * h + l, by omega⟩ ⟨2 * k + 1, by omega⟩ rfl (by show f.val = 512 + (128 * h + l); omega)]

theorem qRow_head (x : Fin 2048 → EReal) (w : Fin 4608 → Fin 2048 → EReal) (p : BitVec 32) (f : Fin 1536)
    (g : Fin 3) (h : Fin 4) (l : Fin 128) (hf : f.val = 512 * g + 128 * h + l) : qRow x w p f = qHead x w p g h l := by
  rw [← qRow_at x w p f ⟨128 * h + l, by omega⟩ ⟨6 + g, by omega⟩ (by show f.val + 3072 = 512 * (6 + g) + (128 * h + l); omega)]
  exact turned_band x w p _ _ l (128 * h) (by omega) (by omega) rfl

end Cert.RopeSpec

end
-- ==== Proof.AttnProjKernel.lean ====
module

public import proofs.«01_k».proof.Proof.AttnProjIdealHand
public import proofs.«01_k».proof.Proof.RopeSpec
public import Idealize.ShloMosaic.Lib.Pipeline.ValueKit
public import Idealize.ShloMosaic.Lib.Pointwise
public import Idealize.ShloMosaic.Lib.StableHlo.ReadAt

/-! What the attention's projection of the prompts computes: the queries, the keys and the values, and the keys and values kept for later. -/

@[expose] public section

set_option maxRecDepth 16384

noncomputable section

namespace Cert.AttnProjIdeal.Val

open Cert.AttnProjIdeal Cert.AttnProjIdeal.Gen Cert.AttnProjIdeal.Hand Idealize.ShloMosaic Idealize.ShloMosaic.TcCoe Idealize.SL.Sem
open Idealize.ShloMosaic.Pipeline (Dat)
open Cert.ProjSpec Cert.RopeSpec

variable (m : (ℓ : Loc nD τ sig) → Buf (Elt Ideal) ℓ)

/-- Where each window's block of point `t` stands in its array: eight prompts of two rows of nine column tiles. -/
theorem places : ∀ t : Fin cfg0.N, win0_0.index t = ![t.val / 18, t.val / 9 % 2, 0] ∧ win0_1.index t = ![t.val % 9, 0]
    ∧ win0_2.index t = ![t.val / 9 % 2, 0] ∧ win0_3.index t = ![t.val / 9 % 2, 0]
    ∧ win0_4.index t = ![t.val / 18, t.val / 9 % 2, min (t.val % 9) 1] ∧ win0_5.index t = ![t.val / 18, t.val / 9 % 2, min (t.val % 9 - 2) 1]
    ∧ win0_6.index t = ![t.val / 18, t.val / 9 % 2, min (t.val % 9 - 4) 1] ∧ win0_7.index t = ![t.val / 18, t.val / 9 % 2, t.val % 9 - 6] := by
  decide +kernel

/-- The arguments: a row of the input, a row of the weight. -/
def xm (c : Dev nD) (b : Fin 8) (r : Fin 2048) (d : Fin 2048) : EReal := m ((c : Thread nD τ).loc main_arg0) (ix3 b r d)
def wt (c : Dev nD) (j : Fin 4608) (d : Fin 2048) : EReal := m ((c : Thread nD τ).loc main_arg1) (ix2 j d)

/-- The prompt of a point, and a row of its block. -/
def bat (t : Fin cfg0.N) : Fin 8 := ⟨t.val / 18, by have := size t; omega⟩
def row (t : Fin cfg0.N) (r : Fin 1024) : Fin 2048 := ⟨1024 * (t.val / 9 % 2) + r, by omega⟩

/-- Which of the nine column tiles a point computes, and the column of one of its 512. -/
def til (t : Fin cfg0.N) : Fin 9 := ⟨t.val % 9, by omega⟩
def col (t : Fin cfg0.N) (f : Fin 512) : Fin 4608 := ⟨512 * (t.val % 9) + f, by omega⟩

/-- A row's position is its number. -/
def pos (r : Fin 2048) : BitVec 32 := BitVec.ofNat 32 r

theorem xm_at (c : Dev nD) (t : Fin cfg0.N) (r : Fin 1024) (d : Fin 2048) : iblk m c 0 t (ix3 0 r d) = xm m c (bat t) (row t r) d := by
  unfold xm bat row; blk_ext [iblk, V, V0, places t]

theorem wt_at (c : Dev nD) (t : Fin cfg0.N) (j : Fin 512) (d : Fin 2048) : iblk m c 1 t (ix2 j d) = wt m c (col t j) d := by
  unfold wt col; blk_ext [iblk, V, V0, places t]

theorem cos_at (c : Dev nD) (t : Fin cfg0.N) (r : Fin 1024) (l : Fin 128) : iblk m c 2 t (ix2 r l) = cosT (pos (row t r)) l := by
  have e : iblk m c 2 t (ix2 r l) = V m c main_v15 (ix2 (row t r) l) := by unfold row; blk_ext [iblk, places t]
  rw [e]
  generalize row t r = r'
  unfold V
  after_reads_at
  rfl

theorem sin_at (c : Dev nD) (t : Fin cfg0.N) (r : Fin 1024) (l : Fin 128) : iblk m c 3 t (ix2 r l) = sinT (pos (row t r)) l := by
  have e : iblk m c 3 t (ix2 r l) = V m c main_v17 (ix2 (row t r) l) := by unfold row; blk_ext [iblk, places t]
  rw [e]
  generalize row t r = r'
  unfold V
  after_reads_at
  rfl

set_option maxHeartbeats 4000000 in
/-- The columns that a point writes of the first tile, turned. -/
theorem tileA (c : Dev nD) (t : Fin cfg0.N) (h : t.val % 9 = 0) (r : Fin 1024) (f : Fin 512) :
    blkA m c t h (ix3 0 r f) = turned (xm m c (bat t) (row t r)) (wt m c) (pos (row t r)) (til t) f := by
  unfold blkA
  frame_out
  canon_tiles x hx
  all_goals
    idx_vars x
    first
      | rw [turned_band _ _ _ _ f x2 0 (by omega) (by omega) (by omega)]
      | rw [turned_band _ _ _ _ f x2 128 (by omega) (by omega) (by omega)]
      | rw [turned_band _ _ _ _ f x2 256 (by omega) (by omega) (by omega)]
      | rw [turned_band _ _ _ _ f x2 384 (by omega) (by omega) (by omega)]
    have hr : r = x1 := Fin.ext hx1
    subst hr
    unfold_payloads
    unfold rotated turn plain proj
    pointwise [xm_at, wt_at, cos_at, sin_at]
    try simp only [← Nat.add_assoc 256 128, Nat.reduceAdd, Nat.zero_add, col, til]
    try rfl

set_option maxHeartbeats 4000000 in
/-- The columns that a point writes of the second tile, as projected. -/
theorem tileB (c : Dev nD) (t : Fin cfg0.N) (h : t.val % 9 = 1) (r : Fin 1024) (f : Fin 512) :
    blkB m c t h (ix3 0 r f) = plain (xm m c (bat t) (row t r)) (wt m c) (til t) f := by
  unfold blkB
  frame_out
  canon_tiles x hx
  all_goals
    idx_vars x
    have hr : r = x1 := Fin.ext hx1
    subst hr
    unfold_payloads
    unfold plain proj
    pointwise [xm_at, wt_at]
    try simp only [hx2, ← Nat.add_assoc 256 128, Nat.reduceAdd, Nat.zero_add, col, til]
    try rfl

set_option maxHeartbeats 4000000 in
/-- The columns that a point writes of the third tile, turned. -/
theorem tileC (c : Dev nD) (t : Fin cfg0.N) (h : t.val % 9 = 2) (r : Fin 1024) (f : Fin 512) :
    blkC m c t h (ix3 0 r f) = turned (xm m c (bat t) (row t r)) (wt m c) (pos (row t r)) (til t) f := by
  unfold blkC
  frame_out
  canon_tiles x hx
  all_goals
    idx_vars x
    first
      | rw [turned_band _ _ _ _ f x2 0 (by omega) (by omega) (by omega)]
      | rw [turned_band _ _ _ _ f x2 128 (by omega) (by omega) (by omega)]
      | rw [turned_band _ _ _ _ f x2 256 (by omega) (by omega) (by omega)]
      | rw [turned_band _ _ _ _ f x2 384 (by omega) (by omega) (by omega)]
    have hr : r = x1 := Fin.ext hx1
    subst hr
    unfold_payloads
    unfold rotated turn plain proj
    pointwise [xm_at, wt_at, cos_at, sin_at]
    try simp only [← Nat.add_assoc 256 128, Nat.reduceAdd, Nat.zero_add, col, til]
    try rfl

set_option maxHeartbeats 4000000 in
/-- The columns that a point writes of the fourth tile, as projected. -/
theorem tileD (c : Dev nD) (t : Fin cfg0.N) (h : t.val % 9 = 3) (r : Fin 1024) (f : Fin 512) :
    blkD m c t h (ix3 0 r f) = plain (xm m c (bat t) (row t r)) (wt m c) (til t) f := by
  unfold blkD
  frame_out
  canon_tiles x hx
  all_goals
    idx_vars x
    have hr : r = x1 := Fin.ext hx1
    subst hr
    unfold_payloads
    unfold plain proj
    pointwise [xm_at, wt_at]
    try simp only [hx2, ← Nat.add_assoc 256 128, Nat.reduceAdd, Nat.zero_add, col, til]
    try rfl

set_option maxHeartbeats 4000000 in
/-- The columns that a point writes of the fifth tile, turned. -/
theorem tileE (c : Dev nD) (t : Fin cfg0.N) (h : t.val % 9 = 4) (r : Fin 1024) (f : Fin 512) :
    blkE m c t h (ix3 0 r f) = turned (xm m c (bat t) (row t r)) (wt m c) (pos (row t r)) (til t) f := by
  unfold blkE
  frame_out
  canon_tiles x hx
  all_goals
    idx_vars x
    first
      | rw [turned_band _ _ _ _ f x2 0 (by omega) (by omega) (by omega)]
      | rw [turned_band _ _ _ _ f x2 128 (by omega) (by omega) (by omega)]
      | rw [turned_band _ _ _ _ f x2 256 (by omega) (by omega) (by omega)]
      | rw [turned_band _ _ _ _ f x2 384 (by omega) (by omega) (by omega)]
    have hr : r = x1 := Fin.ext hx1
    subst hr
    unfold_payloads
    unfold rotated turn plain proj
    pointwise [xm_at, wt_at, cos_at, sin_at]
    try simp only [← Nat.add_assoc 256 128, Nat.reduceAdd, Nat.zero_add, col, til]
    try rfl

set_option maxHeartbeats 4000000 in
/-- The columns that a point writes of the sixth tile, as projected. -/
theorem tileF (c : Dev nD) (t : Fin cfg0.N) (h : t.val % 9 = 5) (r : Fin 1024) (f : Fin 512) :
    blkF m c t h (ix3 0 r f) = plain (xm m c (bat t) (row t r)) (wt m c) (til t) f := by
  unfold blkF
  frame_out
  canon_tiles x hx
  all_goals
    idx_vars x
    have hr : r = x1 := Fin.ext hx1
    subst hr
    unfold_payloads
    unfold plain proj
    pointwise [xm_at, wt_at]
    try simp only [hx2, ← Nat.add_assoc 256 128, Nat.reduceAdd, Nat.zero_add, col, til]
    try rfl

set_option maxHeartbeats 4000000 in
/-- The columns that a point writes of one of the last three tiles, turned. -/
theorem tileG (c : Dev nD) (t : Fin cfg0.N) (h : 6 ≤ t.val % 9) (r : Fin 1024) (f : Fin 512) :
    blkG m c t h (ix3 0 r f) = turned (xm m c (bat t) (row t r)) (wt m c) (pos (row t r)) (til t) f := by
  unfold blkG
  frame_out
  canon_tiles x hx
  all_goals
    idx_vars x
    first
      | rw [turned_band _ _ _ _ f x2 0 (by omega) (by omega) (by omega)]
      | rw [turned_band _ _ _ _ f x2 128 (by omega) (by omega) (by omega)]
      | rw [turned_band _ _ _ _ f x2 256 (by omega) (by omega) (by omega)]
      | rw [turned_band _ _ _ _ f x2 384 (by omega) (by omega) (by omega)]
    have hr : r = x1 := Fin.ext hx1
    subst hr
    unfold_payloads
    unfold rotated turn plain proj
    pointwise [xm_at, wt_at, cos_at, sin_at]
    try simp only [← Nat.add_assoc 256 128, Nat.reduceAdd, Nat.zero_add, col, til]
    try rfl

/-- The call's arrays, from its arguments: the keys and values of each of the three groups, and the queries. -/
def kv (c : Dev nD) (k : Fin 3) : S8x2048x1024.Idx → EReal := fun i => kvRow (xm m c (i 0) (i 1)) (wt m c) (pos (i 1)) k (i 2)
def qs (c : Dev nD) : S8x2048x1536.Idx → EReal := fun i => qRow (xm m c (i 0) (i 1)) (wt m c) (pos (i 1)) (i 2)

theorem emb4 (t : Fin cfg0.N) (y0 : Fin 1) (y1 : Fin 1024) (y2 : Fin 512) :
    ((View.whole main_v18_0).slice (win0_4.rect t)).emb (ix3 y0 y1 y2) = (ix3 (bat t) (row t y1) ⟨512 * min (t.val % 9) 1 + y2, by omega⟩ : S8x2048x1024.Idx) := by
  obtain rfl : y0 = 0 := Subsingleton.elim _ _
  blk_ext [bat, row, places t]

theorem kv0_eq (c : Dev nD) : (dats m 0 c).arrAt 4 cfg0.N = kv m c 0 := by
  refine (dats m 0 c).arrAt_eq_of_covers 4 _ (by decide +kernel) fun t hf y => ?_
  have hf' := of_decide_eq_true ((flush4 t).symm.trans hf)
  blk_simp
  rw [after4]
  idx_vars y
  obtain rfl : y0 = 0 := Subsingleton.elim _ _
  refine Eq.trans ?_ (congrArg (kv m c 0) (emb4 t 0 y1 y2)).symm
  rcases hf' with h | h
  · rw [src0_self t (Or.inl h), blk0_fst m c t h, tileA]
    exact kvRow_low _ _ _ 0 _ y2 (til t) (by simp only [til]; omega) (by show 512 * _ + _ = _; omega)
  · have hs : (src0 t).val % 9 = 1 := by simp only [src0]; omega
    rw [blk0_snd m c (src0 t) hs, tileB]
    have hb : bat (src0 t) = bat t := Fin.ext (by simp only [bat, src0]; omega)
    have hw : row (src0 t) y1 = row t y1 := Fin.ext (by simp only [row, src0]; omega)
    rw [hb, hw]
    exact kvRow_high _ _ _ 0 _ y2 (til (src0 t)) (by simp only [til]; omega) (by show 512 * _ + _ = _; omega)

theorem emb5 (t : Fin cfg0.N) (y0 : Fin 1) (y1 : Fin 1024) (y2 : Fin 512) :
    ((View.whole main_v18_1).slice (win0_5.rect t)).emb (ix3 y0 y1 y2) = (ix3 (bat t) (row t y1) ⟨512 * min (t.val % 9 - 2) 1 + y2, by omega⟩ : S8x2048x1024.Idx) := by
  obtain rfl : y0 = 0 := Subsingleton.elim _ _
  blk_ext [bat, row, places t]

theorem kv1_eq (c : Dev nD) : (dats m 0 c).arrAt 5 cfg0.N = kv m c 1 := by
  refine (dats m 0 c).arrAt_eq_of_covers 5 _ (by decide +kernel) fun t hf y => ?_
  have hf' := of_decide_eq_true ((flush5 t).symm.trans hf)
  blk_simp
  rw [after5]
  idx_vars y
  obtain rfl : y0 = 0 := Subsingleton.elim _ _
  refine Eq.trans ?_ (congrArg (kv m c 1) (emb5 t 0 y1 y2)).symm
  rcases hf' with h | h
  · rw [src1_self t (Or.inl h), blk1_fst m c t h, tileC]
    exact kvRow_low _ _ _ 1 _ y2 (til t) (by simp only [til]; omega) (by show 512 * _ + _ = _; omega)
  · have hs : (src1 t).val % 9 = 3 := by simp only [src1]; omega
    rw [blk1_snd m c (src1 t) hs, tileD]
    have hb : bat (src1 t) = bat t := Fin.ext (by simp only [bat, src1]; omega)
    have hw : row (src1 t) y1 = row t y1 := Fin.ext (by simp only [row, src1]; omega)
    rw [hb, hw]
    exact kvRow_high _ _ _ 1 _ y2 (til (src1 t)) (by simp only [til]; omega) (by show 512 * _ + _ = _; omega)

theorem emb6 (t : Fin cfg0.N) (y0 : Fin 1) (y1 : Fin 1024) (y2 : Fin 512) :
    ((View.whole main_v18_2).slice (win0_6.rect t)).emb (ix3 y0 y1 y2) = (ix3 (bat t) (row t y1) ⟨512 * min (t.val % 9 - 4) 1 + y2, by omega⟩ : S8x2048x1024.Idx) := by
  obtain rfl : y0 = 0 := Subsingleton.elim _ _
  blk_ext [bat, row, places t]

theorem kv2_eq (c : Dev nD) : (dats m 0 c).arrAt 6 cfg0.N = kv m c 2 := by
  refine (dats m 0 c).arrAt_eq_of_covers 6 _ (by decide +kernel) fun t hf y => ?_
  have hf' := of_decide_eq_true ((flush6 t).symm.trans hf)
  blk_simp
  rw [after6]
  idx_vars y
  obtain rfl : y0 = 0 := Subsingleton.elim _ _
  refine Eq.trans ?_ (congrArg (kv m c 2) (emb6 t 0 y1 y2)).symm
  rcases hf' with h | h
  · rw [src2_self t (Or.inl h), blk2_fst m c t h, tileE]
    exact kvRow_low _ _ _ 2 _ y2 (til t) (by simp only [til]; omega) (by show 512 * _ + _ = _; omega)
  · have hs : (src2 t).val % 9 = 5 := by simp only [src2]; omega
    rw [blk2_snd m c (src2 t) hs, tileF]
    have hb : bat (src2 t) = bat t := Fin.ext (by simp only [bat, src2]; omega)
    have hw : row (src2 t) y1 = row t y1 := Fin.ext (by simp only [row, src2]; omega)
    rw [hb, hw]
    exact kvRow_high _ _ _ 2 _ y2 (til (src2 t)) (by simp only [til]; omega) (by show 512 * _ + _ = _; omega)

theorem emb7 (t : Fin cfg0.N) (y0 : Fin 1) (y1 : Fin 1024) (y2 : Fin 512) :
    ((View.whole main_v18_3).slice (win0_7.rect t)).emb (ix3 y0 y1 y2) = (ix3 (bat t) (row t y1) ⟨512 * (t.val % 9 - 6) + y2, by omega⟩ : S8x2048x1536.Idx) := by
  obtain rfl : y0 = 0 := Subsingleton.elim _ _
  blk_ext [bat, row, places t]

theorem qs_eq (c : Dev nD) : (dats m 0 c).arrAt 7 cfg0.N = qs m c := by
  refine (dats m 0 c).arrAt_eq_of_covers 7 _ (by decide +kernel) fun t hf y => ?_
  have hf' := of_decide_eq_true ((flush7 t).symm.trans hf)
  blk_simp
  rw [after7]
  idx_vars y
  obtain rfl : y0 = 0 := Subsingleton.elim _ _
  refine Eq.trans ?_ (congrArg (qs m c) (emb7 t 0 y1 y2)).symm
  rw [blk3_live m c t hf', tileG]
  exact qRow_at _ _ _ _ y2 (til t) (by show (512 * (t.val % 9 - 6) + y2.val) + 3072 = 512 * (t.val % 9) + y2.val; omega)

/-- The rows kept of the first two groups; of the last every row is kept. -/
def last0 (s : Fin 128) : Fin 2048 := ⟨1920 + s, by omega⟩
def last1 (s : Fin 512) : Fin 2048 := ⟨1536 + s, by omega⟩

/-- The keys and values kept, from the arguments. -/
def kept0 (c : Dev nD) : S1x8x128x2x4x128.Idx → EReal := fun i =>
  keptRow (xm m c (i 1) (last0 (i 2))) (wt m c) (pos (last0 (i 2))) 0 (i 3) (i 4) (i 5)
def kept1 (c : Dev nD) : S1x8x512x2x4x128.Idx → EReal := fun i =>
  keptRow (xm m c (i 1) (last1 (i 2))) (wt m c) (pos (last1 (i 2))) 1 (i 3) (i 4) (i 5)
def kept2 (c : Dev nD) : S1x8x2048x2x4x128.Idx → EReal := fun i =>
  keptRow (xm m c (i 1) (i 2)) (wt m c) (pos (i 2)) 2 (i 3) (i 4) (i 5)

/-! The call's arrays as the lines after it find them. -/

theorem found0 (c : Dev nD) :
    Pipeline.withArrays (cfgs 0).spec c (V0 m c) (fun w => (dats m 0 c).arrAt w (cfgs 0).N) (Proc.devRef .tc main_v18_0) = kv m c 0 :=
  (Pipeline.withArrays_arr (cfgs 0).spec (by decide) c (V0 m c) (fun w => (dats m 0 c).arrAt w (cfgs 0).N) 4).trans (kv0_eq m c)

theorem found1 (c : Dev nD) :
    Pipeline.withArrays (cfgs 0).spec c (V0 m c) (fun w => (dats m 0 c).arrAt w (cfgs 0).N) (Proc.devRef .tc main_v18_1) = kv m c 1 :=
  (Pipeline.withArrays_arr (cfgs 0).spec (by decide) c (V0 m c) (fun w => (dats m 0 c).arrAt w (cfgs 0).N) 5).trans (kv1_eq m c)

theorem found2 (c : Dev nD) :
    Pipeline.withArrays (cfgs 0).spec c (V0 m c) (fun w => (dats m 0 c).arrAt w (cfgs 0).N) (Proc.devRef .tc main_v18_2) = kv m c 2 :=
  (Pipeline.withArrays_arr (cfgs 0).spec (by decide) c (V0 m c) (fun w => (dats m 0 c).arrAt w (cfgs 0).N) 6).trans (kv2_eq m c)

theorem kept0_eq (c : Dev nD) : Pipeline.afterTail₀ cfgs (dats m) 0 (V0 m) [hostOps1] c main_v20 = kept0 m c := by
  have h := found0 m c
  unfold Pipeline.afterTail₀
  rw [show ([hostOps1] : List (List (HloOp τ sig (Elt Ideal)))).flatten = hostOps1 from rfl]
  generalize Pipeline.withArrays (cfgs 0).spec c (V0 m c) (fun w => (dats m 0 c).arrAt w (cfgs 0).N) = V at h
  unfold hostOps1
  funext i
  idx_vars i
  after_reads_at
  rw [h]
  exact kvRow_head _ _ _ 0 _ i3 i4 i5 (by show i3.val * 512 + i4.val * 128 + i5.val = 512 * i3.val + 128 * i4.val + i5.val; omega)

theorem kept1_eq (c : Dev nD) : Pipeline.afterTail₀ cfgs (dats m) 0 (V0 m) [hostOps1] c main_v22 = kept1 m c := by
  have h := found1 m c
  unfold Pipeline.afterTail₀
  rw [show ([hostOps1] : List (List (HloOp τ sig (Elt Ideal)))).flatten = hostOps1 from rfl]
  generalize Pipeline.withArrays (cfgs 0).spec c (V0 m c) (fun w => (dats m 0 c).arrAt w (cfgs 0).N) = V at h
  unfold hostOps1
  funext i
  idx_vars i
  after_reads_at
  rw [h]
  exact kvRow_head _ _ _ 1 _ i3 i4 i5 (by show i3.val * 512 + i4.val * 128 + i5.val = 512 * i3.val + 128 * i4.val + i5.val; omega)

theorem kept2_eq (c : Dev nD) : Pipeline.afterTail₀ cfgs (dats m) 0 (V0 m) [hostOps1] c main_v23 = kept2 m c := by
  have h := found2 m c
  unfold Pipeline.afterTail₀
  rw [show ([hostOps1] : List (List (HloOp τ sig (Elt Ideal)))).flatten = hostOps1 from rfl]
  generalize Pipeline.withArrays (cfgs 0).spec c (V0 m c) (fun w => (dats m 0 c).arrAt w (cfgs 0).N) = V at h
  unfold hostOps1
  funext i
  idx_vars i
  after_reads_at
  rw [h]
  exact kvRow_head _ _ _ 2 _ i3 i4 i5 (by show i3.val * 512 + i4.val * 128 + i5.val = 512 * i3.val + 128 * i4.val + i5.val; omega)

end Cert.AttnProjIdeal.Val

end
-- ==== Proof.AttnProjRef.lean ====
module

public import proofs.«01_k».proof.Proof.Gen.AttnProjRefIdeal.Read
public import proofs.«01_k».proof.Proof.RopeSpec
public import Idealize.ShloMosaic.Lib.Pipeline.ValueKit
public import Idealize.ShloMosaic.Lib.Pointwise

/-! The reference of the attention's projection of the prompts, entry by entry. -/

@[expose] public section

set_option maxRecDepth 16384

noncomputable section

namespace Cert.AttnProjRefIdeal.Val

open Cert.AttnProjRefIdeal Cert.AttnProjRefIdeal.Read Idealize.ShloMosaic Idealize.ShloMosaic.TcCoe Idealize.SL.Sem
open Cert.ProjSpec Cert.RopeSpec

variable (x0 : (⟨S8x2048x2048, .bf16⟩ : BufTy).Contents (Elt Ideal)) (x1 : (⟨S4608x2048, .bf16⟩ : BufTy).Contents (Elt Ideal))

/-- A projected column. -/
theorem proj_at (a : Fin 8) (r : Fin 2048) (j : Fin 4608) :
    val_main_v4 (F := Ideal) x0 x1 (ix3 a r j) = proj (fun d => x0 (ix3 a r d)) (fun j d => x1 (ix2 j d)) j := by
  unfold proj
  pointwise [val_main_v1, val_main_v2, val_main_v3, val_main_v4]

set_option maxHeartbeats 1000000 in
/-- The keys of group 0, turned. -/
theorem k0_at (a : Fin 8) (r : Fin 2048) (g : Fin 1) (h : Fin 4) (l : Fin 128) :
    val_main_v41 (F := Ideal) x0 x1 (ix5 a r g h l)
      = rotated (fun l => plain (fun d => x0 (ix3 a r d)) (fun j d => x1 (ix2 j d)) ⟨0, by omega⟩ ⟨128 * h + l, by omega⟩) (BitVec.ofNat 32 r) l := by
  by_cases hl : l.val < 64
  · rw [rotated_low _ _ _ hl]
    unfold plain angle
    pointwise [val_main_v0, val_main_v5, val_main_cst, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_cst_0, proj_at]
    rw [dif_pos hl]
    refine congrArg₂ HSub.hSub (congrArg₂ HMul.hMul (congrArg _ (Fin.ext ?_)) rfl) (congrArg₂ HMul.hMul (congrArg _ (Fin.ext ?_)) rfl) <;>
      (dsimp only; omega)
  · rw [rotated_high _ _ _ hl]
    unfold plain angle
    pointwise [val_main_v0, val_main_v5, val_main_cst, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_cst_0, proj_at]
    rw [dif_neg hl]
    refine congrArg₂ HAdd.hAdd (congrArg₂ HMul.hMul (congrArg _ (Fin.ext ?_)) rfl) (congrArg₂ HMul.hMul (congrArg _ (Fin.ext ?_)) rfl) <;>
      (dsimp only; omega)

set_option maxHeartbeats 1000000 in
/-- The keys of group 1, turned. -/
theorem k1_at (a : Fin 8) (r : Fin 2048) (g : Fin 1) (h : Fin 4) (l : Fin 128) :
    val_main_v76 (F := Ideal) x0 x1 (ix5 a r g h l)
      = rotated (fun l => plain (fun d => x0 (ix3 a r d)) (fun j d => x1 (ix2 j d)) ⟨2, by omega⟩ ⟨128 * h + l, by omega⟩) (BitVec.ofNat 32 r) l := by
  by_cases hl : l.val < 64
  · rw [rotated_low _ _ _ hl]
    unfold plain angle
    pointwise [val_main_v0, val_main_v7, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_cst_1, val_main_cst_2, proj_at]
    rw [dif_pos hl]
    refine congrArg₂ HSub.hSub (congrArg₂ HMul.hMul (congrArg _ (Fin.ext ?_)) rfl) (congrArg₂ HMul.hMul (congrArg _ (Fin.ext ?_)) rfl) <;>
      (dsimp only; omega)
  · rw [rotated_high _ _ _ hl]
    unfold plain angle
    pointwise [val_main_v0, val_main_v7, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_cst_1, val_main_cst_2, proj_at]
    rw [dif_neg hl]
    refine congrArg₂ HAdd.hAdd (congrArg₂ HMul.hMul (congrArg _ (Fin.ext ?_)) rfl) (congrArg₂ HMul.hMul (congrArg _ (Fin.ext ?_)) rfl) <;>
      (dsimp only; omega)

set_option maxHeartbeats 1000000 in
/-- The keys of group 2, turned. -/
theorem k2_at (a : Fin 8) (r : Fin 2048) (g : Fin 1) (h : Fin 4) (l : Fin 128) :
    val_main_v111 (F := Ideal) x0 x1 (ix5 a r g h l)
      = rotated (fun l => plain (fun d => x0 (ix3 a r d)) (fun j d => x1 (ix2 j d)) ⟨4, by omega⟩ ⟨128 * h + l, by omega⟩) (BitVec.ofNat 32 r) l := by
  by_cases hl : l.val < 64
  · rw [rotated_low _ _ _ hl]
    unfold plain angle
    pointwise [val_main_v0, val_main_v9, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_cst_3, val_main_cst_4, proj_at]
    rw [dif_pos hl]
    refine congrArg₂ HSub.hSub (congrArg₂ HMul.hMul (congrArg _ (Fin.ext ?_)) rfl) (congrArg₂ HMul.hMul (congrArg _ (Fin.ext ?_)) rfl) <;>
      (dsimp only; omega)
  · rw [rotated_high _ _ _ hl]
    unfold plain angle
    pointwise [val_main_v0, val_main_v9, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_cst_3, val_main_cst_4, proj_at]
    rw [dif_neg hl]
    refine congrArg₂ HAdd.hAdd (congrArg₂ HMul.hMul (congrArg _ (Fin.ext ?_)) rfl) (congrArg₂ HMul.hMul (congrArg _ (Fin.ext ?_)) rfl) <;>
      (dsimp only; omega)

set_option maxHeartbeats 1000000 in
/-- The queries, turned. -/
theorem q_at (a : Fin 8) (r : Fin 2048) (g : Fin 3) (h : Fin 4) (l : Fin 128) :
    val_main_v146 (F := Ideal) x0 x1 (ix5 a r g h l)
      = rotated (fun l => plain (fun d => x0 (ix3 a r d)) (fun j d => x1 (ix2 j d)) ⟨6 + g, by omega⟩ ⟨128 * h + l, by omega⟩) (BitVec.ofNat 32 r) l := by
  by_cases hl : l.val < 64
  · rw [rotated_low _ _ _ hl]
    unfold plain angle
    pointwise [val_main_v0, val_main_v11, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_cst_5, val_main_cst_6, proj_at]
    rw [dif_pos hl]
    refine congrArg₂ HSub.hSub (congrArg₂ HMul.hMul (congrArg _ (Fin.ext ?_)) rfl) (congrArg₂ HMul.hMul (congrArg _ (Fin.ext ?_)) rfl) <;>
      (dsimp only; omega)
  · rw [rotated_high _ _ _ hl]
    unfold plain angle
    pointwise [val_main_v0, val_main_v11, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_cst_5, val_main_cst_6, proj_at]
    rw [dif_neg hl]
    refine congrArg₂ HAdd.hAdd (congrArg₂ HMul.hMul (congrArg _ (Fin.ext ?_)) rfl) (congrArg₂ HMul.hMul (congrArg _ (Fin.ext ?_)) rfl) <;>
      (dsimp only; omega)

/-- The keys of group 0, turned, and its values beside them. -/
theorem kv0_at (a : Fin 8) (r : Fin 2048) (e : Fin 2) (h : Fin 4) (l : Fin 128) :
    val_main_v46 (F := Ideal) x0 x1 (ix5 a r e h l) = keptRow (fun d => x0 (ix3 a r d)) (fun j d => x1 (ix2 j d)) (BitVec.ofNat 32 r) 0 e h l := by
  pointwise [val_main_v6, val_main_v42, val_main_v43, val_main_v44, val_main_v45, val_main_v46, k0_at, proj_at]
  unfold keptRow
  by_cases he : e.val < 1
  · rw [dif_pos he, if_pos he]
    rfl
  · rw [dif_neg he, if_neg he]
    unfold plain
    refine congrArg _ (Fin.ext ?_)
    dsimp only
    omega

/-- The keys of group 1, turned, and its values beside them. -/
theorem kv1_at (a : Fin 8) (r : Fin 2048) (e : Fin 2) (h : Fin 4) (l : Fin 128) :
    val_main_v81 (F := Ideal) x0 x1 (ix5 a r e h l) = keptRow (fun d => x0 (ix3 a r d)) (fun j d => x1 (ix2 j d)) (BitVec.ofNat 32 r) 1 e h l := by
  pointwise [val_main_v8, val_main_v77, val_main_v78, val_main_v79, val_main_v80, val_main_v81, k1_at, proj_at]
  unfold keptRow
  by_cases he : e.val < 1
  · rw [dif_pos he, if_pos he]
    rfl
  · rw [dif_neg he, if_neg he]
    unfold plain
    refine congrArg _ (Fin.ext ?_)
    dsimp only
    omega

/-- The keys of group 2, turned, and its values beside them. -/
theorem kv2_at (a : Fin 8) (r : Fin 2048) (e : Fin 2) (h : Fin 4) (l : Fin 128) :
    val_main_v116 (F := Ideal) x0 x1 (ix5 a r e h l) = keptRow (fun d => x0 (ix3 a r d)) (fun j d => x1 (ix2 j d)) (BitVec.ofNat 32 r) 2 e h l := by
  pointwise [val_main_v10, val_main_v112, val_main_v113, val_main_v114, val_main_v115, val_main_v116, k2_at, proj_at]
  unfold keptRow
  by_cases he : e.val < 1
  · rw [dif_pos he, if_pos he]
    rfl
  · rw [dif_neg he, if_neg he]
    unfold plain
    refine congrArg _ (Fin.ext ?_)
    dsimp only
    omega

theorem kept0_at (z : Fin 1) (a : Fin 8) (s : Fin 128) (e : Fin 2) (h : Fin 4) (l : Fin 128) :
    val_main_v149 (F := Ideal) x0 x1 (ix6 z a s e h l)
      = keptRow (fun d => x0 (ix3 a ⟨1920 + s, by omega⟩ d)) (fun j d => x1 (ix2 j d)) (BitVec.ofNat 32 (1920 + s.val)) 0 e h l := by
  pointwise [val_main_v148, val_main_v149, kv0_at]

theorem kept1_at (z : Fin 1) (a : Fin 8) (s : Fin 512) (e : Fin 2) (h : Fin 4) (l : Fin 128) :
    val_main_v151 (F := Ideal) x0 x1 (ix6 z a s e h l)
      = keptRow (fun d => x0 (ix3 a ⟨1536 + s, by omega⟩ d)) (fun j d => x1 (ix2 j d)) (BitVec.ofNat 32 (1536 + s.val)) 1 e h l := by
  pointwise [val_main_v150, val_main_v151, kv1_at]

theorem kept2_at (z : Fin 1) (a : Fin 8) (s : Fin 2048) (e : Fin 2) (h : Fin 4) (l : Fin 128) :
    val_main_v152 (F := Ideal) x0 x1 (ix6 z a s e h l)
      = keptRow (fun d => x0 (ix3 a s d)) (fun j d => x1 (ix2 j d)) (BitVec.ofNat 32 s.val) 2 e h l := by
  pointwise [val_main_v152, kv2_at]

theorem kvs0_at (a : Fin 8) (r : Fin 2048) (f : Fin 1024) :
    val_main_v153 (F := Ideal) x0 x1 (ix3 a r f) = kvRow (fun d => x0 (ix3 a r d)) (fun j d => x1 (ix2 j d)) (BitVec.ofNat 32 r) 0 f := by
  rw [kvRow_head _ _ _ _ f ⟨f / 512, by omega⟩ ⟨f / 128 % 4, by omega⟩ ⟨f % 128, by omega⟩ (by dsimp only; omega)]
  pointwise [val_main_v153, kv0_at]

theorem kvs1_at (a : Fin 8) (r : Fin 2048) (f : Fin 1024) :
    val_main_v154 (F := Ideal) x0 x1 (ix3 a r f) = kvRow (fun d => x0 (ix3 a r d)) (fun j d => x1 (ix2 j d)) (BitVec.ofNat 32 r) 1 f := by
  rw [kvRow_head _ _ _ _ f ⟨f / 512, by omega⟩ ⟨f / 128 % 4, by omega⟩ ⟨f % 128, by omega⟩ (by dsimp only; omega)]
  pointwise [val_main_v154, kv1_at]

theorem kvs2_at (a : Fin 8) (r : Fin 2048) (f : Fin 1024) :
    val_main_v155 (F := Ideal) x0 x1 (ix3 a r f) = kvRow (fun d => x0 (ix3 a r d)) (fun j d => x1 (ix2 j d)) (BitVec.ofNat 32 r) 2 f := by
  rw [kvRow_head _ _ _ _ f ⟨f / 512, by omega⟩ ⟨f / 128 % 4, by omega⟩ ⟨f % 128, by omega⟩ (by dsimp only; omega)]
  pointwise [val_main_v155, kv2_at]

theorem qs_at (a : Fin 8) (r : Fin 2048) (f : Fin 1536) :
    val_main_v147 (F := Ideal) x0 x1 (ix3 a r f) = qRow (fun d => x0 (ix3 a r d)) (fun j d => x1 (ix2 j d)) (BitVec.ofNat 32 r) f := by
  rw [qRow_head _ _ _ f ⟨f / 512, by omega⟩ ⟨f / 128 % 4, by omega⟩ ⟨f % 128, by omega⟩ (by dsimp only; omega)]
  pointwise [val_main_v147, q_at]
  rfl

end Cert.AttnProjRefIdeal.Val

end
-- ==== Proof.AttnProjClaim.lean ====
module

public import proofs.«01_k».proof.Defs
public import proofs.«01_k».proof.Proof.Gen.AttnProjRefIdeal.Run
public import proofs.«01_k».proof.Proof.AttnProjHand
public import proofs.«01_k».proof.Proof.AttnProjKernel
public import proofs.«01_k».proof.Proof.AttnProjRef

/-! The attention's projection of the prompts and its reference end with equal results. -/

@[expose] public section

set_option maxRecDepth 16384

noncomputable section

namespace Cert.AttnProjClaim

open Idealize.ShloMosaic Idealize.ShloMosaic.TcCoe Idealize.SL.Sem
open Cert.AttnProjIdeal Cert.AttnProjIdeal.Gen Cert.AttnProjIdeal.Val

variable (m : (ℓ : Loc nD τ sig) → Buf (Elt Ideal) ℓ)

theorem kv0_ref (c : Dev nD) : kv m c 0 = AttnProjRefIdeal.Read.val_main_v153 (F := Ideal)
    (m ((c : Thread nD τ).loc main_arg0)) (m ((c : Thread nD τ).loc main_arg1)) := by
  funext i
  idx_vars i
  exact (AttnProjRefIdeal.Val.kvs0_at _ _ i0 i1 i2).symm

theorem kv1_ref (c : Dev nD) : kv m c 1 = AttnProjRefIdeal.Read.val_main_v154 (F := Ideal)
    (m ((c : Thread nD τ).loc main_arg0)) (m ((c : Thread nD τ).loc main_arg1)) := by
  funext i
  idx_vars i
  exact (AttnProjRefIdeal.Val.kvs1_at _ _ i0 i1 i2).symm

theorem kv2_ref (c : Dev nD) : kv m c 2 = AttnProjRefIdeal.Read.val_main_v155 (F := Ideal)
    (m ((c : Thread nD τ).loc main_arg0)) (m ((c : Thread nD τ).loc main_arg1)) := by
  funext i
  idx_vars i
  exact (AttnProjRefIdeal.Val.kvs2_at _ _ i0 i1 i2).symm

theorem qs_ref (c : Dev nD) : qs m c = AttnProjRefIdeal.Read.val_main_v147 (F := Ideal)
    (m ((c : Thread nD τ).loc main_arg0)) (m ((c : Thread nD τ).loc main_arg1)) := by
  funext i
  idx_vars i
  exact (AttnProjRefIdeal.Val.qs_at _ _ i0 i1 i2).symm

theorem kept0_ref (c : Dev nD) : kept0 m c = AttnProjRefIdeal.Read.val_main_v149 (F := Ideal)
    (m ((c : Thread nD τ).loc main_arg0)) (m ((c : Thread nD τ).loc main_arg1)) := by
  funext i
  idx_vars i
  exact (AttnProjRefIdeal.Val.kept0_at _ _ i0 i1 i2 i3 i4 i5).symm

theorem kept1_ref (c : Dev nD) : kept1 m c = AttnProjRefIdeal.Read.val_main_v151 (F := Ideal)
    (m ((c : Thread nD τ).loc main_arg0)) (m ((c : Thread nD τ).loc main_arg1)) := by
  funext i
  idx_vars i
  exact (AttnProjRefIdeal.Val.kept1_at _ _ i0 i1 i2 i3 i4 i5).symm

theorem kept2_ref (c : Dev nD) : kept2 m c = AttnProjRefIdeal.Read.val_main_v152 (F := Ideal)
    (m ((c : Thread nD τ).loc main_arg0)) (m ((c : Thread nD τ).loc main_arg1)) := by
  funext i
  idx_vars i
  exact (AttnProjRefIdeal.Val.kept2_at _ _ i0 i1 i2 i3 i4 i5).symm

/-- The reference's run, its results read as its stages. -/
theorem ref_run (m' : (ℓ : Loc AttnProjRefIdeal.nD AttnProjRefIdeal.τ AttnProjRefIdeal.sig) → Buf (Elt Ideal) ℓ)
    (g' : Dev AttnProjRefIdeal.nD → PrngReg) :
    θ_run (AttnProjRefIdeal.defs (F := Ideal)) (onTc (τ := AttnProjRefIdeal.τ) (AttnProjRefIdeal.main (F := Ideal)))
      ⟨m', fun _ => 0, g'⟩ fun r => ∀ c : Dev AttnProjRefIdeal.nD,
      r.2.mem ((c.tc : Thread AttnProjRefIdeal.nD AttnProjRefIdeal.τ).loc AttnProjRefIdeal.main_v153) = AttnProjRefIdeal.Read.val_main_v153 (F := Ideal) (m' ((c.tc : Thread AttnProjRefIdeal.nD AttnProjRefIdeal.τ).loc AttnProjRefIdeal.main_arg0)) (m' ((c.tc : Thread AttnProjRefIdeal.nD AttnProjRefIdeal.τ).loc AttnProjRefIdeal.main_arg1))
      ∧ r.2.mem ((c.tc : Thread AttnProjRefIdeal.nD AttnProjRefIdeal.τ).loc AttnProjRefIdeal.main_v154) = AttnProjRefIdeal.Read.val_main_v154 (F := Ideal) (m' ((c.tc : Thread AttnProjRefIdeal.nD AttnProjRefIdeal.τ).loc AttnProjRefIdeal.main_arg0)) (m' ((c.tc : Thread AttnProjRefIdeal.nD AttnProjRefIdeal.τ).loc AttnProjRefIdeal.main_arg1))
      ∧ r.2.mem ((c.tc : Thread AttnProjRefIdeal.nD AttnProjRefIdeal.τ).loc AttnProjRefIdeal.main_v155) = AttnProjRefIdeal.Read.val_main_v155 (F := Ideal) (m' ((c.tc : Thread AttnProjRefIdeal.nD AttnProjRefIdeal.τ).loc AttnProjRefIdeal.main_arg0)) (m' ((c.tc : Thread AttnProjRefIdeal.nD AttnProjRefIdeal.τ).loc AttnProjRefIdeal.main_arg1))
      ∧ r.2.mem ((c.tc : Thread AttnProjRefIdeal.nD AttnProjRefIdeal.τ).loc AttnProjRefIdeal.main_v147) = AttnProjRefIdeal.Read.val_main_v147 (F := Ideal) (m' ((c.tc : Thread AttnProjRefIdeal.nD AttnProjRefIdeal.τ).loc AttnProjRefIdeal.main_arg0)) (m' ((c.tc : Thread AttnProjRefIdeal.nD AttnProjRefIdeal.τ).loc AttnProjRefIdeal.main_arg1))
      ∧ r.2.mem ((c.tc : Thread AttnProjRefIdeal.nD AttnProjRefIdeal.τ).loc AttnProjRefIdeal.main_v149) = AttnProjRefIdeal.Read.val_main_v149 (F := Ideal) (m' ((c.tc : Thread AttnProjRefIdeal.nD AttnProjRefIdeal.τ).loc AttnProjRefIdeal.main_arg0)) (m' ((c.tc : Thread AttnProjRefIdeal.nD AttnProjRefIdeal.τ).loc AttnProjRefIdeal.main_arg1))
      ∧ r.2.mem ((c.tc : Thread AttnProjRefIdeal.nD AttnProjRefIdeal.τ).loc AttnProjRefIdeal.main_v151) = AttnProjRefIdeal.Read.val_main_v151 (F := Ideal) (m' ((c.tc : Thread AttnProjRefIdeal.nD AttnProjRefIdeal.τ).loc AttnProjRefIdeal.main_arg0)) (m' ((c.tc : Thread AttnProjRefIdeal.nD AttnProjRefIdeal.τ).loc AttnProjRefIdeal.main_arg1))
      ∧ r.2.mem ((c.tc : Thread AttnProjRefIdeal.nD AttnProjRefIdeal.τ).loc AttnProjRefIdeal.main_v152) = AttnProjRefIdeal.Read.val_main_v152 (F := Ideal) (m' ((c.tc : Thread AttnProjRefIdeal.nD AttnProjRefIdeal.τ).loc AttnProjRefIdeal.main_arg0)) (m' ((c.tc : Thread AttnProjRefIdeal.nD AttnProjRefIdeal.τ).loc AttnProjRefIdeal.main_arg1))
      ∧ r.2.mem ((c.tc : Thread AttnProjRefIdeal.nD AttnProjRefIdeal.τ).loc AttnProjRefIdeal.main_arg0) = m' ((c.tc : Thread AttnProjRefIdeal.nD AttnProjRefIdeal.τ).loc AttnProjRefIdeal.main_arg0)
      ∧ r.2.mem ((c.tc : Thread AttnProjRefIdeal.nD AttnProjRefIdeal.τ).loc AttnProjRefIdeal.main_arg1) = m' ((c.tc : Thread AttnProjRefIdeal.nD AttnProjRefIdeal.τ).loc AttnProjRefIdeal.main_arg1) :=
  θ_run_mono (AttnProjRefIdeal.Value.run m' g') fun r h c =>
    ⟨(h c).1.trans (AttnProjRefIdeal.Read.val_main_v153_eq _ _), (h c).2.1.trans (AttnProjRefIdeal.Read.val_main_v154_eq _ _), (h c).2.2.1.trans (AttnProjRefIdeal.Read.val_main_v155_eq _ _), (h c).2.2.2.1.trans (AttnProjRefIdeal.Read.val_main_v147_eq _ _), (h c).2.2.2.2.1.trans (AttnProjRefIdeal.Read.val_main_v149_eq _ _), (h c).2.2.2.2.2.1.trans (AttnProjRefIdeal.Read.val_main_v151_eq _ _), (h c).2.2.2.2.2.2.1.trans (AttnProjRefIdeal.Read.val_main_v152_eq _ _), (h c).2.2.2.2.2.2.2⟩

/-- The reference runs, leaves its arguments as they are, and has no semaphore. -/
theorem frame_ref : Cert.quiescent_AttnProjRefIdeal := fun m' g' _ =>
  θ_run_mono (ref_run m' g') fun r h => ⟨fun c => (h c).2.2.2.2.2.2.2, sem_eq_zero_of_no_sems rfl r.2⟩

theorem algebraic : Cert.algebraic_AttnProjIdeal_AttnProjRefIdeal := by
  pair_intro
  · run_from (Cert.AttnProjIdeal.Hand.run_main m g)
  · run_from (ref_run m' g')
    · exact (kv0_ref m c).symm.trans (kv0_eq m c).symm
    · exact (kv1_ref m c).symm.trans (kv1_eq m c).symm
    · exact (kv2_ref m c).symm.trans (kv2_eq m c).symm
    · exact (qs_ref m c).symm.trans (qs_eq m c).symm
    · exact (kept0_ref m c).symm.trans (kept0_eq m c).symm
    · exact (kept1_ref m c).symm.trans (kept1_eq m c).symm
    · exact (kept2_ref m c).symm.trans (kept2_eq m c).symm

end Cert.AttnProjClaim

end
-- ==== Proof.ProjAzKernel.lean ====
module

public import proofs.«01_k».proof.Proof.Gen.ProjAzIdeal.Frame
public import proofs.«01_k».proof.Proof.ProjSpec
public import Idealize.ShloMosaic.Lib.Pipeline.ValueKit
public import Idealize.ShloMosaic.Lib.Pointwise
public import Idealize.ShloMosaic.Lib.StableHlo.ReadAt

/-! What the projection onto the recurrence's inputs computes: the rows, and the last eight rows apart. -/

@[expose] public section

set_option maxRecDepth 16384

noncomputable section

namespace Cert.ProjAzIdeal.Val

open Cert.ProjAzIdeal Cert.ProjAzIdeal.Gen Idealize.ShloMosaic Idealize.ShloMosaic.TcCoe Idealize.SL.Sem
open Idealize.ShloMosaic.Pipeline (Dat)
open Cert.ProjSpec

variable (m : (ℓ : Loc nD τ sig) → Buf (Elt Ideal) ℓ)

/-- Where each window's block of point `t` stands in its array: points run over the batch, then two blocks of 1024 rows, then two of 2048 columns. -/
theorem places : ∀ t : Fin cfg0.N, win0_0.index t = ![t.val / 4, t.val / 2 % 2, 0] ∧ win0_1.index t = ![t.val % 2, 0]
    ∧ win0_2.index t = ![t.val / 4, t.val / 2 % 2, t.val % 2] ∧ win0_3.index t = ![t.val / 4, t.val / 2 % 2, t.val % 2] := by
  decide +kernel

theorem points (t : Fin cfg0.N) : t.val < 32 := t.isLt

/-- The batch entry of point `t`, its block's row `r` and column `f`. -/
def bat (t : Fin cfg0.N) : Fin 8 := ⟨t.val / 4, by have := points t; omega⟩
def row (t : Fin cfg0.N) (r : Fin 1024) : Fin 2048 := ⟨1024 * (t.val / 2 % 2) + r, by omega⟩
def col (t : Fin cfg0.N) (f : Fin 2048) : Fin 4096 := ⟨2048 * (t.val % 2) + f, by omega⟩

/-- The arguments: a row of the input, a row of the weight. -/
def xm (c : Dev nD) (b : Fin 8) (r : Fin 2048) (d : Fin 2048) : EReal := m ((c : Thread nD τ).loc main_arg0) (ix3 b r d)
def wt (c : Dev nD) (j : Fin 4096) (d : Fin 2048) : EReal := m ((c : Thread nD τ).loc main_arg1) (ix2 ⟨j, by omega⟩ d)

theorem xm_at (c : Dev nD) (t : Fin cfg0.N) (r : Fin 1024) (d : Fin 2048) : iblk m c 0 t (ix3 0 r d) = xm m c (bat t) (row t r) d := by
  unfold xm bat row; blk_ext [iblk, V, V0, places t]

theorem wt_at (c : Dev nD) (t : Fin cfg0.N) (j d : Fin 2048) : X0_1 m c t (ix2 j d) = wt m c (col t j) d := by
  unfold X0_1 Pipeline.Window.fill
  rw [dif_pos (moved0_1 t _)]
  unfold wt col; blk_ext [iblk, V, V0, places t]

/-- The blocks that a point writes. -/
theorem out_tile (c : Dev nD) (t : Fin cfg0.N) (r : Fin 1024) (f : Fin 2048) :
    (outsAt0 m c t).1 (ix3 0 r f) = proj (xm m c (bat t) (row t r)) (wt m c) (col t f) := by
  unfold outsAt0
  frame_out
  unfold proj
  pointwise [k0_pay1, k0_pay2, xm_at, wt_at]

theorem tail_tile (c : Dev nD) (t : Fin cfg0.N) (r : Fin 8) (f : Fin 2048) :
    (outsAt0 m c t).2 (ix3 0 r f) = proj (xm m c (bat t) (row t ⟨1016 + r, by omega⟩)) (wt m c) (col t f) := by
  unfold outsAt0
  frame_out
  unfold proj
  pointwise [k0_pay1, k0_pay3, xm_at, wt_at]

/-- The projected rows, from the arguments. -/
def outs (c : Dev nD) : S8x2048x4096.Idx → EReal := fun i => proj (xm m c (i 0) (i 1)) (wt m c) (i 2)

/-- The last eight rows of each block of 1024. -/
def lastRow (c : Dev nD) (b : Fin 8) (r : Fin 16) (j : Fin 4096) : EReal :=
  proj (xm m c b ⟨1024 * (r / 8) + (1016 + r % 8), by omega⟩) (wt m c) j
def lasts (c : Dev nD) : S8x16x4096.Idx → EReal := fun i => lastRow m c (i 0) (i 1) (i 2)

/-- The last three rows' first 3072 columns, kept for the next convolution. -/
def tailRow (c : Dev nD) (b : Fin 8) (r : Fin 3) (j : Fin 3072) : EReal :=
  proj (xm m c b ⟨2045 + r, by omega⟩) (wt m c) ⟨j, by omega⟩
def tails (c : Dev nD) : S1x8x3x3072.Idx → EReal := fun i => tailRow m c (i 1) (i 2) (i 3)

theorem emb2 (t : Fin cfg0.N) (y0 : Fin 1) (y1 : Fin 1024) (y2 : Fin 2048) :
    ((View.whole main_v0_0).slice (win0_2.rect t)).emb (ix3 y0 y1 y2) = (ix3 (bat t) (row t y1) (col t y2) : S8x2048x4096.Idx) := by
  obtain rfl : y0 = 0 := Subsingleton.elim _ _
  blk_ext [bat, row, col, places t]

theorem emb3 (t : Fin cfg0.N) (y0 : Fin 1) (y1 : Fin 8) (y2 : Fin 2048) :
    ((View.whole main_v0_1).slice (win0_3.rect t)).emb (ix3 y0 y1 y2)
      = (ix3 (bat t) ⟨8 * (t.val / 2 % 2) + y1, by omega⟩ (col t y2) : S8x16x4096.Idx) := by
  obtain rfl : y0 = 0 := Subsingleton.elim _ _
  blk_ext [bat, col, places t]

theorem outs_eq (c : Dev nD) : (dats m 0 c).arrAt 2 cfg0.N = outs m c := by
  refine (dats m 0 c).arrAt_eq_of_covers 2 _ (by decide +kernel) fun t hf y => ?_
  blk_simp
  rw [after0_2]
  idx_vars y
  obtain rfl : y0 = 0 := Subsingleton.elim _ _
  exact (out_tile m c t y1 y2).trans (congrArg (outs m c) (emb2 t 0 y1 y2)).symm

theorem lasts_eq (c : Dev nD) : (dats m 0 c).arrAt 3 cfg0.N = lasts m c := by
  refine (dats m 0 c).arrAt_eq_of_covers 3 _ (by decide +kernel) fun t hf y => ?_
  blk_simp
  rw [after0_3]
  idx_vars y
  obtain rfl : y0 = 0 := Subsingleton.elim _ _
  refine (tail_tile m c t y1 y2).trans (Eq.trans ?_ (congrArg (lasts m c) (emb3 t 0 y1 y2)).symm)
  show _ = lastRow m c (bat t) ⟨8 * (t.val / 2 % 2) + y1, by omega⟩ (col t y2)
  unfold lastRow
  have e : row t ⟨1016 + y1, by omega⟩
      = ⟨1024 * ((8 * (t.val / 2 % 2) + y1) / 8) + (1016 + (8 * (t.val / 2 % 2) + y1) % 8), by omega⟩ := Fin.ext (by simp only [row]; omega)
  exact congrArg (fun r => proj (xm m c (bat t) r) (wt m c) (col t y2)) e

theorem lasts_at (c : Dev nD) (b : Fin 8) (r : Fin 3) (j : Fin 3072) : lasts m c (ix3 b ⟨8 + (5 + r), by omega⟩ ⟨j, by omega⟩) = tailRow m c b r j := by
  show lastRow m c b ⟨8 + (5 + r), by omega⟩ ⟨j, by omega⟩ = _
  unfold lastRow tailRow
  have e : (⟨1024 * ((8 + (5 + r)) / 8) + (1016 + (8 + (5 + r)) % 8), by omega⟩ : Fin 2048) = ⟨2045 + r, by omega⟩ := Fin.ext (show 1024 * ((8 + (5 + r.val)) / 8) + (1016 + (8 + (5 + r.val)) % 8) = 2045 + r.val by omega)
  exact congrArg (fun r => proj (xm m c b r) (wt m c) ⟨j, by omega⟩) e

theorem tails_eq (c : Dev nD) : Pipeline.afterTail₀ cfgs (dats m) 0 (V0 m) [hostOps1] c main_v4 = tails m c := by
  have h : Pipeline.withArrays (cfgs 0).spec c (V0 m c) (fun w => (dats m 0 c).arrAt w (cfgs 0).N) (Proc.devRef .tc main_v0_1) = lasts m c :=
    (Pipeline.withArrays_arr (cfgs 0).spec (by decide) c (V0 m c) (fun w => (dats m 0 c).arrAt w (cfgs 0).N) 3).trans (lasts_eq m c)
  unfold Pipeline.afterTail₀
  rw [show ([hostOps1] : List (List (HloOp τ sig (Elt Ideal)))).flatten = hostOps1 from rfl]
  generalize Pipeline.withArrays (cfgs 0).spec c (V0 m c) (fun w => (dats m 0 c).arrAt w (cfgs 0).N) = V at h
  unfold hostOps1
  funext i
  idx_vars i
  after_reads_at
  rw [h]
  exact lasts_at m c i1 i2 i3

end Cert.ProjAzIdeal.Val

end
-- ==== Proof.ProjAzRef.lean ====
module

public import proofs.«01_k».proof.Proof.Gen.ProjAzRefIdeal.Read
public import proofs.«01_k».proof.Proof.ProjSpec
public import Idealize.ShloMosaic.Lib.Pipeline.ValueKit
public import Idealize.ShloMosaic.Lib.Pointwise

/-! The reference of the projection onto the recurrence's inputs, entry by entry. -/

@[expose] public section

set_option maxRecDepth 16384

noncomputable section

namespace Cert.ProjAzRefIdeal.Val

open Cert.ProjAzRefIdeal Cert.ProjAzRefIdeal.Read Idealize.ShloMosaic Idealize.ShloMosaic.TcCoe Idealize.SL.Sem
open Cert.ProjSpec

variable (x0 : (⟨S8x2048x2048, .bf16⟩ : BufTy).Contents (Elt Ideal)) (x1 : (⟨S12800x2048, .bf16⟩ : BufTy).Contents (Elt Ideal))

theorem proj_at (b : Fin 8) (r : Fin 2048) (j : Fin 4096) :
    val_main_v4 (F := Ideal) x0 x1 (ix3 b r j) = proj (fun d => x0 (ix3 b r d)) (fun (j : Fin 4096) d => x1 (ix2 ⟨j, by omega⟩ d)) j := by
  unfold proj
  pointwise [val_main_v0, val_main_v1, val_main_v2, val_main_v3, val_main_v4]

theorem out_at (b : Fin 8) (r : Fin 2048) (j : Fin 4096) :
    val_main_v5 (F := Ideal) x0 x1 (ix3 b r j) = proj (fun d => x0 (ix3 b r d)) (fun (j : Fin 4096) d => x1 (ix2 ⟨j, by omega⟩ d)) j := by
  pointwise [val_main_v5, proj_at]

theorem tail_at (a : Fin 1) (b : Fin 8) (r : Fin 3) (j : Fin 3072) :
    val_main_v7 (F := Ideal) x0 x1 (ix4 a b r j)
      = proj (fun d => x0 (ix3 b ⟨2045 + r, by omega⟩ d)) (fun (j : Fin 4096) d => x1 (ix2 ⟨j, by omega⟩ d)) ⟨j, by omega⟩ := by
  pointwise [val_main_v6, val_main_v7, proj_at]

end Cert.ProjAzRefIdeal.Val

end
-- ==== Proof.ProjAzClaim.lean ====
module

public import proofs.«01_k».proof.Defs
public import proofs.«01_k».proof.Proof.Gen.ProjAzRefIdeal.Run
public import proofs.«01_k».proof.Proof.ProjAzKernel
public import proofs.«01_k».proof.Proof.ProjAzRef

/-! The projection onto the recurrence's inputs and its reference end with equal results. -/

@[expose] public section

set_option maxRecDepth 16384

noncomputable section

namespace Cert.ProjAzClaim

open Idealize.ShloMosaic Idealize.ShloMosaic.TcCoe Idealize.SL.Sem
open Cert.ProjAzIdeal Cert.ProjAzIdeal.Gen Cert.ProjAzIdeal.Val

variable (m : (ℓ : Loc nD τ sig) → Buf (Elt Ideal) ℓ)

theorem outs_ref (c : Dev nD) : outs m c = ProjAzRefIdeal.Read.val_main_v5 (F := Ideal)
    (m ((c : Thread nD τ).loc main_arg0)) (m ((c : Thread nD τ).loc main_arg1)) := by
  funext i
  idx_vars i
  exact (ProjAzRefIdeal.Val.out_at _ _ i0 i1 i2).symm

theorem tails_ref (c : Dev nD) : tails m c = ProjAzRefIdeal.Read.val_main_v7 (F := Ideal)
    (m ((c : Thread nD τ).loc main_arg0)) (m ((c : Thread nD τ).loc main_arg1)) := by
  funext i
  idx_vars i
  exact (ProjAzRefIdeal.Val.tail_at _ _ i0 i1 i2 i3).symm

/-- The reference's run, its results read as its stages. -/
theorem ref_run (m' : (ℓ : Loc ProjAzRefIdeal.nD ProjAzRefIdeal.τ ProjAzRefIdeal.sig) → Buf (Elt Ideal) ℓ)
    (g' : Dev ProjAzRefIdeal.nD → PrngReg) :
    θ_run (ProjAzRefIdeal.defs (F := Ideal)) (onTc (τ := ProjAzRefIdeal.τ) (ProjAzRefIdeal.main (F := Ideal)))
      ⟨m', fun _ => 0, g'⟩ fun r => ∀ c : Dev ProjAzRefIdeal.nD,
      r.2.mem ((c.tc : Thread ProjAzRefIdeal.nD ProjAzRefIdeal.τ).loc ProjAzRefIdeal.main_v5) = ProjAzRefIdeal.Read.val_main_v5 (F := Ideal) (m' ((c.tc : Thread ProjAzRefIdeal.nD ProjAzRefIdeal.τ).loc ProjAzRefIdeal.main_arg0)) (m' ((c.tc : Thread ProjAzRefIdeal.nD ProjAzRefIdeal.τ).loc ProjAzRefIdeal.main_arg1))
      ∧ r.2.mem ((c.tc : Thread ProjAzRefIdeal.nD ProjAzRefIdeal.τ).loc ProjAzRefIdeal.main_v7) = ProjAzRefIdeal.Read.val_main_v7 (F := Ideal) (m' ((c.tc : Thread ProjAzRefIdeal.nD ProjAzRefIdeal.τ).loc ProjAzRefIdeal.main_arg0)) (m' ((c.tc : Thread ProjAzRefIdeal.nD ProjAzRefIdeal.τ).loc ProjAzRefIdeal.main_arg1))
      ∧ r.2.mem ((c.tc : Thread ProjAzRefIdeal.nD ProjAzRefIdeal.τ).loc ProjAzRefIdeal.main_arg0) = m' ((c.tc : Thread ProjAzRefIdeal.nD ProjAzRefIdeal.τ).loc ProjAzRefIdeal.main_arg0)
      ∧ r.2.mem ((c.tc : Thread ProjAzRefIdeal.nD ProjAzRefIdeal.τ).loc ProjAzRefIdeal.main_arg1) = m' ((c.tc : Thread ProjAzRefIdeal.nD ProjAzRefIdeal.τ).loc ProjAzRefIdeal.main_arg1) :=
  θ_run_mono (ProjAzRefIdeal.Value.run m' g') fun r h c =>
    ⟨(h c).1.trans (ProjAzRefIdeal.Read.val_main_v5_eq _ _), (h c).2.1.trans (ProjAzRefIdeal.Read.val_main_v7_eq _ _), (h c).2.2⟩

/-- The reference runs, leaves its arguments as they are, and has no semaphore. -/
theorem frame_ref : Cert.quiescent_ProjAzRefIdeal := fun m' g' _ =>
  θ_run_mono (ref_run m' g') fun r h => ⟨fun c => (h c).2.2, sem_eq_zero_of_no_sems rfl r.2⟩

theorem algebraic : Cert.algebraic_ProjAzIdeal_ProjAzRefIdeal := by
  pair_intro
  · run_from (Cert.ProjAzIdeal.Gen.run_main m g)
  · run_from (ref_run m' g')
    · exact (outs_ref m c).symm.trans (outs_eq m c).symm
    · exact (tails_ref m c).symm.trans (tails_eq m c).symm

end Cert.ProjAzClaim

end
-- ==== Proof.ProjGatesKernel.lean ====
module

public import proofs.«01_k».proof.Proof.Gen.ProjGatesIdeal.Value
public import proofs.«01_k».proof.Proof.ProjSpec
public import Idealize.ShloMosaic.Lib.Pipeline.ValueKit
public import Idealize.ShloMosaic.Lib.Pointwise
public import Idealize.ShloMosaic.Lib.StableHlo.ReadAt

/-! What the gates' projection computes. -/

@[expose] public section

set_option maxRecDepth 16384

noncomputable section

namespace Cert.ProjGatesIdeal.Val

open Cert.ProjGatesIdeal Cert.ProjGatesIdeal.Gen Idealize.ShloMosaic Idealize.ShloMosaic.TcCoe Idealize.SL.Sem
open Idealize.ShloMosaic.Pipeline (Dat)
open Cert.ProjSpec

variable (m : (ℓ : Loc nD τ sig) → Buf (Elt Ideal) ℓ)

/-- Where each window's block of point `t` stands in its array: points run over the batch, then two blocks of 1024 rows, then two of 2048 columns. -/
theorem places : ∀ t : Fin cfg0.N, win0_0.index t = ![t.val / 4, t.val / 2 % 2, 0] ∧ win0_1.index t = ![t.val % 2, 0]
    ∧ win0_2.index t = ![t.val / 4, t.val / 2 % 2, t.val % 2] := by
  decide +kernel

theorem points (t : Fin cfg0.N) : t.val < 32 := t.isLt

/-- The batch entry of point `t`, its block's row `r` and column `f`. -/
def bat (t : Fin cfg0.N) : Fin 8 := ⟨t.val / 4, by have := points t; omega⟩
def row (t : Fin cfg0.N) (r : Fin 1024) : Fin 2048 := ⟨1024 * (t.val / 2 % 2) + r, by omega⟩
def col (t : Fin cfg0.N) (f : Fin 2048) : Fin 4096 := ⟨2048 * (t.val % 2) + f, by omega⟩

/-- The arguments: a row of the input, a row of the weight. -/
def xm (c : Dev nD) (b : Fin 8) (r : Fin 2048) (d : Fin 2048) : EReal := m ((c : Thread nD τ).loc main_arg0) (ix3 b r d)
def wt (c : Dev nD) (j : Fin 4096) (d : Fin 2048) : EReal := m ((c : Thread nD τ).loc main_arg1) (ix2 j d)

theorem xm_at (c : Dev nD) (t : Fin cfg0.N) (r : Fin 1024) (d : Fin 2048) : iblk m c 0 t (ix3 0 r d) = xm m c (bat t) (row t r) d := by
  unfold xm bat row; blk_ext [iblk, V, places t]

theorem wt_at (c : Dev nD) (t : Fin cfg0.N) (j d : Fin 2048) : iblk m c 1 t (ix2 j d) = wt m c (col t j) d := by
  unfold wt col; blk_ext [iblk, V, places t]

/-- The block that a point writes. -/
theorem out_tile (c : Dev nD) (t : Fin cfg0.N) (r : Fin 1024) (f : Fin 2048) :
    (dats m 0 c).after 2 t (ix3 0 r f) = proj (xm m c (bat t) (row t r)) (wt m c) (col t f) := by
  rw [after0_2]
  frame_out
  unfold proj
  pointwise [k0_pay1, xm_at, wt_at]

/-- The call's result, from its arguments. -/
def outs (c : Dev nD) : S8x2048x4096.Idx → EReal := fun i => proj (xm m c (i 0) (i 1)) (wt m c) (i 2)

theorem emb2 (t : Fin cfg0.N) (y0 : Fin 1) (y1 : Fin 1024) (y2 : Fin 2048) :
    ((View.whole main_v0).slice (win0_2.rect t)).emb (ix3 y0 y1 y2) = (ix3 (bat t) (row t y1) (col t y2) : S8x2048x4096.Idx) := by
  obtain rfl : y0 = 0 := Subsingleton.elim _ _
  blk_ext [bat, row, col, places t]

theorem outs_eq (c : Dev nD) : (dats m 0 c).arrAt 2 cfg0.N = outs m c := by
  refine (dats m 0 c).arrAt_eq_of_covers 2 _ (by decide +kernel) fun t hf y => ?_
  blk_simp
  idx_vars y
  obtain rfl : y0 = 0 := Subsingleton.elim _ _
  exact (out_tile m c t y1 y2).trans (congrArg (outs m c) (emb2 t 0 y1 y2)).symm

end Cert.ProjGatesIdeal.Val

end
-- ==== Proof.ProjGatesRef.lean ====
module

public import proofs.«01_k».proof.Proof.Gen.ProjGatesRefIdeal.Read
public import proofs.«01_k».proof.Proof.ProjSpec
public import Idealize.ShloMosaic.Lib.Pipeline.ValueKit
public import Idealize.ShloMosaic.Lib.Pointwise

/-! The reference of the gates' projection, entry by entry. -/

@[expose] public section

set_option maxRecDepth 16384

noncomputable section

namespace Cert.ProjGatesRefIdeal.Val

open Cert.ProjGatesRefIdeal Cert.ProjGatesRefIdeal.Read Idealize.ShloMosaic Idealize.ShloMosaic.TcCoe Idealize.SL.Sem
open Cert.ProjSpec

variable (x0 : (⟨S8x2048x2048, .bf16⟩ : BufTy).Contents (Elt Ideal)) (x1 : (⟨S4096x2048, .bf16⟩ : BufTy).Contents (Elt Ideal))

theorem out_at (b : Fin 8) (r : Fin 2048) (j : Fin 4096) :
    val_main_v4 (F := Ideal) x0 x1 (ix3 b r j) = proj (fun d => x0 (ix3 b r d)) (fun j d => x1 (ix2 j d)) j := by
  unfold proj
  pointwise [val_main_v0, val_main_v1, val_main_v2, val_main_v3, val_main_v4]

end Cert.ProjGatesRefIdeal.Val

end
-- ==== Proof.ProjGatesClaim.lean ====
module

public import proofs.«01_k».proof.Defs
public import proofs.«01_k».proof.Proof.Gen.ProjGatesRefIdeal.Run
public import proofs.«01_k».proof.Proof.ProjGatesKernel
public import proofs.«01_k».proof.Proof.ProjGatesRef

/-! The gates' projection and its reference end with equal results. -/

@[expose] public section

set_option maxRecDepth 16384

noncomputable section

namespace Cert.ProjGatesClaim

open Idealize.ShloMosaic Idealize.ShloMosaic.TcCoe Idealize.SL.Sem
open Cert.ProjGatesIdeal Cert.ProjGatesIdeal.Gen Cert.ProjGatesIdeal.Val

variable (m : (ℓ : Loc nD τ sig) → Buf (Elt Ideal) ℓ)

theorem outs_ref (c : Dev nD) : outs m c = ProjGatesRefIdeal.Read.val_main_v4 (F := Ideal)
    (m ((c : Thread nD τ).loc main_arg0)) (m ((c : Thread nD τ).loc main_arg1)) := by
  funext i
  idx_vars i
  exact (ProjGatesRefIdeal.Val.out_at _ _ i0 i1 i2).symm

/-- The reference's run, its results read as its stages. -/
theorem ref_run (m' : (ℓ : Loc ProjGatesRefIdeal.nD ProjGatesRefIdeal.τ ProjGatesRefIdeal.sig) → Buf (Elt Ideal) ℓ)
    (g' : Dev ProjGatesRefIdeal.nD → PrngReg) :
    θ_run (ProjGatesRefIdeal.defs (F := Ideal)) (onTc (τ := ProjGatesRefIdeal.τ) (ProjGatesRefIdeal.main (F := Ideal)))
      ⟨m', fun _ => 0, g'⟩ fun r => ∀ c : Dev ProjGatesRefIdeal.nD,
      r.2.mem ((c.tc : Thread ProjGatesRefIdeal.nD ProjGatesRefIdeal.τ).loc ProjGatesRefIdeal.main_v4) = ProjGatesRefIdeal.Read.val_main_v4 (F := Ideal) (m' ((c.tc : Thread ProjGatesRefIdeal.nD ProjGatesRefIdeal.τ).loc ProjGatesRefIdeal.main_arg0)) (m' ((c.tc : Thread ProjGatesRefIdeal.nD ProjGatesRefIdeal.τ).loc ProjGatesRefIdeal.main_arg1))
      ∧ r.2.mem ((c.tc : Thread ProjGatesRefIdeal.nD ProjGatesRefIdeal.τ).loc ProjGatesRefIdeal.main_arg0) = m' ((c.tc : Thread ProjGatesRefIdeal.nD ProjGatesRefIdeal.τ).loc ProjGatesRefIdeal.main_arg0)
      ∧ r.2.mem ((c.tc : Thread ProjGatesRefIdeal.nD ProjGatesRefIdeal.τ).loc ProjGatesRefIdeal.main_arg1) = m' ((c.tc : Thread ProjGatesRefIdeal.nD ProjGatesRefIdeal.τ).loc ProjGatesRefIdeal.main_arg1) :=
  θ_run_mono (ProjGatesRefIdeal.Value.run m' g') fun r h c =>
    ⟨(h c).1.trans (ProjGatesRefIdeal.Read.val_main_v4_eq _ _), (h c).2⟩

/-- The reference runs, leaves its arguments as they are, and has no semaphore. -/
theorem frame_ref : Cert.quiescent_ProjGatesRefIdeal := fun m' g' _ =>
  θ_run_mono (ref_run m' g') fun r h => ⟨fun c => (h c).2, sem_eq_zero_of_no_sems rfl r.2⟩

theorem algebraic : Cert.algebraic_ProjGatesIdeal_ProjGatesRefIdeal := by
  pair_intro
  · run_from (Cert.ProjGatesIdeal.Value.run_blocks m g)
  · run_from (ref_run m' g')
    · exact (outs_ref m c).symm.trans (outs_eq m c).symm

end Cert.ProjGatesClaim

end
-- ==== Proof.FfnLastSampleKernel.lean ====
module

public import proofs.«01_k».proof.Proof.Gen.FfnLastSampleIdeal.Frame
public import proofs.«01_k».proof.Proof.FfnSpec
public import proofs.«01_k».proof.Proof.Reads
public import Idealize.ShloMosaic.Lib.Pipeline.ValueKit
public import Idealize.ShloMosaic.Lib.Pipeline.ReadBack
public import Idealize.ShloMosaic.Lib.Pointwise
public import Idealize.ShloMosaic.Lib.StableHlo.ReadAt

/-! What the last feed-forward block's call computes in the sample group: the accumulated tiles of a block of rows, and the rows that the last tile's point writes. -/

@[expose] public section

set_option maxRecDepth 16384

noncomputable section

namespace Cert.FfnLastSampleIdeal.Val

open Cert.FfnLastSampleIdeal Cert.FfnLastSampleIdeal.Gen Idealize.ShloMosaic Idealize.ShloMosaic.TcCoe Idealize.SL.Sem
open Idealize.ShloMosaic.Pipeline (Dat)
open Cert.GdnSpec Cert.FfnSpec Cert.Scalars

variable (m : (ℓ : Loc nD τ sig) → Buf (Elt Ideal) ℓ)

/-- Where each window's block of point `t` stands in its array: the points are eleven tiles of 512 hidden units. -/
theorem places : ∀ t : Fin cfg0.N, win0_0.index t = ![0, 0, 0] ∧ win0_1.index t = ![0, 0, 0]
    ∧ win0_2.index t = ![0, 0, 8] ∧ win0_3.index t = ![0, t.val] ∧ win0_4.index t = ![0, t.val + 11]
    ∧ win0_5.index t = ![t.val, 0] ∧ win0_6.index t = ![0, 0] ∧ win0_7.index t = ![0, 0, 0] := by
  decide +kernel

theorem points (t : Fin cfg0.N) : t.val < 11 := t.isLt

/-- The tile of point `t`. -/
def til (t : Fin cfg0.N) : Fin 11 := ⟨t.val, points t⟩

/-- The arguments: a row of the residual stream and of the normalised stream, the gate, the weights, the gain. -/
def hh (c : Dev nD) (r : Fin 32) (f : Fin 2048) : EReal := m ((c : Thread nD τ).loc main_arg0) (ix3 0 r f)
def xm (c : Dev nD) (r : Fin 32) (f : Fin 2048) : EReal := m ((c : Thread nD τ).loc main_arg1) (ix3 0 r f)
def gate (c : Dev nD) (r : Fin 32) (f : Fin 2048) : EReal := m ((c : Thread nD τ).loc main_arg2) (ix3 0 r ⟨16384 + f, by omega⟩)
def wUp (c : Dev nD) (d : Fin 2048) (j : Fin 11264) : EReal := m ((c : Thread nD τ).loc main_arg3) (ix2 d j)
def wDown (c : Dev nD) (j : Fin 5632) (f : Fin 2048) : EReal := m ((c : Thread nD τ).loc main_arg4) (ix2 j f)
def gain (c : Dev nD) (f : Fin 2048) : EReal := m ((c : Thread nD τ).loc main_arg5) (ix1 f)

theorem hh_at (c : Dev nD) (t : Fin cfg0.N) (r : Fin 32) (f : Fin 2048) : iblk m c 0 t (ix3 0 r f) = hh m c r f := by
  unfold hh; blk_ext [iblk, V, V0, places t]

theorem xm_at (c : Dev nD) (t : Fin cfg0.N) (r : Fin 32) (f : Fin 2048) : iblk m c 1 t (ix3 0 r f) = xm m c r f := by
  unfold xm; blk_ext [iblk, V, V0, places t]

theorem gate_at (c : Dev nD) (t : Fin cfg0.N) (r : Fin 32) (f : Fin 2048) : iblk m c 2 t (ix3 0 r f) = gate m c r f := by
  unfold gate; blk_ext [iblk, V, V0, places t]

theorem wg_at (c : Dev nD) (t : Fin cfg0.N) (d : Fin 2048) (k : Fin 512) :
    iblk m c 3 t (ix2 d k) = wUp m c d ⟨512 * til t + k, by omega⟩ := by
  unfold wUp til; blk_ext [iblk, V, V0, places t]

theorem wu_at (c : Dev nD) (t : Fin cfg0.N) (d : Fin 2048) (k : Fin 512) :
    iblk m c 4 t (ix2 d k) = wUp m c d ⟨5632 + (512 * til t + k), by omega⟩ := by
  unfold wUp til; blk_ext [iblk, V, V0, places t]

theorem wd_at (c : Dev nD) (t : Fin cfg0.N) (k : Fin 512) (f : Fin 2048) :
    iblk m c 5 t (ix2 k f) = wDown m c ⟨512 * til t + k, by omega⟩ f := by
  unfold wDown til; blk_ext [iblk, V, V0, places t]

theorem gain_at (c : Dev nD) (t : Fin cfg0.N) (f : Fin 2048) : iblk m c 6 t (ix2 0 f) = gain m c f := by
  have e : (win0_6.blk t).view.emb (ix2 0 f) = (ix2 0 f : S1x2048.Idx) := by blk_ext [places t]
  refine (congrArg (V m c main_v0) e).trans ?_
  unfold gain V
  after_reads_at

/-- What a point adds into the accumulator at row `i 0`, column `i 1`. -/
def add (c : Dev nD) (t : Fin cfg0.N) (i : S32x2048.Idx) : EReal :=
  tile (xm m c (i 0)) (wUp m c) (wDown m c) (til t) (i 1)

theorem acc_reset (c : Dev nD) (t : Fin cfg0.N) (h : t.val % 11 = 0) (i : S32x2048.Idx) :
    (outsAt0 m c t.val t.isLt).2 i = 0 + add m c t i := by
  rw [outsAt0_A m c t h (by omega)]
  frame_out
  unfold add tile unitAt up silu
  idx_vars i
  pointwise [k0_pay1, k0_pay2, half_tanh, xm_at, wg_at, wu_at, wd_at]

theorem acc_step (c : Dev nD) (t : Fin cfg0.N) (h : ¬t.val % 11 = 0) (i : S32x2048.Idx) :
    (outsAt0 m c t.val t.isLt).2 i = (outsAt0 m c (t.val - 1) (Nat.lt_of_le_of_lt (Nat.sub_le _ _) t.isLt)).2 i + add m c t i := by
  unfold add tile unitAt up silu
  idx_vars i
  by_cases h' : t.val % 11 = 10
  · rw [outsAt0_C m c t h h']
    frame_out
    simp only [read_unread_whole]
    pointwise [k0_pay2, half_tanh, xm_at, wg_at, wu_at, wd_at]
  · rw [outsAt0_B m c t h h']
    frame_out
    simp only [read_unread_whole]
    pointwise [k0_pay2, half_tanh, xm_at, wg_at, wu_at, wd_at]

/-- After the last tile's point the accumulator holds the block's rows. -/
theorem acc_last (c : Dev nD) (t : Fin cfg0.N) (h : t.val % 11 = 10) (r : Fin 32) (f : Fin 2048) :
    (outsAt0 m c t.val t.isLt).2 (ix2 r f) = swiglu (xm m c r) (wUp m c) (wDown m c) f := by
  refine (Pipeline.eq_sum_fin_of_reset_step_apply_of_flush (fun n hn => (outsAt0 m c n hn).2) 11 (fun _ => (0 : EReal)) (add m c)
    (fun t h i => acc_reset m c t h i) (fun t h i => acc_step m c t h i) t h (ix2 r f)).trans ?_
  rw [zero_add, swiglu_eq_tiles]
  refine Finset.sum_congr rfl fun s _ => ?_
  unfold add
  have ht : ∀ hp, til ⟨11 * (t.val / 11) + s.val, hp⟩ = s := fun hp => Fin.ext (by have := points t; simp only [til]; omega)
  rw [ht]
  rfl

set_option maxHeartbeats 4000000 in
/-- The rows that the last tile's point writes. -/
theorem out_tile (c : Dev nD) (t : Fin cfg0.N) (h : t.val % 11 = 10) (r : Fin 32) (f : Fin 2048) :
    (outsAt0 m c t.val t.isLt).1 (ix3 0 r f) = rms (resid (hh m c r) (gate m c r)
      (fun f => (outsAt0 m c t.val t.isLt).2 (ix2 r f))) f * gain m c f := by
  rw [outsAt0_C m c t (by omega) h]
  frame_out
  canon_tiles x hx
  all_goals
    simp (disch := decide) only [Reads.readCov_part]
    generalize k0_pay2 (F := Ideal) _ _ _ _ _ = A
    idx_vars x
    unfold rms resid eps
    obtain rfl : f = x2 := Fin.ext hx2
    unfold_payloads
    pointwise [hh_at, gate_at, gain_at]
    have hr := fun hp => (Fin.ext hx1.symm : (⟨_, hp⟩ : Fin 32) = r)
    try simp only [hr]

/-- The call's result, from its arguments, as the call leaves it and in the group's shape. -/
def yRow (c : Dev nD) (r : Fin 32) (f : Fin 2048) : EReal :=
  rms (resid (hh m c r) (gate m c r) (swiglu (xm m c r) (wUp m c) (wDown m c))) f * gain m c f
def outs (c : Dev nD) : S1x32x2048.Idx → EReal := fun i => yRow m c (i 1) (i 2)
def ys (c : Dev nD) : S32x1x2048.Idx → EReal := fun i => yRow m c (i 0) (i 2)

theorem emb7 (t : Fin cfg0.N) (y0 : Fin 1) (y1 : Fin 32) (y2 : Fin 2048) :
    ((View.whole main_v1).slice (win0_7.rect t)).emb (ix3 y0 y1 y2) = (ix3 0 y1 y2 : S1x32x2048.Idx) := by
  obtain rfl : y0 = 0 := Subsingleton.elim _ _
  blk_ext [places t]

theorem outs_eq (c : Dev nD) : (dats m 0 c).arrAt 7 cfg0.N = outs m c := by
  refine (dats m 0 c).arrAt_eq_of_covers 7 _ (by decide +kernel) fun t hf y => ?_
  blk_simp
  rw [after0_7]
  idx_vars y
  obtain rfl : y0 = 0 := Subsingleton.elim _ _
  have h := (flush0_7 t).mp hf
  have h10 : t.val % 11 = 10 := by omega
  refine Eq.trans ?_ (congrArg (outs m c) (emb7 t 0 y1 y2)).symm
  refine (out_tile m c t h10 y1 y2).trans ?_
  simp only [acc_last m c t h10]
  rfl

theorem ys_eq (c : Dev nD) : Pipeline.afterTail₀ cfgs (dats m) 0 (V0 m) [hostOps1] c main_v2 = ys m c := by
  have h : Pipeline.withArrays (cfgs 0).spec c (V0 m c) (fun w => (dats m 0 c).arrAt w (cfgs 0).N) (Proc.devRef .tc main_v1) = outs m c :=
    ((dats m 0 c).withArrays_arrAt (by decide) (V0 m c) (A_eq m c) 7).trans (outs_eq m c)
  unfold Pipeline.afterTail₀
  rw [show ([hostOps1] : List (List (HloOp τ sig (Elt Ideal)))).flatten = hostOps1 from rfl]
  generalize Pipeline.withArrays (cfgs 0).spec c (V0 m c) (fun w => (dats m 0 c).arrAt w (cfgs 0).N) = V at h
  unfold hostOps1
  funext i
  idx_vars i
  after_reads_at
  rw [h]
  rfl

end Cert.FfnLastSampleIdeal.Val

end
-- ==== Proof.FfnLastSampleRef.lean ====
module

public import proofs.«01_k».proof.Proof.Gen.FfnLastSampleRefIdeal.Read
public import proofs.«01_k».proof.Proof.FfnSpec
public import Idealize.ShloMosaic.Lib.Pipeline.ValueKit
public import Idealize.ShloMosaic.Lib.Pointwise

/-! The reference of the sample group's last feed-forward block, entry by entry, in the terms of `FfnSpec`. -/

@[expose] public section

set_option maxRecDepth 16384

noncomputable section

namespace Cert.FfnLastSampleRefIdeal.Val

open Cert.FfnLastSampleRefIdeal Cert.FfnLastSampleRefIdeal.Read Idealize.ShloMosaic Idealize.ShloMosaic.TcCoe Idealize.SL.Sem
open Cert.GdnSpec Cert.FfnSpec Cert.Scalars

variable (x0 : (⟨S1x32x2048, .f32⟩ : BufTy).Contents (Elt Ideal)) (x1 : (⟨S1x32x2048, .bf16⟩ : BufTy).Contents (Elt Ideal)) (x2 : (⟨S1x32x18432, .f32⟩ : BufTy).Contents (Elt Ideal))
    (x3 : (⟨S2048x11264, .bf16⟩ : BufTy).Contents (Elt Ideal)) (x4 : (⟨S5632x2048, .bf16⟩ : BufTy).Contents (Elt Ideal)) (x5 : (⟨S2048, .f32⟩ : BufTy).Contents (Elt Ideal))

theorem up_at (b : Fin 32) (j : Fin 11264) :
    val_main_v5 (F := Ideal) x1 x3 (ix3 0 b j) = up (fun d => x1 (ix3 0 b d)) (fun d j => x3 (ix2 d j)) j := by
  unfold up
  pointwise [val_main_v3, val_main_v4, val_main_v5]

theorem unitAt_at (b : Fin 32) (j : Fin 5632) :
    val_main_v9 (F := Ideal) x1 x3 (ix3 0 b j) = unitAt (fun d => x1 (ix3 0 b d)) (fun d j => x3 (ix2 d j)) j := by
  unfold unitAt silu
  pointwise [val_main_v6, val_main_v7, val_main_v8, val_main_v9, val_main_call0_v0, val_main_call0_v1, val_main_call0_v2, val_main_call0_v3, val_main_call0_v4, val_main_call0_v5, val_main_call0_cst, val_main_call0_cst_0, up_at, logistic_spelt]

theorem swiglu_at (b : Fin 32) (f : Fin 2048) : val_main_v11 (F := Ideal) x1 x3 x4 (ix3 0 b f)
      = swiglu (fun d => x1 (ix3 0 b d)) (fun d j => x3 (ix2 d j)) (fun j f => x4 (ix2 j f)) f := by
  unfold swiglu
  pointwise [val_main_v10, val_main_v11, unitAt_at]

theorem resid_at (b : Fin 32) (f : Fin 2048) : val_main_v13 (F := Ideal) x0 x1 x2 x3 x4 (ix3 0 b f)
      = resid (fun f => x0 (ix3 0 b f)) (fun f => x2 (ix3 0 b ⟨16384 + f, by omega⟩))
          (swiglu (fun d => x1 (ix3 0 b d)) (fun d j => x3 (ix2 d j)) (fun j f => x4 (ix2 j f))) f := by
  unfold resid
  pointwise [val_main_v0, val_main_cst, val_main_v1, val_main_v2, val_main_v12, val_main_v13, swiglu_at]

theorem norm_at (b : Fin 32) (f : Fin 2048) : val_main_v26 (F := Ideal) x0 x1 x2 x3 x4 x5 (ix3 0 b f)
      = rms (resid (fun f => x0 (ix3 0 b f)) (fun f => x2 (ix3 0 b ⟨16384 + f, by omega⟩))
          (swiglu (fun d => x1 (ix3 0 b d)) (fun d j => x3 (ix2 d j)) (fun j f => x4 (ix2 j f)))) f * x5 (ix1 f) := by
  unfold rms eps
  pointwise [val_main_v14, val_main_v15, val_main_v16, val_main_v17, val_main_v18, val_main_v19, val_main_v20, val_main_v21, val_main_v22, val_main_v23, val_main_v24, val_main_v25, val_main_v26, val_main_cst_0, val_main_cst_1, val_main_cst_2, resid_at]

theorem out_at (b : Fin 32) (a : Fin 1) (f : Fin 2048) : val_main_v27 (F := Ideal) x0 x1 x2 x3 x4 x5 (ix3 b a f)
      = rms (resid (fun f => x0 (ix3 0 b f)) (fun f => x2 (ix3 0 b ⟨16384 + f, by omega⟩))
          (swiglu (fun d => x1 (ix3 0 b d)) (fun d j => x3 (ix2 d j)) (fun j f => x4 (ix2 j f)))) f * x5 (ix1 f) := by
  pointwise [val_main_v27, norm_at]

end Cert.FfnLastSampleRefIdeal.Val

end
-- ==== Proof.FfnLastSampleClaim.lean ====
module

public import proofs.«01_k».proof.Defs
public import proofs.«01_k».proof.Proof.Gen.FfnLastSampleRefIdeal.Run
public import proofs.«01_k».proof.Proof.FfnLastSampleKernel
public import proofs.«01_k».proof.Proof.FfnLastSampleRef

/-! The sample group's last feed-forward block and its reference end with equal results. -/

@[expose] public section

set_option maxRecDepth 16384

noncomputable section

namespace Cert.FfnLastSampleClaim

open Idealize.ShloMosaic Idealize.ShloMosaic.TcCoe Idealize.SL.Sem
open Cert.FfnLastSampleIdeal Cert.FfnLastSampleIdeal.Gen Cert.FfnLastSampleIdeal.Val

variable (m : (ℓ : Loc nD τ sig) → Buf (Elt Ideal) ℓ)

theorem ys_ref (c : Dev nD) : ys m c = FfnLastSampleRefIdeal.Read.val_main_v27 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  idx_vars i
  exact (FfnLastSampleRefIdeal.Val.out_at _ _ _ _ _ _ i0 i1 i2).symm

/-- The reference's run, its results read as its stages. -/
theorem ref_run (m' : (ℓ : Loc FfnLastSampleRefIdeal.nD FfnLastSampleRefIdeal.τ FfnLastSampleRefIdeal.sig) → Buf (Elt Ideal) ℓ)
    (g' : Dev FfnLastSampleRefIdeal.nD → PrngReg) :
    θ_run (FfnLastSampleRefIdeal.defs (F := Ideal)) (onTc (τ := FfnLastSampleRefIdeal.τ) (FfnLastSampleRefIdeal.main (F := Ideal)))
      ⟨m', fun _ => 0, g'⟩ fun r => ∀ c : Dev FfnLastSampleRefIdeal.nD,
      r.2.mem ((c.tc : Thread FfnLastSampleRefIdeal.nD FfnLastSampleRefIdeal.τ).loc FfnLastSampleRefIdeal.main_v27) = FfnLastSampleRefIdeal.Read.val_main_v27 (F := Ideal) (m' ((c.tc : Thread FfnLastSampleRefIdeal.nD FfnLastSampleRefIdeal.τ).loc FfnLastSampleRefIdeal.main_arg0)) (m' ((c.tc : Thread FfnLastSampleRefIdeal.nD FfnLastSampleRefIdeal.τ).loc FfnLastSampleRefIdeal.main_arg1)) (m' ((c.tc : Thread FfnLastSampleRefIdeal.nD FfnLastSampleRefIdeal.τ).loc FfnLastSampleRefIdeal.main_arg2)) (m' ((c.tc : Thread FfnLastSampleRefIdeal.nD FfnLastSampleRefIdeal.τ).loc FfnLastSampleRefIdeal.main_arg3)) (m' ((c.tc : Thread FfnLastSampleRefIdeal.nD FfnLastSampleRefIdeal.τ).loc FfnLastSampleRefIdeal.main_arg4)) (m' ((c.tc : Thread FfnLastSampleRefIdeal.nD FfnLastSampleRefIdeal.τ).loc FfnLastSampleRefIdeal.main_arg5))
      ∧ r.2.mem ((c.tc : Thread FfnLastSampleRefIdeal.nD FfnLastSampleRefIdeal.τ).loc FfnLastSampleRefIdeal.main_arg0) = m' ((c.tc : Thread FfnLastSampleRefIdeal.nD FfnLastSampleRefIdeal.τ).loc FfnLastSampleRefIdeal.main_arg0)
      ∧ r.2.mem ((c.tc : Thread FfnLastSampleRefIdeal.nD FfnLastSampleRefIdeal.τ).loc FfnLastSampleRefIdeal.main_arg1) = m' ((c.tc : Thread FfnLastSampleRefIdeal.nD FfnLastSampleRefIdeal.τ).loc FfnLastSampleRefIdeal.main_arg1)
      ∧ r.2.mem ((c.tc : Thread FfnLastSampleRefIdeal.nD FfnLastSampleRefIdeal.τ).loc FfnLastSampleRefIdeal.main_arg2) = m' ((c.tc : Thread FfnLastSampleRefIdeal.nD FfnLastSampleRefIdeal.τ).loc FfnLastSampleRefIdeal.main_arg2)
      ∧ r.2.mem ((c.tc : Thread FfnLastSampleRefIdeal.nD FfnLastSampleRefIdeal.τ).loc FfnLastSampleRefIdeal.main_arg3) = m' ((c.tc : Thread FfnLastSampleRefIdeal.nD FfnLastSampleRefIdeal.τ).loc FfnLastSampleRefIdeal.main_arg3)
      ∧ r.2.mem ((c.tc : Thread FfnLastSampleRefIdeal.nD FfnLastSampleRefIdeal.τ).loc FfnLastSampleRefIdeal.main_arg4) = m' ((c.tc : Thread FfnLastSampleRefIdeal.nD FfnLastSampleRefIdeal.τ).loc FfnLastSampleRefIdeal.main_arg4)
      ∧ r.2.mem ((c.tc : Thread FfnLastSampleRefIdeal.nD FfnLastSampleRefIdeal.τ).loc FfnLastSampleRefIdeal.main_arg5) = m' ((c.tc : Thread FfnLastSampleRefIdeal.nD FfnLastSampleRefIdeal.τ).loc FfnLastSampleRefIdeal.main_arg5) :=
  θ_run_mono (FfnLastSampleRefIdeal.Value.run m' g') fun r h c =>
    ⟨(h c).1.trans (FfnLastSampleRefIdeal.Read.val_main_v27_eq _ _), (h c).2⟩

/-- The reference runs, leaves its arguments as they are, and has no semaphore. -/
theorem frame_ref : Cert.quiescent_FfnLastSampleRefIdeal := fun m' g' _ =>
  θ_run_mono (ref_run m' g') fun r h => ⟨fun c => (h c).2, sem_eq_zero_of_no_sems rfl r.2⟩

theorem algebraic : Cert.algebraic_FfnLastSampleIdeal_FfnLastSampleRefIdeal := by
  pair_intro
  · run_from (Cert.FfnLastSampleIdeal.Gen.run_main m g)
    exact W_main_arg5 m (dats m) c
  · run_from (ref_run m' g')
    · exact (ys_ref m c).symm.trans (ys_eq m c).symm

end Cert.FfnLastSampleClaim

end
-- ==== Proof.ProjAzSampleKernel.lean ====
module

public import proofs.«01_k».proof.Proof.Gen.ProjAzSampleIdeal.Frame
public import proofs.«01_k».proof.Proof.ProjSpec
public import Idealize.ShloMosaic.Lib.Pipeline.ValueKit
public import Idealize.ShloMosaic.Lib.Pointwise
public import Idealize.ShloMosaic.Lib.StableHlo.ReadAt

/-! What the projection onto the recurrence's inputs computes in the sample group: the rows, and the rows kept for the next convolution. -/

@[expose] public section

set_option maxRecDepth 16384

noncomputable section

namespace Cert.ProjAzSampleIdeal.Val

open Cert.ProjAzSampleIdeal Cert.ProjAzSampleIdeal.Gen Idealize.ShloMosaic Idealize.ShloMosaic.TcCoe Idealize.SL.Sem
open Idealize.ShloMosaic.Pipeline (Dat)
open Cert.ProjSpec

variable (m : (ℓ : Loc nD τ sig) → Buf (Elt Ideal) ℓ)

/-- Where each window's block of point `t` stands in its array: the two points are two blocks of 2048 columns. -/
theorem places : ∀ t : Fin cfg0.N, win0_0.index t = ![0, 0, 0] ∧ win0_1.index t = ![t.val, 0] ∧ win0_2.index t = ![0, 0, t.val] := by
  decide +kernel

theorem points (t : Fin cfg0.N) : t.val < 2 := t.isLt

/-- The column of point `t`'s block. -/
def col (t : Fin cfg0.N) (f : Fin 2048) : Fin 4096 := ⟨2048 * t.val + f, by have := points t; omega⟩

/-- The arguments: a row of the input, a row of the weight, the rows kept before. -/
def xm (c : Dev nD) (r : Fin 32) (d : Fin 2048) : EReal := m ((c : Thread nD τ).loc main_arg0) (ix3 0 r d)
def wt (c : Dev nD) (j : Fin 4096) (d : Fin 2048) : EReal := m ((c : Thread nD τ).loc main_arg1) (ix2 ⟨j, by omega⟩ d)
def hist (c : Dev nD) (b : Fin 32) (s : Fin 3) (j : Fin 3072) : EReal := m ((c : Thread nD τ).loc main_arg2) (ix3 b s j)

theorem xm_at (c : Dev nD) (t : Fin cfg0.N) (r : Fin 32) (d : Fin 2048) : iblk m c 0 t (ix3 0 r d) = xm m c r d := by
  unfold xm; blk_ext [iblk, V, V0, places t]

theorem wt_at (c : Dev nD) (t : Fin cfg0.N) (j d : Fin 2048) : X0_1 m c t (ix2 j d) = wt m c (col t j) d := by
  unfold X0_1 Pipeline.Window.fill
  rw [dif_pos (moved0_1 t _)]
  unfold wt col; blk_ext [iblk, V, V0, places t]

/-- The block that a point writes. -/
theorem out_tile (c : Dev nD) (t : Fin cfg0.N) (r : Fin 32) (f : Fin 2048) :
    outsAt0 m c t (ix3 0 r f) = proj (xm m c r) (wt m c) (col t f) := by
  unfold outsAt0
  frame_out
  unfold proj
  pointwise [k0_pay1, xm_at, wt_at]

/-- The projected rows, from the arguments, as the call leaves them and as the group reads them. -/
def outs (c : Dev nD) : S1x32x4096.Idx → EReal := fun i => proj (xm m c (i 1)) (wt m c) (i 2)
def rows (c : Dev nD) : S32x1x4096.Idx → EReal := fun i => proj (xm m c (i 0)) (wt m c) (i 2)

/-- The last two of the rows kept before, then the new one. -/
def tailRow (c : Dev nD) (b : Fin 32) (s : Fin 3) (j : Fin 3072) : EReal :=
  if h : 1 + s.val < 3 then hist m c b ⟨1 + s, by omega⟩ j else proj (xm m c b) (wt m c) ⟨j, by omega⟩
def tails (c : Dev nD) : S1x32x3x3072.Idx → EReal := fun i => tailRow m c (i 1) (i 2) (i 3)

theorem emb2 (t : Fin cfg0.N) (y0 : Fin 1) (y1 : Fin 32) (y2 : Fin 2048) :
    ((View.whole main_v0).slice (win0_2.rect t)).emb (ix3 y0 y1 y2) = (ix3 0 y1 (col t y2) : S1x32x4096.Idx) := by
  obtain rfl : y0 = 0 := Subsingleton.elim _ _
  blk_ext [col, places t]

theorem outs_eq (c : Dev nD) : (dats m 0 c).arrAt 2 cfg0.N = outs m c := by
  refine (dats m 0 c).arrAt_eq_of_covers 2 _ (by decide +kernel) fun t hf y => ?_
  blk_simp
  rw [after0_2]
  idx_vars y
  obtain rfl : y0 = 0 := Subsingleton.elim _ _
  exact (out_tile m c t y1 y2).trans (congrArg (outs m c) (emb2 t 0 y1 y2)).symm

/-- The call's array as the lines after it find it. -/
theorem found (c : Dev nD) :
    Pipeline.withArrays (cfgs 0).spec c (V0 m c) (fun w => (dats m 0 c).arrAt w (cfgs 0).N) (Proc.devRef .tc main_v0) = outs m c :=
  (Pipeline.withArrays_arr (cfgs 0).spec (by decide) c (V0 m c) (fun w => (dats m 0 c).arrAt w (cfgs 0).N) 2).trans (outs_eq m c)

theorem found_hist (c : Dev nD) :
    Pipeline.withArrays (cfgs 0).spec c (V0 m c) (fun w => (dats m 0 c).arrAt w (cfgs 0).N) (Proc.devRef .tc main_arg2)
      = m ((c : Thread nD τ).loc main_arg2) :=
  Pipeline.withArrays_of_ne (cfgs 0).spec c (V0 m c) _ main_arg2 (by decide)

theorem rows_eq (c : Dev nD) : Pipeline.afterTail₀ cfgs (dats m) 0 (V0 m) [hostOps1] c main_v1 = rows m c := by
  have h := found m c
  unfold Pipeline.afterTail₀
  rw [show ([hostOps1] : List (List (HloOp τ sig (Elt Ideal)))).flatten = hostOps1 from rfl]
  generalize Pipeline.withArrays (cfgs 0).spec c (V0 m c) (fun w => (dats m 0 c).arrAt w (cfgs 0).N) = V at h
  unfold hostOps1
  funext i
  idx_vars i
  after_reads_at
  rw [h]
  rfl

theorem tails_eq (c : Dev nD) : Pipeline.afterTail₀ cfgs (dats m) 0 (V0 m) [hostOps1] c main_v5 = tails m c := by
  have h := found m c
  have hh := found_hist m c
  unfold Pipeline.afterTail₀
  rw [show ([hostOps1] : List (List (HloOp τ sig (Elt Ideal)))).flatten = hostOps1 from rfl]
  generalize Pipeline.withArrays (cfgs 0).spec c (V0 m c) (fun w => (dats m 0 c).arrAt w (cfgs 0).N) = V at h hh
  unfold hostOps1
  funext i
  idx_vars i
  after_reads_at
  split
  next h' =>
    after_reads_at
    rw [hh]
    show _ = tailRow m c i1 i2 i3
    unfold tailRow
    rw [dif_pos h']
    rfl
  next h' =>
    after_reads_at
    rw [h]
    show _ = tailRow m c i1 i2 i3
    unfold tailRow
    rw [dif_neg h']
    rfl

end Cert.ProjAzSampleIdeal.Val

end
-- ==== Proof.ProjAzSampleRef.lean ====
module

public import proofs.«01_k».proof.Proof.Gen.ProjAzSampleRefIdeal.Read
public import proofs.«01_k».proof.Proof.ProjSpec
public import Idealize.ShloMosaic.Lib.Pipeline.ValueKit
public import Idealize.ShloMosaic.Lib.Pointwise

/-! The reference of the sample group's projection onto the recurrence's inputs, entry by entry. -/

@[expose] public section

set_option maxRecDepth 16384

noncomputable section

namespace Cert.ProjAzSampleRefIdeal.Val

open Cert.ProjAzSampleRefIdeal Cert.ProjAzSampleRefIdeal.Read Idealize.ShloMosaic Idealize.ShloMosaic.TcCoe Idealize.SL.Sem
open Cert.ProjSpec

variable (x0 : (⟨S1x32x2048, .bf16⟩ : BufTy).Contents (Elt Ideal)) (x1 : (⟨S12800x2048, .bf16⟩ : BufTy).Contents (Elt Ideal))
    (x2 : (⟨S32x3x3072, .f32⟩ : BufTy).Contents (Elt Ideal))

theorem proj_at (a : Fin 1) (b : Fin 32) (j : Fin 4096) :
    val_main_v4 (F := Ideal) x0 x1 (ix3 a b j) = proj (fun d => x0 (ix3 0 b d)) (fun (j : Fin 4096) d => x1 (ix2 ⟨j, by omega⟩ d)) j := by
  obtain rfl : a = 0 := Subsingleton.elim _ _
  unfold proj
  pointwise [val_main_v0, val_main_v1, val_main_v2, val_main_v3, val_main_v4]

theorem out_at (b : Fin 32) (a : Fin 1) (j : Fin 4096) :
    val_main_v5 (F := Ideal) x0 x1 (ix3 b a j) = proj (fun d => x0 (ix3 0 b d)) (fun (j : Fin 4096) d => x1 (ix2 ⟨j, by omega⟩ d)) j := by
  pointwise [val_main_v5, proj_at]

theorem tail_at (a : Fin 1) (b : Fin 32) (s : Fin 3) (j : Fin 3072) :
    val_main_v9 (F := Ideal) x0 x1 x2 (ix4 a b s j)
      = if h : 1 + s.val < 3 then x2 (ix3 b ⟨1 + s, by omega⟩ j)
        else proj (fun d => x0 (ix3 0 b d)) (fun (j : Fin 4096) d => x1 (ix2 ⟨j, by omega⟩ d)) ⟨j, by omega⟩ := by
  pointwise [val_main_v6, val_main_v7, val_main_v8, val_main_v9, out_at]

end Cert.ProjAzSampleRefIdeal.Val

end
-- ==== Proof.ProjAzSampleClaim.lean ====
module

public import proofs.«01_k».proof.Defs
public import proofs.«01_k».proof.Proof.Gen.ProjAzSampleRefIdeal.Run
public import proofs.«01_k».proof.Proof.ProjAzSampleKernel
public import proofs.«01_k».proof.Proof.ProjAzSampleRef

/-! The sample group's projection onto the recurrence's inputs and its reference end with equal results. -/

@[expose] public section

set_option maxRecDepth 16384

noncomputable section

namespace Cert.ProjAzSampleClaim

open Idealize.ShloMosaic Idealize.ShloMosaic.TcCoe Idealize.SL.Sem
open Cert.ProjAzSampleIdeal Cert.ProjAzSampleIdeal.Gen Cert.ProjAzSampleIdeal.Val

variable (m : (ℓ : Loc nD τ sig) → Buf (Elt Ideal) ℓ)

theorem rows_ref (c : Dev nD) : rows m c = ProjAzSampleRefIdeal.Read.val_main_v5 (F := Ideal)
    (m ((c : Thread nD τ).loc main_arg0)) (m ((c : Thread nD τ).loc main_arg1)) := by
  funext i
  idx_vars i
  exact (ProjAzSampleRefIdeal.Val.out_at _ _ i0 i1 i2).symm

theorem tails_ref (c : Dev nD) : tails m c = ProjAzSampleRefIdeal.Read.val_main_v9 (F := Ideal)
    (m ((c : Thread nD τ).loc main_arg0)) (m ((c : Thread nD τ).loc main_arg1)) (m ((c : Thread nD τ).loc main_arg2)) := by
  funext i
  idx_vars i
  exact (ProjAzSampleRefIdeal.Val.tail_at _ _ _ i0 i1 i2 i3).symm

/-- The reference's run, its results read as its stages. -/
theorem ref_run (m' : (ℓ : Loc ProjAzSampleRefIdeal.nD ProjAzSampleRefIdeal.τ ProjAzSampleRefIdeal.sig) → Buf (Elt Ideal) ℓ)
    (g' : Dev ProjAzSampleRefIdeal.nD → PrngReg) :
    θ_run (ProjAzSampleRefIdeal.defs (F := Ideal)) (onTc (τ := ProjAzSampleRefIdeal.τ) (ProjAzSampleRefIdeal.main (F := Ideal)))
      ⟨m', fun _ => 0, g'⟩ fun r => ∀ c : Dev ProjAzSampleRefIdeal.nD,
      r.2.mem ((c.tc : Thread ProjAzSampleRefIdeal.nD ProjAzSampleRefIdeal.τ).loc ProjAzSampleRefIdeal.main_v5) = ProjAzSampleRefIdeal.Read.val_main_v5 (F := Ideal) (m' ((c.tc : Thread ProjAzSampleRefIdeal.nD ProjAzSampleRefIdeal.τ).loc ProjAzSampleRefIdeal.main_arg0)) (m' ((c.tc : Thread ProjAzSampleRefIdeal.nD ProjAzSampleRefIdeal.τ).loc ProjAzSampleRefIdeal.main_arg1))
      ∧ r.2.mem ((c.tc : Thread ProjAzSampleRefIdeal.nD ProjAzSampleRefIdeal.τ).loc ProjAzSampleRefIdeal.main_v9) = ProjAzSampleRefIdeal.Read.val_main_v9 (F := Ideal) (m' ((c.tc : Thread ProjAzSampleRefIdeal.nD ProjAzSampleRefIdeal.τ).loc ProjAzSampleRefIdeal.main_arg0)) (m' ((c.tc : Thread ProjAzSampleRefIdeal.nD ProjAzSampleRefIdeal.τ).loc ProjAzSampleRefIdeal.main_arg1)) (m' ((c.tc : Thread ProjAzSampleRefIdeal.nD ProjAzSampleRefIdeal.τ).loc ProjAzSampleRefIdeal.main_arg2))
      ∧ r.2.mem ((c.tc : Thread ProjAzSampleRefIdeal.nD ProjAzSampleRefIdeal.τ).loc ProjAzSampleRefIdeal.main_arg0) = m' ((c.tc : Thread ProjAzSampleRefIdeal.nD ProjAzSampleRefIdeal.τ).loc ProjAzSampleRefIdeal.main_arg0)
      ∧ r.2.mem ((c.tc : Thread ProjAzSampleRefIdeal.nD ProjAzSampleRefIdeal.τ).loc ProjAzSampleRefIdeal.main_arg1) = m' ((c.tc : Thread ProjAzSampleRefIdeal.nD ProjAzSampleRefIdeal.τ).loc ProjAzSampleRefIdeal.main_arg1)
      ∧ r.2.mem ((c.tc : Thread ProjAzSampleRefIdeal.nD ProjAzSampleRefIdeal.τ).loc ProjAzSampleRefIdeal.main_arg2) = m' ((c.tc : Thread ProjAzSampleRefIdeal.nD ProjAzSampleRefIdeal.τ).loc ProjAzSampleRefIdeal.main_arg2) :=
  θ_run_mono (ProjAzSampleRefIdeal.Value.run m' g') fun r h c =>
    ⟨(h c).1.trans (ProjAzSampleRefIdeal.Read.val_main_v5_eq _ _), (h c).2.1.trans (ProjAzSampleRefIdeal.Read.val_main_v9_eq _ _ _), (h c).2.2⟩

/-- The reference runs, leaves its arguments as they are, and has no semaphore. -/
theorem frame_ref : Cert.quiescent_ProjAzSampleRefIdeal := fun m' g' _ =>
  θ_run_mono (ref_run m' g') fun r h => ⟨fun c => (h c).2.2, sem_eq_zero_of_no_sems rfl r.2⟩

theorem algebraic : Cert.algebraic_ProjAzSampleIdeal_ProjAzSampleRefIdeal := by
  pair_intro
  · run_from (Cert.ProjAzSampleIdeal.Gen.run_main m g)
    exact W_main_arg2 m (dats m) c
  · run_from (ref_run m' g')
    · exact (rows_ref m c).symm.trans (rows_eq m c).symm
    · exact (tails_ref m c).symm.trans (tails_eq m c).symm

end Cert.ProjAzSampleClaim

end
-- ==== Proof.AttnProjSampleIdealRun.lean ====
module

public import proofs.«01_k».proof.Proof.Gen.AttnProjSampleIdeal.Frame
public import proofs.«01_k».proof.Proof.Gen.AttnProjSampleIdeal.Skeleton
public import Idealize.ShloMosaic.Lib.Exec
public import Idealize.ShloMosaic.Lib.Ring

/-! What the body of `AttnProjSampleIdeal` stores in each of its seven cases.

The nine column tiles of a row of tiles take one branch each: the first six a branch of their own, the last three the
same one. A branch stores four bands of 128 columns into one output's buffer and touches no other output. Each
definition below is the list of those stores, found by running the body, with the proof that the body runs on whole
buffers and leaves exactly these stores there. -/

@[expose] public section

set_option maxRecDepth 16384

noncomputable section

namespace Cert.AttnProjSampleIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnProjSampleIdeal.Gen

variable {F : FTy → Type} [FloatOps F]

local notation "𝕄" => MT nD τ sig Unit (Elt F) ℕ (UR sig nD τ) ℕ

variable (c : Dev nD) (i : grid0.Coords) (arg3 : Memref sig .tc .vmem S1x32x2048 .bf16) (harg3 : arg3.IsWhole) (arg4 : Memref sig .tc .vmem S512x2048 .bf16) (harg4 : arg4.IsWhole) (arg5 : Memref sig .tc .vmem S32x128 .f32) (harg5 : arg5.IsWhole) (arg6 : Memref sig .tc .vmem S32x128 .f32) (harg6 : arg6.IsWhole) (arg7 : Memref sig .tc .vmem S1x32x512 .f32) (harg7 : arg7.IsWhole) (arg8 : Memref sig .tc .vmem S1x32x512 .f32) (harg8 : arg8.IsWhole) (arg9 : Memref sig .tc .vmem S1x32x512 .f32) (harg9 : arg9.IsWhole) (arg10 : Memref sig .tc .vmem S1x32x512 .f32) (harg10 : arg10.IsWhole)

set_option maxHeartbeats 1000000 in
/-- The stores of the first column tile, into the buffer `arg7`, rotated. -/
def runA (hc0 : k0_cond1 i = 1#1) (hc1 : ¬k0_cond2 i = 1#1) (hc2 : ¬k0_cond3 i = 1#1) (hc3 : ¬k0_cond4 i = 1#1) (hc4 : ¬k0_cond5 i = 1#1) (hc5 : ¬k0_cond6 i = 1#1) (hc6 : ¬k0_cond7 i = 1#1)
    (x0 : Vec F S1x32x2048 .bf16) (x1 : Vec F S512x2048 .bf16) (x2 : Vec F S32x128 .f32) (x3 : Vec F S32x128 .f32) :
    { L : List (View.Piece (Elt F) S1x32x512 .f32) // ∀ (E : Set ℕ) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
          ∗ (iprop(owns (c : Thread nD τ) arg3 fullShare x0 ∗ owns (c : Thread nD τ) arg4 fullShare x1 ∗ owns (c : Thread nD τ) arg5 fullShare x2 ∗ owns (c : Thread nD τ) arg6 fullShare x3
              ∗ (∃ f, arg7.view.loc (c : Thread nD τ) ↦[arg7.view.set]{fullShare} arg7.view.writes (Elt F) f L)) -∗ K ⟨⟩))
        ⊢ wp frame (wpE (defs₀ (F := F)) Variants.none c none) E (cc0_proj_attn i arg3 harg3 arg4 harg4 arg5 harg5 arg6 harg6 arg7 harg7 arg8 harg8 arg9 harg9 arg10 harg10) K } := by
  refine ⟨?_, fun E K => ?run⟩
  case run =>
    simp only [cc0_proj_attn_eq_skeleton]; unfold cc0_proj_attn_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

/-- Those stores fill the buffer. -/
theorem coverA (hc0 : k0_cond1 i = 1#1) (hc1 : ¬k0_cond2 i = 1#1) (hc2 : ¬k0_cond3 i = 1#1) (hc3 : ¬k0_cond4 i = 1#1) (hc4 : ¬k0_cond5 i = 1#1) (hc5 : ¬k0_cond6 i = 1#1) (hc6 : ¬k0_cond7 i = 1#1)
    (x0 : Vec F S1x32x2048 .bf16) (x1 : Vec F S512x2048 .bf16) (x2 : Vec F S32x128 .f32) (x3 : Vec F S32x128 .f32) (y : S1x32x512.Idx) :
    ∃ pc ∈ (runA c i arg3 harg3 arg4 harg4 arg5 harg5 arg6 harg6 arg7 harg7 arg8 harg8 arg9 harg9 arg10 harg10 hc0 hc1 hc2 hc3 hc4 hc5 hc6 x0 x1 x2 x3).1, y ∈ pc.1.set :=
  View.cover_of_tiledL (s := S1x32x512) _ S1x32x128.size (by sl_kernel_rfl) y

set_option maxHeartbeats 1000000 in
/-- The stores of the second column tile, into the buffer `arg7`, as projected. -/
def runB (hc0 : ¬k0_cond1 i = 1#1) (hc1 : k0_cond2 i = 1#1) (hc2 : ¬k0_cond3 i = 1#1) (hc3 : ¬k0_cond4 i = 1#1) (hc4 : ¬k0_cond5 i = 1#1) (hc5 : ¬k0_cond6 i = 1#1) (hc6 : ¬k0_cond7 i = 1#1)
    (x0 : Vec F S1x32x2048 .bf16) (x1 : Vec F S512x2048 .bf16) (x2 : Vec F S32x128 .f32) (x3 : Vec F S32x128 .f32) :
    { L : List (View.Piece (Elt F) S1x32x512 .f32) // ∀ (E : Set ℕ) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
          ∗ (iprop(owns (c : Thread nD τ) arg3 fullShare x0 ∗ owns (c : Thread nD τ) arg4 fullShare x1 ∗ owns (c : Thread nD τ) arg5 fullShare x2 ∗ owns (c : Thread nD τ) arg6 fullShare x3
              ∗ (∃ f, arg7.view.loc (c : Thread nD τ) ↦[arg7.view.set]{fullShare} arg7.view.writes (Elt F) f L)) -∗ K ⟨⟩))
        ⊢ wp frame (wpE (defs₀ (F := F)) Variants.none c none) E (cc0_proj_attn i arg3 harg3 arg4 harg4 arg5 harg5 arg6 harg6 arg7 harg7 arg8 harg8 arg9 harg9 arg10 harg10) K } := by
  refine ⟨?_, fun E K => ?run⟩
  case run =>
    simp only [cc0_proj_attn_eq_skeleton]; unfold cc0_proj_attn_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

/-- Those stores fill the buffer. -/
theorem coverB (hc0 : ¬k0_cond1 i = 1#1) (hc1 : k0_cond2 i = 1#1) (hc2 : ¬k0_cond3 i = 1#1) (hc3 : ¬k0_cond4 i = 1#1) (hc4 : ¬k0_cond5 i = 1#1) (hc5 : ¬k0_cond6 i = 1#1) (hc6 : ¬k0_cond7 i = 1#1)
    (x0 : Vec F S1x32x2048 .bf16) (x1 : Vec F S512x2048 .bf16) (x2 : Vec F S32x128 .f32) (x3 : Vec F S32x128 .f32) (y : S1x32x512.Idx) :
    ∃ pc ∈ (runB c i arg3 harg3 arg4 harg4 arg5 harg5 arg6 harg6 arg7 harg7 arg8 harg8 arg9 harg9 arg10 harg10 hc0 hc1 hc2 hc3 hc4 hc5 hc6 x0 x1 x2 x3).1, y ∈ pc.1.set :=
  View.cover_of_tiledL (s := S1x32x512) _ S1x32x128.size (by sl_kernel_rfl) y

set_option maxHeartbeats 1000000 in
/-- The stores of the third column tile, into the buffer `arg8`, rotated. -/
def runC (hc0 : ¬k0_cond1 i = 1#1) (hc1 : ¬k0_cond2 i = 1#1) (hc2 : k0_cond3 i = 1#1) (hc3 : ¬k0_cond4 i = 1#1) (hc4 : ¬k0_cond5 i = 1#1) (hc5 : ¬k0_cond6 i = 1#1) (hc6 : ¬k0_cond7 i = 1#1)
    (x0 : Vec F S1x32x2048 .bf16) (x1 : Vec F S512x2048 .bf16) (x2 : Vec F S32x128 .f32) (x3 : Vec F S32x128 .f32) :
    { L : List (View.Piece (Elt F) S1x32x512 .f32) // ∀ (E : Set ℕ) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg8 fullShare d)
          ∗ (iprop(owns (c : Thread nD τ) arg3 fullShare x0 ∗ owns (c : Thread nD τ) arg4 fullShare x1 ∗ owns (c : Thread nD τ) arg5 fullShare x2 ∗ owns (c : Thread nD τ) arg6 fullShare x3
              ∗ (∃ f, arg8.view.loc (c : Thread nD τ) ↦[arg8.view.set]{fullShare} arg8.view.writes (Elt F) f L)) -∗ K ⟨⟩))
        ⊢ wp frame (wpE (defs₀ (F := F)) Variants.none c none) E (cc0_proj_attn i arg3 harg3 arg4 harg4 arg5 harg5 arg6 harg6 arg7 harg7 arg8 harg8 arg9 harg9 arg10 harg10) K } := by
  refine ⟨?_, fun E K => ?run⟩
  case run =>
    simp only [cc0_proj_attn_eq_skeleton]; unfold cc0_proj_attn_skel
    simp only [k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

/-- Those stores fill the buffer. -/
theorem coverC (hc0 : ¬k0_cond1 i = 1#1) (hc1 : ¬k0_cond2 i = 1#1) (hc2 : k0_cond3 i = 1#1) (hc3 : ¬k0_cond4 i = 1#1) (hc4 : ¬k0_cond5 i = 1#1) (hc5 : ¬k0_cond6 i = 1#1) (hc6 : ¬k0_cond7 i = 1#1)
    (x0 : Vec F S1x32x2048 .bf16) (x1 : Vec F S512x2048 .bf16) (x2 : Vec F S32x128 .f32) (x3 : Vec F S32x128 .f32) (y : S1x32x512.Idx) :
    ∃ pc ∈ (runC c i arg3 harg3 arg4 harg4 arg5 harg5 arg6 harg6 arg7 harg7 arg8 harg8 arg9 harg9 arg10 harg10 hc0 hc1 hc2 hc3 hc4 hc5 hc6 x0 x1 x2 x3).1, y ∈ pc.1.set :=
  View.cover_of_tiledL (s := S1x32x512) _ S1x32x128.size (by sl_kernel_rfl) y

set_option maxHeartbeats 1000000 in
/-- The stores of the fourth column tile, into the buffer `arg8`, as projected. -/
def runD (hc0 : ¬k0_cond1 i = 1#1) (hc1 : ¬k0_cond2 i = 1#1) (hc2 : ¬k0_cond3 i = 1#1) (hc3 : k0_cond4 i = 1#1) (hc4 : ¬k0_cond5 i = 1#1) (hc5 : ¬k0_cond6 i = 1#1) (hc6 : ¬k0_cond7 i = 1#1)
    (x0 : Vec F S1x32x2048 .bf16) (x1 : Vec F S512x2048 .bf16) (x2 : Vec F S32x128 .f32) (x3 : Vec F S32x128 .f32) :
    { L : List (View.Piece (Elt F) S1x32x512 .f32) // ∀ (E : Set ℕ) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg8 fullShare d)
          ∗ (iprop(owns (c : Thread nD τ) arg3 fullShare x0 ∗ owns (c : Thread nD τ) arg4 fullShare x1 ∗ owns (c : Thread nD τ) arg5 fullShare x2 ∗ owns (c : Thread nD τ) arg6 fullShare x3
              ∗ (∃ f, arg8.view.loc (c : Thread nD τ) ↦[arg8.view.set]{fullShare} arg8.view.writes (Elt F) f L)) -∗ K ⟨⟩))
        ⊢ wp frame (wpE (defs₀ (F := F)) Variants.none c none) E (cc0_proj_attn i arg3 harg3 arg4 harg4 arg5 harg5 arg6 harg6 arg7 harg7 arg8 harg8 arg9 harg9 arg10 harg10) K } := by
  refine ⟨?_, fun E K => ?run⟩
  case run =>
    simp only [cc0_proj_attn_eq_skeleton]; unfold cc0_proj_attn_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

/-- Those stores fill the buffer. -/
theorem coverD (hc0 : ¬k0_cond1 i = 1#1) (hc1 : ¬k0_cond2 i = 1#1) (hc2 : ¬k0_cond3 i = 1#1) (hc3 : k0_cond4 i = 1#1) (hc4 : ¬k0_cond5 i = 1#1) (hc5 : ¬k0_cond6 i = 1#1) (hc6 : ¬k0_cond7 i = 1#1)
    (x0 : Vec F S1x32x2048 .bf16) (x1 : Vec F S512x2048 .bf16) (x2 : Vec F S32x128 .f32) (x3 : Vec F S32x128 .f32) (y : S1x32x512.Idx) :
    ∃ pc ∈ (runD c i arg3 harg3 arg4 harg4 arg5 harg5 arg6 harg6 arg7 harg7 arg8 harg8 arg9 harg9 arg10 harg10 hc0 hc1 hc2 hc3 hc4 hc5 hc6 x0 x1 x2 x3).1, y ∈ pc.1.set :=
  View.cover_of_tiledL (s := S1x32x512) _ S1x32x128.size (by sl_kernel_rfl) y

set_option maxHeartbeats 1000000 in
/-- The stores of the fifth column tile, into the buffer `arg9`, rotated. -/
def runE (hc0 : ¬k0_cond1 i = 1#1) (hc1 : ¬k0_cond2 i = 1#1) (hc2 : ¬k0_cond3 i = 1#1) (hc3 : ¬k0_cond4 i = 1#1) (hc4 : k0_cond5 i = 1#1) (hc5 : ¬k0_cond6 i = 1#1) (hc6 : ¬k0_cond7 i = 1#1)
    (x0 : Vec F S1x32x2048 .bf16) (x1 : Vec F S512x2048 .bf16) (x2 : Vec F S32x128 .f32) (x3 : Vec F S32x128 .f32) :
    { L : List (View.Piece (Elt F) S1x32x512 .f32) // ∀ (E : Set ℕ) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg9 fullShare d)
          ∗ (iprop(owns (c : Thread nD τ) arg3 fullShare x0 ∗ owns (c : Thread nD τ) arg4 fullShare x1 ∗ owns (c : Thread nD τ) arg5 fullShare x2 ∗ owns (c : Thread nD τ) arg6 fullShare x3
              ∗ (∃ f, arg9.view.loc (c : Thread nD τ) ↦[arg9.view.set]{fullShare} arg9.view.writes (Elt F) f L)) -∗ K ⟨⟩))
        ⊢ wp frame (wpE (defs₀ (F := F)) Variants.none c none) E (cc0_proj_attn i arg3 harg3 arg4 harg4 arg5 harg5 arg6 harg6 arg7 harg7 arg8 harg8 arg9 harg9 arg10 harg10) K } := by
  refine ⟨?_, fun E K => ?run⟩
  case run =>
    simp only [cc0_proj_attn_eq_skeleton]; unfold cc0_proj_attn_skel
    simp only [k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

/-- Those stores fill the buffer. -/
theorem coverE (hc0 : ¬k0_cond1 i = 1#1) (hc1 : ¬k0_cond2 i = 1#1) (hc2 : ¬k0_cond3 i = 1#1) (hc3 : ¬k0_cond4 i = 1#1) (hc4 : k0_cond5 i = 1#1) (hc5 : ¬k0_cond6 i = 1#1) (hc6 : ¬k0_cond7 i = 1#1)
    (x0 : Vec F S1x32x2048 .bf16) (x1 : Vec F S512x2048 .bf16) (x2 : Vec F S32x128 .f32) (x3 : Vec F S32x128 .f32) (y : S1x32x512.Idx) :
    ∃ pc ∈ (runE c i arg3 harg3 arg4 harg4 arg5 harg5 arg6 harg6 arg7 harg7 arg8 harg8 arg9 harg9 arg10 harg10 hc0 hc1 hc2 hc3 hc4 hc5 hc6 x0 x1 x2 x3).1, y ∈ pc.1.set :=
  View.cover_of_tiledL (s := S1x32x512) _ S1x32x128.size (by sl_kernel_rfl) y

set_option maxHeartbeats 1000000 in
/-- The stores of the sixth column tile, into the buffer `arg9`, as projected. -/
def runF (hc0 : ¬k0_cond1 i = 1#1) (hc1 : ¬k0_cond2 i = 1#1) (hc2 : ¬k0_cond3 i = 1#1) (hc3 : ¬k0_cond4 i = 1#1) (hc4 : ¬k0_cond5 i = 1#1) (hc5 : k0_cond6 i = 1#1) (hc6 : ¬k0_cond7 i = 1#1)
    (x0 : Vec F S1x32x2048 .bf16) (x1 : Vec F S512x2048 .bf16) (x2 : Vec F S32x128 .f32) (x3 : Vec F S32x128 .f32) :
    { L : List (View.Piece (Elt F) S1x32x512 .f32) // ∀ (E : Set ℕ) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg9 fullShare d)
          ∗ (iprop(owns (c : Thread nD τ) arg3 fullShare x0 ∗ owns (c : Thread nD τ) arg4 fullShare x1 ∗ owns (c : Thread nD τ) arg5 fullShare x2 ∗ owns (c : Thread nD τ) arg6 fullShare x3
              ∗ (∃ f, arg9.view.loc (c : Thread nD τ) ↦[arg9.view.set]{fullShare} arg9.view.writes (Elt F) f L)) -∗ K ⟨⟩))
        ⊢ wp frame (wpE (defs₀ (F := F)) Variants.none c none) E (cc0_proj_attn i arg3 harg3 arg4 harg4 arg5 harg5 arg6 harg6 arg7 harg7 arg8 harg8 arg9 harg9 arg10 harg10) K } := by
  refine ⟨?_, fun E K => ?run⟩
  case run =>
    simp only [cc0_proj_attn_eq_skeleton]; unfold cc0_proj_attn_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

/-- Those stores fill the buffer. -/
theorem coverF (hc0 : ¬k0_cond1 i = 1#1) (hc1 : ¬k0_cond2 i = 1#1) (hc2 : ¬k0_cond3 i = 1#1) (hc3 : ¬k0_cond4 i = 1#1) (hc4 : ¬k0_cond5 i = 1#1) (hc5 : k0_cond6 i = 1#1) (hc6 : ¬k0_cond7 i = 1#1)
    (x0 : Vec F S1x32x2048 .bf16) (x1 : Vec F S512x2048 .bf16) (x2 : Vec F S32x128 .f32) (x3 : Vec F S32x128 .f32) (y : S1x32x512.Idx) :
    ∃ pc ∈ (runF c i arg3 harg3 arg4 harg4 arg5 harg5 arg6 harg6 arg7 harg7 arg8 harg8 arg9 harg9 arg10 harg10 hc0 hc1 hc2 hc3 hc4 hc5 hc6 x0 x1 x2 x3).1, y ∈ pc.1.set :=
  View.cover_of_tiledL (s := S1x32x512) _ S1x32x128.size (by sl_kernel_rfl) y

set_option maxHeartbeats 1000000 in
/-- The stores of the last three column tiles, into the buffer `arg10`, rotated. -/
def runG (hc0 : ¬k0_cond1 i = 1#1) (hc1 : ¬k0_cond2 i = 1#1) (hc2 : ¬k0_cond3 i = 1#1) (hc3 : ¬k0_cond4 i = 1#1) (hc4 : ¬k0_cond5 i = 1#1) (hc5 : ¬k0_cond6 i = 1#1) (hc6 : k0_cond7 i = 1#1)
    (x0 : Vec F S1x32x2048 .bf16) (x1 : Vec F S512x2048 .bf16) (x2 : Vec F S32x128 .f32) (x3 : Vec F S32x128 .f32) :
    { L : List (View.Piece (Elt F) S1x32x512 .f32) // ∀ (E : Set ℕ) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg10 fullShare d)
          ∗ (iprop(owns (c : Thread nD τ) arg3 fullShare x0 ∗ owns (c : Thread nD τ) arg4 fullShare x1 ∗ owns (c : Thread nD τ) arg5 fullShare x2 ∗ owns (c : Thread nD τ) arg6 fullShare x3
              ∗ (∃ f, arg10.view.loc (c : Thread nD τ) ↦[arg10.view.set]{fullShare} arg10.view.writes (Elt F) f L)) -∗ K ⟨⟩))
        ⊢ wp frame (wpE (defs₀ (F := F)) Variants.none c none) E (cc0_proj_attn i arg3 harg3 arg4 harg4 arg5 harg5 arg6 harg6 arg7 harg7 arg8 harg8 arg9 harg9 arg10 harg10) K } := by
  refine ⟨?_, fun E K => ?run⟩
  case run =>
    simp only [cc0_proj_attn_eq_skeleton]; unfold cc0_proj_attn_skel
    simp only [k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

/-- Those stores fill the buffer. -/
theorem coverG (hc0 : ¬k0_cond1 i = 1#1) (hc1 : ¬k0_cond2 i = 1#1) (hc2 : ¬k0_cond3 i = 1#1) (hc3 : ¬k0_cond4 i = 1#1) (hc4 : ¬k0_cond5 i = 1#1) (hc5 : ¬k0_cond6 i = 1#1) (hc6 : k0_cond7 i = 1#1)
    (x0 : Vec F S1x32x2048 .bf16) (x1 : Vec F S512x2048 .bf16) (x2 : Vec F S32x128 .f32) (x3 : Vec F S32x128 .f32) (y : S1x32x512.Idx) :
    ∃ pc ∈ (runG c i arg3 harg3 arg4 harg4 arg5 harg5 arg6 harg6 arg7 harg7 arg8 harg8 arg9 harg9 arg10 harg10 hc0 hc1 hc2 hc3 hc4 hc5 hc6 x0 x1 x2 x3).1, y ∈ pc.1.set :=
  View.cover_of_tiledL (s := S1x32x512) _ S1x32x128.size (by sl_kernel_rfl) y

end Cert.AttnProjSampleIdeal.Hand

end
-- ==== Proof.AttnProjSampleIdealHand.lean ====
module

public import proofs.«01_k».proof.Proof.AttnProjSampleIdealRun
public import Idealize.ShloMosaic.Lib.Pipeline.FrameBody
public import Idealize.ShloMosaic.Lib.Pipeline.FrameSuffix
public import Idealize.ShloMosaic.Lib.Pipeline.TableIdle
public import Idealize.ShloMosaic.Lib.Claim

/-! The frame of `AttnProjSampleIdeal`.

Each output's buffer is stored at its own column tiles and left alone at the others, and is written back once more at
the end of the row of tiles, where the body stores nothing in it. What it holds at every tile is therefore named by the
last tile that stored it: `src0`, `src1`, `src2` for the three outputs of keys and values, and the tile itself for the
queries. With that the body's triple holds at every tile, and the launch gives the frame. -/

@[expose] public section

set_option maxRecDepth 16384

noncomputable section

namespace Cert.AttnProjSampleIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnProjSampleIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tiles: conditions, idle outputs, write-backs -/

theorem size (t : Fin cfg0.N) : t.val < 9 := lt_of_lt_of_eq t.isLt (show cfg0.N = 9 from N_0)

theorem cond0 : ∀ t : Fin cfg0.N, k0_cond1 (grid0.coords t) = 1#1 ↔ t.val % 9 = 0 :=
  (by decide +kernel : ∀ t : Fin grid0.N, k0_cond1 (grid0.coords t) = 1#1 ↔ t.val % 9 = 0)
theorem cond1 : ∀ t : Fin cfg0.N, k0_cond2 (grid0.coords t) = 1#1 ↔ t.val % 9 = 1 :=
  (by decide +kernel : ∀ t : Fin grid0.N, k0_cond2 (grid0.coords t) = 1#1 ↔ t.val % 9 = 1)
theorem cond2 : ∀ t : Fin cfg0.N, k0_cond3 (grid0.coords t) = 1#1 ↔ t.val % 9 = 2 :=
  (by decide +kernel : ∀ t : Fin grid0.N, k0_cond3 (grid0.coords t) = 1#1 ↔ t.val % 9 = 2)
theorem cond3 : ∀ t : Fin cfg0.N, k0_cond4 (grid0.coords t) = 1#1 ↔ t.val % 9 = 3 :=
  (by decide +kernel : ∀ t : Fin grid0.N, k0_cond4 (grid0.coords t) = 1#1 ↔ t.val % 9 = 3)
theorem cond4 : ∀ t : Fin cfg0.N, k0_cond5 (grid0.coords t) = 1#1 ↔ t.val % 9 = 4 :=
  (by decide +kernel : ∀ t : Fin grid0.N, k0_cond5 (grid0.coords t) = 1#1 ↔ t.val % 9 = 4)
theorem cond5 : ∀ t : Fin cfg0.N, k0_cond6 (grid0.coords t) = 1#1 ↔ t.val % 9 = 5 :=
  (by decide +kernel : ∀ t : Fin grid0.N, k0_cond6 (grid0.coords t) = 1#1 ↔ t.val % 9 = 5)
theorem cond6 : ∀ t : Fin cfg0.N, k0_cond7 (grid0.coords t) = 1#1 ↔ 6 ≤ t.val % 9 :=
  (by decide +kernel : ∀ t : Fin grid0.N, k0_cond7 (grid0.coords t) = 1#1 ↔ 6 ≤ t.val % 9)

/-- Where output 4 is not stored, and where it is written back. -/
theorem idle4 : ∀ t : Fin cfg0.N, cfg0.idle 4 (cfg0.grid.coords t) = decide (2 ≤ t.val % 9) :=
  (by decide +kernel : ∀ t : Fin grid0.N, idle0 4 (grid0.coords t) = decide (2 ≤ t.val % 9))
theorem flush4 : ∀ t : Fin cfg0.N, (cfg0.win 4).flush t = decide (t.val % 9 = 0 ∨ t.val % 9 = 8) :=
  fun t => (Window.flush_eq_flushF win0_4 t).trans
    ((by decide +kernel : ∀ t : Fin grid0.N, win0_4.flushF t = decide (t.val % 9 = 0 ∨ t.val % 9 = 8)) t)

/-- Where output 5 is not stored, and where it is written back. -/
theorem idle5 : ∀ t : Fin cfg0.N, cfg0.idle 5 (cfg0.grid.coords t) = decide (t.val % 9 < 2 ∨ 4 ≤ t.val % 9) :=
  (by decide +kernel : ∀ t : Fin grid0.N, idle0 5 (grid0.coords t) = decide (t.val % 9 < 2 ∨ 4 ≤ t.val % 9))
theorem flush5 : ∀ t : Fin cfg0.N, (cfg0.win 5).flush t = decide (t.val % 9 = 2 ∨ t.val % 9 = 8) :=
  fun t => (Window.flush_eq_flushF win0_5 t).trans
    ((by decide +kernel : ∀ t : Fin grid0.N, win0_5.flushF t = decide (t.val % 9 = 2 ∨ t.val % 9 = 8)) t)

/-- Where output 6 is not stored, and where it is written back. -/
theorem idle6 : ∀ t : Fin cfg0.N, cfg0.idle 6 (cfg0.grid.coords t) = decide (t.val % 9 < 4 ∨ 6 ≤ t.val % 9) :=
  (by decide +kernel : ∀ t : Fin grid0.N, idle0 6 (grid0.coords t) = decide (t.val % 9 < 4 ∨ 6 ≤ t.val % 9))
theorem flush6 : ∀ t : Fin cfg0.N, (cfg0.win 6).flush t = decide (t.val % 9 = 4 ∨ t.val % 9 = 8) :=
  fun t => (Window.flush_eq_flushF win0_6 t).trans
    ((by decide +kernel : ∀ t : Fin grid0.N, win0_6.flushF t = decide (t.val % 9 = 4 ∨ t.val % 9 = 8)) t)

/-- Where output 7 is not stored, and where it is written back. -/
theorem idle7 : ∀ t : Fin cfg0.N, cfg0.idle 7 (cfg0.grid.coords t) = decide (t.val % 9 < 6) :=
  (by decide +kernel : ∀ t : Fin grid0.N, idle0 7 (grid0.coords t) = decide (t.val % 9 < 6))
theorem flush7 : ∀ t : Fin cfg0.N, (cfg0.win 7).flush t = decide (6 ≤ t.val % 9) :=
  fun t => (Window.flush_eq_flushF win0_7 t).trans
    ((by decide +kernel : ∀ t : Fin grid0.N, win0_7.flushF t = decide (6 ≤ t.val % 9)) t)

/-- Output 4's buffer holds nothing named until the row's tile 1 has stored it again. -/
theorem fresh4 (n : ℕ) (h : n ≤ cfg0.N) : cfg0.fresh 4 n = decide (n % 9 ≤ 1) :=
  cfg0.fresh_tab 4 (fun n => decide (n % 9 ≤ 1)) (by decide) (fun t => by
    rw [flush4, idle4, ← Bool.decide_and, ← Bool.decide_or, decide_eq_decide]; omega) n h

/-- Output 5's buffer holds nothing named until the row's tile 3 has stored it again. -/
theorem fresh5 (n : ℕ) (h : n ≤ cfg0.N) : cfg0.fresh 5 n = decide (n % 9 ≤ 3) :=
  cfg0.fresh_tab 5 (fun n => decide (n % 9 ≤ 3)) (by decide) (fun t => by
    rw [flush5, idle5, ← Bool.decide_and, ← Bool.decide_or, decide_eq_decide]; omega) n h

/-- Output 6's buffer holds nothing named until the row's tile 5 has stored it again. -/
theorem fresh6 (n : ℕ) (h : n ≤ cfg0.N) : cfg0.fresh 6 n = decide (n % 9 ≤ 5) :=
  cfg0.fresh_tab 6 (fun n => decide (n % 9 ≤ 5)) (by decide) (fun t => by
    rw [flush6, idle6, ← Bool.decide_and, ← Bool.decide_or, decide_eq_decide]; omega) n h

/-! ## The buffers at a tile -/

abbrev ms0 (t : Fin cfg0.N) : Memref sig .tc .vmem S1x32x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x2048 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S32x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S32x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x32x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x32x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x32x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x32x512 .f32 := win0_7.stage (cfg0.slots t 7)
abbrev hs7 (t : Fin cfg0.N) : (ms7 t).IsWhole := hstage0_7 ((cfg0.slots t 7).cast nbuf0_7)
abbrev VO4 : View sig .tc .vmem S1x32x512 .f32 := (Memref.whole cc0_stg4_0 : Memref sig .tc .vmem S1x32x512 .f32).view
abbrev VO5 : View sig .tc .vmem S1x32x512 .f32 := (Memref.whole cc0_stg5_0 : Memref sig .tc .vmem S1x32x512 .f32).view
abbrev VO6 : View sig .tc .vmem S1x32x512 .f32 := (Memref.whole cc0_stg6_0 : Memref sig .tc .vmem S1x32x512 .f32).view
abbrev VO7 : View sig .tc .vmem S1x32x512 .f32 := (Memref.whole cc0_stg7_0 : Memref sig .tc .vmem S1x32x512 .f32).view

/-- What a tile of case A leaves in output 4's buffer. -/
def blkA (c : Dev nD) (t : Fin cfg0.N) (h : t.val % 9 = 0) : Vec F S1x32x512 .f32 :=
  VO4.read (Elt F) (VO4.writes (Elt F) VO4.junk (runA c (grid0.coords t) (ms0 t) (hs0 t) (ms1 t) (hs1 t) (ms2 t) (hs2 t) (ms3 t) (hs3 t) (ms4 t) (hs4 t) (ms5 t) (hs5 t) (ms6 t) (hs6 t) (ms7 t) (hs7 t)
    ((cond0 t).mpr h) (fun e => by have := (cond1 t).mp e; omega) (fun e => by have := (cond2 t).mp e; omega) (fun e => by have := (cond3 t).mp e; omega) (fun e => by have := (cond4 t).mp e; omega) (fun e => by have := (cond5 t).mp e; omega) (fun e => by have := (cond6 t).mp e; omega)
    (iblk m c 0 t) (iblk m c 1 t) (iblk m c 2 t) (iblk m c 3 t)).1)

/-- What a tile of case B leaves in output 4's buffer. -/
def blkB (c : Dev nD) (t : Fin cfg0.N) (h : t.val % 9 = 1) : Vec F S1x32x512 .f32 :=
  VO4.read (Elt F) (VO4.writes (Elt F) VO4.junk (runB c (grid0.coords t) (ms0 t) (hs0 t) (ms1 t) (hs1 t) (ms2 t) (hs2 t) (ms3 t) (hs3 t) (ms4 t) (hs4 t) (ms5 t) (hs5 t) (ms6 t) (hs6 t) (ms7 t) (hs7 t)
    (fun e => by have := (cond0 t).mp e; omega) ((cond1 t).mpr h) (fun e => by have := (cond2 t).mp e; omega) (fun e => by have := (cond3 t).mp e; omega) (fun e => by have := (cond4 t).mp e; omega) (fun e => by have := (cond5 t).mp e; omega) (fun e => by have := (cond6 t).mp e; omega)
    (iblk m c 0 t) (iblk m c 1 t) (iblk m c 2 t) (iblk m c 3 t)).1)

/-- What a tile of case C leaves in output 5's buffer. -/
def blkC (c : Dev nD) (t : Fin cfg0.N) (h : t.val % 9 = 2) : Vec F S1x32x512 .f32 :=
  VO5.read (Elt F) (VO5.writes (Elt F) VO5.junk (runC c (grid0.coords t) (ms0 t) (hs0 t) (ms1 t) (hs1 t) (ms2 t) (hs2 t) (ms3 t) (hs3 t) (ms4 t) (hs4 t) (ms5 t) (hs5 t) (ms6 t) (hs6 t) (ms7 t) (hs7 t)
    (fun e => by have := (cond0 t).mp e; omega) (fun e => by have := (cond1 t).mp e; omega) ((cond2 t).mpr h) (fun e => by have := (cond3 t).mp e; omega) (fun e => by have := (cond4 t).mp e; omega) (fun e => by have := (cond5 t).mp e; omega) (fun e => by have := (cond6 t).mp e; omega)
    (iblk m c 0 t) (iblk m c 1 t) (iblk m c 2 t) (iblk m c 3 t)).1)

/-- What a tile of case D leaves in output 5's buffer. -/
def blkD (c : Dev nD) (t : Fin cfg0.N) (h : t.val % 9 = 3) : Vec F S1x32x512 .f32 :=
  VO5.read (Elt F) (VO5.writes (Elt F) VO5.junk (runD c (grid0.coords t) (ms0 t) (hs0 t) (ms1 t) (hs1 t) (ms2 t) (hs2 t) (ms3 t) (hs3 t) (ms4 t) (hs4 t) (ms5 t) (hs5 t) (ms6 t) (hs6 t) (ms7 t) (hs7 t)
    (fun e => by have := (cond0 t).mp e; omega) (fun e => by have := (cond1 t).mp e; omega) (fun e => by have := (cond2 t).mp e; omega) ((cond3 t).mpr h) (fun e => by have := (cond4 t).mp e; omega) (fun e => by have := (cond5 t).mp e; omega) (fun e => by have := (cond6 t).mp e; omega)
    (iblk m c 0 t) (iblk m c 1 t) (iblk m c 2 t) (iblk m c 3 t)).1)

/-- What a tile of case E leaves in output 6's buffer. -/
def blkE (c : Dev nD) (t : Fin cfg0.N) (h : t.val % 9 = 4) : Vec F S1x32x512 .f32 :=
  VO6.read (Elt F) (VO6.writes (Elt F) VO6.junk (runE c (grid0.coords t) (ms0 t) (hs0 t) (ms1 t) (hs1 t) (ms2 t) (hs2 t) (ms3 t) (hs3 t) (ms4 t) (hs4 t) (ms5 t) (hs5 t) (ms6 t) (hs6 t) (ms7 t) (hs7 t)
    (fun e => by have := (cond0 t).mp e; omega) (fun e => by have := (cond1 t).mp e; omega) (fun e => by have := (cond2 t).mp e; omega) (fun e => by have := (cond3 t).mp e; omega) ((cond4 t).mpr h) (fun e => by have := (cond5 t).mp e; omega) (fun e => by have := (cond6 t).mp e; omega)
    (iblk m c 0 t) (iblk m c 1 t) (iblk m c 2 t) (iblk m c 3 t)).1)

/-- What a tile of case F leaves in output 6's buffer. -/
def blkF (c : Dev nD) (t : Fin cfg0.N) (h : t.val % 9 = 5) : Vec F S1x32x512 .f32 :=
  VO6.read (Elt F) (VO6.writes (Elt F) VO6.junk (runF c (grid0.coords t) (ms0 t) (hs0 t) (ms1 t) (hs1 t) (ms2 t) (hs2 t) (ms3 t) (hs3 t) (ms4 t) (hs4 t) (ms5 t) (hs5 t) (ms6 t) (hs6 t) (ms7 t) (hs7 t)
    (fun e => by have := (cond0 t).mp e; omega) (fun e => by have := (cond1 t).mp e; omega) (fun e => by have := (cond2 t).mp e; omega) (fun e => by have := (cond3 t).mp e; omega) (fun e => by have := (cond4 t).mp e; omega) ((cond5 t).mpr h) (fun e => by have := (cond6 t).mp e; omega)
    (iblk m c 0 t) (iblk m c 1 t) (iblk m c 2 t) (iblk m c 3 t)).1)

/-- What a tile of case G leaves in output 7's buffer. -/
def blkG (c : Dev nD) (t : Fin cfg0.N) (h : 6 ≤ t.val % 9) : Vec F S1x32x512 .f32 :=
  VO7.read (Elt F) (VO7.writes (Elt F) VO7.junk (runG c (grid0.coords t) (ms0 t) (hs0 t) (ms1 t) (hs1 t) (ms2 t) (hs2 t) (ms3 t) (hs3 t) (ms4 t) (hs4 t) (ms5 t) (hs5 t) (ms6 t) (hs6 t) (ms7 t) (hs7 t)
    (fun e => by have := (cond0 t).mp e; omega) (fun e => by have := (cond1 t).mp e; omega) (fun e => by have := (cond2 t).mp e; omega) (fun e => by have := (cond3 t).mp e; omega) (fun e => by have := (cond4 t).mp e; omega) (fun e => by have := (cond5 t).mp e; omega) ((cond6 t).mpr h)
    (iblk m c 0 t) (iblk m c 1 t) (iblk m c 2 t) (iblk m c 3 t)).1)

/-- Output 4's block as its tile leaves it. -/
def blk0 (c : Dev nD) (t : Fin cfg0.N) : Vec F S1x32x512 .f32 :=
  if h : t.val % 9 = 0 then blkA m c t h else if h : t.val % 9 = 1 then blkB m c t h else VO4.read (Elt F) VO4.junk
theorem blk0_fst (c : Dev nD) (t : Fin cfg0.N) (h : t.val % 9 = 0) : blk0 m c t = blkA m c t h := dif_pos h
theorem blk0_snd (c : Dev nD) (t : Fin cfg0.N) (h : t.val % 9 = 1) : blk0 m c t = blkB m c t h := by
  unfold blk0; rw [dif_neg (by omega), dif_pos h]
/-- The tile whose block output 4's buffer holds at `t`. -/
def src0 (t : Fin cfg0.N) : Fin cfg0.N :=
  ⟨t.val / 9 * 9 + min (max (t.val % 9) 0) 1, by
    have := size t; have e : cfg0.N = 9 := N_0; omega⟩
theorem src0_self (t : Fin cfg0.N) (h : t.val % 9 = 0 ∨ t.val % 9 = 1) : src0 t = t :=
  Fin.ext (by show t.val / 9 * 9 + min (max (t.val % 9) 0) 1 = t.val; omega)
theorem src0_pred (t : Fin cfg0.N) (h : 1 < t.val % 9) (h' : t.val - 1 < cfg0.N) : src0 t = src0 ⟨t.val - 1, h'⟩ :=
  Fin.ext (by
    show t.val / 9 * 9 + min (max (t.val % 9) 0) 1
      = (t.val - 1) / 9 * 9 + min (max ((t.val - 1) % 9) 0) 1
    omega)

/-- Output 5's block as its tile leaves it. -/
def blk1 (c : Dev nD) (t : Fin cfg0.N) : Vec F S1x32x512 .f32 :=
  if h : t.val % 9 = 2 then blkC m c t h else if h : t.val % 9 = 3 then blkD m c t h else VO5.read (Elt F) VO5.junk
theorem blk1_fst (c : Dev nD) (t : Fin cfg0.N) (h : t.val % 9 = 2) : blk1 m c t = blkC m c t h := dif_pos h
theorem blk1_snd (c : Dev nD) (t : Fin cfg0.N) (h : t.val % 9 = 3) : blk1 m c t = blkD m c t h := by
  unfold blk1; rw [dif_neg (by omega), dif_pos h]
/-- The tile whose block output 5's buffer holds at `t`. -/
def src1 (t : Fin cfg0.N) : Fin cfg0.N :=
  ⟨t.val / 9 * 9 + min (max (t.val % 9) 2) 3, by
    have := size t; have e : cfg0.N = 9 := N_0; omega⟩
theorem src1_self (t : Fin cfg0.N) (h : t.val % 9 = 2 ∨ t.val % 9 = 3) : src1 t = t :=
  Fin.ext (by show t.val / 9 * 9 + min (max (t.val % 9) 2) 3 = t.val; omega)
theorem src1_pred (t : Fin cfg0.N) (h : 3 < t.val % 9) (h' : t.val - 1 < cfg0.N) : src1 t = src1 ⟨t.val - 1, h'⟩ :=
  Fin.ext (by
    show t.val / 9 * 9 + min (max (t.val % 9) 2) 3
      = (t.val - 1) / 9 * 9 + min (max ((t.val - 1) % 9) 2) 3
    omega)

/-- Output 6's block as its tile leaves it. -/
def blk2 (c : Dev nD) (t : Fin cfg0.N) : Vec F S1x32x512 .f32 :=
  if h : t.val % 9 = 4 then blkE m c t h else if h : t.val % 9 = 5 then blkF m c t h else VO6.read (Elt F) VO6.junk
theorem blk2_fst (c : Dev nD) (t : Fin cfg0.N) (h : t.val % 9 = 4) : blk2 m c t = blkE m c t h := dif_pos h
theorem blk2_snd (c : Dev nD) (t : Fin cfg0.N) (h : t.val % 9 = 5) : blk2 m c t = blkF m c t h := by
  unfold blk2; rw [dif_neg (by omega), dif_pos h]
/-- The tile whose block output 6's buffer holds at `t`. -/
def src2 (t : Fin cfg0.N) : Fin cfg0.N :=
  ⟨t.val / 9 * 9 + min (max (t.val % 9) 4) 5, by
    have := size t; have e : cfg0.N = 9 := N_0; omega⟩
theorem src2_self (t : Fin cfg0.N) (h : t.val % 9 = 4 ∨ t.val % 9 = 5) : src2 t = t :=
  Fin.ext (by show t.val / 9 * 9 + min (max (t.val % 9) 4) 5 = t.val; omega)
theorem src2_pred (t : Fin cfg0.N) (h : 5 < t.val % 9) (h' : t.val - 1 < cfg0.N) : src2 t = src2 ⟨t.val - 1, h'⟩ :=
  Fin.ext (by
    show t.val / 9 * 9 + min (max (t.val % 9) 4) 5
      = (t.val - 1) / 9 * 9 + min (max ((t.val - 1) % 9) 4) 5
    omega)

/-- The block of queries as its tile leaves it. -/
def blk3 (c : Dev nD) (t : Fin cfg0.N) : Vec F S1x32x512 .f32 :=
  if h : 6 ≤ t.val % 9 then blkG m c t h else VO7.read (Elt F) VO7.junk
theorem blk3_live (c : Dev nD) (t : Fin cfg0.N) (h : 6 ≤ t.val % 9) : blk3 m c t = blkG m c t h := dif_pos h

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blk0 m c (src0 t)
    | ⟨5, _⟩ => blk1 m c (src1 t)
    | ⟨6, _⟩ => blk2 m c (src2 t)
    | ⟨7, _⟩ => blk3 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = blk0 m c (src0 t) := by dsimp only [dats]
theorem after5 (c : Dev nD) (t : Fin cfg0.N) : (dats m 0 c).after 5 t = blk1 m c (src1 t) := by dsimp only [dats]
theorem after6 (c : Dev nD) (t : Fin cfg0.N) : (dats m 0 c).after 6 t = blk2 m c (src2 t) := by dsimp only [dats]
theorem after7 (c : Dev nD) (t : Fin cfg0.N) : (dats m 0 c).after 7 t = blk3 m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- At the row's last tile output 4's buffer still holds the block its own last tile stored. -/
theorem before4_last (c : Dev nD) (t : Fin cfg0.N) (h : t.val % 9 = 8) (d) :
    (dats m 0 c).before 4 t d = (dats m 0 c).after 4 t := by
  rw [(dats m 0 c).before_out_traj 4 rfl (fun _ _ => rfl) (fun t _ _ hf => by
      rw [fresh4 t.val (le_of_lt t.isLt), decide_eq_false_iff_not] at hf
      rw [after4, after4, src0_pred t (by omega)]) t.val t rfl d,
    fresh4 t.val (le_of_lt t.isLt), if_neg (by rw [decide_eq_true_iff]; omega), after4, after4, ← src0_pred t (by omega)]

/-- At the row's last tile output 5's buffer still holds the block its own last tile stored. -/
theorem before5_last (c : Dev nD) (t : Fin cfg0.N) (h : t.val % 9 = 8) (d) :
    (dats m 0 c).before 5 t d = (dats m 0 c).after 5 t := by
  rw [(dats m 0 c).before_out_traj 5 rfl (fun _ _ => rfl) (fun t _ _ hf => by
      rw [fresh5 t.val (le_of_lt t.isLt), decide_eq_false_iff_not] at hf
      rw [after5, after5, src1_pred t (by omega)]) t.val t rfl d,
    fresh5 t.val (le_of_lt t.isLt), if_neg (by rw [decide_eq_true_iff]; omega), after5, after5, ← src1_pred t (by omega)]

/-- At the row's last tile output 6's buffer still holds the block its own last tile stored. -/
theorem before6_last (c : Dev nD) (t : Fin cfg0.N) (h : t.val % 9 = 8) (d) :
    (dats m 0 c).before 6 t d = (dats m 0 c).after 6 t := by
  rw [(dats m 0 c).before_out_traj 6 rfl (fun _ _ => rfl) (fun t _ _ hf => by
      rw [fresh6 t.val (le_of_lt t.isLt), decide_eq_false_iff_not] at hf
      rw [after6, after6, src2_pred t (by omega)]) t.val t rfl d,
    fresh6 t.val (le_of_lt t.isLt), if_neg (by rw [decide_eq_true_iff]; omega), after6, after6, ← src2_pred t (by omega)]

/-- A buffer the tile stores is handed back at its named contents. -/
theorem leaves_live (c : Dev nD) (w : Fin cfg0.W) (t : Fin cfg0.N) (hi : cfg0.idle w (cfg0.grid.coords t) = false) :
    (dats m 0 c).leavesExact w t
      = owns (c : Thread nD τ) ((cfg0.win w).stage (cfg0.slots t w)) fullShare ((dats m 0 c).after w t) := by
  unfold Dat.leavesExact; rw [hi]

/-- A buffer the tile leaves alone is handed back as it was found: where it is written back, at its named contents. -/
theorem leaves_kept (c : Dev nD) (w : Fin cfg0.W) (t : Fin cfg0.N) (hi : cfg0.idle w (cfg0.grid.coords t) = true)
    (hb : (cfg0.win w).flush t = true → ∀ d, (dats m 0 c).before w t d = (dats m 0 c).after w t)
    (d : (cfg0.win w).block.Idx → Elt F (cfg0.win w).elt) :
    owns (c : Thread nD τ) ((cfg0.win w).stage (cfg0.slots t w)) fullShare ((dats m 0 c).before w t d)
      ⊢ (dats m 0 c).leavesExact w t := by
  cases hf : (cfg0.win w).flush t with
  | false =>
    rw [Dat.leavesExact_idle (dats m 0 c) w t hi hf]
    iintro H; iexists _; iexact H
  | true =>
    unfold Dat.leavesExact; rw [hi, hf, hb hf d]

theorem keep4 (c : Dev nD) (t : Fin cfg0.N) (h : 2 ≤ t.val % 9) (d : (cfg0.win 4).block.Idx → Elt F (cfg0.win 4).elt) :
    owns (c : Thread nD τ) (ms4 t) fullShare ((dats m 0 c).before 4 t d) ⊢ (dats m 0 c).leavesExact 4 t :=
  leaves_kept m c 4 t (by rw [idle4]; exact decide_eq_true h) (fun hf => before4_last m c t (by rw [flush4, decide_eq_true_iff] at hf; omega)) d

theorem keep5 (c : Dev nD) (t : Fin cfg0.N) (h : t.val % 9 < 2 ∨ 4 ≤ t.val % 9) (d : (cfg0.win 5).block.Idx → Elt F (cfg0.win 5).elt) :
    owns (c : Thread nD τ) (ms5 t) fullShare ((dats m 0 c).before 5 t d) ⊢ (dats m 0 c).leavesExact 5 t :=
  leaves_kept m c 5 t (by rw [idle5]; exact decide_eq_true h) (fun hf => before5_last m c t (by rw [flush5, decide_eq_true_iff] at hf; omega)) d

theorem keep6 (c : Dev nD) (t : Fin cfg0.N) (h : t.val % 9 < 4 ∨ 6 ≤ t.val % 9) (d : (cfg0.win 6).block.Idx → Elt F (cfg0.win 6).elt) :
    owns (c : Thread nD τ) (ms6 t) fullShare ((dats m 0 c).before 6 t d) ⊢ (dats m 0 c).leavesExact 6 t :=
  leaves_kept m c 6 t (by rw [idle6]; exact decide_eq_true h) (fun hf => before6_last m c t (by rw [flush6, decide_eq_true_iff] at hf; omega)) d

theorem keep7 (c : Dev nD) (t : Fin cfg0.N) (h : t.val % 9 < 6) (d : (cfg0.win 7).block.Idx → Elt F (cfg0.win 7).elt) :
    owns (c : Thread nD τ) (ms7 t) fullShare ((dats m 0 c).before 7 t d) ⊢ (dats m 0 c).leavesExact 7 t :=
  leaves_kept m c 7 t (by rw [idle7]; exact decide_eq_true h) (fun hf => absurd hf (by rw [flush7, decide_eq_true_iff]; omega)) d

/-! ## The body at a tile -/

/-- What the body is called with at a tile, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
theorem bodyA (c : Dev nD) (t : Fin cfg0.N) (h : t.val % 9 = 0) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    leaves_live m c 0 t rfl, leaves_live m c 1 t rfl, leaves_live m c 2 t rfl, leaves_live m c 3 t rfl,
    leaves_live m c 4 t (by rw [idle4]; exact decide_eq_false (by omega)), after0, after1, after2, after3, after4, src0_self t (by omega), blk0_fst m c t h]
  unfold blkA
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t)
    ((cond0 t).mpr h) (fun e => by have := (cond1 t).mp e; omega) (fun e => by have := (cond2 t).mp e; omega) (fun e => by have := (cond3 t).mp e; omega) (fun e => by have := (cond4 t).mp e; omega) (fun e => by have := (cond5 t).mp e; omega) (fun e => by have := (cond6 t).mp e; omega)
    (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e, H4⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr; swap
    · iexact H4
    ipureintro; exact View.read_writes_of_cover _ _ _ _ _ (coverA c _ _ _ _ _ _ _ _ _ _ _ _ _ _ _ _ _ _ _ _ _ _ _ _ _ _ _ _ )
  isplitl [H5]
  · iapply (keep5 m c t (by omega) d5); iexact H5
  isplitl [H6]
  · iapply (keep6 m c t (by omega) d6); iexact H6
  iapply (keep7 m c t (by omega) d7); iexact H7

set_option maxHeartbeats 1600000 in
theorem bodyB (c : Dev nD) (t : Fin cfg0.N) (h : t.val % 9 = 1) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    leaves_live m c 0 t rfl, leaves_live m c 1 t rfl, leaves_live m c 2 t rfl, leaves_live m c 3 t rfl,
    leaves_live m c 4 t (by rw [idle4]; exact decide_eq_false (by omega)), after0, after1, after2, after3, after4, src0_self t (by omega), blk0_snd m c t h]
  unfold blkB
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t)
    (fun e => by have := (cond0 t).mp e; omega) ((cond1 t).mpr h) (fun e => by have := (cond2 t).mp e; omega) (fun e => by have := (cond3 t).mp e; omega) (fun e => by have := (cond4 t).mp e; omega) (fun e => by have := (cond5 t).mp e; omega) (fun e => by have := (cond6 t).mp e; omega)
    (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e, H4⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr; swap
    · iexact H4
    ipureintro; exact View.read_writes_of_cover _ _ _ _ _ (coverB c _ _ _ _ _ _ _ _ _ _ _ _ _ _ _ _ _ _ _ _ _ _ _ _ _ _ _ _ )
  isplitl [H5]
  · iapply (keep5 m c t (by omega) d5); iexact H5
  isplitl [H6]
  · iapply (keep6 m c t (by omega) d6); iexact H6
  iapply (keep7 m c t (by omega) d7); iexact H7

set_option maxHeartbeats 1600000 in
theorem bodyC (c : Dev nD) (t : Fin cfg0.N) (h : t.val % 9 = 2) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    leaves_live m c 0 t rfl, leaves_live m c 1 t rfl, leaves_live m c 2 t rfl, leaves_live m c 3 t rfl,
    leaves_live m c 5 t (by rw [idle5]; exact decide_eq_false (by omega)), after0, after1, after2, after3, after5, src1_self t (by omega), blk1_fst m c t h]
  unfold blkC
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runC c (grid0.coords t) (ms0 t) (hs0 t) (ms1 t) (hs1 t) (ms2 t) (hs2 t) (ms3 t) (hs3 t) (ms4 t) (hs4 t) (ms5 t) (hs5 t) (ms6 t) (hs6 t) (ms7 t) (hs7 t)
    (fun e => by have := (cond0 t).mp e; omega) (fun e => by have := (cond1 t).mp e; omega) ((cond2 t).mpr h) (fun e => by have := (cond3 t).mp e; omega) (fun e => by have := (cond4 t).mp e; omega) (fun e => by have := (cond5 t).mp e; omega) (fun e => by have := (cond6 t).mp e; omega)
    (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H5]; · iexists _; iexact H5
  iintro ⟨H0, H1, H2, H3, ⟨%e, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · iapply (keep4 m c t (by omega) d4); iexact H4
  isplitl [H5]
  · unfold owns; iexists _; isplitr; swap
    · iexact H5
    ipureintro; exact View.read_writes_of_cover _ _ _ _ _ (coverC c _ _ _ _ _ _ _ _ _ _ _ _ _ _ _ _ _ _ _ _ _ _ _ _ _ _ _ _ )
  isplitl [H6]
  · iapply (keep6 m c t (by omega) d6); iexact H6
  iapply (keep7 m c t (by omega) d7); iexact H7

set_option maxHeartbeats 1600000 in
theorem bodyD (c : Dev nD) (t : Fin cfg0.N) (h : t.val % 9 = 3) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    leaves_live m c 0 t rfl, leaves_live m c 1 t rfl, leaves_live m c 2 t rfl, leaves_live m c 3 t rfl,
    leaves_live m c 5 t (by rw [idle5]; exact decide_eq_false (by omega)), after0, after1, after2, after3, after5, src1_self t (by omega), blk1_snd m c t h]
  unfold blkD
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runD c (grid0.coords t) (ms0 t) (hs0 t) (ms1 t) (hs1 t) (ms2 t) (hs2 t) (ms3 t) (hs3 t) (ms4 t) (hs4 t) (ms5 t) (hs5 t) (ms6 t) (hs6 t) (ms7 t) (hs7 t)
    (fun e => by have := (cond0 t).mp e; omega) (fun e => by have := (cond1 t).mp e; omega) (fun e => by have := (cond2 t).mp e; omega) ((cond3 t).mpr h) (fun e => by have := (cond4 t).mp e; omega) (fun e => by have := (cond5 t).mp e; omega) (fun e => by have := (cond6 t).mp e; omega)
    (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H5]; · iexists _; iexact H5
  iintro ⟨H0, H1, H2, H3, ⟨%e, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · iapply (keep4 m c t (by omega) d4); iexact H4
  isplitl [H5]
  · unfold owns; iexists _; isplitr; swap
    · iexact H5
    ipureintro; exact View.read_writes_of_cover _ _ _ _ _ (coverD c _ _ _ _ _ _ _ _ _ _ _ _ _ _ _ _ _ _ _ _ _ _ _ _ _ _ _ _ )
  isplitl [H6]
  · iapply (keep6 m c t (by omega) d6); iexact H6
  iapply (keep7 m c t (by omega) d7); iexact H7

set_option maxHeartbeats 1600000 in
theorem bodyE (c : Dev nD) (t : Fin cfg0.N) (h : t.val % 9 = 4) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    leaves_live m c 0 t rfl, leaves_live m c 1 t rfl, leaves_live m c 2 t rfl, leaves_live m c 3 t rfl,
    leaves_live m c 6 t (by rw [idle6]; exact decide_eq_false (by omega)), after0, after1, after2, after3, after6, src2_self t (by omega), blk2_fst m c t h]
  unfold blkE
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runE c (grid0.coords t) (ms0 t) (hs0 t) (ms1 t) (hs1 t) (ms2 t) (hs2 t) (ms3 t) (hs3 t) (ms4 t) (hs4 t) (ms5 t) (hs5 t) (ms6 t) (hs6 t) (ms7 t) (hs7 t)
    (fun e => by have := (cond0 t).mp e; omega) (fun e => by have := (cond1 t).mp e; omega) (fun e => by have := (cond2 t).mp e; omega) (fun e => by have := (cond3 t).mp e; omega) ((cond4 t).mpr h) (fun e => by have := (cond5 t).mp e; omega) (fun e => by have := (cond6 t).mp e; omega)
    (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H6]; · iexists _; iexact H6
  iintro ⟨H0, H1, H2, H3, ⟨%e, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · iapply (keep4 m c t (by omega) d4); iexact H4
  isplitl [H5]
  · iapply (keep5 m c t (by omega) d5); iexact H5
  isplitl [H6]
  · unfold owns; iexists _; isplitr; swap
    · iexact H6
    ipureintro; exact View.read_writes_of_cover _ _ _ _ _ (coverE c _ _ _ _ _ _ _ _ _ _ _ _ _ _ _ _ _ _ _ _ _ _ _ _ _ _ _ _ )
  iapply (keep7 m c t (by omega) d7); iexact H7

set_option maxHeartbeats 1600000 in
theorem bodyF (c : Dev nD) (t : Fin cfg0.N) (h : t.val % 9 = 5) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    leaves_live m c 0 t rfl, leaves_live m c 1 t rfl, leaves_live m c 2 t rfl, leaves_live m c 3 t rfl,
    leaves_live m c 6 t (by rw [idle6]; exact decide_eq_false (by omega)), after0, after1, after2, after3, after6, src2_self t (by omega), blk2_snd m c t h]
  unfold blkF
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runF c (grid0.coords t) (ms0 t) (hs0 t) (ms1 t) (hs1 t) (ms2 t) (hs2 t) (ms3 t) (hs3 t) (ms4 t) (hs4 t) (ms5 t) (hs5 t) (ms6 t) (hs6 t) (ms7 t) (hs7 t)
    (fun e => by have := (cond0 t).mp e; omega) (fun e => by have := (cond1 t).mp e; omega) (fun e => by have := (cond2 t).mp e; omega) (fun e => by have := (cond3 t).mp e; omega) (fun e => by have := (cond4 t).mp e; omega) ((cond5 t).mpr h) (fun e => by have := (cond6 t).mp e; omega)
    (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H6]; · iexists _; iexact H6
  iintro ⟨H0, H1, H2, H3, ⟨%e, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · iapply (keep4 m c t (by omega) d4); iexact H4
  isplitl [H5]
  · iapply (keep5 m c t (by omega) d5); iexact H5
  isplitl [H6]
  · unfold owns; iexists _; isplitr; swap
    · iexact H6
    ipureintro; exact View.read_writes_of_cover _ _ _ _ _ (coverF c _ _ _ _ _ _ _ _ _ _ _ _ _ _ _ _ _ _ _ _ _ _ _ _ _ _ _ _ )
  iapply (keep7 m c t (by omega) d7); iexact H7

set_option maxHeartbeats 1600000 in
theorem bodyG (c : Dev nD) (t : Fin cfg0.N) (h : 6 ≤ t.val % 9) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    leaves_live m c 0 t rfl, leaves_live m c 1 t rfl, leaves_live m c 2 t rfl, leaves_live m c 3 t rfl,
    leaves_live m c 7 t (by rw [idle7]; exact decide_eq_false (by omega)), after0, after1, after2, after3, after7, blk3_live m c t h]
  unfold blkG
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runG c (grid0.coords t) (ms0 t) (hs0 t) (ms1 t) (hs1 t) (ms2 t) (hs2 t) (ms3 t) (hs3 t) (ms4 t) (hs4 t) (ms5 t) (hs5 t) (ms6 t) (hs6 t) (ms7 t) (hs7 t)
    (fun e => by have := (cond0 t).mp e; omega) (fun e => by have := (cond1 t).mp e; omega) (fun e => by have := (cond2 t).mp e; omega) (fun e => by have := (cond3 t).mp e; omega) (fun e => by have := (cond4 t).mp e; omega) (fun e => by have := (cond5 t).mp e; omega) ((cond6 t).mpr h)
    (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H7]; · iexists _; iexact H7
  iintro ⟨H0, H1, H2, H3, ⟨%e, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · iapply (keep4 m c t (by omega) d4); iexact H4
  isplitl [H5]
  · iapply (keep5 m c t (by omega) d5); iexact H5
  isplitl [H6]
  · iapply (keep6 m c t (by omega) d6); iexact H6
  unfold owns; iexists _; isplitr; swap
  · iexact H7
  ipureintro; exact View.read_writes_of_cover _ _ _ _ _ (coverG c _ _ _ _ _ _ _ _ _ _ _ _ _ _ _ _ _ _ _ _ _ _ _ _ _ _ _ _ )

theorem sound_body (c : Dev nD) (t : Fin cfg0.N) :
    bodyPre m c t ⊢ wp frame (wpE (defs₀ (F := F)) Variants.none c none) Set.univ (bodyAt0 t) (fun _ => bodyPost m c t) := by
  by_cases h0 : t.val % 9 = 0; · exact bodyA m c t h0
  by_cases h1 : t.val % 9 = 1; · exact bodyB m c t h1
  by_cases h2 : t.val % 9 = 2; · exact bodyC m c t h2
  by_cases h3 : t.val % 9 = 3; · exact bodyD m c t h3
  by_cases h4 : t.val % 9 = 4; · exact bodyE m c t h4
  by_cases h5 : t.val % 9 = 5; · exact bodyF m c t h5
  exact bodyG m c t (by omega)

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ :=
  fun t => by
    rw [bigSep_W0, bigSep_W0, defs_row]
    exact triple_restated (sound_body m c t) rfl .rfl fun _ => .rfl

/-! ## The run and the frame -/

set_option backward.isDefEq.respectTransparency.types false in
set_option maxHeartbeats 800000 in
/-- Every execution ends, with the call's arrays at what the blocks written back make of them, the lines after the call
    run on those, and every semaphore at zero. -/
theorem run_quiet : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiet m ρ)

/-- The arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_quiet m ρ))

end Cert.AttnProjSampleIdeal.Hand

end
-- ==== Proof.AttnProjSampleKernel.lean ====
module

public import proofs.«01_k».proof.Proof.AttnProjSampleIdealHand
public import proofs.«01_k».proof.Proof.RopeSpec
public import Idealize.ShloMosaic.Lib.Pipeline.ValueKit
public import Idealize.ShloMosaic.Lib.Pointwise
public import Idealize.ShloMosaic.Lib.StableHlo.ReadAt

/-! What the attention's projection of the sample group computes: the queries, the keys and the values, and the keys and values kept for later. -/

@[expose] public section

set_option maxRecDepth 16384

noncomputable section

namespace Cert.AttnProjSampleIdeal.Val

open Cert.AttnProjSampleIdeal Cert.AttnProjSampleIdeal.Gen Cert.AttnProjSampleIdeal.Hand Idealize.ShloMosaic Idealize.ShloMosaic.TcCoe Idealize.SL.Sem
open Idealize.ShloMosaic.Pipeline (Dat)
open Cert.ProjSpec Cert.RopeSpec

variable (m : (ℓ : Loc nD τ sig) → Buf (Elt Ideal) ℓ)

/-- Where each window's block of point `t` stands in its array: one row of nine column tiles. -/
theorem places : ∀ t : Fin cfg0.N, win0_0.index t = ![0, 0, 0] ∧ win0_1.index t = ![t.val % 9, 0] ∧ win0_2.index t = ![0, 0] ∧ win0_3.index t = ![0, 0]
    ∧ win0_4.index t = ![0, 0, min (t.val % 9) 1] ∧ win0_5.index t = ![0, 0, min (t.val % 9 - 2) 1]
    ∧ win0_6.index t = ![0, 0, min (t.val % 9 - 4) 1] ∧ win0_7.index t = ![0, 0, t.val % 9 - 6] := by
  decide +kernel

/-- The arguments: a row of the input, a row of the weight. -/
def xm (c : Dev nD) (r : Fin 32) (d : Fin 2048) : EReal := m ((c : Thread nD τ).loc main_arg0) (ix3 0 r d)
def wt (c : Dev nD) (j : Fin 4608) (d : Fin 2048) : EReal := m ((c : Thread nD τ).loc main_arg1) (ix2 j d)

/-- Which of the nine column tiles a point computes, and the column of one of its 512. -/
def til (t : Fin cfg0.N) : Fin 9 := ⟨t.val % 9, by omega⟩
def col (t : Fin cfg0.N) (f : Fin 512) : Fin 4608 := ⟨512 * (t.val % 9) + f, by omega⟩

/-- Every row stands at the same position. -/
def pos : BitVec 32 := 16384#32

theorem xm_at (c : Dev nD) (t : Fin cfg0.N) (r : Fin 32) (d : Fin 2048) : iblk m c 0 t (ix3 0 r d) = xm m c r d := by
  unfold xm; blk_ext [iblk, V, V0, places t]

theorem wt_at (c : Dev nD) (t : Fin cfg0.N) (j : Fin 512) (d : Fin 2048) : iblk m c 1 t (ix2 j d) = wt m c (col t j) d := by
  unfold wt col; blk_ext [iblk, V, V0, places t]

theorem cos_at (c : Dev nD) (t : Fin cfg0.N) (r : Fin 32) (l : Fin 128) : iblk m c 2 t (ix2 r l) = cosT pos l := by
  have e : iblk m c 2 t (ix2 r l) = V m c main_v15 (ix2 r l) := by blk_ext [iblk, places t]
  rw [e]
  unfold V
  after_reads_at
  rfl

theorem sin_at (c : Dev nD) (t : Fin cfg0.N) (r : Fin 32) (l : Fin 128) : iblk m c 3 t (ix2 r l) = sinT pos l := by
  have e : iblk m c 3 t (ix2 r l) = V m c main_v17 (ix2 r l) := by blk_ext [iblk, places t]
  rw [e]
  unfold V
  after_reads_at
  rfl

set_option maxHeartbeats 4000000 in
/-- The columns that a point writes of the first tile, turned. -/
theorem tileA (c : Dev nD) (t : Fin cfg0.N) (h : t.val % 9 = 0) (r : Fin 32) (f : Fin 512) :
    blkA m c t h (ix3 0 r f) = turned (xm m c r) (wt m c) pos (til t) f := by
  unfold blkA
  frame_out
  canon_tiles x hx
  all_goals
    idx_vars x
    first
      | rw [turned_band _ _ _ _ f x2 0 (by omega) (by omega) (by omega)]
      | rw [turned_band _ _ _ _ f x2 128 (by omega) (by omega) (by omega)]
      | rw [turned_band _ _ _ _ f x2 256 (by omega) (by omega) (by omega)]
      | rw [turned_band _ _ _ _ f x2 384 (by omega) (by omega) (by omega)]
    have hr : r = x1 := Fin.ext hx1
    subst hr
    unfold_payloads
    unfold rotated turn plain proj
    pointwise [xm_at, wt_at, cos_at, sin_at]
    try simp only [← Nat.add_assoc 256 128, Nat.reduceAdd, Nat.zero_add, col, til]
    try rfl

set_option maxHeartbeats 4000000 in
/-- The columns that a point writes of the second tile, as projected. -/
theorem tileB (c : Dev nD) (t : Fin cfg0.N) (h : t.val % 9 = 1) (r : Fin 32) (f : Fin 512) :
    blkB m c t h (ix3 0 r f) = plain (xm m c r) (wt m c) (til t) f := by
  unfold blkB
  frame_out
  canon_tiles x hx
  all_goals
    idx_vars x
    have hr : r = x1 := Fin.ext hx1
    subst hr
    unfold_payloads
    unfold plain proj
    pointwise [xm_at, wt_at]
    try simp only [hx2, ← Nat.add_assoc 256 128, Nat.reduceAdd, Nat.zero_add, col, til]
    try rfl

set_option maxHeartbeats 4000000 in
/-- The columns that a point writes of the third tile, turned. -/
theorem tileC (c : Dev nD) (t : Fin cfg0.N) (h : t.val % 9 = 2) (r : Fin 32) (f : Fin 512) :
    blkC m c t h (ix3 0 r f) = turned (xm m c r) (wt m c) pos (til t) f := by
  unfold blkC
  frame_out
  canon_tiles x hx
  all_goals
    idx_vars x
    first
      | rw [turned_band _ _ _ _ f x2 0 (by omega) (by omega) (by omega)]
      | rw [turned_band _ _ _ _ f x2 128 (by omega) (by omega) (by omega)]
      | rw [turned_band _ _ _ _ f x2 256 (by omega) (by omega) (by omega)]
      | rw [turned_band _ _ _ _ f x2 384 (by omega) (by omega) (by omega)]
    have hr : r = x1 := Fin.ext hx1
    subst hr
    unfold_payloads
    unfold rotated turn plain proj
    pointwise [xm_at, wt_at, cos_at, sin_at]
    try simp only [← Nat.add_assoc 256 128, Nat.reduceAdd, Nat.zero_add, col, til]
    try rfl

set_option maxHeartbeats 4000000 in
/-- The columns that a point writes of the fourth tile, as projected. -/
theorem tileD (c : Dev nD) (t : Fin cfg0.N) (h : t.val % 9 = 3) (r : Fin 32) (f : Fin 512) :
    blkD m c t h (ix3 0 r f) = plain (xm m c r) (wt m c) (til t) f := by
  unfold blkD
  frame_out
  canon_tiles x hx
  all_goals
    idx_vars x
    have hr : r = x1 := Fin.ext hx1
    subst hr
    unfold_payloads
    unfold plain proj
    pointwise [xm_at, wt_at]
    try simp only [hx2, ← Nat.add_assoc 256 128, Nat.reduceAdd, Nat.zero_add, col, til]
    try rfl

set_option maxHeartbeats 4000000 in
/-- The columns that a point writes of the fifth tile, turned. -/
theorem tileE (c : Dev nD) (t : Fin cfg0.N) (h : t.val % 9 = 4) (r : Fin 32) (f : Fin 512) :
    blkE m c t h (ix3 0 r f) = turned (xm m c r) (wt m c) pos (til t) f := by
  unfold blkE
  frame_out
  canon_tiles x hx
  all_goals
    idx_vars x
    first
      | rw [turned_band _ _ _ _ f x2 0 (by omega) (by omega) (by omega)]
      | rw [turned_band _ _ _ _ f x2 128 (by omega) (by omega) (by omega)]
      | rw [turned_band _ _ _ _ f x2 256 (by omega) (by omega) (by omega)]
      | rw [turned_band _ _ _ _ f x2 384 (by omega) (by omega) (by omega)]
    have hr : r = x1 := Fin.ext hx1
    subst hr
    unfold_payloads
    unfold rotated turn plain proj
    pointwise [xm_at, wt_at, cos_at, sin_at]
    try simp only [← Nat.add_assoc 256 128, Nat.reduceAdd, Nat.zero_add, col, til]
    try rfl

set_option maxHeartbeats 4000000 in
/-- The columns that a point writes of the sixth tile, as projected. -/
theorem tileF (c : Dev nD) (t : Fin cfg0.N) (h : t.val % 9 = 5) (r : Fin 32) (f : Fin 512) :
    blkF m c t h (ix3 0 r f) = plain (xm m c r) (wt m c) (til t) f := by
  unfold blkF
  frame_out
  canon_tiles x hx
  all_goals
    idx_vars x
    have hr : r = x1 := Fin.ext hx1
    subst hr
    unfold_payloads
    unfold plain proj
    pointwise [xm_at, wt_at]
    try simp only [hx2, ← Nat.add_assoc 256 128, Nat.reduceAdd, Nat.zero_add, col, til]
    try rfl

set_option maxHeartbeats 4000000 in
/-- The columns that a point writes of one of the last three tiles, turned. -/
theorem tileG (c : Dev nD) (t : Fin cfg0.N) (h : 6 ≤ t.val % 9) (r : Fin 32) (f : Fin 512) :
    blkG m c t h (ix3 0 r f) = turned (xm m c r) (wt m c) pos (til t) f := by
  unfold blkG
  frame_out
  canon_tiles x hx
  all_goals
    idx_vars x
    first
      | rw [turned_band _ _ _ _ f x2 0 (by omega) (by omega) (by omega)]
      | rw [turned_band _ _ _ _ f x2 128 (by omega) (by omega) (by omega)]
      | rw [turned_band _ _ _ _ f x2 256 (by omega) (by omega) (by omega)]
      | rw [turned_band _ _ _ _ f x2 384 (by omega) (by omega) (by omega)]
    have hr : r = x1 := Fin.ext hx1
    subst hr
    unfold_payloads
    unfold rotated turn plain proj
    pointwise [xm_at, wt_at, cos_at, sin_at]
    try simp only [← Nat.add_assoc 256 128, Nat.reduceAdd, Nat.zero_add, col, til]
    try rfl

/-- The call's arrays, from its arguments: the keys and values of each of the three groups, and the queries. -/
def kv (c : Dev nD) (k : Fin 3) : S1x32x1024.Idx → EReal := fun i => kvRow (xm m c (i 1)) (wt m c) pos k (i 2)
def qs (c : Dev nD) : S1x32x1536.Idx → EReal := fun i => qRow (xm m c (i 1)) (wt m c) pos (i 2)

theorem emb4 (t : Fin cfg0.N) (y0 : Fin 1) (y1 : Fin 32) (y2 : Fin 512) :
    ((View.whole main_v18_0).slice (win0_4.rect t)).emb (ix3 y0 y1 y2) = (ix3 0 y1 ⟨512 * min (t.val % 9) 1 + y2, by omega⟩ : S1x32x1024.Idx) := by
  obtain rfl : y0 = 0 := Subsingleton.elim _ _
  blk_ext [places t]

theorem kv0_eq (c : Dev nD) : (dats m 0 c).arrAt 4 cfg0.N = kv m c 0 := by
  refine (dats m 0 c).arrAt_eq_of_covers 4 _ (by decide +kernel) fun t hf y => ?_
  have hf' := of_decide_eq_true ((flush4 t).symm.trans hf)
  blk_simp
  rw [after4]
  idx_vars y
  obtain rfl : y0 = 0 := Subsingleton.elim _ _
  refine Eq.trans ?_ (congrArg (kv m c 0) (emb4 t 0 y1 y2)).symm
  rcases hf' with h | h
  · rw [src0_self t (Or.inl h), blk0_fst m c t h, tileA]
    exact kvRow_low _ _ _ 0 _ y2 (til t) (by simp only [til]; omega) (by show 512 * _ + _ = _; omega)
  · have hs : (src0 t).val % 9 = 1 := by simp only [src0]; omega
    rw [blk0_snd m c (src0 t) hs, tileB]
    exact kvRow_high _ _ _ 0 _ y2 (til (src0 t)) (by simp only [til]; omega) (by show 512 * _ + _ = _; omega)

theorem emb5 (t : Fin cfg0.N) (y0 : Fin 1) (y1 : Fin 32) (y2 : Fin 512) :
    ((View.whole main_v18_1).slice (win0_5.rect t)).emb (ix3 y0 y1 y2) = (ix3 0 y1 ⟨512 * min (t.val % 9 - 2) 1 + y2, by omega⟩ : S1x32x1024.Idx) := by
  obtain rfl : y0 = 0 := Subsingleton.elim _ _
  blk_ext [places t]

theorem kv1_eq (c : Dev nD) : (dats m 0 c).arrAt 5 cfg0.N = kv m c 1 := by
  refine (dats m 0 c).arrAt_eq_of_covers 5 _ (by decide +kernel) fun t hf y => ?_
  have hf' := of_decide_eq_true ((flush5 t).symm.trans hf)
  blk_simp
  rw [after5]
  idx_vars y
  obtain rfl : y0 = 0 := Subsingleton.elim _ _
  refine Eq.trans ?_ (congrArg (kv m c 1) (emb5 t 0 y1 y2)).symm
  rcases hf' with h | h
  · rw [src1_self t (Or.inl h), blk1_fst m c t h, tileC]
    exact kvRow_low _ _ _ 1 _ y2 (til t) (by simp only [til]; omega) (by show 512 * _ + _ = _; omega)
  · have hs : (src1 t).val % 9 = 3 := by simp only [src1]; omega
    rw [blk1_snd m c (src1 t) hs, tileD]
    exact kvRow_high _ _ _ 1 _ y2 (til (src1 t)) (by simp only [til]; omega) (by show 512 * _ + _ = _; omega)

theorem emb6 (t : Fin cfg0.N) (y0 : Fin 1) (y1 : Fin 32) (y2 : Fin 512) :
    ((View.whole main_v18_2).slice (win0_6.rect t)).emb (ix3 y0 y1 y2) = (ix3 0 y1 ⟨512 * min (t.val % 9 - 4) 1 + y2, by omega⟩ : S1x32x1024.Idx) := by
  obtain rfl : y0 = 0 := Subsingleton.elim _ _
  blk_ext [places t]

theorem kv2_eq (c : Dev nD) : (dats m 0 c).arrAt 6 cfg0.N = kv m c 2 := by
  refine (dats m 0 c).arrAt_eq_of_covers 6 _ (by decide +kernel) fun t hf y => ?_
  have hf' := of_decide_eq_true ((flush6 t).symm.trans hf)
  blk_simp
  rw [after6]
  idx_vars y
  obtain rfl : y0 = 0 := Subsingleton.elim _ _
  refine Eq.trans ?_ (congrArg (kv m c 2) (emb6 t 0 y1 y2)).symm
  rcases hf' with h | h
  · rw [src2_self t (Or.inl h), blk2_fst m c t h, tileE]
    exact kvRow_low _ _ _ 2 _ y2 (til t) (by simp only [til]; omega) (by show 512 * _ + _ = _; omega)
  · have hs : (src2 t).val % 9 = 5 := by simp only [src2]; omega
    rw [blk2_snd m c (src2 t) hs, tileF]
    exact kvRow_high _ _ _ 2 _ y2 (til (src2 t)) (by simp only [til]; omega) (by show 512 * _ + _ = _; omega)

theorem emb7 (t : Fin cfg0.N) (y0 : Fin 1) (y1 : Fin 32) (y2 : Fin 512) :
    ((View.whole main_v18_3).slice (win0_7.rect t)).emb (ix3 y0 y1 y2) = (ix3 0 y1 ⟨512 * (t.val % 9 - 6) + y2, by omega⟩ : S1x32x1536.Idx) := by
  obtain rfl : y0 = 0 := Subsingleton.elim _ _
  blk_ext [places t]

theorem qs_eq (c : Dev nD) : (dats m 0 c).arrAt 7 cfg0.N = qs m c := by
  refine (dats m 0 c).arrAt_eq_of_covers 7 _ (by decide +kernel) fun t hf y => ?_
  have hf' := of_decide_eq_true ((flush7 t).symm.trans hf)
  blk_simp
  rw [after7]
  idx_vars y
  obtain rfl : y0 = 0 := Subsingleton.elim _ _
  refine Eq.trans ?_ (congrArg (qs m c) (emb7 t 0 y1 y2)).symm
  rw [blk3_live m c t hf', tileG]
  exact qRow_at _ _ _ _ y2 (til t) (by show (512 * (t.val % 9 - 6) + y2.val) + 3072 = 512 * (t.val % 9) + y2.val; omega)

/-- The keys and values kept, from the arguments. -/
def kept (c : Dev nD) (k : Fin 3) : S1x32x1x2x4x128.Idx → EReal := fun i => keptRow (xm m c (i 1)) (wt m c) pos k (i 3) (i 4) (i 5)

/-! The call's arrays as the lines after it find them. -/

theorem found0 (c : Dev nD) :
    Pipeline.withArrays (cfgs 0).spec c (V0 m c) (fun w => (dats m 0 c).arrAt w (cfgs 0).N) (Proc.devRef .tc main_v18_0) = kv m c 0 :=
  (Pipeline.withArrays_arr (cfgs 0).spec (by decide) c (V0 m c) (fun w => (dats m 0 c).arrAt w (cfgs 0).N) 4).trans (kv0_eq m c)

theorem found1 (c : Dev nD) :
    Pipeline.withArrays (cfgs 0).spec c (V0 m c) (fun w => (dats m 0 c).arrAt w (cfgs 0).N) (Proc.devRef .tc main_v18_1) = kv m c 1 :=
  (Pipeline.withArrays_arr (cfgs 0).spec (by decide) c (V0 m c) (fun w => (dats m 0 c).arrAt w (cfgs 0).N) 5).trans (kv1_eq m c)

theorem found2 (c : Dev nD) :
    Pipeline.withArrays (cfgs 0).spec c (V0 m c) (fun w => (dats m 0 c).arrAt w (cfgs 0).N) (Proc.devRef .tc main_v18_2) = kv m c 2 :=
  (Pipeline.withArrays_arr (cfgs 0).spec (by decide) c (V0 m c) (fun w => (dats m 0 c).arrAt w (cfgs 0).N) 6).trans (kv2_eq m c)

theorem kept0_eq (c : Dev nD) : Pipeline.afterTail₀ cfgs (dats m) 0 (V0 m) [hostOps1] c main_v19 = kept m c 0 := by
  have h := found0 m c
  unfold Pipeline.afterTail₀
  rw [show ([hostOps1] : List (List (HloOp τ sig (Elt Ideal)))).flatten = hostOps1 from rfl]
  generalize Pipeline.withArrays (cfgs 0).spec c (V0 m c) (fun w => (dats m 0 c).arrAt w (cfgs 0).N) = V at h
  unfold hostOps1
  funext i
  idx_vars i
  after_reads_at
  rw [h]
  exact kvRow_head _ _ _ 0 _ i3 i4 i5 (by show i3.val * 512 + i4.val * 128 + i5.val = 512 * i3.val + 128 * i4.val + i5.val; omega)

theorem kept1_eq (c : Dev nD) : Pipeline.afterTail₀ cfgs (dats m) 0 (V0 m) [hostOps1] c main_v20 = kept m c 1 := by
  have h := found1 m c
  unfold Pipeline.afterTail₀
  rw [show ([hostOps1] : List (List (HloOp τ sig (Elt Ideal)))).flatten = hostOps1 from rfl]
  generalize Pipeline.withArrays (cfgs 0).spec c (V0 m c) (fun w => (dats m 0 c).arrAt w (cfgs 0).N) = V at h
  unfold hostOps1
  funext i
  idx_vars i
  after_reads_at
  rw [h]
  exact kvRow_head _ _ _ 1 _ i3 i4 i5 (by show i3.val * 512 + i4.val * 128 + i5.val = 512 * i3.val + 128 * i4.val + i5.val; omega)

theorem kept2_eq (c : Dev nD) : Pipeline.afterTail₀ cfgs (dats m) 0 (V0 m) [hostOps1] c main_v21 = kept m c 2 := by
  have h := found2 m c
  unfold Pipeline.afterTail₀
  rw [show ([hostOps1] : List (List (HloOp τ sig (Elt Ideal)))).flatten = hostOps1 from rfl]
  generalize Pipeline.withArrays (cfgs 0).spec c (V0 m c) (fun w => (dats m 0 c).arrAt w (cfgs 0).N) = V at h
  unfold hostOps1
  funext i
  idx_vars i
  after_reads_at
  rw [h]
  exact kvRow_head _ _ _ 2 _ i3 i4 i5 (by show i3.val * 512 + i4.val * 128 + i5.val = 512 * i3.val + 128 * i4.val + i5.val; omega)

end Cert.AttnProjSampleIdeal.Val

end
-- ==== Proof.AttnProjSampleRef.lean ====
module

public import proofs.«01_k».proof.Proof.Gen.AttnProjSampleRefIdeal.Read
public import proofs.«01_k».proof.Proof.RopeSpec
public import Idealize.ShloMosaic.Lib.Pipeline.ValueKit
public import Idealize.ShloMosaic.Lib.Pointwise

/-! The reference of the attention's projection of the sample group, entry by entry. -/

@[expose] public section

set_option maxRecDepth 16384

noncomputable section

namespace Cert.AttnProjSampleRefIdeal.Val

open Cert.AttnProjSampleRefIdeal Cert.AttnProjSampleRefIdeal.Read Idealize.ShloMosaic Idealize.ShloMosaic.TcCoe Idealize.SL.Sem
open Cert.ProjSpec Cert.RopeSpec

variable (x0 : (⟨S1x32x2048, .bf16⟩ : BufTy).Contents (Elt Ideal)) (x1 : (⟨S4608x2048, .bf16⟩ : BufTy).Contents (Elt Ideal))

/-- A projected column. -/
theorem proj_at (a : Fin 32) (r : Fin 1) (j : Fin 4608) :
    val_main_v7 (F := Ideal) x0 x1 (ix3 a r j) = proj (fun d => x0 (ix3 0 a d)) (fun j d => x1 (ix2 j d)) j := by
  unfold proj
  pointwise [val_main_v0, val_main_v4, val_main_v5, val_main_v6, val_main_v7]

set_option maxHeartbeats 1000000 in
/-- The keys of group 0, turned. -/
theorem k0_at (a : Fin 32) (r : Fin 1) (g : Fin 1) (h : Fin 4) (l : Fin 128) :
    val_main_v43 (F := Ideal) x0 x1 (ix5 a r g h l)
      = rotated (fun l => plain (fun d => x0 (ix3 0 a d)) (fun j d => x1 (ix2 j d)) ⟨0, by omega⟩ ⟨128 * h + l, by omega⟩) 16384#32 l := by
  by_cases hl : l.val < 64
  · rw [rotated_low _ _ _ hl]
    unfold plain angle
    pointwise [val_main_c, val_main_v1, val_main_v2, val_main_v3, val_main_v8, val_main_cst, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_cst_0, proj_at]
    rw [dif_pos hl, show IntOp.addi (16384#32) 0#32 = 16384#32 from rfl]
    refine congrArg₂ HSub.hSub (congrArg₂ HMul.hMul (congrArg _ (Fin.ext ?_)) rfl) (congrArg₂ HMul.hMul (congrArg _ (Fin.ext ?_)) rfl) <;>
      (dsimp only; omega)
  · rw [rotated_high _ _ _ hl]
    unfold plain angle
    pointwise [val_main_c, val_main_v1, val_main_v2, val_main_v3, val_main_v8, val_main_cst, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_cst_0, proj_at]
    rw [dif_neg hl, show IntOp.addi (16384#32) 0#32 = 16384#32 from rfl]
    refine congrArg₂ HAdd.hAdd (congrArg₂ HMul.hMul (congrArg _ (Fin.ext ?_)) rfl) (congrArg₂ HMul.hMul (congrArg _ (Fin.ext ?_)) rfl) <;>
      (dsimp only; omega)

set_option maxHeartbeats 1000000 in
/-- The keys of group 1, turned. -/
theorem k1_at (a : Fin 32) (r : Fin 1) (g : Fin 1) (h : Fin 4) (l : Fin 128) :
    val_main_v77 (F := Ideal) x0 x1 (ix5 a r g h l)
      = rotated (fun l => plain (fun d => x0 (ix3 0 a d)) (fun j d => x1 (ix2 j d)) ⟨2, by omega⟩ ⟨128 * h + l, by omega⟩) 16384#32 l := by
  by_cases hl : l.val < 64
  · rw [rotated_low _ _ _ hl]
    unfold plain angle
    pointwise [val_main_c, val_main_v1, val_main_v2, val_main_v3, val_main_v10, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_cst_1, val_main_cst_2, proj_at]
    rw [dif_pos hl, show IntOp.addi (16384#32) 0#32 = 16384#32 from rfl]
    refine congrArg₂ HSub.hSub (congrArg₂ HMul.hMul (congrArg _ (Fin.ext ?_)) rfl) (congrArg₂ HMul.hMul (congrArg _ (Fin.ext ?_)) rfl) <;>
      (dsimp only; omega)
  · rw [rotated_high _ _ _ hl]
    unfold plain angle
    pointwise [val_main_c, val_main_v1, val_main_v2, val_main_v3, val_main_v10, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_cst_1, val_main_cst_2, proj_at]
    rw [dif_neg hl, show IntOp.addi (16384#32) 0#32 = 16384#32 from rfl]
    refine congrArg₂ HAdd.hAdd (congrArg₂ HMul.hMul (congrArg _ (Fin.ext ?_)) rfl) (congrArg₂ HMul.hMul (congrArg _ (Fin.ext ?_)) rfl) <;>
      (dsimp only; omega)

set_option maxHeartbeats 1000000 in
/-- The keys of group 2, turned. -/
theorem k2_at (a : Fin 32) (r : Fin 1) (g : Fin 1) (h : Fin 4) (l : Fin 128) :
    val_main_v111 (F := Ideal) x0 x1 (ix5 a r g h l)
      = rotated (fun l => plain (fun d => x0 (ix3 0 a d)) (fun j d => x1 (ix2 j d)) ⟨4, by omega⟩ ⟨128 * h + l, by omega⟩) 16384#32 l := by
  by_cases hl : l.val < 64
  · rw [rotated_low _ _ _ hl]
    unfold plain angle
    pointwise [val_main_c, val_main_v1, val_main_v2, val_main_v3, val_main_v12, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_cst_3, val_main_cst_4, proj_at]
    rw [dif_pos hl, show IntOp.addi (16384#32) 0#32 = 16384#32 from rfl]
    refine congrArg₂ HSub.hSub (congrArg₂ HMul.hMul (congrArg _ (Fin.ext ?_)) rfl) (congrArg₂ HMul.hMul (congrArg _ (Fin.ext ?_)) rfl) <;>
      (dsimp only; omega)
  · rw [rotated_high _ _ _ hl]
    unfold plain angle
    pointwise [val_main_c, val_main_v1, val_main_v2, val_main_v3, val_main_v12, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_cst_3, val_main_cst_4, proj_at]
    rw [dif_neg hl, show IntOp.addi (16384#32) 0#32 = 16384#32 from rfl]
    refine congrArg₂ HAdd.hAdd (congrArg₂ HMul.hMul (congrArg _ (Fin.ext ?_)) rfl) (congrArg₂ HMul.hMul (congrArg _ (Fin.ext ?_)) rfl) <;>
      (dsimp only; omega)

set_option maxHeartbeats 1000000 in
/-- The queries, turned. -/
theorem q_at (a : Fin 32) (r : Fin 1) (g : Fin 3) (h : Fin 4) (l : Fin 128) :
    val_main_v145 (F := Ideal) x0 x1 (ix5 a r g h l)
      = rotated (fun l => plain (fun d => x0 (ix3 0 a d)) (fun j d => x1 (ix2 j d)) ⟨6 + g, by omega⟩ ⟨128 * h + l, by omega⟩) 16384#32 l := by
  by_cases hl : l.val < 64
  · rw [rotated_low _ _ _ hl]
    unfold plain angle
    pointwise [val_main_c, val_main_v1, val_main_v2, val_main_v3, val_main_v14, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_cst_5, val_main_cst_6, proj_at]
    rw [dif_pos hl, show IntOp.addi (16384#32) 0#32 = 16384#32 from rfl]
    refine congrArg₂ HSub.hSub (congrArg₂ HMul.hMul (congrArg _ (Fin.ext ?_)) rfl) (congrArg₂ HMul.hMul (congrArg _ (Fin.ext ?_)) rfl) <;>
      (dsimp only; omega)
  · rw [rotated_high _ _ _ hl]
    unfold plain angle
    pointwise [val_main_c, val_main_v1, val_main_v2, val_main_v3, val_main_v14, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_cst_5, val_main_cst_6, proj_at]
    rw [dif_neg hl, show IntOp.addi (16384#32) 0#32 = 16384#32 from rfl]
    refine congrArg₂ HAdd.hAdd (congrArg₂ HMul.hMul (congrArg _ (Fin.ext ?_)) rfl) (congrArg₂ HMul.hMul (congrArg _ (Fin.ext ?_)) rfl) <;>
      (dsimp only; omega)

/-- The keys of group 0, turned, and its values beside them. -/
theorem kv0_at (a : Fin 32) (r : Fin 1) (e : Fin 2) (h : Fin 4) (l : Fin 128) :
    val_main_v48 (F := Ideal) x0 x1 (ix5 a r e h l) = keptRow (fun d => x0 (ix3 0 a d)) (fun j d => x1 (ix2 j d)) 16384#32 0 e h l := by
  pointwise [val_main_v9, val_main_v44, val_main_v45, val_main_v46, val_main_v47, val_main_v48, k0_at, proj_at]
  unfold keptRow
  by_cases he : e.val < 1
  · rw [dif_pos he, if_pos he]
    rfl
  · rw [dif_neg he, if_neg he]
    unfold plain
    refine congrArg _ (Fin.ext ?_)
    dsimp only
    omega

/-- The keys of group 1, turned, and its values beside them. -/
theorem kv1_at (a : Fin 32) (r : Fin 1) (e : Fin 2) (h : Fin 4) (l : Fin 128) :
    val_main_v82 (F := Ideal) x0 x1 (ix5 a r e h l) = keptRow (fun d => x0 (ix3 0 a d)) (fun j d => x1 (ix2 j d)) 16384#32 1 e h l := by
  pointwise [val_main_v11, val_main_v78, val_main_v79, val_main_v80, val_main_v81, val_main_v82, k1_at, proj_at]
  unfold keptRow
  by_cases he : e.val < 1
  · rw [dif_pos he, if_pos he]
    rfl
  · rw [dif_neg he, if_neg he]
    unfold plain
    refine congrArg _ (Fin.ext ?_)
    dsimp only
    omega

/-- The keys of group 2, turned, and its values beside them. -/
theorem kv2_at (a : Fin 32) (r : Fin 1) (e : Fin 2) (h : Fin 4) (l : Fin 128) :
    val_main_v116 (F := Ideal) x0 x1 (ix5 a r e h l) = keptRow (fun d => x0 (ix3 0 a d)) (fun j d => x1 (ix2 j d)) 16384#32 2 e h l := by
  pointwise [val_main_v13, val_main_v112, val_main_v113, val_main_v114, val_main_v115, val_main_v116, k2_at, proj_at]
  unfold keptRow
  by_cases he : e.val < 1
  · rw [dif_pos he, if_pos he]
    rfl
  · rw [dif_neg he, if_neg he]
    unfold plain
    refine congrArg _ (Fin.ext ?_)
    dsimp only
    omega

theorem kept0_at (z : Fin 1) (a : Fin 32) (r : Fin 1) (e : Fin 2) (h : Fin 4) (l : Fin 128) :
    val_main_v148 (F := Ideal) x0 x1 (ix6 z a r e h l) = keptRow (fun d => x0 (ix3 0 a d)) (fun j d => x1 (ix2 j d)) 16384#32 0 e h l := by
  pointwise [val_main_v148, kv0_at]

theorem kept1_at (z : Fin 1) (a : Fin 32) (r : Fin 1) (e : Fin 2) (h : Fin 4) (l : Fin 128) :
    val_main_v149 (F := Ideal) x0 x1 (ix6 z a r e h l) = keptRow (fun d => x0 (ix3 0 a d)) (fun j d => x1 (ix2 j d)) 16384#32 1 e h l := by
  pointwise [val_main_v149, kv1_at]

theorem kept2_at (z : Fin 1) (a : Fin 32) (r : Fin 1) (e : Fin 2) (h : Fin 4) (l : Fin 128) :
    val_main_v150 (F := Ideal) x0 x1 (ix6 z a r e h l) = keptRow (fun d => x0 (ix3 0 a d)) (fun j d => x1 (ix2 j d)) 16384#32 2 e h l := by
  pointwise [val_main_v150, kv2_at]

theorem qs_at (z : Fin 1) (a : Fin 32) (f : Fin 1536) :
    val_main_v147 (F := Ideal) x0 x1 (ix3 z a f) = qRow (fun d => x0 (ix3 0 a d)) (fun j d => x1 (ix2 j d)) 16384#32 f := by
  rw [qRow_head _ _ _ f ⟨f / 512, by omega⟩ ⟨f / 128 % 4, by omega⟩ ⟨f % 128, by omega⟩ (by dsimp only; omega)]
  pointwise [val_main_v146, val_main_v147, q_at]
  rfl

end Cert.AttnProjSampleRefIdeal.Val

end
-- ==== Proof.AttnProjSampleClaim.lean ====
module

public import proofs.«01_k».proof.Defs
public import proofs.«01_k».proof.Proof.Gen.AttnProjSampleRefIdeal.Run
public import proofs.«01_k».proof.Proof.AttnProjSampleHand
public import proofs.«01_k».proof.Proof.AttnProjSampleKernel
public import proofs.«01_k».proof.Proof.AttnProjSampleRef

/-! The attention's projection of the sample group and its reference end with equal results. -/

@[expose] public section

set_option maxRecDepth 16384

noncomputable section

namespace Cert.AttnProjSampleClaim

open Idealize.ShloMosaic Idealize.ShloMosaic.TcCoe Idealize.SL.Sem
open Cert.AttnProjSampleIdeal Cert.AttnProjSampleIdeal.Gen Cert.AttnProjSampleIdeal.Val

variable (m : (ℓ : Loc nD τ sig) → Buf (Elt Ideal) ℓ)

theorem qs_ref (c : Dev nD) : qs m c = AttnProjSampleRefIdeal.Read.val_main_v147 (F := Ideal)
    (m ((c : Thread nD τ).loc main_arg0)) (m ((c : Thread nD τ).loc main_arg1)) := by
  funext i
  idx_vars i
  exact (AttnProjSampleRefIdeal.Val.qs_at _ _ i0 i1 i2).symm

theorem kept0_ref (c : Dev nD) : kept m c 0 = AttnProjSampleRefIdeal.Read.val_main_v148 (F := Ideal)
    (m ((c : Thread nD τ).loc main_arg0)) (m ((c : Thread nD τ).loc main_arg1)) := by
  funext i
  idx_vars i
  exact (AttnProjSampleRefIdeal.Val.kept0_at _ _ i0 i1 i2 i3 i4 i5).symm

theorem kept1_ref (c : Dev nD) : kept m c 1 = AttnProjSampleRefIdeal.Read.val_main_v149 (F := Ideal)
    (m ((c : Thread nD τ).loc main_arg0)) (m ((c : Thread nD τ).loc main_arg1)) := by
  funext i
  idx_vars i
  exact (AttnProjSampleRefIdeal.Val.kept1_at _ _ i0 i1 i2 i3 i4 i5).symm

theorem kept2_ref (c : Dev nD) : kept m c 2 = AttnProjSampleRefIdeal.Read.val_main_v150 (F := Ideal)
    (m ((c : Thread nD τ).loc main_arg0)) (m ((c : Thread nD τ).loc main_arg1)) := by
  funext i
  idx_vars i
  exact (AttnProjSampleRefIdeal.Val.kept2_at _ _ i0 i1 i2 i3 i4 i5).symm

/-- The reference's run, its results read as its stages. -/
theorem ref_run (m' : (ℓ : Loc AttnProjSampleRefIdeal.nD AttnProjSampleRefIdeal.τ AttnProjSampleRefIdeal.sig) → Buf (Elt Ideal) ℓ)
    (g' : Dev AttnProjSampleRefIdeal.nD → PrngReg) :
    θ_run (AttnProjSampleRefIdeal.defs (F := Ideal)) (onTc (τ := AttnProjSampleRefIdeal.τ) (AttnProjSampleRefIdeal.main (F := Ideal)))
      ⟨m', fun _ => 0, g'⟩ fun r => ∀ c : Dev AttnProjSampleRefIdeal.nD,
      r.2.mem ((c.tc : Thread AttnProjSampleRefIdeal.nD AttnProjSampleRefIdeal.τ).loc AttnProjSampleRefIdeal.main_v147) = AttnProjSampleRefIdeal.Read.val_main_v147 (F := Ideal) (m' ((c.tc : Thread AttnProjSampleRefIdeal.nD AttnProjSampleRefIdeal.τ).loc AttnProjSampleRefIdeal.main_arg0)) (m' ((c.tc : Thread AttnProjSampleRefIdeal.nD AttnProjSampleRefIdeal.τ).loc AttnProjSampleRefIdeal.main_arg1))
      ∧ r.2.mem ((c.tc : Thread AttnProjSampleRefIdeal.nD AttnProjSampleRefIdeal.τ).loc AttnProjSampleRefIdeal.main_v148) = AttnProjSampleRefIdeal.Read.val_main_v148 (F := Ideal) (m' ((c.tc : Thread AttnProjSampleRefIdeal.nD AttnProjSampleRefIdeal.τ).loc AttnProjSampleRefIdeal.main_arg0)) (m' ((c.tc : Thread AttnProjSampleRefIdeal.nD AttnProjSampleRefIdeal.τ).loc AttnProjSampleRefIdeal.main_arg1))
      ∧ r.2.mem ((c.tc : Thread AttnProjSampleRefIdeal.nD AttnProjSampleRefIdeal.τ).loc AttnProjSampleRefIdeal.main_v149) = AttnProjSampleRefIdeal.Read.val_main_v149 (F := Ideal) (m' ((c.tc : Thread AttnProjSampleRefIdeal.nD AttnProjSampleRefIdeal.τ).loc AttnProjSampleRefIdeal.main_arg0)) (m' ((c.tc : Thread AttnProjSampleRefIdeal.nD AttnProjSampleRefIdeal.τ).loc AttnProjSampleRefIdeal.main_arg1))
      ∧ r.2.mem ((c.tc : Thread AttnProjSampleRefIdeal.nD AttnProjSampleRefIdeal.τ).loc AttnProjSampleRefIdeal.main_v150) = AttnProjSampleRefIdeal.Read.val_main_v150 (F := Ideal) (m' ((c.tc : Thread AttnProjSampleRefIdeal.nD AttnProjSampleRefIdeal.τ).loc AttnProjSampleRefIdeal.main_arg0)) (m' ((c.tc : Thread AttnProjSampleRefIdeal.nD AttnProjSampleRefIdeal.τ).loc AttnProjSampleRefIdeal.main_arg1))
      ∧ r.2.mem ((c.tc : Thread AttnProjSampleRefIdeal.nD AttnProjSampleRefIdeal.τ).loc AttnProjSampleRefIdeal.main_arg0) = m' ((c.tc : Thread AttnProjSampleRefIdeal.nD AttnProjSampleRefIdeal.τ).loc AttnProjSampleRefIdeal.main_arg0)
      ∧ r.2.mem ((c.tc : Thread AttnProjSampleRefIdeal.nD AttnProjSampleRefIdeal.τ).loc AttnProjSampleRefIdeal.main_arg1) = m' ((c.tc : Thread AttnProjSampleRefIdeal.nD AttnProjSampleRefIdeal.τ).loc AttnProjSampleRefIdeal.main_arg1) :=
  θ_run_mono (AttnProjSampleRefIdeal.Value.run m' g') fun r h c =>
    ⟨(h c).1.trans (AttnProjSampleRefIdeal.Read.val_main_v147_eq _ _), (h c).2.1.trans (AttnProjSampleRefIdeal.Read.val_main_v148_eq _ _), (h c).2.2.1.trans (AttnProjSampleRefIdeal.Read.val_main_v149_eq _ _), (h c).2.2.2.1.trans (AttnProjSampleRefIdeal.Read.val_main_v150_eq _ _), (h c).2.2.2.2⟩

/-- The reference runs, leaves its arguments as they are, and has no semaphore. -/
theorem frame_ref : Cert.quiescent_AttnProjSampleRefIdeal := fun m' g' _ =>
  θ_run_mono (ref_run m' g') fun r h => ⟨fun c => (h c).2.2.2.2, sem_eq_zero_of_no_sems rfl r.2⟩

theorem algebraic : Cert.algebraic_AttnProjSampleIdeal_AttnProjSampleRefIdeal := by
  pair_intro
  · run_from (Cert.AttnProjSampleIdeal.Hand.run_main m g)
  · run_from (ref_run m' g')
    · exact (qs_ref m c).symm.trans (qs_eq m c).symm
    · exact (kept0_ref m c).symm.trans (kept0_eq m c).symm
    · exact (kept1_ref m c).symm.trans (kept1_eq m c).symm
    · exact (kept2_ref m c).symm.trans (kept2_eq m c).symm

end Cert.AttnProjSampleClaim

end
-- ==== Proof.MixSpec.lean ====
module

public import proofs.«01_k».proof.Proof.FfnSpec

/-! The merge of the layer's two branches, at one row. -/

@[expose] public section

noncomputable section

namespace Cert.MixSpec

open Idealize.ShloMosaic

/-- The two branches' rows, each through its weight and under its gate, added. -/
def merged (a : Fin 1024 → EReal) (b : Fin 512 → EReal) (ga gb : Fin 2048 → EReal) (wa : Fin 1024 → Fin 2048 → EReal)
    (wb : Fin 512 → Fin 2048 → EReal) (j : Fin 2048) : EReal :=
  Ideal.logistic (ga j) * (∑ d, a d * wa d j) + Ideal.logistic (gb j) * (∑ d, b d * wb d j)

/-- The merged row through the last weight. -/
def through (v : Fin 2048 → EReal) (wo : Fin 2048 → Fin 2048 → EReal) (f : Fin 2048) : EReal := ∑ j, v j * wo j f

/-- The residual stream after the mixer. -/
def joined (x gate y : Fin 2048 → EReal) (f : Fin 2048) : EReal := x f + gate f * y f

end Cert.MixSpec

end
-- ==== Proof.MixOutKernel.lean ====
module

public import proofs.«01_k».proof.Proof.Gen.MixOutIdeal.Value
public import proofs.«01_k».proof.Proof.MixSpec
public import proofs.«01_k».proof.Proof.Scalars
public import Idealize.ShloMosaic.Lib.Pipeline.ValueKit
public import Idealize.ShloMosaic.Lib.Pointwise
public import Idealize.ShloMosaic.Lib.StableHlo.ReadAt

/-! What the merge's call computes: the residual stream after the mixer, its normalised and modulated rows, and the last block's second
weight carried to the narrower type on the side. -/

@[expose] public section

set_option maxRecDepth 16384

noncomputable section

namespace Cert.MixOutIdeal.Val

open Cert.MixOutIdeal Cert.MixOutIdeal.Gen Idealize.ShloMosaic Idealize.ShloMosaic.TcCoe Idealize.SL.Sem
open Idealize.ShloMosaic.Pipeline (Dat)
open Cert.GdnSpec Cert.FfnSpec Cert.MixSpec Cert.Scalars

variable (m : (ℓ : Loc nD τ sig) → Buf (Elt Ideal) ℓ)

/-- Where each window's block of point `t` stands in its array: points run over the batch, then four blocks of 512 rows. -/
theorem places : ∀ t : Fin cfg0.N, win0_0.index t = ![t.val / 4, t.val % 4, 0] ∧ win0_1.index t = ![t.val / 4, t.val % 4, 0]
    ∧ win0_2.index t = ![t.val / 4, t.val % 4, 0] ∧ win0_3.index t = ![t.val / 4, t.val % 4, 1] ∧ win0_4.index t = ![t.val / 4, t.val % 4, 0]
    ∧ win0_5.index t = ![t.val / 4, 0, 5] ∧ win0_6.index t = ![t.val / 4, 0, 6] ∧ win0_7.index t = ![t.val / 4, 0, 7]
    ∧ win0_8.index t = ![0, 0] ∧ win0_9.index t = ![0, 0] ∧ win0_10.index t = ![0, 0] ∧ win0_11.index t = ![0, 0]
    ∧ win0_12.index t = ![min t.val 21, 0] ∧ win0_13.index t = ![t.val / 4, t.val % 4, 0] ∧ win0_14.index t = ![t.val / 4, t.val % 4, 0]
    ∧ win0_15.index t = ![min t.val 21, 0] := by
  decide +kernel

theorem points (t : Fin cfg0.N) : t.val < 32 := t.isLt

/-- The batch entry of point `t`, and its block's row `r`. -/
def bat (t : Fin cfg0.N) : Fin 8 := ⟨t.val / 4, by have := points t; omega⟩
def row (t : Fin cfg0.N) (r : Fin 512) : Fin 2048 := ⟨512 * (t.val % 4) + r, by omega⟩

/-- The arguments: a row of each branch, of the gates and of the residual stream, a piece of the modulation, the weights, the gain, the weight
to be carried over. -/
def oa (c : Dev nD) (b : Fin 8) (r : Fin 2048) (d : Fin 1024) : EReal := m ((c : Thread nD τ).loc main_arg0) (ix3 b r d)
def ob (c : Dev nD) (b : Fin 8) (r : Fin 2048) (d : Fin 512) : EReal := m ((c : Thread nD τ).loc main_arg1) (ix3 b r d)
def ga (c : Dev nD) (b : Fin 8) (r : Fin 2048) (f : Fin 2048) : EReal := m ((c : Thread nD τ).loc main_arg2) (ix3 b r ⟨f, by omega⟩)
def gb (c : Dev nD) (b : Fin 8) (r : Fin 2048) (f : Fin 2048) : EReal := m ((c : Thread nD τ).loc main_arg2) (ix3 b r ⟨2048 + f, by omega⟩)
def xx (c : Dev nD) (b : Fin 8) (r : Fin 2048) (f : Fin 2048) : EReal := m ((c : Thread nD τ).loc main_arg3) (ix3 b r f)
def mods (c : Dev nD) (b : Fin 8) (k : Fin 9) (f : Fin 2048) : EReal := m ((c : Thread nD τ).loc main_arg4) (ix3 b 0 ⟨2048 * k + f, by omega⟩)
def wa (c : Dev nD) (d : Fin 1024) (f : Fin 2048) : EReal := m ((c : Thread nD τ).loc main_arg5) (ix2 d f)
def wb (c : Dev nD) (d : Fin 512) (f : Fin 2048) : EReal := m ((c : Thread nD τ).loc main_arg6) (ix2 d f)
def wo (c : Dev nD) (d : Fin 2048) (f : Fin 2048) : EReal := m ((c : Thread nD τ).loc main_arg7) (ix2 d f)
def gain (c : Dev nD) (f : Fin 2048) : EReal := m ((c : Thread nD τ).loc main_arg8) (ix1 f)
def wDown (c : Dev nD) (r : Fin 5632) (f : Fin 2048) : EReal := m ((c : Thread nD τ).loc main_arg9) (ix2 r f)

theorem oa_at (c : Dev nD) (t : Fin cfg0.N) (r : Fin 512) (f : Fin 1024) : iblk m c 0 t (ix3 0 r f) = oa m c (bat t) (row t r) f := by
  unfold oa bat row; blk_ext [iblk, V, places t]

theorem ob_at (c : Dev nD) (t : Fin cfg0.N) (r : Fin 512) (f : Fin 512) : iblk m c 1 t (ix3 0 r f) = ob m c (bat t) (row t r) f := by
  unfold ob bat row; blk_ext [iblk, V, places t]

theorem ga_at (c : Dev nD) (t : Fin cfg0.N) (r : Fin 512) (f : Fin 2048) : iblk m c 2 t (ix3 0 r f) = ga m c (bat t) (row t r) f := by
  unfold ga bat row; blk_ext [iblk, V, places t]

theorem gb_at (c : Dev nD) (t : Fin cfg0.N) (r : Fin 512) (f : Fin 2048) : iblk m c 3 t (ix3 0 r f) = gb m c (bat t) (row t r) f := by
  unfold gb bat row; blk_ext [iblk, V, places t]

theorem xx_at (c : Dev nD) (t : Fin cfg0.N) (r : Fin 512) (f : Fin 2048) : iblk m c 4 t (ix3 0 r f) = xx m c (bat t) (row t r) f := by
  unfold xx bat row; blk_ext [iblk, V, places t]

theorem gate_at (c : Dev nD) (t : Fin cfg0.N) (f : Fin 2048) : iblk m c 5 t (ix3 0 0 f) = mods m c (bat t) 5 f := by
  unfold mods bat; blk_ext [iblk, V, places t]

theorem shift_at (c : Dev nD) (t : Fin cfg0.N) (f : Fin 2048) : iblk m c 6 t (ix3 0 0 f) = mods m c (bat t) 6 f := by
  unfold mods bat; blk_ext [iblk, V, places t]

theorem scale_at (c : Dev nD) (t : Fin cfg0.N) (f : Fin 2048) : iblk m c 7 t (ix3 0 0 f) = mods m c (bat t) 7 f := by
  unfold mods bat; blk_ext [iblk, V, places t]

theorem wa_at (c : Dev nD) (t : Fin cfg0.N) (d : Fin 1024) (f : Fin 2048) : iblk m c 9 t (ix2 d f) = wa m c d f := by
  unfold wa; blk_ext [iblk, V, places t]

theorem wb_at (c : Dev nD) (t : Fin cfg0.N) (d : Fin 512) (f : Fin 2048) : iblk m c 10 t (ix2 d f) = wb m c d f := by
  unfold wb; blk_ext [iblk, V, places t]

theorem wo_at (c : Dev nD) (t : Fin cfg0.N) (d : Fin 2048) (f : Fin 2048) : iblk m c 11 t (ix2 d f) = wo m c d f := by
  unfold wo; blk_ext [iblk, V, places t]

theorem gain_at (c : Dev nD) (t : Fin cfg0.N) (f : Fin 2048) : iblk m c 8 t (ix2 0 f) = gain m c f := by
  have e : (win0_8.blk t).view.emb (ix2 0 f) = (ix2 0 f : S1x2048.Idx) := by blk_ext [places t]
  refine (congrArg (V m c main_v0) e).trans ?_
  unfold gain V
  after_reads_at

theorem wDown_at (c : Dev nD) (t : Fin cfg0.N) (r : Fin 256) (f : Fin 2048) :
    iblk m c 12 t (ix2 r f) = wDown m c ⟨256 * min t.val 21 + r, by omega⟩ f := by
  unfold wDown; blk_ext [iblk, V, places t]

/-- The merged row of the two branches. -/
def merge (c : Dev nD) (b : Fin 8) (r : Fin 2048) : Fin 2048 → EReal :=
  merged (oa m c b r) (ob m c b r) (ga m c b r) (gb m c b r) (wa m c) (wb m c)

/-- A row of the residual stream after the mixer. -/
def stream (c : Dev nD) (b : Fin 8) (r : Fin 2048) : Fin 2048 → EReal :=
  joined (xx m c b r) (mods m c b 5) (through (merge m c b r) (wo m c))

/-- The block of merged rows through the last weight, which every chunk of rows reads. -/
def block (c : Dev nD) (t : Fin cfg0.N) : FVec Ideal S512x2048 .f32 := k0_pay136 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t)

theorem block_at (c : Dev nD) (t : Fin cfg0.N) (r : Fin 512) (f : Fin 2048) :
    block m c t (ix2 r f) = through (merge m c (bat t) (row t r)) (wo m c) f := by
  unfold block through merge merged
  pointwise [k0_pay133, k0_pay134, k0_pay135, k0_pay136, k0_pay3, k0_pay4, k0_pay5, k0_pay6, half_tanh, oa_at, ob_at, ga_at, gb_at, wa_at,
    wb_at, wo_at]

theorem block_named (c : Dev nD) (t : Fin cfg0.N) : k0_pay136 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t)
      = block m c t := rfl

set_option maxHeartbeats 4000000 in
/-- The rows of the residual stream that a point writes. -/
theorem out_tile (c : Dev nD) (t : Fin cfg0.N) (r : Fin 512) (f : Fin 2048) :
    (dats m 0 c).after 13 t (ix3 0 r f) = stream m c (bat t) (row t r) f := by
  rw [after0_13]
  frame_out
  canon_tiles x hx
  all_goals
    try unfold k0_pay11 k0_pay10
    try unfold k0_pay140
    try unfold k0_pay141
    try unfold k0_pay142
    try unfold k0_pay143
    try unfold k0_pay144
    try simp only [block_named]
    idx_vars x
    unfold stream joined
    obtain rfl : f = x2 := Fin.ext hx2
    unfold_payloads
    pointwise [xx_at, gate_at, block_at]
    have hr := fun hp => (Fin.ext hx1.symm : (⟨_, hp⟩ : Fin 512) = r)
    try simp only [hr]
    try (unfold through merge merged; simp only [half_tanh, oa_at, ob_at, ga_at, gb_at, wa_at, wb_at, wo_at])

set_option maxHeartbeats 4000000 in
/-- The normalised and modulated rows that it writes beside them. -/
theorem next_tile (c : Dev nD) (t : Fin cfg0.N) (r : Fin 512) (f : Fin 2048) :
    (dats m 0 c).after 14 t (ix3 0 r f) = modulate (stream m c (bat t) (row t r)) (gain m c) (mods m c (bat t) 6) (mods m c (bat t) 7) f := by
  rw [after0_14]
  frame_out
  canon_tiles x hx
  all_goals
    try unfold k0_pay14
    try unfold k0_pay12
    try unfold k0_pay10
    try unfold k0_pay140
    try unfold k0_pay141
    try unfold k0_pay142
    try unfold k0_pay143
    try unfold k0_pay144
    try simp only [block_named]
    idx_vars x
    unfold modulate rms stream joined eps
    obtain rfl : f = x2 := Fin.ext hx2
    unfold_payloads
    pointwise [xx_at, gate_at, shift_at, scale_at, gain_at, block_at]
    have hr := fun hp => (Fin.ext hx1.symm : (⟨_, hp⟩ : Fin 512) = r)
    try simp only [hr]
    try (unfold through merge merged; simp only [half_tanh, oa_at, ob_at, ga_at, gb_at, wa_at, wb_at, wo_at])

/-- The rows of the weight that a point carries over. -/
theorem cast_tile (c : Dev nD) (t : Fin cfg0.N) (r : Fin 256) (f : Fin 2048) :
    (dats m 0 c).after 15 t (ix2 r f) = wDown m c ⟨256 * min t.val 21 + r, by omega⟩ f := by
  rw [after0_15]
  frame_out
  pointwise [k0_pay2, wDown_at]

/-- The call's results, from its arguments. -/
def outs (c : Dev nD) : S8x2048x2048.Idx → EReal := fun i => stream m c (i 0) (i 1) (i 2)
def nexts (c : Dev nD) : S8x2048x2048.Idx → EReal := fun i =>
  modulate (stream m c (i 0) (i 1)) (gain m c) (mods m c (i 0) 6) (mods m c (i 0) 7) (i 2)
def casts (c : Dev nD) : S5632x2048.Idx → EReal := fun i => wDown m c (i 0) (i 1)

theorem emb13 (t : Fin cfg0.N) (y0 : Fin 1) (y1 : Fin 512) (y2 : Fin 2048) :
    ((View.whole main_v1_0).slice (win0_13.rect t)).emb (ix3 y0 y1 y2) = (ix3 (bat t) (row t y1) y2 : S8x2048x2048.Idx) := by
  obtain rfl : y0 = 0 := Subsingleton.elim _ _
  blk_ext [bat, row, places t]

theorem emb14 (t : Fin cfg0.N) (y0 : Fin 1) (y1 : Fin 512) (y2 : Fin 2048) :
    ((View.whole main_v1_1).slice (win0_14.rect t)).emb (ix3 y0 y1 y2) = (ix3 (bat t) (row t y1) y2 : S8x2048x2048.Idx) := by
  obtain rfl : y0 = 0 := Subsingleton.elim _ _
  blk_ext [bat, row, places t]

theorem emb15 (t : Fin cfg0.N) (y0 : Fin 256) (y1 : Fin 2048) :
    ((View.whole main_v1_2).slice (win0_15.rect t)).emb (ix2 y0 y1)
      = (ix2 ⟨256 * min t.val 21 + y0, by omega⟩ y1 : S5632x2048.Idx) := by
  blk_ext [places t]

theorem outs_eq (c : Dev nD) : (dats m 0 c).arrAt 13 cfg0.N = outs m c := by
  refine (dats m 0 c).arrAt_eq_of_covers 13 _ (by decide +kernel) fun t hf y => ?_
  blk_simp
  idx_vars y
  obtain rfl : y0 = 0 := Subsingleton.elim _ _
  exact (out_tile m c t y1 y2).trans (congrArg (outs m c) (emb13 t 0 y1 y2)).symm

theorem nexts_eq (c : Dev nD) : (dats m 0 c).arrAt 14 cfg0.N = nexts m c := by
  refine (dats m 0 c).arrAt_eq_of_covers 14 _ (by decide +kernel) fun t hf y => ?_
  blk_simp
  idx_vars y
  obtain rfl : y0 = 0 := Subsingleton.elim _ _
  exact (next_tile m c t y1 y2).trans (congrArg (nexts m c) (emb14 t 0 y1 y2)).symm

theorem casts_eq (c : Dev nD) : (dats m 0 c).arrAt 15 cfg0.N = casts m c := by
  refine (dats m 0 c).arrAt_eq_of_covers 15 _ (by decide +kernel) fun t hf y => ?_
  blk_simp
  idx_vars y
  exact (cast_tile m c t y0 y1).trans (congrArg (casts m c) (emb15 t y0 y1)).symm

end Cert.MixOutIdeal.Val

end
-- ==== Proof.MixOutRef.lean ====
module

public import proofs.«01_k».proof.Proof.Gen.MixOutRefIdeal.Read
public import proofs.«01_k».proof.Proof.MixSpec
public import proofs.«01_k».proof.Proof.Scalars
public import Idealize.ShloMosaic.Lib.Pipeline.ValueKit
public import Idealize.ShloMosaic.Lib.Pointwise

/-! The reference of the merge, entry by entry, in the terms of `MixSpec` and `FfnSpec`. -/

@[expose] public section

set_option maxRecDepth 16384

noncomputable section

namespace Cert.MixOutRefIdeal.Val

open Cert.MixOutRefIdeal Cert.MixOutRefIdeal.Read Idealize.ShloMosaic Idealize.ShloMosaic.TcCoe Idealize.SL.Sem
open Cert.GdnSpec Cert.FfnSpec Cert.MixSpec Cert.Scalars

variable (x0 : (⟨S8x2048x1024, .bf16⟩ : BufTy).Contents (Elt Ideal)) (x1 : (⟨S8x2048x512, .bf16⟩ : BufTy).Contents (Elt Ideal))
    (x2 : (⟨S8x2048x4096, .bf16⟩ : BufTy).Contents (Elt Ideal)) (x3 : (⟨S8x2048x2048, .f32⟩ : BufTy).Contents (Elt Ideal))
    (x4 : (⟨S8x1x18432, .f32⟩ : BufTy).Contents (Elt Ideal)) (x5 : (⟨S1024x2048, .bf16⟩ : BufTy).Contents (Elt Ideal))
    (x6 : (⟨S512x2048, .bf16⟩ : BufTy).Contents (Elt Ideal)) (x7 : (⟨S2048x2048, .bf16⟩ : BufTy).Contents (Elt Ideal))
    (x8 : (⟨S2048, .f32⟩ : BufTy).Contents (Elt Ideal)) (x9 : (⟨S5632x2048, .f32⟩ : BufTy).Contents (Elt Ideal))

/-- The merged row of the two branches. -/
def merge (b : Fin 8) (r : Fin 2048) : Fin 2048 → EReal :=
  merged (fun d => x0 (ix3 b r d)) (fun d => x1 (ix3 b r d)) (fun f => x2 (ix3 b r ⟨f, by omega⟩)) (fun f => x2 (ix3 b r ⟨2048 + f, by omega⟩))
    (fun d f => x5 (ix2 d f)) (fun d f => x6 (ix2 d f))

/-- A row of the residual stream after the mixer. -/
def stream (b : Fin 8) (r : Fin 2048) : Fin 2048 → EReal :=
  joined (fun f => x3 (ix3 b r f)) (fun f => x4 (ix3 b 0 ⟨10240 + f, by omega⟩)) (through (merge x0 x1 x2 x5 x6 b r) (fun d f => x7 (ix2 d f)))

theorem merge_at (b : Fin 8) (r : Fin 2048) (f : Fin 2048) :
    val_main_v28 (F := Ideal) x0 x1 x2 x5 x6 (ix3 b r f) = merge x0 x1 x2 x5 x6 b r f := by
  unfold merge merged
  pointwise [val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_cst, val_main_cst_0, val_main_cst_1, val_main_cst_2, logistic_spelt]

theorem stream_at (b : Fin 8) (r : Fin 2048) (f : Fin 2048) :
    val_main_v33 (F := Ideal) x0 x1 x2 x3 x4 x5 x6 x7 (ix3 b r f) = stream x0 x1 x2 x3 x4 x5 x6 x7 b r f := by
  unfold stream joined through
  pointwise [val_main_v1, val_main_v29, val_main_v30, val_main_v31, val_main_v32, val_main_v33, merge_at]

theorem next_at (b : Fin 8) (r : Fin 2048) (f : Fin 2048) : val_main_v53 (F := Ideal) x0 x1 x2 x3 x4 x5 x6 x7 x8 (ix3 b r f)
      = modulate (stream x0 x1 x2 x3 x4 x5 x6 x7 b r) (fun f => x8 (ix1 f)) (fun f => x4 (ix3 b 0 ⟨12288 + f, by omega⟩))
          (fun f => x4 (ix3 b 0 ⟨14336 + f, by omega⟩)) f := by
  unfold modulate rms eps
  pointwise [val_main_v2, val_main_v3, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_cst_3, val_main_cst_4, val_main_cst_5, val_main_cst_6, stream_at]

theorem cast_at (r : Fin 5632) (f : Fin 2048) : val_main_v54 (F := Ideal) x9 (ix2 r f) = x9 (ix2 r f) := by
  pointwise [val_main_v54]

end Cert.MixOutRefIdeal.Val

end
-- ==== Proof.MixOutClaim.lean ====
module

public import proofs.«01_k».proof.Defs
public import proofs.«01_k».proof.Proof.Gen.MixOutRefIdeal.Run
public import proofs.«01_k».proof.Proof.MixOutKernel
public import proofs.«01_k».proof.Proof.MixOutRef

/-! The merge and its reference end with equal results. -/

@[expose] public section

set_option maxRecDepth 16384

noncomputable section

namespace Cert.MixOutClaim

open Idealize.ShloMosaic Idealize.ShloMosaic.TcCoe Idealize.SL.Sem
open Cert.MixOutIdeal Cert.MixOutIdeal.Gen Cert.MixOutIdeal.Val

variable (m : (ℓ : Loc nD τ sig) → Buf (Elt Ideal) ℓ)

theorem outs_ref (c : Dev nD) : outs m c = MixOutRefIdeal.Read.val_main_v33 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext i
  idx_vars i
  exact (MixOutRefIdeal.Val.stream_at _ _ _ _ _ _ _ _ i0 i1 i2).symm

theorem nexts_ref (c : Dev nD) : nexts m c = MixOutRefIdeal.Read.val_main_v53 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext i
  idx_vars i
  exact (MixOutRefIdeal.Val.next_at _ _ _ _ _ _ _ _ _ i0 i1 i2).symm

theorem casts_ref (c : Dev nD) : casts m c = MixOutRefIdeal.Read.val_main_v54 (F := Ideal)
    (m ((c : Thread nD τ).loc main_arg9)) := by
  funext i
  idx_vars i
  exact (MixOutRefIdeal.Val.cast_at _ i0 i1).symm

/-- The reference's run, its results read as its stages. -/
theorem ref_run (m' : (ℓ : Loc MixOutRefIdeal.nD MixOutRefIdeal.τ MixOutRefIdeal.sig) → Buf (Elt Ideal) ℓ)
    (g' : Dev MixOutRefIdeal.nD → PrngReg) :
    θ_run (MixOutRefIdeal.defs (F := Ideal)) (onTc (τ := MixOutRefIdeal.τ) (MixOutRefIdeal.main (F := Ideal)))
      ⟨m', fun _ => 0, g'⟩ fun r => ∀ c : Dev MixOutRefIdeal.nD,
      r.2.mem ((c.tc : Thread MixOutRefIdeal.nD MixOutRefIdeal.τ).loc MixOutRefIdeal.main_v33) = MixOutRefIdeal.Read.val_main_v33 (F := Ideal) (m' ((c.tc : Thread MixOutRefIdeal.nD MixOutRefIdeal.τ).loc MixOutRefIdeal.main_arg0)) (m' ((c.tc : Thread MixOutRefIdeal.nD MixOutRefIdeal.τ).loc MixOutRefIdeal.main_arg1)) (m' ((c.tc : Thread MixOutRefIdeal.nD MixOutRefIdeal.τ).loc MixOutRefIdeal.main_arg2)) (m' ((c.tc : Thread MixOutRefIdeal.nD MixOutRefIdeal.τ).loc MixOutRefIdeal.main_arg3)) (m' ((c.tc : Thread MixOutRefIdeal.nD MixOutRefIdeal.τ).loc MixOutRefIdeal.main_arg4)) (m' ((c.tc : Thread MixOutRefIdeal.nD MixOutRefIdeal.τ).loc MixOutRefIdeal.main_arg5)) (m' ((c.tc : Thread MixOutRefIdeal.nD MixOutRefIdeal.τ).loc MixOutRefIdeal.main_arg6)) (m' ((c.tc : Thread MixOutRefIdeal.nD MixOutRefIdeal.τ).loc MixOutRefIdeal.main_arg7))
      ∧ r.2.mem ((c.tc : Thread MixOutRefIdeal.nD MixOutRefIdeal.τ).loc MixOutRefIdeal.main_v53) = MixOutRefIdeal.Read.val_main_v53 (F := Ideal) (m' ((c.tc : Thread MixOutRefIdeal.nD MixOutRefIdeal.τ).loc MixOutRefIdeal.main_arg0)) (m' ((c.tc : Thread MixOutRefIdeal.nD MixOutRefIdeal.τ).loc MixOutRefIdeal.main_arg1)) (m' ((c.tc : Thread MixOutRefIdeal.nD MixOutRefIdeal.τ).loc MixOutRefIdeal.main_arg2)) (m' ((c.tc : Thread MixOutRefIdeal.nD MixOutRefIdeal.τ).loc MixOutRefIdeal.main_arg3)) (m' ((c.tc : Thread MixOutRefIdeal.nD MixOutRefIdeal.τ).loc MixOutRefIdeal.main_arg4)) (m' ((c.tc : Thread MixOutRefIdeal.nD MixOutRefIdeal.τ).loc MixOutRefIdeal.main_arg5)) (m' ((c.tc : Thread MixOutRefIdeal.nD MixOutRefIdeal.τ).loc MixOutRefIdeal.main_arg6)) (m' ((c.tc : Thread MixOutRefIdeal.nD MixOutRefIdeal.τ).loc MixOutRefIdeal.main_arg7)) (m' ((c.tc : Thread MixOutRefIdeal.nD MixOutRefIdeal.τ).loc MixOutRefIdeal.main_arg8))
      ∧ r.2.mem ((c.tc : Thread MixOutRefIdeal.nD MixOutRefIdeal.τ).loc MixOutRefIdeal.main_v54) = MixOutRefIdeal.Read.val_main_v54 (F := Ideal) (m' ((c.tc : Thread MixOutRefIdeal.nD MixOutRefIdeal.τ).loc MixOutRefIdeal.main_arg9))
      ∧ r.2.mem ((c.tc : Thread MixOutRefIdeal.nD MixOutRefIdeal.τ).loc MixOutRefIdeal.main_arg0) = m' ((c.tc : Thread MixOutRefIdeal.nD MixOutRefIdeal.τ).loc MixOutRefIdeal.main_arg0)
      ∧ r.2.mem ((c.tc : Thread MixOutRefIdeal.nD MixOutRefIdeal.τ).loc MixOutRefIdeal.main_arg1) = m' ((c.tc : Thread MixOutRefIdeal.nD MixOutRefIdeal.τ).loc MixOutRefIdeal.main_arg1)
      ∧ r.2.mem ((c.tc : Thread MixOutRefIdeal.nD MixOutRefIdeal.τ).loc MixOutRefIdeal.main_arg2) = m' ((c.tc : Thread MixOutRefIdeal.nD MixOutRefIdeal.τ).loc MixOutRefIdeal.main_arg2)
      ∧ r.2.mem ((c.tc : Thread MixOutRefIdeal.nD MixOutRefIdeal.τ).loc MixOutRefIdeal.main_arg3) = m' ((c.tc : Thread MixOutRefIdeal.nD MixOutRefIdeal.τ).loc MixOutRefIdeal.main_arg3)
      ∧ r.2.mem ((c.tc : Thread MixOutRefIdeal.nD MixOutRefIdeal.τ).loc MixOutRefIdeal.main_arg4) = m' ((c.tc : Thread MixOutRefIdeal.nD MixOutRefIdeal.τ).loc MixOutRefIdeal.main_arg4)
      ∧ r.2.mem ((c.tc : Thread MixOutRefIdeal.nD MixOutRefIdeal.τ).loc MixOutRefIdeal.main_arg5) = m' ((c.tc : Thread MixOutRefIdeal.nD MixOutRefIdeal.τ).loc MixOutRefIdeal.main_arg5)
      ∧ r.2.mem ((c.tc : Thread MixOutRefIdeal.nD MixOutRefIdeal.τ).loc MixOutRefIdeal.main_arg6) = m' ((c.tc : Thread MixOutRefIdeal.nD MixOutRefIdeal.τ).loc MixOutRefIdeal.main_arg6)
      ∧ r.2.mem ((c.tc : Thread MixOutRefIdeal.nD MixOutRefIdeal.τ).loc MixOutRefIdeal.main_arg7) = m' ((c.tc : Thread MixOutRefIdeal.nD MixOutRefIdeal.τ).loc MixOutRefIdeal.main_arg7)
      ∧ r.2.mem ((c.tc : Thread MixOutRefIdeal.nD MixOutRefIdeal.τ).loc MixOutRefIdeal.main_arg8) = m' ((c.tc : Thread MixOutRefIdeal.nD MixOutRefIdeal.τ).loc MixOutRefIdeal.main_arg8)
      ∧ r.2.mem ((c.tc : Thread MixOutRefIdeal.nD MixOutRefIdeal.τ).loc MixOutRefIdeal.main_arg9) = m' ((c.tc : Thread MixOutRefIdeal.nD MixOutRefIdeal.τ).loc MixOutRefIdeal.main_arg9) :=
  θ_run_mono (MixOutRefIdeal.Value.run m' g') fun r h c =>
    ⟨(h c).1.trans (MixOutRefIdeal.Read.val_main_v33_eq _ _ _ _ _ _ _ _), (h c).2.1.trans (MixOutRefIdeal.Read.val_main_v53_eq _ _), (h c).2.2.1.trans (MixOutRefIdeal.Read.val_main_v54_eq _), (h c).2.2.2⟩

/-- The reference runs, leaves its arguments as they are, and has no semaphore. -/
theorem frame_ref : Cert.quiescent_MixOutRefIdeal := fun m' g' _ =>
  θ_run_mono (ref_run m' g') fun r h => ⟨fun c => (h c).2.2.2, sem_eq_zero_of_no_sems rfl r.2⟩

theorem algebraic : Cert.algebraic_MixOutIdeal_MixOutRefIdeal := by
  pair_intro
  · run_from (Cert.MixOutIdeal.Value.run_blocks m g)
  · run_from (ref_run m' g')
    · exact (outs_ref m c).symm.trans (outs_eq m c).symm
    · exact (nexts_ref m c).symm.trans (nexts_eq m c).symm
    · exact (casts_ref m c).symm.trans (casts_eq m c).symm

end Cert.MixOutClaim

end
-- ==== Proof.lean ====
module

public import proofs.«01_k».proof.Defs
public import proofs.«01_k».proof.Proof.Gen.GdnStep.Frame
public import proofs.«01_k».proof.Proof.Gen.GdnStepIdeal.Frame
public import proofs.«01_k».proof.Proof.Gen.GdnStepIdeal.Value
public import proofs.«01_k».proof.Proof.Gen.GdnStepRefIdeal.Run
public import proofs.«01_k».proof.Proof.Gen.GdnStepRefIdeal.Read
public import proofs.«01_k».proof.Proof.GdnClaim
public import proofs.«01_k».proof.Proof.Gen.FfnFirst.Frame
public import proofs.«01_k».proof.Proof.Gen.FfnFirstIdeal.Frame
public import proofs.«01_k».proof.Proof.Gen.FfnFirstIdeal.Value
public import proofs.«01_k».proof.Proof.Gen.FfnFirstRefIdeal.Run
public import proofs.«01_k».proof.Proof.Gen.FfnFirstRefIdeal.Read
public import proofs.«01_k».proof.Proof.FfnFirstClaim
public import proofs.«01_k».proof.Proof.Gen.FfnLast.Frame
public import proofs.«01_k».proof.Proof.Gen.FfnLastIdeal.Frame
public import proofs.«01_k».proof.Proof.Gen.FfnLastIdeal.Value
public import proofs.«01_k».proof.Proof.Gen.FfnLastRefIdeal.Run
public import proofs.«01_k».proof.Proof.Gen.FfnLastRefIdeal.Read
public import proofs.«01_k».proof.Proof.FfnLastClaim
public import proofs.«01_k».proof.Proof.Gen.AttnProj.Frame
public import proofs.«01_k».proof.Proof.Gen.AttnProjIdeal.Frame
public import proofs.«01_k».proof.Proof.Gen.AttnProjRefIdeal.Run
public import proofs.«01_k».proof.Proof.Gen.AttnProjRefIdeal.Read
public import proofs.«01_k».proof.Proof.AttnProjClaim
public import proofs.«01_k».proof.Proof.Gen.ProjAz.Frame
public import proofs.«01_k».proof.Proof.Gen.ProjAzIdeal.Frame
public import proofs.«01_k».proof.Proof.Gen.ProjAzRefIdeal.Run
public import proofs.«01_k».proof.Proof.Gen.ProjAzRefIdeal.Read
public import proofs.«01_k».proof.Proof.ProjAzClaim
public import proofs.«01_k».proof.Proof.Gen.ProjGates.Frame
public import proofs.«01_k».proof.Proof.Gen.ProjGatesIdeal.Frame
public import proofs.«01_k».proof.Proof.Gen.ProjGatesIdeal.Value
public import proofs.«01_k».proof.Proof.Gen.ProjGatesRefIdeal.Run
public import proofs.«01_k».proof.Proof.Gen.ProjGatesRefIdeal.Read
public import proofs.«01_k».proof.Proof.ProjGatesClaim
public import proofs.«01_k».proof.Proof.Gen.FfnLastSample.Frame
public import proofs.«01_k».proof.Proof.Gen.FfnLastSampleIdeal.Frame
public import proofs.«01_k».proof.Proof.Gen.FfnLastSampleRefIdeal.Run
public import proofs.«01_k».proof.Proof.Gen.FfnLastSampleRefIdeal.Read
public import proofs.«01_k».proof.Proof.FfnLastSampleClaim
public import proofs.«01_k».proof.Proof.Gen.ProjAzSample.Frame
public import proofs.«01_k».proof.Proof.Gen.ProjAzSampleIdeal.Frame
public import proofs.«01_k».proof.Proof.Gen.ProjAzSampleRefIdeal.Run
public import proofs.«01_k».proof.Proof.Gen.ProjAzSampleRefIdeal.Read
public import proofs.«01_k».proof.Proof.ProjAzSampleClaim
public import proofs.«01_k».proof.Proof.Gen.AttnProjSample.Frame
public import proofs.«01_k».proof.Proof.Gen.AttnProjSampleIdeal.Frame
public import proofs.«01_k».proof.Proof.Gen.AttnProjSampleRefIdeal.Run
public import proofs.«01_k».proof.Proof.Gen.AttnProjSampleRefIdeal.Read
public import proofs.«01_k».proof.Proof.AttnProjSampleClaim
public import proofs.«01_k».proof.Proof.Gen.MixOut.Frame
public import proofs.«01_k».proof.Proof.Gen.MixOutIdeal.Frame
public import proofs.«01_k».proof.Proof.Gen.MixOutIdeal.Value
public import proofs.«01_k».proof.Proof.Gen.MixOutRefIdeal.Run
public import proofs.«01_k».proof.Proof.Gen.MixOutRefIdeal.Read
public import proofs.«01_k».proof.Proof.MixOutClaim
public import Idealize.ShloMosaic.Adequacy
public import Idealize.ShloMosaic.Init

/-! The claims of this certificate, each from its program's run. -/

@[expose] public section

noncomputable section

namespace Cert.Proof

open Idealize.ShloMosaic Idealize.SL.Sem

theorem claim : Cert.Claim := ⟨Cert.GdnStep.Gen.facts,
  Cert.GdnStepIdeal.Gen.facts,
  Cert.GdnStepRefIdeal.Gen.facts,
  Cert.FfnFirst.Gen.facts,
  Cert.FfnFirstIdeal.Gen.facts,
  Cert.FfnFirstRefIdeal.Gen.facts,
  Cert.FfnLast.Gen.facts,
  Cert.FfnLastIdeal.Gen.facts,
  Cert.FfnLastRefIdeal.Gen.facts,
  Cert.AttnProj.Gen.facts,
  Cert.AttnProjIdeal.Gen.facts,
  Cert.AttnProjRefIdeal.Gen.facts,
  Cert.ProjAz.Gen.facts,
  Cert.ProjAzIdeal.Gen.facts,
  Cert.ProjAzRefIdeal.Gen.facts,
  Cert.ProjGates.Gen.facts,
  Cert.ProjGatesIdeal.Gen.facts,
  Cert.ProjGatesRefIdeal.Gen.facts,
  Cert.FfnLastSample.Gen.facts,
  Cert.FfnLastSampleIdeal.Gen.facts,
  Cert.FfnLastSampleRefIdeal.Gen.facts,
  Cert.ProjAzSample.Gen.facts,
  Cert.ProjAzSampleIdeal.Gen.facts,
  Cert.ProjAzSampleRefIdeal.Gen.facts,
  Cert.AttnProjSample.Gen.facts,
  Cert.AttnProjSampleIdeal.Gen.facts,
  Cert.AttnProjSampleRefIdeal.Gen.facts,
  Cert.MixOut.Gen.facts,
  Cert.MixOutIdeal.Gen.facts,
  Cert.MixOutRefIdeal.Gen.facts,
  fun m ρ _ => Cert.GdnStep.Gen.frame m ρ,
  fun m ρ _ => Cert.GdnStepIdeal.Gen.frame m ρ,
  Cert.GdnClaim.frame_ref,
  fun m ρ _ => Cert.FfnFirst.Gen.frame m ρ,
  fun m ρ _ => Cert.FfnFirstIdeal.Gen.frame m ρ,
  Cert.FfnFirstClaim.frame_ref,
  fun m ρ _ => Cert.FfnLast.Gen.frame m ρ,
  fun m ρ _ => Cert.FfnLastIdeal.Gen.frame m ρ,
  Cert.FfnLastClaim.frame_ref,
  fun m ρ _ => Cert.AttnProj.Hand.frame m ρ,
  fun m ρ _ => Cert.AttnProjIdeal.Hand.frame m ρ,
  Cert.AttnProjClaim.frame_ref,
  fun m ρ _ => Cert.ProjAz.Gen.frame m ρ,
  fun m ρ _ => Cert.ProjAzIdeal.Gen.frame m ρ,
  Cert.ProjAzClaim.frame_ref,
  fun m ρ _ => Cert.ProjGates.Gen.frame m ρ,
  fun m ρ _ => Cert.ProjGatesIdeal.Gen.frame m ρ,
  Cert.ProjGatesClaim.frame_ref,
  fun m ρ _ => Cert.FfnLastSample.Gen.frame m ρ,
  fun m ρ _ => Cert.FfnLastSampleIdeal.Gen.frame m ρ,
  Cert.FfnLastSampleClaim.frame_ref,
  fun m ρ _ => Cert.ProjAzSample.Gen.frame m ρ,
  fun m ρ _ => Cert.ProjAzSampleIdeal.Gen.frame m ρ,
  Cert.ProjAzSampleClaim.frame_ref,
  fun m ρ _ => Cert.AttnProjSample.Hand.frame m ρ,
  fun m ρ _ => Cert.AttnProjSampleIdeal.Hand.frame m ρ,
  Cert.AttnProjSampleClaim.frame_ref,
  fun m ρ _ => Cert.MixOut.Gen.frame m ρ,
  fun m ρ _ => Cert.MixOutIdeal.Gen.frame m ρ,
  Cert.MixOutClaim.frame_ref,
  trivial,
  Cert.GdnClaim.algebraic,
  trivial,
  Cert.FfnFirstClaim.algebraic,
  trivial,
  Cert.FfnLastClaim.algebraic,
  trivial,
  Cert.AttnProjClaim.algebraic,
  trivial,
  Cert.ProjAzClaim.algebraic,
  trivial,
  Cert.ProjGatesClaim.algebraic,
  trivial,
  Cert.FfnLastSampleClaim.algebraic,
  trivial,
  Cert.ProjAzSampleClaim.algebraic,
  trivial,
  Cert.AttnProjSampleClaim.algebraic,
  trivial,
  Cert.MixOutClaim.algebraic⟩

end Cert.Proof

end
